-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_narrow_real [hPre_narrow_real : Cert.Pre_narrow_real.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_narrow_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_narrow_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_narrow_real [hPre_narrow_real : Cert.Pre_narrow_real.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_narrow_real.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_narrow_real.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_heads_real [hPre_heads_real : Cert.Pre_heads_real.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_heads_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_heads_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_heads_real [hPre_heads_real : Cert.Pre_heads_real.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_heads_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_heads_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_narrow_real [hKernel4Ideal : Cert.Kernel4Ideal.Facts] [hPre_narrow_real : Cert.Pre_narrow_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_narrow_real m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_narrow_real [hReference4Ideal : Cert.Reference4Ideal.Facts] [hPre_narrow_real : Cert.Pre_narrow_real.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_narrow_real m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_heads_real [hKernel5Ideal : Cert.Kernel5Ideal.Facts] [hPre_heads_real : Cert.Pre_heads_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_heads_real m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_heads_real [hReference5Ideal : Cert.Reference5Ideal.Facts] [hPre_heads_real : Cert.Pre_heads_real.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_heads_real m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_narrow_real [hKernel4Ideal : Cert.Kernel4Ideal.Facts] [hReference4Ideal : Cert.Reference4Ideal.Facts] [hPre_narrow_real : Cert.Pre_narrow_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_narrow_real m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_heads_real [hKernel5Ideal : Cert.Kernel5Ideal.Facts] [hReference5Ideal : Cert.Reference5Ideal.Facts] [hPre_heads_real : Cert.Pre_heads_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_heads_real m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_below_infinity : Cert.Pre_scores_below_infinity.Facts) (hPre_experts_in_range : Cert.Pre_experts_in_range.Facts) (hPre_narrow_real : Cert.Pre_narrow_real.Facts) (hPre_heads_real : Cert.Pre_heads_real.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_narrow_real (hKernel4Ideal := hKernel4Ideal) (hPre_narrow_real := hPre_narrow_real)
    ∧ quiescent_Reference4Ideal (hReference4Ideal := hReference4Ideal)
    ∧ quiescent_Reference4Ideal_pre_narrow_real (hReference4Ideal := hReference4Ideal) (hPre_narrow_real := hPre_narrow_real)
    ∧ quiescent_Kernel5 (hKernel5 := hKernel5)
    ∧ quiescent_Kernel5Ideal (hKernel5Ideal := hKernel5Ideal)
    ∧ quiescent_Kernel5Ideal_pre_heads_real (hKernel5Ideal := hKernel5Ideal) (hPre_heads_real := hPre_heads_real)
    ∧ quiescent_Reference5Ideal (hReference5Ideal := hReference5Ideal)
    ∧ quiescent_Reference5Ideal_pre_heads_real (hReference5Ideal := hReference5Ideal) (hPre_heads_real := hPre_heads_real)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_narrow_real (hKernel4Ideal := hKernel4Ideal) (hReference4Ideal := hReference4Ideal) (hPre_narrow_real := hPre_narrow_real)
    ∧ preserves_Kernel5_Kernel5Ideal
    ∧ algebraic_Kernel5Ideal_Reference5Ideal_pre_heads_real (hKernel5Ideal := hKernel5Ideal) (hReference5Ideal := hReference5Ideal) (hPre_heads_real := hPre_heads_real)
-- ==== Pre_experts_in_range.lean ====
abbrev S72 : Shape := ⟨1, ![72]⟩
abbrev S1 : Shape := ⟨1, ![1]⟩
abbrev S589824x128 : Shape := ⟨2, ![589824, 128]⟩
abbrev S1x1024 : Shape := ⟨2, ![1, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S589824x128 .f32) (main_arg3 : FVec F S1x1024 .f32) (main_arg4 : FVec F S8x1024x3584 .f32) (main_arg5 : FVec F S8x1024x3584 .f32) (main_arg6 : FVec F S8x3584x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_heads_real.lean ====
abbrev S32768x1024 : Shape := ⟨2, ![32768, 1024]⟩
abbrev S1024 : Shape := ⟨1, ![1024]⟩
abbrev S1024x1280 : Shape := ⟨2, ![1024, 1280]⟩
abbrev S64 : Shape := ⟨1, ![64]⟩
abbrev S1024x1152 : Shape := ⟨2, ![1024, 1152]⟩
abbrev S_ : Shape := ⟨0, ![]⟩

class Facts : Prop where
  slices_S1024x1280_S1024x1152_0_0 : S1024x1280.Slices ![0, 0] S1024x1152
  bcast_S_S1024 : S_.BroadcastsInDim S1024 (![] : Fin 0 → Fin S1024.rank)
  bcast_S_S1024x1152 : S_.BroadcastsInDim S1024x1152 (![] : Fin 0 → Fin S1024x1152.rank)

variable [Facts]

def fn {F : FTy → Type} [FloatOps F] (main_arg0 : FVec F S32768x1024 .f32) (main_arg1 : FVec F S1024 .f32) (main_arg2 : FVec F S1024x1280 .f32) (main_arg3 : FVec F S64 .f32) (main_arg4 : FVec F S64 .f32) : IVec S1024 1 × IVec S1024x1152 1 :=
  let main_v0 : FVec F S1024x1152 .f32 := (extractStridedSlice S1024x1152 ![0, 0] · slices_S1024x1280_S1024x1152_0_0) main_arg2
  let main_cst : FVec F S_ .f32 := constant S_ .f32 0xFF800000#32
  let main_v1 : FVec F S1024 .f32 := broadcastInDim S1024 ![] bcast_S_S1024 main_cst
  let main_v2 : IVec S1024 1 := cmpf .ogt main_arg1 main_v1
  let main_cst_0 : FVec F S_ .f32 := constant S_ .f32 0x7F800000#32
  let main_v3 : FVec F S1024 .f32 := broadcastInDim S1024 ![] bcast_S_S1024 main_cst_0
  let main_v4 : IVec S1024 1 := cmpf .olt main_arg1 main_v3
  let main_v5 : IVec S1024 1 := andi main_v2 main_v4
  let main_cst_1 : FVec F S_ .f32 := constant S_ .f32 0xFF800000#32
  let main_v6 : FVec F S1024x1152 .f32 := broadcastInDim S1024x1152 ![] bcast_S_S1024x1152 main_cst_1
  let main_v7 : IVec S1024x1152 1 := cmpf .ogt main_v0 main_v6
  let main_cst_2 : FVec F S_ .f32 := constant S_ .f32 0x7F800000#32
  let main_v8 : FVec F S1024x1152 .f32 := broadcastInDim S1024x1152 ![] bcast_S_S1024x1152 main_cst_2
  let main_v9 : IVec S1024x1152 1 := cmpf .olt main_v0 main_v8
  let main_v10 : IVec S1024x1152 1 := andi main_v7 main_v9
  (main_v5, main_v10)
-- ==== Pre_narrow_real.lean ====
abbrev S32768x1024 : Shape := ⟨2, ![32768, 1024]⟩
abbrev S1024 : Shape := ⟨1, ![1024]⟩
abbrev S1024x3592 : Shape := ⟨2, ![1024, 3592]⟩
abbrev S4x1536 : Shape := ⟨2, ![4, 1536]⟩
abbrev S3x512 : Shape := ⟨2, ![3, 512]⟩
abbrev S1024x8 : Shape := ⟨2, ![1024, 8]⟩
abbrev S_ : Shape := ⟨0, ![]⟩

class Facts : Prop where
  slices_S1024x3592_S1024x8_0_2048 : S1024x3592.Slices ![0, 2048] S1024x8
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S32768x1024 .f32) (main_arg1 : FVec F S1024 .f32) (main_arg2 : FVec F S1024x3592 .f32) (main_arg3 : FVec F S4x1536 .f32) (main_arg4 : FVec F S3x512 .f32) : IVec S1024 1 × IVec S1024x8 1 :=
  let main_v0 : FVec F S1024x8 .f32 := (extractStridedSlice S1024x8 ![0, 2048] · slices_S1024x3592_S1024x8_0_2048) main_arg2
  let main_cst : FVec F S_ .f32 := constant S_ .f32 0xFF800000#32
  let main_v1 : FVec F S1024 .f32 := broadcastInDim S1024 ![] bcast_S_S1024 main_cst
  let main_v2 : IVec S1024 1 := cmpf .ogt main_arg1 main_v1
  let main_cst_0 : FVec F S_ .f32 := constant S_ .f32 0x7F800000#32
  let main_v3 : FVec F S1024 .f32 := broadcastInDim S1024 ![] bcast_S_S1024 main_cst_0
  let main_v4 : IVec S1024 1 := cmpf .olt main_arg1 main_v3
  let main_v5 : IVec S1024 1 := andi main_v2 main_v4
  let main_cst_1 : FVec F S_ .f32 := constant S_ .f32 0xFF800000#32
  let main_v6 : FVec F S1024x8 .f32 := broadcastInDim S1024x8 ![] bcast_S_S1024x8 main_cst_1
  let main_v7 : IVec S1024x8 1 := cmpf .ogt main_v0 main_v6
  let main_cst_2 : FVec F S_ .f32 := constant S_ .f32 0x7F800000#32
  let main_v8 : FVec F S1024x8 .f32 := broadcastInDim S1024x8 ![] bcast_S_S1024x8 main_cst_2
  let main_v9 : IVec S1024x8 1 := cmpf .olt main_v0 main_v8
  let main_v10 : IVec S1024x8 1 := andi main_v7 main_v9
  (main_v5, main_v10)
-- ==== Pre_scores_below_infinity.lean ====
abbrev S8x4096x1024 : Shape := ⟨3, ![8, 4096, 1024]⟩
abbrev S8x4096x16x64 : Shape := ⟨4, ![8, 4096, 16, 64]⟩
abbrev S8x4096x2x64 : Shape := ⟨4, ![8, 4096, 2, 64]⟩
abbrev S16 : Shape := ⟨1, ![16]⟩
abbrev S1024x1024 : Shape := ⟨2, ![1024, 1024]⟩
abbrev S_ : Shape := ⟨0, ![]⟩

class Facts : Prop where
  bcast_S_S8x4096x16x64 : S_.BroadcastsInDim S8x4096x16x64 (![] : Fin 0 → Fin S8x4096x16x64.rank)
  bcast_S_S8x4096x2x64 : S_.BroadcastsInDim S8x4096x2x64 (![] : Fin 0 → Fin S8x4096x2x64.rank)
  bcast_S_S16 : S_.BroadcastsInDim S16 (![] : Fin 0 → Fin S16.rank)

variable [Facts]

def fn {F : FTy → Type} [FloatOps F] (main_arg0 : FVec F S8x4096x1024 .f32) (main_arg1 : FVec F S8x4096x16x64 .f32) (main_arg2 : FVec F S8x4096x2x64 .f32) (main_arg3 : FVec F S8x4096x2x64 .f32) (main_arg4 : FVec F S16 .f32) (main_arg5 : FVec F S1024x1024 .f32) : IVec S8x4096x16x64 1 × IVec S8x4096x2x64 1 × IVec S16 1 :=
  let main_cst : FVec F S_ .f32 := constant S_ .f32 0xFF800000#32
  let main_v0 : FVec F S8x4096x16x64 .f32 := broadcastInDim S8x4096x16x64 ![] bcast_S_S8x4096x16x64 main_cst
  let main_v1 : IVec S8x4096x16x64 1 := cmpf .ogt main_arg1 main_v0
  let main_cst_0 : FVec F S_ .f32 := constant S_ .f32 0x7F800000#32
  let main_v2 : FVec F S8x4096x16x64 .f32 := broadcastInDim S8x4096x16x64 ![] bcast_S_S8x4096x16x64 main_cst_0
  let main_v3 : IVec S8x4096x16x64 1 := cmpf .olt main_arg1 main_v2
  let main_v4 : IVec S8x4096x16x64 1 := andi main_v1 main_v3
  let main_cst_1 : FVec F S_ .f32 := constant S_ .f32 0xFF800000#32
  let main_v5 : FVec F S8x4096x2x64 .f32 := broadcastInDim S8x4096x2x64 ![] bcast_S_S8x4096x2x64 main_cst_1
  let main_v6 : IVec S8x4096x2x64 1 := cmpf .ogt main_arg2 main_v5
  let main_cst_2 : FVec F S_ .f32 := constant S_ .f32 0x7F800000#32
  let main_v7 : FVec F S8x4096x2x64 .f32 := broadcastInDim S8x4096x2x64 ![] bcast_S_S8x4096x2x64 main_cst_2
  let main_v8 : IVec S8x4096x2x64 1 := cmpf .olt main_arg2 main_v7
  let main_v9 : IVec S8x4096x2x64 1 := andi main_v6 main_v8
  let main_cst_3 : FVec F S_ .f32 := constant S_ .f32 0x7F800000#32
  let main_v10 : FVec F S16 .f32 := broadcastInDim S16 ![] bcast_S_S16 main_cst_3
  let main_v11 : IVec S16 1 := cmpf .olt main_arg4 main_v10
  (main_v4, main_v9, main_v11)
-- ==== Kernel.lean ====
abbrev S8x4096x1024 : Shape := ⟨3, ![8, 4096, 1024]⟩
abbrev S8x4096x16x64 : Shape := ⟨4, ![8, 4096, 16, 64]⟩
abbrev S8x4096x2x64 : Shape := ⟨4, ![8, 4096, 2, 64]⟩
abbrev S16 : Shape := ⟨1, ![16]⟩
abbrev S1024x1024 : Shape := ⟨2, ![1024, 1024]⟩
abbrev S_ : Shape := ⟨0, ![]⟩
abbrev S8x4096x128 : Shape := ⟨3, ![8, 4096, 128]⟩
abbrev S8x4096x1280 : Shape := ⟨3, ![8, 4096, 1280]⟩
abbrev S1x1024x1024 : Shape := ⟨3, ![1, 1024, 1024]⟩
abbrev S1x1024x256 : Shape := ⟨3, ![1, 1024, 256]⟩
abbrev S1x128x256 : Shape := ⟨3, ![1, 128, 256]⟩
abbrev S4x1152x128 : Shape := ⟨3, ![4, 1152, 128]⟩
abbrev S16x128x256 : Shape := ⟨3, ![16, 128, 256]⟩
abbrev S1152x128 : Shape := ⟨2, ![1152, 128]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S1x1152x128 : Shape := ⟨3, ![1, 1152, 128]⟩
abbrev S128x256 : Shape := ⟨2, ![128, 256]⟩
abbrev S1x256x128 : Shape := ⟨3, ![1, 256, 128]⟩
abbrev S256x128 : Shape := ⟨2, ![256, 128]⟩
abbrev S1 : Shape := ⟨1, ![1]⟩
abbrev S128 : Shape := ⟨1, ![128]⟩
abbrev S128x1 : Shape := ⟨2, ![128, 1]⟩
abbrev S1x128x1024 : Shape := ⟨3, ![1, 128, 1024]⟩
abbrev S128x1024 : Shape := ⟨2, ![128, 1024]⟩

abbrev nBuf : Space → Nat
  | .hbm => 16
  | .vmem => 15
  | .smem => 1
  | _ => 0

abbrev bufTy : (tb : Table) → Fin (tcTables nBuf tb) → BufTy
  | .hbm, ⟨0, _⟩ => ⟨S8x4096x1024, .f32⟩
  | .hbm, ⟨1, _⟩ => ⟨S8x4096x16x64, .f32⟩
  | .hbm, ⟨2, _⟩ => ⟨S8x4096x2x64, .f32⟩
  | .hbm, ⟨3, _⟩ => ⟨S8x4096x2x64, .f32⟩
  | .hbm, ⟨4, _⟩ => ⟨S16, .f32⟩
  | .hbm, ⟨5, _⟩ => ⟨S1024x1024, .f32⟩
  | .hbm, ⟨6, _⟩ => ⟨S_, .f32⟩
  | .hbm, ⟨7, _⟩ => ⟨S8x4096x16x64, .f32⟩
  | .hbm, ⟨8, _⟩ => ⟨S8x4096x16x64, .f32⟩
  | .hbm, ⟨9, _⟩ => ⟨S8x4096x1024, .f32⟩
  | .hbm, ⟨10, _⟩ => ⟨S8x4096x128, .f32⟩
  | .hbm, ⟨11, _⟩ => ⟨S8x4096x128, .f32⟩
  | .hbm, ⟨12, _⟩ => ⟨S8x4096x1280, .f32⟩
  | .hbm, ⟨13, _⟩ => ⟨S8x4096x1280, .bf16⟩
  | .hbm, ⟨14, _⟩ => ⟨S1024x1024, .bf16⟩
  | .hbm, ⟨15, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S4x1152x128, .bf16⟩
  | .local _ .vmem, ⟨12, _⟩ => ⟨S4x1152x128, .bf16⟩
  | .local _ .vmem, ⟨13, _⟩ => ⟨S16x128x256, .f32⟩
  | .local _ .vmem, ⟨14, _⟩ => ⟨S16x128x256, .bf16⟩
  | .local _ .smem, ⟨0, _⟩ => ⟨S16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_40 : BitVec 32 := 0#32
  let c8_i32 : BitVec 32 := 8#32
  let v81 : BitVec 32 := Scalar.addi c0_i32_40 c8_i32
  let c1_i32 : BitVec 32 := 1#32
  ⟨c0_i32_40, v81, c1_i32⟩
def k0_mult1 (k0_t1 : Fin k0_t1_loop.trips) : BitVec 32 :=
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  v82
def k0_off1 (k0_t1 : Fin k0_t1_loop.trips) : Fin 3 → Nat :=
  let c0_46 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v93 : Index := Scalar.indexCast v83
  let c0_47 : Index := 0#32
  ![0, v93.toNat, 0]
def k0_off2 (k0_t1 : Fin k0_t1_loop.trips) : Fin 3 → Nat :=
  let c0_48 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v96 : Index := Scalar.indexCast v83
  let c0_49 : Index := 0#32
  ![0, v96.toNat, 0]
def k0_off3 (k0_t1 : Fin k0_t1_loop.trips) : Fin 3 → Nat :=
  let c1_57 : Index := 1#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v108 : Index := Scalar.indexCast v83
  let c0_58 : Index := 0#32
  ![1, v108.toNat, 0]
def k0_off4 (k0_t1 : Fin k0_t1_loop.trips) : Fin 3 → Nat :=
  let c0_64 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v117 : Index := Scalar.indexCast v83
  let c128_65 : Index := 128#32
  ![0, v117.toNat, 128]
def k0_off5 (k0_t1 : Fin k0_t1_loop.trips) : Fin 3 → Nat :=
  let c0_82 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v141 : Index := Scalar.indexCast v83
  let c256 : Index := 256#32
  ![0, v141.toNat, 256]
def k0_off6 (k0_t1 : Fin k0_t1_loop.trips) : Fin 3 → Nat :=
  let c0_97 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v165 : Index := Scalar.indexCast v83
  let c384 : Index := 384#32
  ![0, v165.toNat, 384]
def k0_off7 (k0_t1 : Fin k0_t1_loop.trips) : Fin 3 → Nat :=
  let c0_112 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v189 : Index := Scalar.indexCast v83
  let c512 : Index := 512#32
  ![0, v189.toNat, 512]
def k0_off8 (k0_t1 : Fin k0_t1_loop.trips) : Fin 3 → Nat :=
  let c2_113 : Index := 2#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v192 : Index := Scalar.indexCast v83
  let c0_114 : Index := 0#32
  ![2, v192.toNat, 0]
def k0_off9 (k0_t1 : Fin k0_t1_loop.trips) : Fin 3 → Nat :=
  let c3_121 : Index := 3#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v204 : Index := Scalar.indexCast v83
  let c0_122 : Index := 0#32
  ![3, v204.toNat, 0]
def k0_off10 (k0_t1 : Fin k0_t1_loop.trips) : Fin 3 → Nat :=
  let c0_127 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v213 : Index := Scalar.indexCast v83
  let c640 : Index := 640#32
  ![0, v213.toNat, 640]
def k0_off11 (k0_t1 : Fin k0_t1_loop.trips) : Fin 3 → Nat :=
  let c0_142 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v237 : Index := Scalar.indexCast v83
  let c768 : Index := 768#32
  ![0, v237.toNat, 768]
def k0_off12 (k0_t1 : Fin k0_t1_loop.trips) : Fin 3 → Nat :=
  let c0_157 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v261 : Index := Scalar.indexCast v83
  let c896 : Index := 896#32
  ![0, v261.toNat, 896]
def k0_off13 (k0_t1 : Fin k0_t1_loop.trips) : Fin 3 → Nat :=
  let c0_428 : Index := 0#32
  let c0_i32_40 : BitVec 32 := 0#32
  let c1_i32 : BitVec 32 := 1#32
  let arg13 : BitVec 32 := Scf.iv c0_i32_40 c1_i32 k0_t1
  let c128_i32_42 : BitVec 32 := 128#32
  let v82 : BitVec 32 := Scalar.muli arg13 c128_i32_42
  let v83 : BitVec 32 := v82
  let v781 : Index := Scalar.indexCast v83
  let c0_429 : Index := 0#32
  ![0, v781.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x1024 : Shape := ⟨3, ![8, 4096, 1024]⟩
abbrev S8x4096x16x64 : Shape := ⟨4, ![8, 4096, 16, 64]⟩
abbrev S8x4096x2x64 : Shape := ⟨4, ![8, 4096, 2, 64]⟩
abbrev S16 : Shape := ⟨1, ![16]⟩
abbrev S1024x1024 : Shape := ⟨2, ![1024, 1024]⟩
abbrev S8x32x128x2x8x64 : Shape := ⟨6, ![8, 32, 128, 2, 8, 64]⟩
abbrev S_ : Shape := ⟨0, ![]⟩
abbrev S8x4224x2x64 : Shape := ⟨4, ![8, 4224, 2, 64]⟩
abbrev S8x33x128x2x64 : Shape := ⟨5, ![8, 33, 128, 2, 64]⟩
abbrev S8x32x128x2x64 : Shape := ⟨5, ![8, 32, 128, 2, 64]⟩
abbrev S8x32x256x2x64 : Shape := ⟨5, ![8, 32, 256, 2, 64]⟩
abbrev S2x8 : Shape := ⟨2, ![2, 8]⟩
abbrev S1x1x2x8x1x1 : Shape := ⟨6, ![1, 1, 2, 8, 1, 1]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S8x32x2x256x128x8 : Shape := ⟨6, ![8, 32, 2, 256, 128, 8]⟩
abbrev S8x32x2x8x128x256 : Shape := ⟨6, ![8, 32, 2, 8, 128, 256]⟩
abbrev S8x32x2x8x128 : Shape := ⟨5, ![8, 32, 2, 8, 128]⟩
abbrev S8x32x2x8x128x1 : Shape := ⟨6, ![8, 32, 2, 8, 128, 1]⟩
abbrev S8x32x2x64x8x128 : Shape := ⟨6, ![8, 32, 2, 64, 8, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x16x64, .f32⟩
  | .hbm, ⟨2, _⟩ => ⟨S8x4096x2x64, .f32⟩
  | .hbm, ⟨3, _⟩ => ⟨S8x4096x2x64, .f32⟩
  | .hbm, ⟨4, _⟩ => ⟨S16, .f32⟩
  | .hbm, ⟨5, _⟩ => ⟨S1024x1024, .f32⟩
  | .hbm, ⟨6, _⟩ => ⟨S8x32x128x2x8x64, .f32⟩
  | .hbm, ⟨7, _⟩ => ⟨S_, .i32⟩
  | .hbm, ⟨8, _⟩ => ⟨S_, .f32⟩
  | .hbm, ⟨9, _⟩ => ⟨S8x4224x2x64, .f32⟩
  | .hbm, ⟨10, _⟩ => ⟨S8x33x128x2x64, .f32⟩
  | .hbm, ⟨11, _⟩ => ⟨S_, .i32⟩
  | .hbm, ⟨12, _⟩ => ⟨S_, .f32⟩
  | .hbm, ⟨13, _⟩ => ⟨S8x4224x2x64, .f32⟩
  | .hbm, ⟨14, _⟩ => ⟨S8x33x128x2x64, .f32⟩
  | .hbm, ⟨15, _⟩ => ⟨S8x32x128x2x64, .f32⟩
  | .hbm, ⟨16, _⟩ => ⟨S8x32x128x2x64, .f32⟩
  | .hbm, ⟨17, _⟩ => ⟨S8x32x256x2x64, .f32⟩
  | .hbm, ⟨18, _⟩ => ⟨S8x32x128x2x64, .f32⟩
  | .hbm, ⟨19, _⟩ => ⟨S8x32x128x2x64, .f32⟩
  | .hbm, ⟨20, _⟩ => ⟨S8x32x256x2x64, .f32⟩
  | .hbm, ⟨21, _⟩ => ⟨S2x8, .f32⟩
  | .hbm, ⟨22, _⟩ => ⟨S1x1x2x8x1x1, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S32, .i32⟩
  | .hbm, ⟨41, _⟩ => ⟨S32x1x1, .i32⟩
  | .hbm, ⟨42, _⟩ => ⟨S1x128x256, .i1⟩
  | .hbm, ⟨43, _⟩ => ⟨S1x1x256, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S32x1x256, .i32⟩
  | .hbm, ⟨51, _⟩ => ⟨S32x1x256, .i32⟩
  | .hbm, ⟨52, _⟩ => ⟨S32x1x256, .i32⟩
  | .hbm, ⟨53, _⟩ => ⟨S_, .i32⟩
  | .hbm, ⟨54, _⟩ => ⟨S32x1x256, .i32⟩
  | .hbm, ⟨55, _⟩ => ⟨S32x1x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S1x32x1x1x128x256, .i1⟩
  | .hbm, ⟨60, _⟩ => ⟨S8x32x2x256x128x8, .f32⟩
  | .hbm, ⟨61, _⟩ => ⟨S8x32x2x8x128x256, .f32⟩
  | .hbm, ⟨62, _⟩ => ⟨S_, .f32⟩
  | .hbm, ⟨63, _⟩ => ⟨S8x32x2x8x128x256, .f32⟩
  | .hbm, ⟨64, _⟩ => ⟨S8x32x2x8x128x256, .f32⟩
  | .hbm, ⟨65, _⟩ => ⟨S_, .f32⟩
  | .hbm, ⟨66, _⟩ => ⟨S_, .f32⟩
  | .hbm, ⟨67, _⟩ => ⟨S8x32x2x8x128x256, .i1⟩
  | .hbm, ⟨68, _⟩ => ⟨S8x32x2x8x128x256, .f32⟩
  | .hbm, ⟨69, _⟩ => ⟨S8x32x2x8x128x256, .f32⟩
  | .hbm, ⟨70, _⟩ => ⟨S_, .f32⟩
  | .hbm, ⟨71, _⟩ => ⟨S8x32x2x8x128, .f32⟩
  | .hbm, ⟨72, _⟩ => ⟨S8x32x2x8x128x1, .f32⟩
  | .hbm, ⟨73, _⟩ => ⟨S8x32x2x8x128x1, .f32⟩
  | .hbm, ⟨74, _⟩ => ⟨S8x32x2x8x128x1, .f32⟩
  | .hbm, ⟨75, _⟩ => ⟨S8x32x2x8x128x256, .f32⟩
  | .hbm, ⟨76, _⟩ => ⟨S8x32x2x8x128x256, .f32⟩
  | .hbm, ⟨77, _⟩ => ⟨S8x32x2x8x128x256, .f32⟩
  | .hbm, ⟨78, _⟩ => ⟨S_, .f32⟩
  | .hbm, ⟨79, _⟩ => ⟨S8x32x2x8x128, .f32⟩
  | .hbm, ⟨80, _⟩ => ⟨S8x32x2x8x128x1, .f32⟩
  | .hbm, ⟨81, _⟩ => ⟨S8x32x2x8x128x1, .f32⟩
  | .hbm, ⟨82, _⟩ => ⟨S8x32x2x8x128x1, .f32⟩
  | .hbm, ⟨83, _⟩ => ⟨S8x32x2x8x128x1, .f32⟩
  | .hbm, ⟨84, _⟩ => ⟨S8x32x2x8x128x1, .f32⟩
  | .hbm, ⟨85, _⟩ => ⟨S8x32x2x8x128x256, .f32⟩
  | .hbm, ⟨86, _⟩ => ⟨S8x32x2x8x128x256, .f32⟩
  | .hbm, ⟨87, _⟩ => ⟨S8x32x2x64x8x128, .f32⟩
  | .hbm, ⟨88, _⟩ => ⟨S8x32x128x2x8x64, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S589824x128 : Shape := ⟨2, ![589824, 128]⟩
abbrev S1x1024 : Shape := ⟨2, ![1, 1024]⟩
abbrev S8x1024x3584 : Shape := ⟨3, ![8, 1024, 3584]⟩
abbrev S8x3584x1024 : Shape := ⟨3, ![8, 3584, 1024]⟩
abbrev S8192x128 : Shape := ⟨2, ![8192, 128]⟩
abbrev S1x1024x512 : Shape := ⟨3, ![1, 1024, 512]⟩
abbrev S1x512x1024 : Shape := ⟨3, ![1, 512, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩
abbrev S1024x512 : Shape := ⟨2, ![1024, 512]⟩
abbrev S512x1024 : Shape := ⟨2, ![512, 1024]⟩

abbrev nBuf : Space → Nat
  | .hbm => 6
  | .vmem => 13
  | .smem => 2
  | _ => 0

abbrev bufTy : (tb : Table) → Fin (tcTables nBuf tb) → BufTy
  | .hbm, ⟨0, _⟩ => ⟨S589824x128, .f32⟩
  | .hbm, ⟨1, _⟩ => ⟨S1x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S589824x128, .f32⟩
  | .local _ .vmem, ⟨0, _⟩ => ⟨S8192x128, .f32⟩
  | .local _ .vmem, ⟨1, _⟩ => ⟨S8192x128, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S8192x128, .f32⟩
  | .local _ .vmem, ⟨10, _⟩ => ⟨S8192x128, .f32⟩
  | .local _ .vmem, ⟨11, _⟩ => ⟨S1024x1024, .bf16⟩
  | .local _ .vmem, ⟨12, _⟩ => ⟨S1024x1024, .f32⟩
  | .local _ .smem, ⟨0, _⟩ => ⟨S72, .i32⟩
  | .local _ .smem, ⟨1, _⟩ => ⟨S1, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v8 : BitVec 1 := Scalar.cmpi .eq arg1 c6_i32
  let v9 : BitVec 32 := Scalar.extui v8
  let c0_i32_2 : BitVec 32 := 0#32
  let v10 : BitVec 1 := Scalar.cmpi .ne v9 c0_i32_2
  v10

def k0_cond4 (i : grid0.Coords) (v0 : BitVec 32) : BitVec 1 :=
  let arg0 : BitVec 32 := BitVec.ofNat 32 (i 0).val
  let v1 : BitVec 1 := Scalar.cmpi .slt arg0 v0
  let v11 : BitVec 32 := Scalar.extui v1
  let c0_i32_3 : BitVec 32 := 0#32
  let v12 : BitVec 1 := Scalar.cmpi .ne v11 c0_i32_3
  v12

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v13 : BitVec 1 := Scalar.xori v1 v_true
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_4 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S72 : Shape := ⟨1, ![72]⟩
abbrev S1 : Shape := ⟨1, ![1]⟩
abbrev S589824x128 : Shape := ⟨2, ![589824, 128]⟩
abbrev S1x1024 : Shape := ⟨2, ![1, 1024]⟩
abbrev S8x1024x3584 : Shape := ⟨3, ![8, 1024, 3584]⟩
abbrev S8x3584x1024 : Shape := ⟨3, ![8, 3584, 1024]⟩
abbrev S73728x1024 : Shape := ⟨2, ![73728, 1024]⟩
abbrev S_ : Shape := ⟨0, ![]⟩
abbrev S73728 : Shape := ⟨1, ![73728]⟩
abbrev S73728x1 : Shape := ⟨2, ![73728, 1]⟩
abbrev S72x1 : Shape := ⟨2, ![72, 1]⟩
abbrev S1x8 : Shape := ⟨2, ![1, 8]⟩
abbrev S72x8 : Shape := ⟨2, ![72, 8]⟩
abbrev S72x1024x8 : Shape := ⟨3, ![72, 1024, 8]⟩
abbrev S73728x8 : Shape := ⟨2, ![73728, 8]⟩
abbrev S1x1024x3584 : Shape := ⟨3, ![1, 1024, 3584]⟩
abbrev S1024x3584 : Shape := ⟨2, ![1024, 3584]⟩
abbrev S73728x3584 : Shape := ⟨2, ![73728, 3584]⟩
abbrev S1x3584x1024 : Shape := ⟨3, ![1, 3584, 1024]⟩
abbrev S3584x1024 : Shape := ⟨2, ![3584, 1024]⟩

abbrev nBuf : Space → Nat
  | .hbm => 226
  | .vmem => 0
  | .smem => 0
  | _ => 0

abbrev hbmTy0_0 (i : Nat) : BufTy := match i % 128 with
  | 0 => ⟨S72, .i32⟩
  | 1 => ⟨S1, .i32⟩
  | 2 => ⟨S589824x128, .f32⟩
  | 3 => ⟨S1x1024, .f32⟩
  | 4 => ⟨S8x1024x3584, .f32⟩
  | 5 => ⟨S8x1024x3584, .f32⟩
  | 6 => ⟨S8x3584x1024, .f32⟩
  | 7 => ⟨S73728x1024, .f32⟩
  | 8 => ⟨S73728x1024, .f32⟩
  | 9 => ⟨S_, .f32⟩
  | 10 => ⟨S73728, .f32⟩
  | 11 => ⟨S73728x1, .f32⟩
  | 12 => ⟨S_, .f32⟩
  | 13 => ⟨S73728x1, .f32⟩
  | 14 => ⟨S73728x1, .f32⟩
  | 15 => ⟨S_, .f32⟩
  | 16 => ⟨S73728x1, .f32⟩
  | 17 => ⟨S73728x1, .f32⟩
  | 18 => ⟨S73728x1, .f32⟩
  | 19 => ⟨S73728x1024, .f32⟩
  | 20 => ⟨S73728x1024, .f32⟩
  | 21 => ⟨S73728x1024, .f32⟩
  | 22 => ⟨S73728x1024, .f32⟩
  | 23 => ⟨S72, .i32⟩
  | 24 => ⟨S_, .i32⟩
  | 25 => ⟨S72, .i32⟩
  | 26 => ⟨S72, .i1⟩
  | 27 => ⟨S72x1, .i32⟩
  | 28 => ⟨S1x8, .i32⟩
  | 29 => ⟨S72x8, .i32⟩
  | 30 => ⟨S72x8, .i32⟩
  | 31 => ⟨S72x8, .i1⟩
  | 32 => ⟨S72x8, .f32⟩
  | 33 => ⟨S72x1, .i1⟩
  | 34 => ⟨S72x1, .f32⟩
  | 35 => ⟨S72x8, .f32⟩
  | 36 => ⟨S72x8, .f32⟩
  | 37 => ⟨S72x1024x8, .f32⟩
  | 38 => ⟨S73728x8, .f32⟩
  | 39 => ⟨S_, .f32⟩
  | 40 => ⟨S73728x1024, .f32⟩
  | 41 => ⟨S1x1024x3584, .f32⟩
  | 42 => ⟨S1024x3584, .f32⟩
  | 43 => ⟨S73728x3584, .f32⟩
  | 44 => ⟨S73728x3584, .f32⟩
  | 45 => ⟨S73728x3584, .f32⟩
  | 46 => ⟨S_, .f32⟩
  | 47 => ⟨S73728x3584, .f32⟩
  | 48 => ⟨S73728x3584, .f32⟩
  | 49 => ⟨S_, .f32⟩
  | 50 => ⟨S73728x3584, .f32⟩
  | 51 => ⟨S73728x3584, .f32⟩
  | 52 => ⟨S73728x3584, .f32⟩
  | 53 => ⟨S1x1024x3584, .f32⟩
  | 54 => ⟨S1024x3584, .f32⟩
  | 55 => ⟨S73728x3584, .f32⟩
  | 56 => ⟨S73728x3584, .f32⟩
  | 57 => ⟨S73728x1, .f32⟩
  | 58 => ⟨S1x3584x1024, .f32⟩
  | 59 => ⟨S3584x1024, .f32⟩
  | 60 => ⟨S73728x1024, .f32⟩
  | 61 => ⟨S73728x1024, .f32⟩
  | 62 => ⟨S73728x1024, .f32⟩
  | 63 => ⟨S73728x1024, .f32⟩
  | 64 => ⟨S1x1024x3584, .f32⟩
  | 65 => ⟨S1024x3584, .f32⟩
  | 66 => ⟨S73728x3584, .f32⟩
  | 67 => ⟨S73728x3584, .f32⟩
  | 68 => ⟨S73728x3584, .f32⟩
  | 69 => ⟨S_, .f32⟩
  | 70 => ⟨S73728x3584, .f32⟩
  | 71 => ⟨S73728x3584, .f32⟩
  | 72 => ⟨S_, .f32⟩
  | 73 => ⟨S73728x3584, .f32⟩
  | 74 => ⟨S73728x3584, .f32⟩
  | 75 => ⟨S73728x3584, .f32⟩
  | 76 => ⟨S1x1024x3584, .f32⟩
  | 77 => ⟨S1024x3584, .f32⟩
  | 78 => ⟨S73728x3584, .f32⟩
  | 79 => ⟨S73728x3584, .f32⟩
  | 80 => ⟨S73728x1, .f32⟩
  | 81 => ⟨S1x3584x1024, .f32⟩
  | 82 => ⟨S3584x1024, .f32⟩
  | 83 => ⟨S73728x1024, .f32⟩
  | 84 => ⟨S73728x1024, .f32⟩
  | 85 => ⟨S73728x1024, .f32⟩
  | 86 => ⟨S73728x1024, .f32⟩
  | 87 => ⟨S1x1024x3584, .f32⟩
  | 88 => ⟨S1024x3584, .f32⟩
  | 89 => ⟨S73728x3584, .f32⟩
  | 90 => ⟨S73728x3584, .f32⟩
  | 91 => ⟨S73728x3584, .f32⟩
  | 92 => ⟨S_, .f32⟩
  | 93 => ⟨S73728x3584, .f32⟩
  | 94 => ⟨S73728x3584, .f32⟩
  | 95 => ⟨S_, .f32⟩
  | 96 => ⟨S73728x3584, .f32⟩
  | 97 => ⟨S73728x3584, .f32⟩
  | 98 => ⟨S73728x3584, .f32⟩
  | 99 => ⟨S1x1024x3584, .f32⟩
  | 100 => ⟨S1024x3584, .f32⟩
  | 101 => ⟨S73728x3584, .f32⟩
  | 102 => ⟨S73728x3584, .f32⟩
  | 103 => ⟨S73728x1, .f32⟩
  | 104 => ⟨S1x3584x1024, .f32⟩
  | 105 => ⟨S3584x1024, .f32⟩
  | 106 => ⟨S73728x1024, .f32⟩
  | 107 => ⟨S73728x1024, .f32⟩
  | 108 => ⟨S73728x1024, .f32⟩
  | 109 => ⟨S73728x1024, .f32⟩
  | 110 => ⟨S1x1024x3584, .f32⟩
  | 111 => ⟨S1024x3584, .f32⟩
  | 112 => ⟨S73728x3584, .f32⟩
  | 113 => ⟨S73728x3584, .f32⟩
  | 114 => ⟨S73728x3584, .f32⟩
  | 115 => ⟨S_, .f32⟩
  | 116 => ⟨S73728x3584, .f32⟩
  | 117 => ⟨S73728x3584, .f32⟩
  | 118 => ⟨S_, .f32⟩
  | 119 => ⟨S73728x3584, .f32⟩
  | 120 => ⟨S73728x3584, .f32⟩
  | 121 => ⟨S73728x3584, .f32⟩
  | 122 => ⟨S1x1024x3584, .f32⟩
  | 123 => ⟨S1024x3584, .f32⟩
  | 124 => ⟨S73728x3584, .f32⟩
  | 125 => ⟨S73728x3584, .f32⟩
  | 126 => ⟨S73728x1, .f32⟩
  | 127 => ⟨S1x3584x1024, .f32⟩
  | _ => ⟨S72, .i32⟩

abbrev hbmTy0_1 (i : Nat) : BufTy := match i % 128 with
  | 0 => ⟨S3584x1024, .f32⟩
  | 1 => ⟨S73728x1024, .f32⟩
  | 2 => ⟨S73728x1024, .f32⟩
  | 3 => ⟨S73728x1024, .f32⟩
  | 4 => ⟨S73728x1024, .f32⟩
  | 5 => ⟨S1x1024x3584, .f32⟩
  | 6 => ⟨S1024x3584, .f32⟩
  | 7 => ⟨S73728x3584, .f32⟩
  | 8 => ⟨S73728x3584, .f32⟩
  | 9 => ⟨S73728x3584, .f32⟩
  | 10 => ⟨S_, .f32⟩
  | 11 => ⟨S73728x3584, .f32⟩
  | 12 => ⟨S73728x3584, .f32⟩
  | 13 => ⟨S_, .f32⟩
  | 14 => ⟨S73728x3584, .f32⟩
  | 15 => ⟨S73728x3584, .f32⟩
  | 16 => ⟨S73728x3584, .f32⟩
  | 17 => ⟨S1x1024x3584, .f32⟩
  | 18 => ⟨S1024x3584, .f32⟩
  | 19 => ⟨S73728x3584, .f32⟩
  | 20 => ⟨S73728x3584, .f32⟩
  | 21 => ⟨S73728x1, .f32⟩
  | 22 => ⟨S1x3584x1024, .f32⟩
  | 23 => ⟨S3584x1024, .f32⟩
  | 24 => ⟨S73728x1024, .f32⟩
  | 25 => ⟨S73728x1024, .f32⟩
  | 26 => ⟨S73728x1024, .f32⟩
  | 27 => ⟨S73728x1024, .f32⟩
  | 28 => ⟨S1x1024x3584, .f32⟩
  | 29 => ⟨S1024x3584, .f32⟩
  | 30 => ⟨S73728x3584, .f32⟩
  | 31 => ⟨S73728x3584, .f32⟩
  | 32 => ⟨S73728x3584, .f32⟩
  | 33 => ⟨S_, .f32⟩
  | 34 => ⟨S73728x3584, .f32⟩
  | 35 => ⟨S73728x3584, .f32⟩
  | 36 => ⟨S_, .f32⟩
  | 37 => ⟨S73728x3584, .f32⟩
  | 38 => ⟨S73728x3584, .f32⟩
  | 39 => ⟨S73728x3584, .f32⟩
  | 40 => ⟨S1x1024x3584, .f32⟩
  | 41 => ⟨S1024x3584, .f32⟩
  | 42 => ⟨S73728x3584, .f32⟩
  | 43 => ⟨S73728x3584, .f32⟩
  | 44 => ⟨S73728x1, .f32⟩
  | 45 => ⟨S1x3584x1024, .f32⟩
  | 46 => ⟨S3584x1024, .f32⟩
  | 47 => ⟨S73728x1024, .f32⟩
  | 48 => ⟨S73728x1024, .f32⟩
  | 49 => ⟨S73728x1024, .f32⟩
  | 50 => ⟨S73728x1024, .f32⟩
  | 51 => ⟨S1x1024x3584, .f32⟩
  | 52 => ⟨S1024x3584, .f32⟩
  | 53 => ⟨S73728x3584, .f32⟩
  | 54 => ⟨S73728x3584, .f32⟩
  | 55 => ⟨S73728x3584, .f32⟩
  | 56 => ⟨S_, .f32⟩
  | 57 => ⟨S73728x3584, .f32⟩
  | 58 => ⟨S73728x3584, .f32⟩
  | 59 => ⟨S_, .f32⟩
  | 60 => ⟨S73728x3584, .f32⟩
  | 61 => ⟨S73728x3584, .f32⟩
  | 62 => ⟨S73728x3584, .f32⟩
  | 63 => ⟨S1x1024x3584, .f32⟩
  | 64 => ⟨S1024x3584, .f32⟩
  | 65 => ⟨S73728x3584, .f32⟩
  | 66 => ⟨S73728x3584, .f32⟩
  | 67 => ⟨S73728x1, .f32⟩
  | 68 => ⟨S1x3584x1024, .f32⟩
  | 69 => ⟨S3584x1024, .f32⟩
  | 70 => ⟨S73728x1024, .f32⟩
  | 71 => ⟨S73728x1024, .f32⟩
  | 72 => ⟨S73728x1024, .f32⟩
  | 73 => ⟨S73728x1024, .f32⟩
  | 74 => ⟨S1x1024x3584, .f32⟩
  | 75 => ⟨S1024x3584, .f32⟩
  | 76 => ⟨S73728x3584, .f32⟩
  | 77 => ⟨S73728x3584, .f32⟩
  | 78 => ⟨S73728x3584, .f32⟩
  | 79 => ⟨S_, .f32⟩
  | 80 => ⟨S73728x3584, .f32⟩
  | 81 => ⟨S73728x3584, .f32⟩
  | 82 => ⟨S_, .f32⟩
  | 83 => ⟨S73728x3584, .f32⟩
  | 84 => ⟨S73728x3584, .f32⟩
  | 85 => ⟨S73728x3584, .f32⟩
  | 86 => ⟨S1x1024x3584, .f32⟩
  | 87 => ⟨S1024x3584, .f32⟩
  | 88 => ⟨S73728x3584, .f32⟩
  | 89 => ⟨S73728x3584, .f32⟩
  | 90 => ⟨S73728x1, .f32⟩
  | 91 => ⟨S1x3584x1024, .f32⟩
  | 92 => ⟨S3584x1024, .f32⟩
  | 93 => ⟨S73728x1024, .f32⟩
  | 94 => ⟨S73728x1024, .f32⟩
  | 95 => ⟨S73728x1024, .f32⟩
  | 96 => ⟨S73728x1024, .f32⟩
  | 97 => ⟨S589824x128, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call6_v0 : Ref sig .tc := ⟨.hbm, 159, rfl⟩
abbrev main_call6_v1 : Ref sig .tc := ⟨.hbm, 160, rfl⟩
abbrev main_call6_cst : Ref sig .tc := ⟨.hbm, 161, rfl⟩
abbrev main_call6_v2 : Ref sig .tc := ⟨.hbm, 162, rfl⟩
abbrev main_call6_v3 : Ref sig .tc := ⟨.hbm, 163, rfl⟩
abbrev main_call6_cst_0 : Ref sig .tc := ⟨.hbm, 164, rfl⟩
abbrev main_call6_v4 : Ref sig .tc := ⟨.hbm, 165, rfl⟩
abbrev main_call6_v5 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_call7_v0 : Ref sig .tc := ⟨.hbm, 182, rfl⟩
abbrev main_call7_v1 : Ref sig .tc := ⟨.hbm, 183, rfl⟩
abbrev main_call7_cst : Ref sig .tc := ⟨.hbm, 184, rfl⟩
abbrev main_call7_v2 : Ref sig .tc := ⟨.hbm, 185, rfl⟩
abbrev main_call7_v3 : Ref sig .tc := ⟨.hbm, 186, rfl⟩
abbrev main_call7_cst_0 : Ref sig .tc := ⟨.hbm, 187, rfl⟩
abbrev main_call7_v4 : Ref sig .tc := ⟨.hbm, 188, rfl⟩
abbrev main_call7_v5 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_call8_v0 : Ref sig .tc := ⟨.hbm, 205, rfl⟩
abbrev main_call8_v1 : Ref sig .tc := ⟨.hbm, 206, rfl⟩
abbrev main_call8_cst : Ref sig .tc := ⟨.hbm, 207, rfl⟩
abbrev main_call8_v2 : Ref sig .tc := ⟨.hbm, 208, rfl⟩
abbrev main_call8_v3 : Ref sig .tc := ⟨.hbm, 209, rfl⟩
abbrev main_call8_cst_0 : Ref sig .tc := ⟨.hbm, 210, rfl⟩
abbrev main_call8_v4 : Ref sig .tc := ⟨.hbm, 211, rfl⟩
abbrev main_call8_v5 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S32 : Shape := ⟨1, ![32]⟩
abbrev S1 : Shape := ⟨1, ![1]⟩
abbrev S1x1024 : Shape := ⟨2, ![1, 1024]⟩
abbrev S1x1024x3584 : Shape := ⟨3, ![1, 1024, 3584]⟩
abbrev S1x3584x1024 : Shape := ⟨3, ![1, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 12
  | .vmem => 13
  | .smem => 2
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S_, .i32⟩
  | .hbm, ⟨6, _⟩ => ⟨S_, .i32⟩
  | .hbm, ⟨7, _⟩ => ⟨S1x1024, .f32⟩
  | .hbm, ⟨8, _⟩ => ⟨S1x1024x3584, .f32⟩
  | .hbm, ⟨9, _⟩ => ⟨S1x1024x3584, .f32⟩
  | .hbm, ⟨10, _⟩ => ⟨S1x3584x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | .local _ .smem, ⟨0, _⟩ => ⟨S32, .i32⟩
  | .local _ .smem, ⟨1, _⟩ => ⟨S1, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v8 : BitVec 1 := Scalar.cmpi .eq arg1 c6_i32
  let v9 : BitVec 32 := Scalar.extui v8
  let c0_i32_2 : BitVec 32 := 0#32
  let v10 : BitVec 1 := Scalar.cmpi .ne v9 c0_i32_2
  v10

def k0_cond4 (i : grid0.Coords) (v0 : BitVec 32) : BitVec 1 :=
  let arg0 : BitVec 32 := BitVec.ofNat 32 (i 0).val
  let v1 : BitVec 1 := Scalar.cmpi .slt arg0 v0
  let v11 : BitVec 32 := Scalar.extui v1
  let c0_i32_3 : BitVec 32 := 0#32
  let v12 : BitVec 1 := Scalar.cmpi .ne v11 c0_i32_3
  v12

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v13 : BitVec 1 := Scalar.xori v1 v_true
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_4 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S32768x1024 : Shape := ⟨2, ![32768, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3584, .f32⟩
  | .hbm, ⟨22, _⟩ => ⟨S32768x3584, .f32⟩
  | .hbm, ⟨23, _⟩ => ⟨S32768x3584, .f32⟩
  | .hbm, ⟨24, _⟩ => ⟨S_, .f32⟩
  | .hbm, ⟨25, _⟩ => ⟨S32768x3584, .f32⟩
  | .hbm, ⟨26, _⟩ => ⟨S32768x3584, .f32⟩
  | .hbm, ⟨27, _⟩ => ⟨S_, .f32⟩
  | .hbm, ⟨28, _⟩ => ⟨S32768x3584, .f32⟩
  | .hbm, ⟨29, _⟩ => ⟨S32768x3584, .f32⟩
  | .hbm, ⟨30, _⟩ => ⟨S32768x3584, .f32⟩
  | .hbm, ⟨31, _⟩ => ⟨S32768x3584, .f32⟩
  | .hbm, ⟨32, _⟩ => ⟨S32768x3584, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x3592 : Shape := ⟨2, ![1024, 3592]⟩
abbrev S4x1536 : Shape := ⟨2, ![4, 1536]⟩
abbrev S3x512 : Shape := ⟨2, ![3, 512]⟩
abbrev S1024x2048 : Shape := ⟨2, ![1024, 2048]⟩
abbrev S1024x1536 : Shape := ⟨2, ![1024, 1536]⟩
abbrev S1024x3584 : Shape := ⟨2, ![1024, 3584]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x1024 : Shape := ⟨2, ![1, 1024]⟩
abbrev S32768x2560 : Shape := ⟨2, ![32768, 2560]⟩
abbrev S32768x128 : Shape := ⟨2, ![32768, 128]⟩
abbrev S512x1024 : Shape := ⟨2, ![512, 1024]⟩
abbrev S512x2560 : Shape := ⟨2, ![512, 2560]⟩
abbrev S512x128 : Shape := ⟨2, ![512, 128]⟩
abbrev S520x2048 : Shape := ⟨2, ![520, 2048]⟩
abbrev S512 : Shape := ⟨1, ![512]⟩
abbrev S512x1 : Shape := ⟨2, ![512, 1]⟩
abbrev S8x2048 : Shape := ⟨2, ![8, 2048]⟩
abbrev S1024x512 : Shape := ⟨2, ![1024, 512]⟩
abbrev S512x512 : Shape := ⟨2, ![512, 512]⟩
abbrev S520x512 : Shape := ⟨2, ![520, 512]⟩
abbrev S4x512 : Shape := ⟨2, ![4, 512]⟩
abbrev S1x512 : Shape := ⟨2, ![1, 512]⟩

abbrev nBuf : Space → Nat
  | .hbm => 22
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S4x1536, .f32⟩
  | .hbm, ⟨4, _⟩ => ⟨S3x512, .f32⟩
  | .hbm, ⟨5, _⟩ => ⟨S1024x2048, .f32⟩
  | .hbm, ⟨6, _⟩ => ⟨S1024x1536, .f32⟩
  | .hbm, ⟨7, _⟩ => ⟨S1024x3584, .f32⟩
  | .hbm, ⟨8, _⟩ => ⟨S1024x3584, .bf16⟩
  | .hbm, ⟨9, _⟩ => ⟨S_, .f32⟩
  | .hbm, ⟨10, _⟩ => ⟨S1024x128, .f32⟩
  | .hbm, ⟨11, _⟩ => ⟨S1024x8, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1x1024, .f32⟩
  | .hbm, ⟨20, _⟩ => ⟨S32768x2560, .bf16⟩
  | .hbm, ⟨21, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S1024x128, .bf16⟩
  | .local _ .vmem, ⟨6, _⟩ => ⟨S4x1536, .f32⟩
  | .local _ .vmem, ⟨7, _⟩ => ⟨S3x512, .f32⟩
  | .local _ .vmem, ⟨8, _⟩ => ⟨S512x2560, .bf16⟩
  | .local _ .vmem, ⟨9, _⟩ => ⟨S512x2560, .bf16⟩
  | .local _ .vmem, ⟨10, _⟩ => ⟨S512x128, .f32⟩
  | .local _ .vmem, ⟨11, _⟩ => ⟨S512x128, .f32⟩
  | .local _ .vmem, ⟨12, _⟩ => ⟨S520x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1024 : Shape := ⟨2, ![32768, 1024]⟩
abbrev S1024 : Shape := ⟨1, ![1024]⟩
abbrev S1024x3592 : Shape := ⟨2, ![1024, 3592]⟩
abbrev S4x1536 : Shape := ⟨2, ![4, 1536]⟩
abbrev S3x512 : Shape := ⟨2, ![3, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3592 : Shape := ⟨2, ![32768, 3592]⟩
abbrev S8x4096x3592 : Shape := ⟨3, ![8, 4096, 3592]⟩
abbrev S8x4096x1536 : Shape := ⟨3, ![8, 4096, 1536]⟩
abbrev S8x4099x1536 : Shape := ⟨3, ![8, 4099, 1536]⟩
abbrev S1x1536 : Shape := ⟨2, ![1, 1536]⟩
abbrev S1536 : Shape := ⟨1, ![1536]⟩
abbrev S1x1x1536 : Shape := ⟨3, ![1, 1, 1536]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S8x4096x2560 : Shape := ⟨3, ![8, 4096, 2560]⟩
abbrev S8x4096x8 : Shape := ⟨3, ![8, 4096, 8]⟩
abbrev S8x4096x128 : Shape := ⟨3, ![8, 4096, 128]⟩
abbrev S32768x2560 : Shape := ⟨2, ![32768, 2560]⟩
abbrev S32768x128 : Shape := ⟨2, ![32768, 128]⟩

abbrev nBuf : Space → Nat
  | .hbm => 139
  | .vmem => 0
  | .smem => 0
  | _ => 0

abbrev hbmTy0_0 (i : Nat) : BufTy := match i % 128 with
  | 0 => ⟨S32768x1024, .f32⟩
  | 1 => ⟨S1024, .f32⟩
  | 2 => ⟨S1024x3592, .f32⟩
  | 3 => ⟨S4x1536, .f32⟩
  | 4 => ⟨S3x512, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x3592, .f32⟩
  | 22 => ⟨S8x4096x3592, .f32⟩
  | 23 => ⟨S8x4096x1536, .f32⟩
  | 24 => ⟨S_, .i32⟩
  | 25 => ⟨S_, .f32⟩
  | 26 => ⟨S8x4099x1536, .f32⟩
  | 27 => ⟨S1x1536, .f32⟩
  | 28 => ⟨S1536, .f32⟩
  | 29 => ⟨S8x4096x1536, .f32⟩
  | 30 => ⟨S1x1x1536, .f32⟩
  | 31 => ⟨S8x4096x1536, .f32⟩
  | 32 => ⟨S8x4096x1536, .f32⟩
  | 33 => ⟨S1x1536, .f32⟩
  | 34 => ⟨S1536, .f32⟩
  | 35 => ⟨S8x4096x1536, .f32⟩
  | 36 => ⟨S1x1x1536, .f32⟩
  | 37 => ⟨S8x4096x1536, .f32⟩
  | 38 => ⟨S8x4096x1536, .f32⟩
  | 39 => ⟨S8x4096x1536, .f32⟩
  | 40 => ⟨S1x1536, .f32⟩
  | 41 => ⟨S1536, .f32⟩
  | 42 => ⟨S8x4096x1536, .f32⟩
  | 43 => ⟨S1x1x1536, .f32⟩
  | 44 => ⟨S8x4096x1536, .f32⟩
  | 45 => ⟨S8x4096x1536, .f32⟩
  | 46 => ⟨S8x4096x1536, .f32⟩
  | 47 => ⟨S1x1536, .f32⟩
  | 48 => ⟨S1536, .f32⟩
  | 49 => ⟨S8x4096x1536, .f32⟩
  | 50 => ⟨S1x1x1536, .f32⟩
  | 51 => ⟨S8x4096x1536, .f32⟩
  | 52 => ⟨S8x4096x1536, .f32⟩
  | 53 => ⟨S8x4096x1536, .f32⟩
  | 54 => ⟨S8x4096x1536, .f32⟩
  | 55 => ⟨S8x4096x1536, .f32⟩
  | 56 => ⟨S_, .f32⟩
  | 57 => ⟨S8x4096x1536, .f32⟩
  | 58 => ⟨S8x4096x1536, .f32⟩
  | 59 => ⟨S_, .f32⟩
  | 60 => ⟨S8x4096x1536, .f32⟩
  | 61 => ⟨S8x4096x1536, .f32⟩
  | 62 => ⟨S8x4096x1536, .f32⟩
  | 63 => ⟨S8x4096x512, .f32⟩
  | 64 => ⟨S8x4096x4x128, .f32⟩
  | 65 => ⟨S8x4096x512, .f32⟩
  | 66 => ⟨S8x4096x4x128, .f32⟩
  | 67 => ⟨S8x4096x512, .f32⟩
  | 68 => ⟨S8x4096x4x128, .f32⟩
  | 69 => ⟨S_, .f32⟩
  | 70 => ⟨S8x4096x4, .f32⟩
  | 71 => ⟨S8x4096x4x1, .f32⟩
  | 72 => ⟨S_, .f32⟩
  | 73 => ⟨S8x4096x4x1, .f32⟩
  | 74 => ⟨S8x4096x4x1, .f32⟩
  | 75 => ⟨S8x4096x4x1, .f32⟩
  | 76 => ⟨S8x4096x4x128, .f32⟩
  | 77 => ⟨S8x4096x4x128, .f32⟩
  | 78 => ⟨S_, .f32⟩
  | 79 => ⟨S8x4096x4x128, .f32⟩
  | 80 => ⟨S8x4096x4x128, .f32⟩
  | 81 => ⟨S8x4096x4x128, .f32⟩
  | 82 => ⟨S_, .f32⟩
  | 83 => ⟨S8x4096x4, .f32⟩
  | 84 => ⟨S8x4096x4x1, .f32⟩
  | 85 => ⟨S_, .f32⟩
  | 86 => ⟨S8x4096x4x1, .f32⟩
  | 87 => ⟨S8x4096x4x1, .f32⟩
  | 88 => ⟨S8x4096x4x1, .f32⟩
  | 89 => ⟨S8x4096x4x128, .f32⟩
  | 90 => ⟨S8x4096x4x128, .f32⟩
  | 91 => ⟨S8x4096x512, .f32⟩
  | 92 => ⟨S8x4096x512, .f32⟩
  | 93 => ⟨S8x4096x512, .f32⟩
  | 94 => ⟨S_, .f32⟩
  | 95 => ⟨S8x4096x512, .f32⟩
  | 96 => ⟨S8x4096x512, .f32⟩
  | 97 => ⟨S_, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .f32⟩
  | 103 => ⟨S8x4096x512, .f32⟩
  | 104 => ⟨S8x4096x512, .f32⟩
  | 105 => ⟨S_, .i32⟩
  | 106 => ⟨S_, .f32⟩
  | 107 => ⟨S8x4098x512, .f32⟩
  | 108 => ⟨S1x512, .f32⟩
  | 109 => ⟨S512, .f32⟩
  | 110 => ⟨S8x4096x512, .f32⟩
  | 111 => ⟨S1x1x512, .f32⟩
  | 112 => ⟨S8x4096x512, .f32⟩
  | 113 => ⟨S8x4096x512, .f32⟩
  | 114 => ⟨S1x512, .f32⟩
  | 115 => ⟨S512, .f32⟩
  | 116 => ⟨S8x4096x512, .f32⟩
  | 117 => ⟨S1x1x512, .f32⟩
  | 118 => ⟨S8x4096x512, .f32⟩
  | 119 => ⟨S8x4096x512, .f32⟩
  | 120 => ⟨S8x4096x512, .f32⟩
  | 121 => ⟨S1x512, .f32⟩
  | 122 => ⟨S512, .f32⟩
  | 123 => ⟨S8x4096x512, .f32⟩
  | 124 => ⟨S1x1x512, .f32⟩
  | 125 => ⟨S8x4096x512, .f32⟩
  | 126 => ⟨S8x4096x512, .f32⟩
  | 127 => ⟨S8x4096x512, .f32⟩
  | _ => ⟨S32768x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S8x4096x2560, .f32⟩
  | 4 => ⟨S8x4096x8, .f32⟩
  | 5 => ⟨S_, .i32⟩
  | 6 => ⟨S_, .f32⟩
  | 7 => ⟨S8x4096x128, .f32⟩
  | 8 => ⟨S32768x2560, .f32⟩
  | 9 => ⟨S32768x2560, .bf16⟩
  | 10 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_2 : Ref sig .tc := ⟨.hbm, 69, rfl⟩
abbrev main_v51 : Ref sig .tc := ⟨.hbm, 70, rfl⟩
abbrev main_v52 : Ref sig .tc := ⟨.hbm, 71, rfl⟩
abbrev main_cst_3 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_7 : Ref sig .tc := ⟨.hbm, 105, rfl⟩
abbrev main_call3_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_8 : Ref sig .tc := ⟨.hbm, 133, rfl⟩
abbrev main_call4_v0 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x1280 : Shape := ⟨2, ![1024, 1280]⟩
abbrev S64 : Shape := ⟨1, ![64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x64 : Shape := ⟨2, ![1, 64]⟩
abbrev S2x64 : Shape := ⟨2, ![2, 64]⟩
abbrev S32768x1280 : Shape := ⟨2, ![32768, 1280]⟩
abbrev S512x1024 : Shape := ⟨2, ![512, 1024]⟩
abbrev S512x1280 : Shape := ⟨2, ![512, 1280]⟩
abbrev S512x1152 : Shape := ⟨2, ![512, 1152]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩

abbrev nBuf : Space → Nat
  | .hbm => 41
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S1024x1280, .bf16⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .bf16⟩
  | .hbm, ⟨31, _⟩ => ⟨S1x1024, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S32768x1280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1x128, .f32⟩
  | .local _ .vmem, ⟨5, _⟩ => ⟨S1x128, .f32⟩
  | .local _ .vmem, ⟨6, _⟩ => ⟨S128x128, .bf16⟩
  | .local _ .vmem, ⟨7, _⟩ => ⟨S512x1280, .bf16⟩
  | .local _ .vmem, ⟨8, _⟩ => ⟨S512x1280, .bf16⟩
  | .local _ .vmem, ⟨9, _⟩ => ⟨S512x1280, .f32⟩
  | .local _ .vmem, ⟨10, _⟩ => ⟨S512x1152, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S1024 : Shape := ⟨1, ![1024]⟩
abbrev S1024x1280 : Shape := ⟨2, ![1024, 1280]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1280 : Shape := ⟨2, ![32768, 1280]⟩
abbrev S32768x16x64 : Shape := ⟨3, ![32768, 16, 64]⟩
abbrev S32768x128 : Shape := ⟨2, ![32768, 128]⟩
abbrev S32768x2x64 : Shape := ⟨3, ![32768, 2, 64]⟩
abbrev S32768x16 : Shape := ⟨2, ![32768, 16]⟩
abbrev S32768x16x1 : Shape := ⟨3, ![32768, 16, 1]⟩
abbrev S1x1x64 : Shape := ⟨3, ![1, 1, 64]⟩
abbrev S32768x2 : Shape := ⟨2, ![32768, 2]⟩
abbrev S32768x2x1 : Shape := ⟨3, ![32768, 2, 1]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1280, .f32⟩
  | .hbm, ⟨22, _⟩ => ⟨S32768x1024, .f32⟩
  | .hbm, ⟨23, _⟩ => ⟨S32768x16x64, .f32⟩
  | .hbm, ⟨24, _⟩ => ⟨S32768x128, .f32⟩
  | .hbm, ⟨25, _⟩ => ⟨S32768x2x64, .f32⟩
  | .hbm, ⟨26, _⟩ => ⟨S32768x16x64, .f32⟩
  | .hbm, ⟨27, _⟩ => ⟨S_, .f32⟩
  | .hbm, ⟨28, _⟩ => ⟨S32768x16, .f32⟩
  | .hbm, ⟨29, _⟩ => ⟨S32768x16x1, .f32⟩
  | .hbm, ⟨30, _⟩ => ⟨S_, .f32⟩
  | .hbm, ⟨31, _⟩ => ⟨S32768x16x1, .f32⟩
  | .hbm, ⟨32, _⟩ => ⟨S32768x16x1, .f32⟩
  | .hbm, ⟨33, _⟩ => ⟨S_, .f32⟩
  | .hbm, ⟨34, _⟩ => ⟨S32768x16x1, .f32⟩
  | .hbm, ⟨35, _⟩ => ⟨S32768x16x1, .f32⟩
  | .hbm, ⟨36, _⟩ => ⟨S32768x16x1, .f32⟩
  | .hbm, ⟨37, _⟩ => ⟨S32768x16x64, .f32⟩
  | .hbm, ⟨38, _⟩ => ⟨S32768x16x64, .f32⟩
  | .hbm, ⟨39, _⟩ => ⟨S1x1x64, .f32⟩
  | .hbm, ⟨40, _⟩ => ⟨S32768x16x64, .f32⟩
  | .hbm, ⟨41, _⟩ => ⟨S32768x16x64, .f32⟩
  | .hbm, ⟨42, _⟩ => ⟨S_, .f32⟩
  | .hbm, ⟨43, _⟩ => ⟨S32768x16x64, .f32⟩
  | .hbm, ⟨44, _⟩ => ⟨S32768x16x64, .f32⟩
  | .hbm, ⟨45, _⟩ => ⟨S32768x2x64, .f32⟩
  | .hbm, ⟨46, _⟩ => ⟨S_, .f32⟩
  | .hbm, ⟨47, _⟩ => ⟨S32768x2, .f32⟩
  | .hbm, ⟨48, _⟩ => ⟨S32768x2x1, .f32⟩
  | .hbm, ⟨49, _⟩ => ⟨S_, .f32⟩
  | .hbm, ⟨50, _⟩ => ⟨S32768x2x1, .f32⟩
  | .hbm, ⟨51, _⟩ => ⟨S32768x2x1, .f32⟩
  | .hbm, ⟨52, _⟩ => ⟨S_, .f32⟩
  | .hbm, ⟨53, _⟩ => ⟨S32768x2x1, .f32⟩
  | .hbm, ⟨54, _⟩ => ⟨S32768x2x1, .f32⟩
  | .hbm, ⟨55, _⟩ => ⟨S32768x2x1, .f32⟩
  | .hbm, ⟨56, _⟩ => ⟨S32768x2x64, .f32⟩
  | .hbm, ⟨57, _⟩ => ⟨S32768x2x64, .f32⟩
  | .hbm, ⟨58, _⟩ => ⟨S1x1x64, .f32⟩
  | .hbm, ⟨59, _⟩ => ⟨S32768x2x64, .f32⟩
  | .hbm, ⟨60, _⟩ => ⟨S32768x2x64, .f32⟩
  | .hbm, ⟨61, _⟩ => ⟨S32768x1024, .f32⟩
  | .hbm, ⟨62, _⟩ => ⟨S32768x128, .f32⟩
  | .hbm, ⟨63, _⟩ => ⟨S32768x128, .f32⟩
  | .hbm, ⟨64, _⟩ => ⟨S32768x1280, .f32⟩
  | .hbm, ⟨65, _⟩ => ⟨S32768x1280, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.Texts.lean ====
module

public import proofs.«01_k».proof.Defs
public import proofs.«01_k».proof.Proof.Gen.Kernel
public import proofs.«01_k».proof.Proof.Gen.KernelIdeal

/-! The two texts of the kernel are one: the body table over machine floats is the ideal program's
    text over machine floats. -/

@[expose] public section
set_option maxRecDepth 16384
noncomputable section
namespace Cert.Proof
open Idealize.ShloMosaic Idealize.ShloMosaic.TcCoe Idealize.SL.Sem

/-- One body, the same text. -/
theorem body_eq : @Cert.Kernel.cc0_swa Bits _ Cert.Kernel.Gen.facts = @Cert.KernelIdeal.cc0_swa Bits _ Cert.KernelIdeal.Gen.facts := rfl

/-- The tables of bodies agree, label by label. -/
theorem defs₀_eq : Cert.Kernel.defs₀ (F := Bits) = Cert.KernelIdeal.defs₀ (F := Bits) := by
  unfold Cert.Kernel.defs₀ Cert.KernelIdeal.defs₀
  rw [body_eq]
  refine congrArg Defs.onTc (funext fun l => funext fun a => ?_)
  match l, a with
  | 0, (t, s) => rfl
  | ⟨n + 1, h⟩, _ => exact absurd h (Nat.not_lt.2 (Nat.le_add_left _ _))

/-- The tables with the pipelines agree. -/
theorem defs_eq : Cert.Kernel.defs (F := Bits) = Cert.KernelIdeal.defs (F := Bits) :=
  congrArg (Pipeline.defs (Cert.Kernel.pcfgs (F := Bits))) defs₀_eq
end Cert.Proof
end
end
-- ==== Proof.Trip.lean ====
module

public import proofs.«01_k».proof.Proof.Gen.KernelIdeal.Loops
public import Idealize.ShloMosaic.Lib.Pointwise
public import Idealize.ShloMosaic.Lib.Pipeline.ValueKit
public import Idealize.ShloMosaic.Lib.Pipeline.ReadBack

@[expose] public section
set_option maxRecDepth 16384
noncomputable section
namespace Cert.KernelIdeal.Swa
open Cert.KernelIdeal Cert.KernelIdeal.Gen
open Idealize.ShloMosaic Idealize.ShloMosaic.TcCoe Idealize.SL.Sem
variable {F : FTy → Type} [FloatOps F]

variable (arg2 : Memref sig .tc .vmem S1x1024x1024 .bf16) (arg5 : Memref sig .tc .smem S16 .f32) (arg9 : Memref sig .tc .vmem S4x1152x128 .bf16)
  (arg11 : Memref sig .tc .vmem S16x128x256 .f32) (arg12 : Memref sig .tc .vmem S16x128x256 .bf16) (arg1 : BitVec 32) (v75 : IVec S128x256 32)
  (X_arg2 : BufTy.Contents (Elt F) arg2.view.ty) (X_arg5 : BufTy.Contents (Elt F) arg5.view.ty) (X_arg9 : BufTy.Contents (Elt F) arg9.view.ty)
  (k : Fin k0_t1_loop.trips)

/-- Head 0's scores, read back from where the trip stored them. -/
theorem score_0 : trip_k0_t1.sl.v286 arg2 arg9 arg11 arg1 v75 X_arg2 X_arg9 k
    = k0_pay7 (k0_pay4 arg1 v75 k0_pay2 0#32 1#32 k) (View.ld (arg2.view.read (Elt F) X_arg2) (Rect.unit (k0_off1 k) S1x128x128.size (k0_off1_inb k)))
        (View.ld (arg9.view.read (Elt F) X_arg9) (Rect.unit (k0_off2 k) S1x256x128.size (k0_off2_inb k))) := by
  unfold trip_k0_t1.sl.v286 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 1's scores, read back from where the trip stored them. -/
theorem score_1 : trip_k0_t1.sl.v310 arg2 arg9 arg11 arg1 v75 X_arg2 X_arg9 k
    = k0_pay7 (k0_pay4 arg1 v75 k0_pay2 0#32 1#32 k) (View.ld (arg2.view.read (Elt F) X_arg2) (Rect.unit (k0_off1 k) S1x128x128.size (k0_off1_inb k)))
        (View.ld (arg9.view.read (Elt F) X_arg9) (Rect.unit (k0_off3 k) S1x256x128.size (k0_off3_inb k))) := by
  unfold trip_k0_t1.sl.v310 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 2's scores, read back from where the trip stored them. -/
theorem score_2 : trip_k0_t1.sl.v334 arg2 arg9 arg11 arg1 v75 X_arg2 X_arg9 k
    = k0_pay7 (k0_pay4 arg1 v75 k0_pay2 0#32 1#32 k) (View.ld (arg2.view.read (Elt F) X_arg2) (Rect.unit (k0_off4 k) S1x128x128.size (k0_off4_inb k)))
        (View.ld (arg9.view.read (Elt F) X_arg9) (Rect.unit (k0_off2 k) S1x256x128.size (k0_off2_inb k))) := by
  unfold trip_k0_t1.sl.v334 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 3's scores, read back from where the trip stored them. -/
theorem score_3 : trip_k0_t1.sl.v358 arg2 arg9 arg11 arg1 v75 X_arg2 X_arg9 k
    = k0_pay7 (k0_pay4 arg1 v75 k0_pay2 0#32 1#32 k) (View.ld (arg2.view.read (Elt F) X_arg2) (Rect.unit (k0_off4 k) S1x128x128.size (k0_off4_inb k)))
        (View.ld (arg9.view.read (Elt F) X_arg9) (Rect.unit (k0_off3 k) S1x256x128.size (k0_off3_inb k))) := by
  unfold trip_k0_t1.sl.v358 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 4's scores, read back from where the trip stored them. -/
theorem score_4 : trip_k0_t1.sl.v382 arg2 arg9 arg11 arg1 v75 X_arg2 X_arg9 k
    = k0_pay7 (k0_pay4 arg1 v75 k0_pay2 0#32 1#32 k) (View.ld (arg2.view.read (Elt F) X_arg2) (Rect.unit (k0_off5 k) S1x128x128.size (k0_off5_inb k)))
        (View.ld (arg9.view.read (Elt F) X_arg9) (Rect.unit (k0_off2 k) S1x256x128.size (k0_off2_inb k))) := by
  unfold trip_k0_t1.sl.v382 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 5's scores, read back from where the trip stored them. -/
theorem score_5 : trip_k0_t1.sl.v406 arg2 arg9 arg11 arg1 v75 X_arg2 X_arg9 k
    = k0_pay7 (k0_pay4 arg1 v75 k0_pay2 0#32 1#32 k) (View.ld (arg2.view.read (Elt F) X_arg2) (Rect.unit (k0_off5 k) S1x128x128.size (k0_off5_inb k)))
        (View.ld (arg9.view.read (Elt F) X_arg9) (Rect.unit (k0_off3 k) S1x256x128.size (k0_off3_inb k))) := by
  unfold trip_k0_t1.sl.v406 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 6's scores, read back from where the trip stored them. -/
theorem score_6 : trip_k0_t1.sl.v430 arg2 arg9 arg11 arg1 v75 X_arg2 X_arg9 k
    = k0_pay7 (k0_pay4 arg1 v75 k0_pay2 0#32 1#32 k) (View.ld (arg2.view.read (Elt F) X_arg2) (Rect.unit (k0_off6 k) S1x128x128.size (k0_off6_inb k)))
        (View.ld (arg9.view.read (Elt F) X_arg9) (Rect.unit (k0_off2 k) S1x256x128.size (k0_off2_inb k))) := by
  unfold trip_k0_t1.sl.v430 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 7's scores, read back from where the trip stored them. -/
theorem score_7 : trip_k0_t1.sl.v454 arg2 arg9 arg11 arg1 v75 X_arg2 X_arg9 k
    = k0_pay7 (k0_pay4 arg1 v75 k0_pay2 0#32 1#32 k) (View.ld (arg2.view.read (Elt F) X_arg2) (Rect.unit (k0_off6 k) S1x128x128.size (k0_off6_inb k)))
        (View.ld (arg9.view.read (Elt F) X_arg9) (Rect.unit (k0_off3 k) S1x256x128.size (k0_off3_inb k))) := by
  unfold trip_k0_t1.sl.v454 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 8's scores, read back from where the trip stored them. -/
theorem score_8 : trip_k0_t1.sl.v478 arg2 arg9 arg11 arg1 v75 X_arg2 X_arg9 k
    = k0_pay7 (k0_pay4 arg1 v75 k0_pay2 0#32 1#32 k) (View.ld (arg2.view.read (Elt F) X_arg2) (Rect.unit (k0_off7 k) S1x128x128.size (k0_off7_inb k)))
        (View.ld (arg9.view.read (Elt F) X_arg9) (Rect.unit (k0_off8 k) S1x256x128.size (k0_off8_inb k))) := by
  unfold trip_k0_t1.sl.v478 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 9's scores, read back from where the trip stored them. -/
theorem score_9 : trip_k0_t1.sl.v502 arg2 arg9 arg11 arg1 v75 X_arg2 X_arg9 k
    = k0_pay7 (k0_pay4 arg1 v75 k0_pay2 0#32 1#32 k) (View.ld (arg2.view.read (Elt F) X_arg2) (Rect.unit (k0_off7 k) S1x128x128.size (k0_off7_inb k)))
        (View.ld (arg9.view.read (Elt F) X_arg9) (Rect.unit (k0_off9 k) S1x256x128.size (k0_off9_inb k))) := by
  unfold trip_k0_t1.sl.v502 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 10's scores, read back from where the trip stored them. -/
theorem score_10 : trip_k0_t1.sl.v526 arg2 arg9 arg11 arg1 v75 X_arg2 X_arg9 k
    = k0_pay7 (k0_pay4 arg1 v75 k0_pay2 0#32 1#32 k) (View.ld (arg2.view.read (Elt F) X_arg2) (Rect.unit (k0_off10 k) S1x128x128.size (k0_off10_inb k)))
        (View.ld (arg9.view.read (Elt F) X_arg9) (Rect.unit (k0_off8 k) S1x256x128.size (k0_off8_inb k))) := by
  unfold trip_k0_t1.sl.v526 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 11's scores, read back from where the trip stored them. -/
theorem score_11 : trip_k0_t1.sl.v550 arg2 arg9 arg11 arg1 v75 X_arg2 X_arg9 k
    = k0_pay7 (k0_pay4 arg1 v75 k0_pay2 0#32 1#32 k) (View.ld (arg2.view.read (Elt F) X_arg2) (Rect.unit (k0_off10 k) S1x128x128.size (k0_off10_inb k)))
        (View.ld (arg9.view.read (Elt F) X_arg9) (Rect.unit (k0_off9 k) S1x256x128.size (k0_off9_inb k))) := by
  unfold trip_k0_t1.sl.v550 trip_k0_t1.sl.HW_arg11_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rfl

/-- Head 12's scores, read back from where the trip stored them. -/
theorem score_12 : trip_k0_t1.sl.v574 arg2 arg9 arg11 arg1 v75 X_arg2 X_arg9 k
    = k0_pay7 (k0_pay4 arg1 v75 k0_pay2 0#32 1#32 k) (View.ld (arg2.view.read (Elt F) X_arg2) (Rect.unit (k0_off11 k) S1x128x128.size (k0_off11_inb k)))
        (View.ld (arg9.view.read (Elt F) X_arg9) (Rect.unit (k0_off8 k) S1x256x128.size (k0_off8_inb k))) := by
  unfold trip_k0_t1.sl.v574 trip_k0_t1.sl.HW_arg11_16
  rw [View.readCov_skip _ _ _ _ _ (by decide)]
  rw [View.readCov_skip _ _ _ _ _ (by decide)]
  rw [View.readCov_skip _ _ _ _ _ (by decide)]
  rw [View.readCov_cons_toLoadRect]
  rfl

/-- Head 13's scores, read back from where the trip stored them. -/
theorem score_13 : trip_k0_t1.sl.v598 arg2 arg9 arg11 arg1 v75 X_arg2 X_arg9 k
    = k0_pay7 (k0_pay4 arg1 v75 k0_pay2 0#32 1#32 k) (View.ld (arg2.view.read (Elt F) X_arg2) (Rect.unit (k0_off11 k) S1x128x128.size (k0_off11_inb k)))
        (View.ld (arg9.view.read (Elt F) X_arg9) (Rect.unit (k0_off9 k) S1x256x128.size (k0_off9_inb k))) := by
  unfold trip_k0_t1.sl.v598 trip_k0_t1.sl.HW_arg11_16
  rw [View.readCov_skip _ _ _ _ _ (by decide)]
  rw [View.readCov_skip _ _ _ _ _ (by decide)]
  rw [View.readCov_cons_toLoadRect]
  rfl

/-- Head 14's scores, read back from where the trip stored them. -/
theorem score_14 : trip_k0_t1.sl.v622 arg2 arg9 arg11 arg1 v75 X_arg2 X_arg9 k
    = k0_pay7 (k0_pay4 arg1 v75 k0_pay2 0#32 1#32 k) (View.ld (arg2.view.read (Elt F) X_arg2) (Rect.unit (k0_off12 k) S1x128x128.size (k0_off12_inb k)))
        (View.ld (arg9.view.read (Elt F) X_arg9) (Rect.unit (k0_off8 k) S1x256x128.size (k0_off8_inb k))) := by
  unfold trip_k0_t1.sl.v622 trip_k0_t1.sl.HW_arg11_16
  rw [View.readCov_skip _ _ _ _ _ (by decide)]
  rw [View.readCov_cons_toLoadRect]
  rfl

/-- Head 15's scores, read back from where the trip stored them. -/
theorem score_15 : trip_k0_t1.sl.v646 arg2 arg9 arg11 arg1 v75 X_arg2 X_arg9 k
    = k0_pay7 (k0_pay4 arg1 v75 k0_pay2 0#32 1#32 k) (View.ld (arg2.view.read (Elt F) X_arg2) (Rect.unit (k0_off12 k) S1x128x128.size (k0_off12_inb k)))
        (View.ld (arg9.view.read (Elt F) X_arg9) (Rect.unit (k0_off9 k) S1x256x128.size (k0_off9_inb k))) := by
  unfold trip_k0_t1.sl.v646 trip_k0_t1.sl.HW_arg11_16
  rw [View.readCov_cons_toLoadRect]
  rfl

/-- Head 0's sink, as the trip loads it. -/
theorem sink_0 : trip_k0_t1.sl.r_7 (F := F) arg5 X_arg5 = arg5.view.read (Elt F) X_arg5 (ix1 (0 : Fin 16)) := by
  unfold trip_k0_t1.sl.r_7
  refine congrArg (arg5.view.read (Elt F) X_arg5) (funext fun a => Fin.ext ?_)
  match a with | ⟨0, _⟩ => rfl

/-- Head 0's probabilities, read back from where the trip stored them. -/
theorem prob_0 : trip_k0_t1.sl.v669 arg2 arg5 arg9 arg11 arg12 arg1 v75 X_arg2 X_arg5 X_arg9 k
    = k0_pay27 (arg5.view.read (Elt F) X_arg5 (ix1 (0 : Fin 16)))
        (trip_k0_t1.sl.v286 arg2 arg9 arg11 arg1 v75 X_arg2 X_arg9 k) := by
  unfold trip_k0_t1.sl.v669 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_0 arg5 X_arg5]

/-- Head 1's sink, as the trip loads it. -/
theorem sink_1 : trip_k0_t1.sl.r_8 (F := F) arg5 X_arg5 = arg5.view.read (Elt F) X_arg5 (ix1 (1 : Fin 16)) := by
  unfold trip_k0_t1.sl.r_8
  refine congrArg (arg5.view.read (Elt F) X_arg5) (funext fun a => Fin.ext ?_)
  match a with | ⟨0, _⟩ => rfl

/-- Head 1's probabilities, read back from where the trip stored them. -/
theorem prob_1 : trip_k0_t1.sl.v675 arg2 arg5 arg9 arg11 arg12 arg1 v75 X_arg2 X_arg5 X_arg9 k
    = k0_pay27 (arg5.view.read (Elt F) X_arg5 (ix1 (1 : Fin 16)))
        (trip_k0_t1.sl.v310 arg2 arg9 arg11 arg1 v75 X_arg2 X_arg9 k) := by
  unfold trip_k0_t1.sl.v675 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_1 arg5 X_arg5]
  rfl

/-- Head 2's sink, as the trip loads it. -/
theorem sink_2 : trip_k0_t1.sl.r_12 (F := F) arg5 X_arg5 = arg5.view.read (Elt F) X_arg5 (ix1 (2 : Fin 16)) := by
  unfold trip_k0_t1.sl.r_12
  refine congrArg (arg5.view.read (Elt F) X_arg5) (funext fun a => Fin.ext ?_)
  match a with | ⟨0, _⟩ => rfl

/-- Head 2's probabilities, read back from where the trip stored them. -/
theorem prob_2 : trip_k0_t1.sl.v683 arg2 arg5 arg9 arg11 arg12 arg1 v75 X_arg2 X_arg5 X_arg9 k
    = k0_pay27 (arg5.view.read (Elt F) X_arg5 (ix1 (2 : Fin 16)))
        (trip_k0_t1.sl.v334 arg2 arg9 arg11 arg1 v75 X_arg2 X_arg9 k) := by
  unfold trip_k0_t1.sl.v683 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_2 arg5 X_arg5]
  rfl

/-- Head 3's sink, as the trip loads it. -/
theorem sink_3 : trip_k0_t1.sl.r_13 (F := F) arg5 X_arg5 = arg5.view.read (Elt F) X_arg5 (ix1 (3 : Fin 16)) := by
  unfold trip_k0_t1.sl.r_13
  refine congrArg (arg5.view.read (Elt F) X_arg5) (funext fun a => Fin.ext ?_)
  match a with | ⟨0, _⟩ => rfl

/-- Head 3's probabilities, read back from where the trip stored them. -/
theorem prob_3 : trip_k0_t1.sl.v689 arg2 arg5 arg9 arg11 arg12 arg1 v75 X_arg2 X_arg5 X_arg9 k
    = k0_pay27 (arg5.view.read (Elt F) X_arg5 (ix1 (3 : Fin 16)))
        (trip_k0_t1.sl.v358 arg2 arg9 arg11 arg1 v75 X_arg2 X_arg9 k) := by
  unfold trip_k0_t1.sl.v689 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_3 arg5 X_arg5]
  rfl

/-- Head 4's sink, as the trip loads it. -/
theorem sink_4 : trip_k0_t1.sl.r_15 (F := F) arg5 X_arg5 = arg5.view.read (Elt F) X_arg5 (ix1 (4 : Fin 16)) := by
  unfold trip_k0_t1.sl.r_15
  refine congrArg (arg5.view.read (Elt F) X_arg5) (funext fun a => Fin.ext ?_)
  match a with | ⟨0, _⟩ => rfl

/-- Head 4's probabilities, read back from where the trip stored them. -/
theorem prob_4 : trip_k0_t1.sl.v697 arg2 arg5 arg9 arg11 arg12 arg1 v75 X_arg2 X_arg5 X_arg9 k
    = k0_pay27 (arg5.view.read (Elt F) X_arg5 (ix1 (4 : Fin 16)))
        (trip_k0_t1.sl.v382 arg2 arg9 arg11 arg1 v75 X_arg2 X_arg9 k) := by
  unfold trip_k0_t1.sl.v697 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_4 arg5 X_arg5]
  rfl

/-- Head 5's sink, as the trip loads it. -/
theorem sink_5 : trip_k0_t1.sl.r_17 (F := F) arg5 X_arg5 = arg5.view.read (Elt F) X_arg5 (ix1 (5 : Fin 16)) := by
  unfold trip_k0_t1.sl.r_17
  refine congrArg (arg5.view.read (Elt F) X_arg5) (funext fun a => Fin.ext ?_)
  match a with | ⟨0, _⟩ => rfl

/-- Head 5's probabilities, read back from where the trip stored them. -/
theorem prob_5 : trip_k0_t1.sl.v703 arg2 arg5 arg9 arg11 arg12 arg1 v75 X_arg2 X_arg5 X_arg9 k
    = k0_pay27 (arg5.view.read (Elt F) X_arg5 (ix1 (5 : Fin 16)))
        (trip_k0_t1.sl.v406 arg2 arg9 arg11 arg1 v75 X_arg2 X_arg9 k) := by
  unfold trip_k0_t1.sl.v703 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_5 arg5 X_arg5]
  rfl

/-- Head 6's sink, as the trip loads it. -/
theorem sink_6 : trip_k0_t1.sl.r_18 (F := F) arg5 X_arg5 = arg5.view.read (Elt F) X_arg5 (ix1 (6 : Fin 16)) := by
  unfold trip_k0_t1.sl.r_18
  refine congrArg (arg5.view.read (Elt F) X_arg5) (funext fun a => Fin.ext ?_)
  match a with | ⟨0, _⟩ => rfl

/-- Head 6's probabilities, read back from where the trip stored them. -/
theorem prob_6 : trip_k0_t1.sl.v711 arg2 arg5 arg9 arg11 arg12 arg1 v75 X_arg2 X_arg5 X_arg9 k
    = k0_pay27 (arg5.view.read (Elt F) X_arg5 (ix1 (6 : Fin 16)))
        (trip_k0_t1.sl.v430 arg2 arg9 arg11 arg1 v75 X_arg2 X_arg9 k) := by
  unfold trip_k0_t1.sl.v711 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_6 arg5 X_arg5]
  rfl

/-- Head 7's sink, as the trip loads it. -/
theorem sink_7 : trip_k0_t1.sl.r_21 (F := F) arg5 X_arg5 = arg5.view.read (Elt F) X_arg5 (ix1 (7 : Fin 16)) := by
  unfold trip_k0_t1.sl.r_21
  refine congrArg (arg5.view.read (Elt F) X_arg5) (funext fun a => Fin.ext ?_)
  match a with | ⟨0, _⟩ => rfl

/-- Head 7's probabilities, read back from where the trip stored them. -/
theorem prob_7 : trip_k0_t1.sl.v717 arg2 arg5 arg9 arg11 arg12 arg1 v75 X_arg2 X_arg5 X_arg9 k
    = k0_pay27 (arg5.view.read (Elt F) X_arg5 (ix1 (7 : Fin 16)))
        (trip_k0_t1.sl.v454 arg2 arg9 arg11 arg1 v75 X_arg2 X_arg9 k) := by
  unfold trip_k0_t1.sl.v717 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_7 arg5 X_arg5]
  rfl

/-- Head 8's sink, as the trip loads it. -/
theorem sink_8 : trip_k0_t1.sl.r_22 (F := F) arg5 X_arg5 = arg5.view.read (Elt F) X_arg5 (ix1 (8 : Fin 16)) := by
  unfold trip_k0_t1.sl.r_22
  refine congrArg (arg5.view.read (Elt F) X_arg5) (funext fun a => Fin.ext ?_)
  match a with | ⟨0, _⟩ => rfl

/-- Head 8's probabilities, read back from where the trip stored them. -/
theorem prob_8 : trip_k0_t1.sl.v725 arg2 arg5 arg9 arg11 arg12 arg1 v75 X_arg2 X_arg5 X_arg9 k
    = k0_pay27 (arg5.view.read (Elt F) X_arg5 (ix1 (8 : Fin 16)))
        (trip_k0_t1.sl.v478 arg2 arg9 arg11 arg1 v75 X_arg2 X_arg9 k) := by
  unfold trip_k0_t1.sl.v725 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_8 arg5 X_arg5]
  rfl

/-- Head 9's sink, as the trip loads it. -/
theorem sink_9 : trip_k0_t1.sl.r_25 (F := F) arg5 X_arg5 = arg5.view.read (Elt F) X_arg5 (ix1 (9 : Fin 16)) := by
  unfold trip_k0_t1.sl.r_25
  refine congrArg (arg5.view.read (Elt F) X_arg5) (funext fun a => Fin.ext ?_)
  match a with | ⟨0, _⟩ => rfl

/-- Head 9's probabilities, read back from where the trip stored them. -/
theorem prob_9 : trip_k0_t1.sl.v731 arg2 arg5 arg9 arg11 arg12 arg1 v75 X_arg2 X_arg5 X_arg9 k
    = k0_pay27 (arg5.view.read (Elt F) X_arg5 (ix1 (9 : Fin 16)))
        (trip_k0_t1.sl.v502 arg2 arg9 arg11 arg1 v75 X_arg2 X_arg9 k) := by
  unfold trip_k0_t1.sl.v731 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_9 arg5 X_arg5]
  rfl

/-- Head 10's sink, as the trip loads it. -/
theorem sink_10 : trip_k0_t1.sl.r_26 (F := F) arg5 X_arg5 = arg5.view.read (Elt F) X_arg5 (ix1 (10 : Fin 16)) := by
  unfold trip_k0_t1.sl.r_26
  refine congrArg (arg5.view.read (Elt F) X_arg5) (funext fun a => Fin.ext ?_)
  match a with | ⟨0, _⟩ => rfl

/-- Head 10's probabilities, read back from where the trip stored them. -/
theorem prob_10 : trip_k0_t1.sl.v739 arg2 arg5 arg9 arg11 arg12 arg1 v75 X_arg2 X_arg5 X_arg9 k
    = k0_pay27 (arg5.view.read (Elt F) X_arg5 (ix1 (10 : Fin 16)))
        (trip_k0_t1.sl.v526 arg2 arg9 arg11 arg1 v75 X_arg2 X_arg9 k) := by
  unfold trip_k0_t1.sl.v739 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_10 arg5 X_arg5]
  rfl

/-- Head 11's sink, as the trip loads it. -/
theorem sink_11 : trip_k0_t1.sl.r_27 (F := F) arg5 X_arg5 = arg5.view.read (Elt F) X_arg5 (ix1 (11 : Fin 16)) := by
  unfold trip_k0_t1.sl.r_27
  refine congrArg (arg5.view.read (Elt F) X_arg5) (funext fun a => Fin.ext ?_)
  match a with | ⟨0, _⟩ => rfl

/-- Head 11's probabilities, read back from where the trip stored them. -/
theorem prob_11 : trip_k0_t1.sl.v745 arg2 arg5 arg9 arg11 arg12 arg1 v75 X_arg2 X_arg5 X_arg9 k
    = k0_pay27 (arg5.view.read (Elt F) X_arg5 (ix1 (11 : Fin 16)))
        (trip_k0_t1.sl.v550 arg2 arg9 arg11 arg1 v75 X_arg2 X_arg9 k) := by
  unfold trip_k0_t1.sl.v745 trip_k0_t1.sl.HW_arg12_16
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [← sink_11 arg5 X_arg5]
  rfl

/-- Head 12's sink, as the trip loads it. -/
theorem sink_12 : trip_k0_t1.sl.r_29 (F := F) arg5 X_arg5 = arg5.view.read (Elt F) X_arg5 (ix1 (12 : Fin 16)) := by
  unfold trip_k0_t1.sl.r_29
  refine congrArg (arg5.view.read (Elt F) X_arg5) (funext fun a => Fin.ext ?_)
  match a with | ⟨0, _⟩ => rfl

/-- Head 12's probabilities, read back from where the trip stored them. -/
theorem prob_12 : trip_k0_t1.sl.v753 arg2 arg5 arg9 arg11 arg12 arg1 v75 X_arg2 X_arg5 X_arg9 k
    = k0_pay27 (arg5.view.read (Elt F) X_arg5 (ix1 (12 : Fin 16)))
        (trip_k0_t1.sl.v574 arg2 arg9 arg11 arg1 v75 X_arg2 X_arg9 k) := by
  unfold trip_k0_t1.sl.v753 trip_k0_t1.sl.HW_arg12_16
  rw [View.readCov_skip _ _ _ _ _ (by decide)]
  rw [View.readCov_skip _ _ _ _ _ (by decide)]
  rw [View.readCov_skip _ _ _ _ _ (by decide)]
  rw [View.readCov_cons_toLoadRect]
  rw [← sink_12 arg5 X_arg5]
  rfl

/-- Head 13's sink, as the trip loads it. -/
theorem sink_13 : trip_k0_t1.sl.r_30 (F := F) arg5 X_arg5 = arg5.view.read (Elt F) X_arg5 (ix1 (13 : Fin 16)) := by
  unfold trip_k0_t1.sl.r_30
  refine congrArg (arg5.view.read (Elt F) X_arg5) (funext fun a => Fin.ext ?_)
  match a with | ⟨0, _⟩ => rfl

/-- Head 13's probabilities, read back from where the trip stored them. -/
theorem prob_13 : trip_k0_t1.sl.v759 arg2 arg5 arg9 arg11 arg12 arg1 v75 X_arg2 X_arg5 X_arg9 k
    = k0_pay27 (arg5.view.read (Elt F) X_arg5 (ix1 (13 : Fin 16)))
        (trip_k0_t1.sl.v598 arg2 arg9 arg11 arg1 v75 X_arg2 X_arg9 k) := by
  unfold trip_k0_t1.sl.v759 trip_k0_t1.sl.HW_arg12_16
  rw [View.readCov_skip _ _ _ _ _ (by decide)]
  rw [View.readCov_skip _ _ _ _ _ (by decide)]
  rw [View.readCov_cons_toLoadRect]
  rw [← sink_13 arg5 X_arg5]
  rfl

/-- Head 14's sink, as the trip loads it. -/
theorem sink_14 : trip_k0_t1.sl.r_34 (F := F) arg5 X_arg5 = arg5.view.read (Elt F) X_arg5 (ix1 (14 : Fin 16)) := by
  unfold trip_k0_t1.sl.r_34
  refine congrArg (arg5.view.read (Elt F) X_arg5) (funext fun a => Fin.ext ?_)
  match a with | ⟨0, _⟩ => rfl

/-- Head 14's probabilities, read back from where the trip stored them. -/
theorem prob_14 : trip_k0_t1.sl.v767 arg2 arg5 arg9 arg11 arg12 arg1 v75 X_arg2 X_arg5 X_arg9 k
    = k0_pay27 (arg5.view.read (Elt F) X_arg5 (ix1 (14 : Fin 16)))
        (trip_k0_t1.sl.v622 arg2 arg9 arg11 arg1 v75 X_arg2 X_arg9 k) := by
  unfold trip_k0_t1.sl.v767 trip_k0_t1.sl.HW_arg12_16
  rw [View.readCov_skip _ _ _ _ _ (by decide)]
  rw [View.readCov_cons_toLoadRect]
  rw [← sink_14 arg5 X_arg5]
  rfl

/-- Head 15's sink, as the trip loads it. -/
theorem sink_15 : trip_k0_t1.sl.r_35 (F := F) arg5 X_arg5 = arg5.view.read (Elt F) X_arg5 (ix1 (15 : Fin 16)) := by
  unfold trip_k0_t1.sl.r_35
  refine congrArg (arg5.view.read (Elt F) X_arg5) (funext fun a => Fin.ext ?_)
  match a with | ⟨0, _⟩ => rfl

/-- Head 15's probabilities, read back from where the trip stored them. -/
theorem prob_15 : trip_k0_t1.sl.v773 arg2 arg5 arg9 arg11 arg12 arg1 v75 X_arg2 X_arg5 X_arg9 k
    = k0_pay27 (arg5.view.read (Elt F) X_arg5 (ix1 (15 : Fin 16)))
        (trip_k0_t1.sl.v646 arg2 arg9 arg11 arg1 v75 X_arg2 X_arg9 k) := by
  unfold trip_k0_t1.sl.v773 trip_k0_t1.sl.HW_arg12_16
  rw [View.readCov_cons_toLoadRect]
  rw [← sink_15 arg5 X_arg5]
  rfl

/-- Heads 0 and 1 of one trip, attended: what the trip leaves in lanes 0–127 before the output product. -/
def att0 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (0 : Fin 16))) (k0_pay7 V (View.ld Q (Rect.unit (k0_off1 k) S1x128x128.size (k0_off1_inb k)))
          (View.ld KX (Rect.unit (k0_off2 k) S1x256x128.size (k0_off2_inb k)))))
        (View.ld VX (Rect.unit (k0_off2 k) S1x256x128.size (k0_off2_inb k)))
      (k0_pay27 (sk (ix1 (1 : Fin 16))) (k0_pay7 V (View.ld Q (Rect.unit (k0_off1 k) S1x128x128.size (k0_off1_inb k)))
          (View.ld KX (Rect.unit (k0_off3 k) S1x256x128.size (k0_off3_inb k)))))
        (View.ld VX (Rect.unit (k0_off3 k) S1x256x128.size (k0_off3_inb k))))

/-- Heads 2 and 3 of one trip, attended: what the trip leaves in lanes 128–255 before the output product. -/
def att1 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (2 : Fin 16))) (k0_pay7 V (View.ld Q (Rect.unit (k0_off4 k) S1x128x128.size (k0_off4_inb k)))
          (View.ld KX (Rect.unit (k0_off2 k) S1x256x128.size (k0_off2_inb k)))))
        (View.ld VX (Rect.unit (k0_off2 k) S1x256x128.size (k0_off2_inb k)))
      (k0_pay27 (sk (ix1 (3 : Fin 16))) (k0_pay7 V (View.ld Q (Rect.unit (k0_off4 k) S1x128x128.size (k0_off4_inb k)))
          (View.ld KX (Rect.unit (k0_off3 k) S1x256x128.size (k0_off3_inb k)))))
        (View.ld VX (Rect.unit (k0_off3 k) S1x256x128.size (k0_off3_inb k))))

/-- Heads 4 and 5 of one trip, attended: what the trip leaves in lanes 256–383 before the output product. -/
def att2 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (4 : Fin 16))) (k0_pay7 V (View.ld Q (Rect.unit (k0_off5 k) S1x128x128.size (k0_off5_inb k)))
          (View.ld KX (Rect.unit (k0_off2 k) S1x256x128.size (k0_off2_inb k)))))
        (View.ld VX (Rect.unit (k0_off2 k) S1x256x128.size (k0_off2_inb k)))
      (k0_pay27 (sk (ix1 (5 : Fin 16))) (k0_pay7 V (View.ld Q (Rect.unit (k0_off5 k) S1x128x128.size (k0_off5_inb k)))
          (View.ld KX (Rect.unit (k0_off3 k) S1x256x128.size (k0_off3_inb k)))))
        (View.ld VX (Rect.unit (k0_off3 k) S1x256x128.size (k0_off3_inb k))))

/-- Heads 6 and 7 of one trip, attended: what the trip leaves in lanes 384–511 before the output product. -/
def att3 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (6 : Fin 16))) (k0_pay7 V (View.ld Q (Rect.unit (k0_off6 k) S1x128x128.size (k0_off6_inb k)))
          (View.ld KX (Rect.unit (k0_off2 k) S1x256x128.size (k0_off2_inb k)))))
        (View.ld VX (Rect.unit (k0_off2 k) S1x256x128.size (k0_off2_inb k)))
      (k0_pay27 (sk (ix1 (7 : Fin 16))) (k0_pay7 V (View.ld Q (Rect.unit (k0_off6 k) S1x128x128.size (k0_off6_inb k)))
          (View.ld KX (Rect.unit (k0_off3 k) S1x256x128.size (k0_off3_inb k)))))
        (View.ld VX (Rect.unit (k0_off3 k) S1x256x128.size (k0_off3_inb k))))

/-- Heads 8 and 9 of one trip, attended: what the trip leaves in lanes 512–639 before the output product. -/
def att4 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (8 : Fin 16))) (k0_pay7 V (View.ld Q (Rect.unit (k0_off7 k) S1x128x128.size (k0_off7_inb k)))
          (View.ld KX (Rect.unit (k0_off8 k) S1x256x128.size (k0_off8_inb k)))))
        (View.ld VX (Rect.unit (k0_off8 k) S1x256x128.size (k0_off8_inb k)))
      (k0_pay27 (sk (ix1 (9 : Fin 16))) (k0_pay7 V (View.ld Q (Rect.unit (k0_off7 k) S1x128x128.size (k0_off7_inb k)))
          (View.ld KX (Rect.unit (k0_off9 k) S1x256x128.size (k0_off9_inb k)))))
        (View.ld VX (Rect.unit (k0_off9 k) S1x256x128.size (k0_off9_inb k))))

/-- Heads 10 and 11 of one trip, attended: what the trip leaves in lanes 640–767 before the output product. -/
def att5 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (10 : Fin 16))) (k0_pay7 V (View.ld Q (Rect.unit (k0_off10 k) S1x128x128.size (k0_off10_inb k)))
          (View.ld KX (Rect.unit (k0_off8 k) S1x256x128.size (k0_off8_inb k)))))
        (View.ld VX (Rect.unit (k0_off8 k) S1x256x128.size (k0_off8_inb k)))
      (k0_pay27 (sk (ix1 (11 : Fin 16))) (k0_pay7 V (View.ld Q (Rect.unit (k0_off10 k) S1x128x128.size (k0_off10_inb k)))
          (View.ld KX (Rect.unit (k0_off9 k) S1x256x128.size (k0_off9_inb k)))))
        (View.ld VX (Rect.unit (k0_off9 k) S1x256x128.size (k0_off9_inb k))))

/-- Heads 12 and 13 of one trip, attended: what the trip leaves in lanes 768–895 before the output product. -/
def att6 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (12 : Fin 16))) (k0_pay7 V (View.ld Q (Rect.unit (k0_off11 k) S1x128x128.size (k0_off11_inb k)))
          (View.ld KX (Rect.unit (k0_off8 k) S1x256x128.size (k0_off8_inb k)))))
        (View.ld VX (Rect.unit (k0_off8 k) S1x256x128.size (k0_off8_inb k)))
      (k0_pay27 (sk (ix1 (13 : Fin 16))) (k0_pay7 V (View.ld Q (Rect.unit (k0_off11 k) S1x128x128.size (k0_off11_inb k)))
          (View.ld KX (Rect.unit (k0_off9 k) S1x256x128.size (k0_off9_inb k)))))
        (View.ld VX (Rect.unit (k0_off9 k) S1x256x128.size (k0_off9_inb k))))

/-- Heads 14 and 15 of one trip, attended: what the trip leaves in lanes 896–1023 before the output product. -/
def att7 (V : IVec S128x256 1) (Q : Vec F S1x1024x1024 .bf16) (sk : Vec F S16 .f32) (KX VX : Vec F S4x1152x128 .bf16)
    (k : Fin k0_t1_loop.trips) : FVec F S128x128 .bf16 :=
  (k0_pay61 (k0_pay27 (sk (ix1 (14 : Fin 16))) (k0_pay7 V (View.ld Q (Rect.unit (k0_off12 k) S1x128x128.size (k0_off12_inb k)))
          (View.ld KX (Rect.unit (k0_off8 k) S1x256x128.size (k0_off8_inb k)))))
        (View.ld VX (Rect.unit (k0_off8 k) S1x256x128.size (k0_off8_inb k)))
      (k0_pay27 (sk (ix1 (15 : Fin 16))) (k0_pay7 V (View.ld Q (Rect.unit (k0_off12 k) S1x128x128.size (k0_off12_inb k)))
          (View.ld KX (Rect.unit (k0_off9 k) S1x256x128.size (k0_off9_inb k)))))
        (View.ld VX (Rect.unit (k0_off9 k) S1x256x128.size (k0_off9_inb k))))

variable (arg3 : Memref sig .tc .vmem S1x1024x256 .bf16) (arg4 : Memref sig .tc .vmem S1x128x256 .bf16) (arg6 : Memref sig .tc .vmem S1x1024x1024 .f32)
  (arg7 : Memref sig .tc .vmem S1024x1024 .bf16) (arg8 : Memref sig .tc .vmem S1x1024x1024 .f32) (arg10 : Memref sig .tc .vmem S4x1152x128 .bf16)
  (X_arg6 : BufTy.Contents (Elt F) arg6.view.ty) (X_arg7 : BufTy.Contents (Elt F) arg7.view.ty) (X_arg10 : BufTy.Contents (Elt F) arg10.view.ty)

/-- The mask of one trip. -/
abbrev mask (arg1 : BitVec 32) (v75 : IVec S128x256 32) (k : Fin k0_t1_loop.trips) : IVec S128x256 1 := k0_pay4 arg1 v75 k0_pay2 0#32 1#32 k

/-- What one trip stores into the output block, from the contents it reads. -/
def tripOut (V : IVec S128x256 1) (Q : Vec F S1x1024x1024 .bf16) (sk : Vec F S16 .f32) (KX VX : Vec F S4x1152x128 .bf16)
    (R : Vec F S1x1024x1024 .f32) (W : Vec F S1024x1024 .bf16) (k : Fin k0_t1_loop.trips) : FVec F S1x128x1024 .f32 :=
  k0_pay3 (att0 V Q sk KX VX k) (att1 V Q sk KX VX k) (att2 V Q sk KX VX k) (att3 V Q sk KX VX k)
    (att4 V Q sk KX VX k) (att5 V Q sk KX VX k) (att6 V Q sk KX VX k) (att7 V Q sk KX VX k)
    (View.ld R (Rect.unit (k0_off13 k) S1x128x1024.size (k0_off13_inb k))) (View.ld W (Rect.unit ![0, 0] S1024x1024.size inb_S1024x1024_S1024x1024_0_0))

/-- … heads 0 and 1 are attended so. -/
theorem att_0 : trip_k0_t1.sl.r_37 arg2 arg5 arg9 arg10 arg11 arg12 arg1 v75 X_arg2 X_arg5 X_arg9 X_arg10 k
    = att0 (mask arg1 v75 k) (arg2.view.read (Elt F) X_arg2) (arg5.view.read (Elt F) X_arg5) (arg9.view.read (Elt F) X_arg9)
        (arg10.view.read (Elt F) X_arg10) k := by
  unfold trip_k0_t1.sl.r_37
  rw [prob_0, prob_1, score_0, score_1]
  rfl

/-- … heads 2 and 3 are attended so. -/
theorem att_1 : trip_k0_t1.sl.r_39 arg2 arg5 arg9 arg10 arg11 arg12 arg1 v75 X_arg2 X_arg5 X_arg9 X_arg10 k
    = att1 (mask arg1 v75 k) (arg2.view.read (Elt F) X_arg2) (arg5.view.read (Elt F) X_arg5) (arg9.view.read (Elt F) X_arg9)
        (arg10.view.read (Elt F) X_arg10) k := by
  unfold trip_k0_t1.sl.r_39 trip_k0_t1.sl.r_38
  rw [prob_2, prob_3, score_2, score_3]
  rfl

/-- … heads 4 and 5 are attended so. -/
theorem att_2 : trip_k0_t1.sl.r_40 arg2 arg5 arg9 arg10 arg11 arg12 arg1 v75 X_arg2 X_arg5 X_arg9 X_arg10 k
    = att2 (mask arg1 v75 k) (arg2.view.read (Elt F) X_arg2) (arg5.view.read (Elt F) X_arg5) (arg9.view.read (Elt F) X_arg9)
        (arg10.view.read (Elt F) X_arg10) k := by
  unfold trip_k0_t1.sl.r_40
  rw [prob_4, prob_5, score_4, score_5]
  rfl

/-- … heads 6 and 7 are attended so. -/
theorem att_3 : trip_k0_t1.sl.r_42 arg2 arg5 arg9 arg10 arg11 arg12 arg1 v75 X_arg2 X_arg5 X_arg9 X_arg10 k
    = att3 (mask arg1 v75 k) (arg2.view.read (Elt F) X_arg2) (arg5.view.read (Elt F) X_arg5) (arg9.view.read (Elt F) X_arg9)
        (arg10.view.read (Elt F) X_arg10) k := by
  unfold trip_k0_t1.sl.r_42 trip_k0_t1.sl.r_41
  rw [prob_6, prob_7, score_6, score_7]
  rfl

/-- … heads 8 and 9 are attended so. -/
theorem att_4 : trip_k0_t1.sl.r_43 arg2 arg5 arg9 arg10 arg11 arg12 arg1 v75 X_arg2 X_arg5 X_arg9 X_arg10 k
    = att4 (mask arg1 v75 k) (arg2.view.read (Elt F) X_arg2) (arg5.view.read (Elt F) X_arg5) (arg9.view.read (Elt F) X_arg9)
        (arg10.view.read (Elt F) X_arg10) k := by
  unfold trip_k0_t1.sl.r_43
  rw [prob_8, prob_9, score_8, score_9]
  rfl

/-- … heads 10 and 11 are attended so. -/
theorem att_5 : trip_k0_t1.sl.r_47 arg2 arg5 arg9 arg10 arg11 arg12 arg1 v75 X_arg2 X_arg5 X_arg9 X_arg10 k
    = att5 (mask arg1 v75 k) (arg2.view.read (Elt F) X_arg2) (arg5.view.read (Elt F) X_arg5) (arg9.view.read (Elt F) X_arg9)
        (arg10.view.read (Elt F) X_arg10) k := by
  unfold trip_k0_t1.sl.r_47 trip_k0_t1.sl.r_44 trip_k0_t1.sl.r_45 trip_k0_t1.sl.r_46
  rw [prob_10, prob_11, score_10, score_11]
  rfl

/-- … heads 12 and 13 are attended so. -/
theorem att_6 : trip_k0_t1.sl.r_48 arg2 arg5 arg9 arg10 arg11 arg12 arg1 v75 X_arg2 X_arg5 X_arg9 X_arg10 k
    = att6 (mask arg1 v75 k) (arg2.view.read (Elt F) X_arg2) (arg5.view.read (Elt F) X_arg5) (arg9.view.read (Elt F) X_arg9)
        (arg10.view.read (Elt F) X_arg10) k := by
  unfold trip_k0_t1.sl.r_48
  rw [prob_12, prob_13, score_12, score_13]
  rfl

/-- … heads 14 and 15 are attended so. -/
theorem att_7 : trip_k0_t1.sl.r_49 arg2 arg5 arg9 arg10 arg11 arg12 arg1 v75 X_arg2 X_arg5 X_arg9 X_arg10 k
    = att7 (mask arg1 v75 k) (arg2.view.read (Elt F) X_arg2) (arg5.view.read (Elt F) X_arg5) (arg9.view.read (Elt F) X_arg9)
        (arg10.view.read (Elt F) X_arg10) k := by
  unfold trip_k0_t1.sl.r_49
  rw [prob_14, prob_15, score_14, score_15]
  rfl

variable (𝒱 : Variants) (c : Dev nD) (bd : Option 𝒱.V) (i : grid0.Coords) (harg2 : arg2.IsWhole) (harg3 : arg3.IsWhole) (harg4 : arg4.IsWhole)
  (harg5 : arg5.IsWhole) (harg6 : arg6.IsWhole) (harg7 : arg7.IsWhole) (harg8 : arg8.IsWhole) (harg9 : arg9.IsWhole) (harg10 : arg10.IsWhole)
  (harg11 : arg11.IsWhole) (harg12 : arg12.IsWhole)
  (f_arg8 : BufTy.Contents (Elt F) arg8.view.ty) (f_arg11 : BufTy.Contents (Elt F) arg11.view.ty) (f_arg12 : BufTy.Contents (Elt F) arg12.view.ty)

/-- The one piece a trip writes into the output block: rows `128 k … 128 k + 127`, whatever the buffers it writes held before. -/
theorem trip_piece :
    (tripL_k0_t1 (F := F) 𝒱 c bd i arg2 harg2 arg3 harg3 arg4 harg4 arg5 harg5 arg6 harg6 arg7 harg7 arg8 harg8 arg9 harg9 arg10 harg10 arg11 harg11
        arg12 harg12 arg1 v75 X_arg2 X_arg5 X_arg6 X_arg7 X_arg9 X_arg10 k f_arg8 f_arg11 f_arg12).1
      = [⟨Rect.unit (k0_off13 k) S1x128x1024.size (k0_off13_inb k),
          tripOut (mask arg1 v75 k) (arg2.view.read (Elt F) X_arg2) (arg5.view.read (Elt F) X_arg5) (arg9.view.read (Elt F) X_arg9)
            (arg10.view.read (Elt F) X_arg10) (arg6.view.read (Elt F) X_arg6) (arg7.view.read (Elt F) X_arg7) k⟩] := by
  unfold tripL_k0_t1 trip_k0_t1
  dsimp only
  rw [att_0, att_1, att_2, att_3, att_4, att_5, att_6, att_7]
  rfl

end Cert.KernelIdeal.Swa
end
-- ==== Proof.Run.lean ====
module

public import proofs.«01_k».proof.Proof.Gen.KernelIdeal.Frame.Runs
public import proofs.«01_k».proof.Proof.Trip

/-! The kernel's body from end to end: the block it stores, in closed form. -/

@[expose] public section
set_option maxRecDepth 16384
noncomputable section
namespace Cert.KernelIdeal.Swa
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The halo's 128 rows of columns `o … o + 127`: the keys' half at 0, the values' at 128. -/
def haloK (x2 : Vec F S1x128x256 .bf16) : Vec F S1x128x128 .bf16 := View.ld x2 (Rect.unit ![0, 0, 0] S1x128x128.size inb_S1x128x256_S1x128x128_0_0_0)
/-- The values' half of the halo. -/
def haloV (x2 : Vec F S1x128x256 .bf16) : Vec F S1x128x128 .bf16 := View.ld x2 (Rect.unit ![0, 0, 128] S1x128x128.size inb_S1x128x256_S1x128x128_0_0_128)
/-- The keys' half of the tile. -/
def tileK (x1 : Vec F S1x1024x256 .bf16) : Vec F S1x1024x128 .bf16 := View.ld x1 (Rect.unit ![0, 0, 0] S1x1024x128.size inb_S1x1024x256_S1x1024x128_0_0_0)
/-- The values' half of the tile. -/
def tileV (x1 : Vec F S1x1024x256 .bf16) : Vec F S1x1024x128 .bf16 := View.ld x1 (Rect.unit ![0, 0, 128] S1x1024x128.size inb_S1x1024x256_S1x1024x128_0_0_128)

/-- The four key planes the body stores before its loop, last first. -/
def kxL (i : grid0.Coords) (x1 : Vec F S1x1024x256 .bf16) (x2 : Vec F S1x128x256 .bf16) : List (View.Piece (Elt F) S4x1152x128 .bf16) :=
  [⟨Rect.unit ![3, 0, 0] S1x1152x128.size inb_S4x1152x128_S1x1152x128_3_0_0, k0_pay81 k0_pay74 (k0_pay76 i (haloK x2) (tileK x1))⟩,
   ⟨Rect.unit ![2, 0, 0] S1x1152x128.size inb_S4x1152x128_S1x1152x128_2_0_0, k0_pay80 i (haloK x2) (tileK x1)⟩,
   ⟨Rect.unit ![1, 0, 0] S1x1152x128.size inb_S4x1152x128_S1x1152x128_1_0_0, k0_pay79 i (haloK x2) (tileK x1)⟩,
   ⟨Rect.unit ![0, 0, 0] S1x1152x128.size inb_S4x1152x128_S1x1152x128_0_0_0, k0_pay78 i (haloK x2) (tileK x1)⟩]
/-- The four value planes, last first. -/
def vxL (i : grid0.Coords) (x1 : Vec F S1x1024x256 .bf16) (x2 : Vec F S1x128x256 .bf16) : List (View.Piece (Elt F) S4x1152x128 .bf16) :=
  [⟨Rect.unit ![3, 0, 0] S1x1152x128.size inb_S4x1152x128_S1x1152x128_3_0_0, k0_pay1 k0_pay74 (k0_pay82 (k0_pay75 i) (haloV x2) (tileV x1))⟩,
   ⟨Rect.unit ![2, 0, 0] S1x1152x128.size inb_S4x1152x128_S1x1152x128_2_0_0, k0_pay86 k0_pay74 (k0_pay75 i) (haloV x2) (tileV x1)⟩,
   ⟨Rect.unit ![1, 0, 0] S1x1152x128.size inb_S4x1152x128_S1x1152x128_1_0_0, k0_pay85 k0_pay74 (k0_pay75 i) (haloV x2) (tileV x1)⟩,
   ⟨Rect.unit ![0, 0, 0] S1x1152x128.size inb_S4x1152x128_S1x1152x128_0_0_0, k0_pay84 k0_pay74 (k0_pay75 i) (haloV x2) (tileV x1)⟩]

/-- The key planes as an array. -/
def KX (i : grid0.Coords) (x1 : Vec F S1x1024x256 .bf16) (x2 : Vec F S1x128x256 .bf16) : Vec F S4x1152x128 .bf16 := View.canon (kxL i x1 x2)
/-- The value planes as an array. -/
def VX (i : grid0.Coords) (x1 : Vec F S1x1024x256 .bf16) (x2 : Vec F S1x128x256 .bf16) : Vec F S4x1152x128 .bf16 := View.canon (vxL i x1 x2)

/-- The four key planes fill their array. -/
theorem kx_cover (i : grid0.Coords) (x1 : Vec F S1x1024x256 .bf16) (x2 : Vec F S1x128x256 .bf16) (y : S4x1152x128.Idx) :
    ∃ p ∈ kxL (F := F) i x1 x2, y ∈ p.1.set :=
  View.cover_of_tiledL (s := S4x1152x128) (kxL i x1 x2) S1x1152x128.size (by sl_kernel_rfl) y
/-- The four value planes fill their array. -/
theorem vx_cover (i : grid0.Coords) (x1 : Vec F S1x1024x256 .bf16) (x2 : Vec F S1x128x256 .bf16) (y : S4x1152x128.Idx) :
    ∃ p ∈ vxL (F := F) i x1 x2, y ∈ p.1.set :=
  View.cover_of_tiledL (s := S4x1152x128) (vxL i x1 x2) S1x1152x128.size (by sl_kernel_rfl) y

/-- The row blocks the first `n` trips store, last first. -/
def blkPieces (M : Fin k0_t1_loop.trips → IVec S128x256 1) (Q : Vec F S1x1024x1024 .bf16) (sk : Vec F S16 .f32) (KX VX : Vec F S4x1152x128 .bf16)
    (R : Vec F S1x1024x1024 .f32) (W : Vec F S1024x1024 .bf16) : ℕ → List (View.Piece (Elt F) S1x1024x1024 .f32)
  | 0 => []
  | n + 1 => if h : n < k0_t1_loop.trips then
      ⟨Rect.unit (k0_off13 ⟨n, h⟩) S1x128x1024.size (k0_off13_inb ⟨n, h⟩), tripOut (M ⟨n, h⟩) Q sk KX VX R W ⟨n, h⟩⟩ :: blkPieces M Q sk KX VX R W n
      else blkPieces M Q sk KX VX R W n

/-- The loop's stores into the output block after `n` trips, whatever the buffers held before the loop. -/
theorem loop_pieces (𝒱 : Variants) (c : Dev nD) (bd : Option 𝒱.V) (i : grid0.Coords) (arg2 : Memref sig .tc .vmem S1x1024x1024 .bf16) (harg2 : arg2.IsWhole) (arg3 : Memref sig .tc .vmem S1x1024x256 .bf16) (harg3 : arg3.IsWhole) (arg4 : Memref sig .tc .vmem S1x128x256 .bf16) (harg4 : arg4.IsWhole) (arg5 : Memref sig .tc .smem S16 .f32) (harg5 : arg5.IsWhole) (arg6 : Memref sig .tc .vmem S1x1024x1024 .f32) (harg6 : arg6.IsWhole) (arg7 : Memref sig .tc .vmem S1024x1024 .bf16) (harg7 : arg7.IsWhole) (arg8 : Memref sig .tc .vmem S1x1024x1024 .f32) (harg8 : arg8.IsWhole) (arg9 : Memref sig .tc .vmem S4x1152x128 .bf16) (harg9 : arg9.IsWhole) (arg10 : Memref sig .tc .vmem S4x1152x128 .bf16) (harg10 : arg10.IsWhole) (arg11 : Memref sig .tc .vmem S16x128x256 .f32) (harg11 : arg11.IsWhole) (arg12 : Memref sig .tc .vmem S16x128x256 .bf16) (harg12 : arg12.IsWhole) (arg1 : BitVec 32) (v75 : IVec S128x256 32)
    (X_arg2 : BufTy.Contents (Elt F) arg2.view.ty) (X_arg5 : BufTy.Contents (Elt F) arg5.view.ty) (X_arg6 : BufTy.Contents (Elt F) arg6.view.ty)
    (X_arg7 : BufTy.Contents (Elt F) arg7.view.ty) (X_arg9 : BufTy.Contents (Elt F) arg9.view.ty) (X_arg10 : BufTy.Contents (Elt F) arg10.view.ty)
    (G_arg8 : BufTy.Contents (Elt F) arg8.view.ty) (G_arg11 : BufTy.Contents (Elt F) arg11.view.ty) (G_arg12 : BufTy.Contents (Elt F) arg12.view.ty)
    (n : ℕ) (hn : n ≤ k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg1 v75 X_arg2 X_arg5 X_arg6 X_arg7 X_arg9 X_arg10 G_arg8 G_arg11 G_arg12 n).1
      = blkPieces (fun k => mask arg1 v75 k) (arg2.view.read (Elt F) X_arg2) (arg5.view.read (Elt F) X_arg5) (arg9.view.read (Elt F) X_arg9)
          (arg10.view.read (Elt F) X_arg10) (arg6.view.read (Elt F) X_arg6) (arg7.view.read (Elt F) X_arg7) n := by
  induction n with
  | zero => rfl
  | succ n ih =>
    have h : n < k0_t1_loop.trips := hn
    rw [pb_k0_t1_succ 𝒱 c bd i arg2 harg2 arg3 harg3 arg4 harg4 arg5 harg5 arg6 harg6 arg7 harg7 arg8 harg8 arg9 harg9 arg10 harg10 arg11 harg11 arg12 harg12 arg1 v75 X_arg2 X_arg5 X_arg6 X_arg7 X_arg9 X_arg10 G_arg8 G_arg11 G_arg12 ⟨n, h⟩]
    refine (congrArg₂ (· ++ ·) (trip_piece ..) (ih (Nat.le_of_lt h))).trans ?_
    rw [blkPieces, dif_pos h]
    rfl

set_option maxHeartbeats 1000000 in
/-- The body: on whole memrefs holding the six input blocks it ends with the inputs as they were and with the output block's buffer holding
    the eight row blocks of `blkPieces`. -/
theorem run (c : Dev nD) (i : grid0.Coords) (arg2 : Memref sig .tc .vmem S1x1024x1024 .bf16) (harg2 : arg2.IsWhole) (arg3 : Memref sig .tc .vmem S1x1024x256 .bf16) (harg3 : arg3.IsWhole) (arg4 : Memref sig .tc .vmem S1x128x256 .bf16) (harg4 : arg4.IsWhole) (arg5 : Memref sig .tc .smem S16 .f32) (harg5 : arg5.IsWhole) (arg6 : Memref sig .tc .vmem S1x1024x1024 .f32) (harg6 : arg6.IsWhole) (arg7 : Memref sig .tc .vmem S1024x1024 .bf16) (harg7 : arg7.IsWhole) (arg8 : Memref sig .tc .vmem S1x1024x1024 .f32) (harg8 : arg8.IsWhole) (arg9 : Memref sig .tc .vmem S4x1152x128 .bf16) (harg9 : arg9.IsWhole) (arg10 : Memref sig .tc .vmem S4x1152x128 .bf16) (harg10 : arg10.IsWhole) (arg11 : Memref sig .tc .vmem S16x128x256 .f32) (harg11 : arg11.IsWhole) (arg12 : Memref sig .tc .vmem S16x128x256 .bf16) (harg12 : arg12.IsWhole)
    (x0 : Vec F S1x1024x1024 .bf16) (x1 : Vec F S1x1024x256 .bf16) (x2 : Vec F S1x128x256 .bf16) (x3 : Vec F S16 .f32) (x4 : Vec F S1x1024x1024 .f32) (x5 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, (arg8.view.loc (c : Thread nD τ) ↦[arg8.view.set]{fullShare} arg8.view.writes (Elt F) f (blkPieces (fun k => mask (BitVec.ofNat 32 (i 1).val) (iota .tc S128x256 32 [1] iota_S128x256_d1_w32) k) x0 x3 (KX i x1 x2) (VX i x1 x2) x4 x5 8))) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_swa i arg2 harg2 arg3 harg3 arg4 harg4 arg5 harg5 arg6 harg6 arg7 harg7 arg8 harg8 arg9 harg9 arg10 harg10 arg11 harg11 arg12 harg12) K := by
  simp only [cc0_swa_eq_skeleton]; unfold cc0_swa_skel
  simp only [k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  have hk : run.sl.HS0_4 c i arg3 harg3 arg4 harg4 x1 x2 = kxL i x1 x2 := by
    unfold run.sl.HS0_4 kxL haloK tileK run.sl.r
    simp only [View.readAt_eq_ld, harg3.read_unread, harg4.read_unread]
  have hv : run.sl.HS1_4 c i arg3 harg3 arg4 harg4 x1 x2 = vxL i x1 x2 := by
    unfold run.sl.HS1_4 vxL haloV tileV run.sl.r_1 run.sl.r_2
    simp only [View.readAt_eq_ld, harg3.read_unread, harg4.read_unread]
  have hL := loop_pieces (F := F) Variants.none c none i arg2 harg2 arg3 harg3 arg4 harg4 arg5 harg5 arg6 harg6 arg7 harg7 arg8 harg8 arg9 harg9 arg10 harg10 arg11 harg11 arg12 harg12 (BitVec.ofNat 32 (i 1).val)
    (iota .tc S128x256 32 [1] iota_S128x256_d1_w32) (harg2.unread x0) (harg5.unread x3) (harg6.unread x4) (harg7.unread x5)
    (arg9.view.writes (Elt F) arg9.view.junk (run.sl.HS0_4 c i arg3 harg3 arg4 harg4 x1 x2))
    (arg10.view.writes (Elt F) arg10.view.junk (run.sl.HS1_4 c i arg3 harg3 arg4 harg4 x1 x2)) f6 fs2 fs3
    (Scf.trips k0_t1_loop.lb k0_t1_loop.ub k0_t1_loop.st) le_rfl
  rw [harg2.read_unread, harg5.read_unread, harg6.read_unread, harg7.read_unread, hk, hv, View.read_writes_eq_canon _ _ _ (kx_cover i x1 x2),
    View.read_writes_eq_canon _ _ _ (vx_cover i x1 x2)] at hL
  rw [hk, hv, hL]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; iexact H6
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Swa
end
-- ==== Proof.Pure.lean ====
module

public import proofs.«01_k».proof.Proof.Trip
public import Idealize.ShloMosaic.Lib.WordCmp

/-! One trip's block entry by entry, at the exact numbers. -/

@[expose] public section
set_option maxRecDepth 16384
noncomputable section
namespace Cert.KernelIdeal.Swa
open Cert.KernelIdeal Cert.KernelIdeal.Gen
open Idealize.ShloMosaic Idealize.ShloMosaic.TcCoe Idealize.SL.Sem

/-- The largest of a row of scores and its sink. -/
def top (s : Fin 256 → EReal) (z : EReal) : EReal := max (Finset.fold max (Ideal.ofBits .f32 4286578688#32) s Finset.univ) z
/-- The sum of a row's exponentials, the sink's included. -/
def den (s : Fin 256 → EReal) (z : EReal) : EReal := ∑ x, Ideal.exp (s x - top s z) + Ideal.exp (z - top s z)
/-- A row's softmax with a sink, by the reciprocal of the sum. -/
def prob (s : Fin 256 → EReal) (z : EReal) (c : Fin 256) : EReal := Ideal.exp (s c - top s z) * Ideal.div 1 (den s z)

/-- The loop's eight trips. -/
theorem trips_eq : k0_t1_loop.trips = 8 := by decide +kernel
/-- A trip's number is below eight. -/
theorem trip_lt (k : Fin k0_t1_loop.trips) : k.val < 8 := lt_of_lt_of_eq k.isLt trips_eq

/-- Row `r` of trip `k`'s rows. -/
def qrow (k : Fin k0_t1_loop.trips) (r : Fin 128) : Fin 1024 := ⟨128 * k.val + r.val, by have := trip_lt k; omega⟩
/-- Row `c` of trip `k`'s window. -/
def wrow (k : Fin k0_t1_loop.trips) (c : Fin 256) : Fin 1152 := ⟨128 * k.val + c.val, by have := trip_lt k; omega⟩

/-- The softmax payload at an entry. -/
theorem pay27_at (s : Elt Ideal .f32) (S : Vec Ideal S1x128x256 .f32) (r : Fin 128) (c : Fin 256) :
    k0_pay27 (F := Ideal) s S (ix3 (0 : Fin 1) r c) = prob (fun x => S (ix3 (0 : Fin 1) r x)) s c := by
  unfold prob den top
  pointwise [k0_pay27]
/-- The masked scores' payload at an entry. -/
theorem pay7_at (V : IVec S128x256 1) (Q : Vec Ideal S1x128x128 .bf16) (K : Vec Ideal S1x256x128 .bf16) (r : Fin 128) (c : Fin 256) :
    k0_pay7 (F := Ideal) V Q K (ix3 (0 : Fin 1) r c)
      = Scalar.select (V (ix2 r c)) (∑ x : Fin 128, Q (ix3 (0 : Fin 1) r x) * K (ix3 (0 : Fin 1) c x) : EReal) (Ideal.ofBits .f32 4048155338#32) := by
  pointwise [k0_pay7]
/-- A pair of heads' payload at an entry. -/
theorem pay61_at (P1 P2 : Vec Ideal S1x128x256 .bf16) (V1 V2 : Vec Ideal S1x256x128 .bf16) (r : Fin 128) (c : Fin 128) :
    k0_pay61 (F := Ideal) P1 V1 P2 V2 (ix2 r c)
      = (∑ x : Fin 256, P1 (ix3 (0 : Fin 1) r x) * V1 (ix3 (0 : Fin 1) x c) + ∑ x : Fin 256, P2 (ix3 (0 : Fin 1) r x) * V2 (ix3 (0 : Fin 1) x c) : EReal) := by
  pointwise [k0_pay61]

/-- Which of eight blocks a column lies in, and the entry there. -/
def pick (a : Fin 8 → FVec Ideal S128x128 .bf16) (r : Fin 128) (x : Fin 1024) : EReal :=
  a ⟨x.val / 128, by omega⟩ (ix2 r ⟨x.val % 128, by omega⟩)

/-- The output projection's payload at an entry. -/
theorem pay3_at (a : Fin 8 → FVec Ideal S128x128 .bf16) (R : Vec Ideal S1x128x1024 .f32) (W : Vec Ideal S1024x1024 .bf16) (r : Fin 128) (c : Fin 1024) :
    k0_pay3 (F := Ideal) (a 0) (a 1) (a 2) (a 3) (a 4) (a 5) (a 6) (a 7) R W (ix3 (0 : Fin 1) r c)
      = (R (ix3 (0 : Fin 1) r c) + ∑ x : Fin 1024, pick a r x * W (ix2 x c) : EReal) := by
  pointwise [k0_pay3]
  refine congrArg (R (ix3 (0 : Fin 1) r c) + ·) (Finset.sum_congr rfl fun x _ => congrArg (· * W (ix2 x c)) ?_)
  have key : ∀ (n : Fin 8) (y : Fin 128), n.val = x.val / 128 → y.val = x.val % 128 → a n (ix2 r y) = pick a r x := by
    intro n y hn hy
    unfold pick
    rw [show n = ⟨x.val / 128, by omega⟩ from Fin.ext hn, show y = ⟨x.val % 128, by omega⟩ from Fin.ext hy]
  split_ifs <;> (apply key <;> simp <;> omega)

/-- The band, and past the first block the whole window. -/
theorem mask_at (a : ℕ) (ha : a < 4) (k : Fin k0_t1_loop.trips) (r : Fin 128) (c : Fin 256) :
    mask (BitVec.ofNat 32 a) (iota .tc S128x256 32 [1] iota_S128x256_d1_w32) k (ix2 r c)
      = BitVec.ofBool (decide (r.val < c.val ∧ c.val ≤ r.val + 128 ∧ (128 ≤ c.val ∨ 0 < a ∨ 0 < k.val))) := by
  have hk := trip_lt k
  have hr := r.isLt
  have hc := c.isLt
  pointwise [mask, k0_pay4, k0_pay2]
  have hiv : Scf.iv 0#32 1#32 k.val = BitVec.ofNat 32 k.val := by unfold Scf.iv; simp
  have hadd : IntOp.addi (BitVec.ofNat 32 r.val) 128#32 = BitVec.ofNat 32 (r.val + 128) := (BitVec.ofNat_add r.val 128).symm
  rw [hiv, hadd]
  simp (disch := word_cmp_side) only [hlo_ix]
  refine congrArg BitVec.ofBool ?_
  simp only [← Bool.decide_and, ← Bool.decide_or]
  refine decide_eq_decide.mpr ?_
  omega

/-- A load of 128 columns of trip `k`'s rows reads those. -/
theorem ld_q (Q : Vec Ideal S1x1024x1024 .bf16) (k : Fin k0_t1_loop.trips) (o : ℕ) (ho : o + 128 ≤ 1024) (off : Fin 3 → ℕ) (h : off = ![0, 128 * k.val, o])
    (inb : ∀ a, off a + S1x128x128.size a ≤ S1x1024x1024.size a) (r x : Fin 128) :
    View.ld Q (Rect.unit off S1x128x128.size inb) (ix3 (0 : Fin 1) r x) = Q (ix3 (0 : Fin 1) (qrow k r) (⟨o + x.val, by omega⟩ : Fin 1024)) := by
  subst h
  rw [View.ld_unit]
  refine congrArg Q (funext fun a => Fin.ext ?_)
  fin_cases a <;> rfl
/-- A load of trip `k`'s window in plane `o` reads it. -/
theorem ld_w (K : Vec Ideal S4x1152x128 .bf16) (k : Fin k0_t1_loop.trips) (o : Fin 4) (off : Fin 3 → ℕ) (h : off = ![o.val, 128 * k.val, 0])
    (inb : ∀ a, off a + S1x256x128.size a ≤ S4x1152x128.size a) (c : Fin 256) (x : Fin 128) :
    View.ld K (Rect.unit off S1x256x128.size inb) (ix3 (0 : Fin 1) c x) = K (ix3 o (wrow k c) x) := by
  subst h
  rw [View.ld_unit]
  refine congrArg K (funext fun a => Fin.ext ?_)
  fin_cases a
  · rfl
  · rfl
  · exact Nat.zero_add x.val
/-- A load of trip `k`'s residual rows reads them. -/
theorem ld_r (R : Vec Ideal S1x1024x1024 .f32) (k : Fin k0_t1_loop.trips) (off : Fin 3 → ℕ) (h : off = ![0, 128 * k.val, 0])
    (inb : ∀ a, off a + S1x128x1024.size a ≤ S1x1024x1024.size a) (r : Fin 128) (x : Fin 1024) :
    View.ld R (Rect.unit off S1x128x1024.size inb) (ix3 (0 : Fin 1) r x) = R (ix3 (0 : Fin 1) (qrow k r) x) := by
  subst h
  rw [View.ld_unit]
  refine congrArg R (funext fun a => Fin.ext ?_)
  fin_cases a
  · rfl
  · rfl
  · exact Nat.zero_add x.val

/-- The score of query row `r` and window row `c`, columns from `o`, key plane `p`. -/
def scoreK (V : IVec S128x256 1) (Q : Vec Ideal S1x1024x1024 .bf16) (KX : Vec Ideal S4x1152x128 .bf16) (k : Fin k0_t1_loop.trips)
    (cc : Fin 8) (p : Fin 4) (r : Fin 128) (c : Fin 256) : EReal :=
  Scalar.select (V (ix2 r c)) (∑ x : Fin 128, Q (ix3 (0 : Fin 1) (qrow k r) (⟨128 * cc.val + x.val, by omega⟩ : Fin 1024)) * KX (ix3 p (wrow k c) x) : EReal)
    (Ideal.ofBits .f32 4048155338#32)
/-- A head's attended window, with its sink and its planes. -/
def headK (V : IVec S128x256 1) (Q : Vec Ideal S1x1024x1024 .bf16) (sk : Vec Ideal S16 .f32) (KX VX : Vec Ideal S4x1152x128 .bf16) (k : Fin k0_t1_loop.trips)
    (cc : Fin 8) (h : Fin 16) (p : Fin 4) (r l : Fin 128) : EReal :=
  ∑ c : Fin 256, prob (scoreK V Q KX k cc p r) (sk (ix1 h)) c * VX (ix3 p (wrow k c) l)
/-- A pair of heads' attended window. -/
def attK (V : IVec S128x256 1) (Q : Vec Ideal S1x1024x1024 .bf16) (sk : Vec Ideal S16 .f32) (KX VX : Vec Ideal S4x1152x128 .bf16) (k : Fin k0_t1_loop.trips)
    (cc : Fin 8) (r l : Fin 128) : EReal :=
  headK V Q sk KX VX k cc ⟨2 * cc.val, by omega⟩ ⟨2 * (cc.val / 4), by omega⟩ r l + headK V Q sk KX VX k cc ⟨2 * cc.val + 1, by omega⟩ ⟨2 * (cc.val / 4) + 1, by omega⟩ r l

/-- One head's probabilities times a value column, over loaded rectangles. -/
theorem head_at (V : IVec S128x256 1) (Q : Vec Ideal S1x1024x1024 .bf16) (sk : Vec Ideal S16 .f32) (KX VX : Vec Ideal S4x1152x128 .bf16) (k : Fin k0_t1_loop.trips)
    (cc : Fin 8) (h : Fin 16) (p : Fin 4) (oq ow : Fin 3 → ℕ) (hq : oq = ![0, 128 * k.val, 128 * cc.val]) (hw : ow = ![p.val, 128 * k.val, 0])
    (iq : ∀ a, oq a + S1x128x128.size a ≤ S1x1024x1024.size a) (iw : ∀ a, ow a + S1x256x128.size a ≤ S4x1152x128.size a) (r l : Fin 128) :
    (∑ x : Fin 256, k0_pay27 (F := Ideal) (sk (ix1 h)) (k0_pay7 V (View.ld Q (Rect.unit oq S1x128x128.size iq)) (View.ld KX (Rect.unit ow S1x256x128.size iw))) (ix3 (0 : Fin 1) r x)
        * View.ld VX (Rect.unit ow S1x256x128.size iw) (ix3 (0 : Fin 1) x l) : EReal)
      = headK V Q sk KX VX k cc h p r l := by
  unfold headK
  refine Finset.sum_congr rfl fun c _ => ?_
  rw [pay27_at, ld_w VX k p ow hw iw c l]
  refine congrArg (fun s => prob s (sk (ix1 h)) c * VX (ix3 p (wrow k c) l)) (funext fun x => ?_)
  rw [pay7_at]
  unfold scoreK
  refine congrArg (fun s => Scalar.select (V (ix2 r x)) s (Ideal.ofBits .f32 4048155338#32)) (Finset.sum_congr rfl fun y _ => ?_)
  rw [ld_q Q k (128 * cc.val) (by omega) oq hq iq r y, ld_w KX k p ow hw iw x y]

variable (V : IVec S128x256 1) (Q : Vec Ideal S1x1024x1024 .bf16) (sk : Vec Ideal S16 .f32) (KX VX : Vec Ideal S4x1152x128 .bf16) (k : Fin k0_t1_loop.trips) (r l : Fin 128)

/-- Heads 0 and 1 at an entry. -/
theorem att0_at : att0 V Q sk KX VX k (ix2 r l) = attK V Q sk KX VX k (0 : Fin 8) r l := by
  unfold att0
  rw [pay61_at]
  exact congrArg₂ (· + ·)
    (head_at V Q sk KX VX k 0 0 0 _ _ (k0_off1_eq k) (k0_off2_eq k) (k0_off1_inb k) (k0_off2_inb k) r l)
    (head_at V Q sk KX VX k 0 1 1 _ _ (k0_off1_eq k) (k0_off3_eq k) (k0_off1_inb k) (k0_off3_inb k) r l)
/-- Heads 2 and 3 at an entry. -/
theorem att1_at : att1 V Q sk KX VX k (ix2 r l) = attK V Q sk KX VX k (1 : Fin 8) r l := by
  unfold att1
  rw [pay61_at]
  exact congrArg₂ (· + ·)
    (head_at V Q sk KX VX k 1 2 0 _ _ (k0_off4_eq k) (k0_off2_eq k) (k0_off4_inb k) (k0_off2_inb k) r l)
    (head_at V Q sk KX VX k 1 3 1 _ _ (k0_off4_eq k) (k0_off3_eq k) (k0_off4_inb k) (k0_off3_inb k) r l)
/-- Heads 4 and 5 at an entry. -/
theorem att2_at : att2 V Q sk KX VX k (ix2 r l) = attK V Q sk KX VX k (2 : Fin 8) r l := by
  unfold att2
  rw [pay61_at]
  exact congrArg₂ (· + ·)
    (head_at V Q sk KX VX k 2 4 0 _ _ (k0_off5_eq k) (k0_off2_eq k) (k0_off5_inb k) (k0_off2_inb k) r l)
    (head_at V Q sk KX VX k 2 5 1 _ _ (k0_off5_eq k) (k0_off3_eq k) (k0_off5_inb k) (k0_off3_inb k) r l)
/-- Heads 6 and 7 at an entry. -/
theorem att3_at : att3 V Q sk KX VX k (ix2 r l) = attK V Q sk KX VX k (3 : Fin 8) r l := by
  unfold att3
  rw [pay61_at]
  exact congrArg₂ (· + ·)
    (head_at V Q sk KX VX k 3 6 0 _ _ (k0_off6_eq k) (k0_off2_eq k) (k0_off6_inb k) (k0_off2_inb k) r l)
    (head_at V Q sk KX VX k 3 7 1 _ _ (k0_off6_eq k) (k0_off3_eq k) (k0_off6_inb k) (k0_off3_inb k) r l)
/-- Heads 8 and 9 at an entry. -/
theorem att4_at : att4 V Q sk KX VX k (ix2 r l) = attK V Q sk KX VX k (4 : Fin 8) r l := by
  unfold att4
  rw [pay61_at]
  exact congrArg₂ (· + ·)
    (head_at V Q sk KX VX k 4 8 2 _ _ (k0_off7_eq k) (k0_off8_eq k) (k0_off7_inb k) (k0_off8_inb k) r l)
    (head_at V Q sk KX VX k 4 9 3 _ _ (k0_off7_eq k) (k0_off9_eq k) (k0_off7_inb k) (k0_off9_inb k) r l)
/-- Heads 10 and 11 at an entry. -/
theorem att5_at : att5 V Q sk KX VX k (ix2 r l) = attK V Q sk KX VX k (5 : Fin 8) r l := by
  unfold att5
  rw [pay61_at]
  exact congrArg₂ (· + ·)
    (head_at V Q sk KX VX k 5 10 2 _ _ (k0_off10_eq k) (k0_off8_eq k) (k0_off10_inb k) (k0_off8_inb k) r l)
    (head_at V Q sk KX VX k 5 11 3 _ _ (k0_off10_eq k) (k0_off9_eq k) (k0_off10_inb k) (k0_off9_inb k) r l)
/-- Heads 12 and 13 at an entry. -/
theorem att6_at : att6 V Q sk KX VX k (ix2 r l) = attK V Q sk KX VX k (6 : Fin 8) r l := by
  unfold att6
  rw [pay61_at]
  exact congrArg₂ (· + ·)
    (head_at V Q sk KX VX k 6 12 2 _ _ (k0_off11_eq k) (k0_off8_eq k) (k0_off11_inb k) (k0_off8_inb k) r l)
    (head_at V Q sk KX VX k 6 13 3 _ _ (k0_off11_eq k) (k0_off9_eq k) (k0_off11_inb k) (k0_off9_inb k) r l)
/-- Heads 14 and 15 at an entry. -/
theorem att7_at : att7 V Q sk KX VX k (ix2 r l) = attK V Q sk KX VX k (7 : Fin 8) r l := by
  unfold att7
  rw [pay61_at]
  exact congrArg₂ (· + ·)
    (head_at V Q sk KX VX k 7 14 2 _ _ (k0_off12_eq k) (k0_off8_eq k) (k0_off12_inb k) (k0_off8_inb k) r l)
    (head_at V Q sk KX VX k 7 15 3 _ _ (k0_off12_eq k) (k0_off9_eq k) (k0_off12_inb k) (k0_off9_inb k) r l)
/-- The eight pairs of heads. -/
def atts : Fin 8 → FVec Ideal S128x128 .bf16 :=
  ![att0 V Q sk KX VX k, att1 V Q sk KX VX k, att2 V Q sk KX VX k, att3 V Q sk KX VX k, att4 V Q sk KX VX k, att5 V Q sk KX VX k, att6 V Q sk KX VX k, att7 V Q sk KX VX k]

/-- Every pair's block. -/
theorem atts_at (cc : Fin 8) : atts V Q sk KX VX k cc (ix2 r l) = attK V Q sk KX VX k cc r l := by
  fin_cases cc
  · exact att0_at ..
  · exact att1_at ..
  · exact att2_at ..
  · exact att3_at ..
  · exact att4_at ..
  · exact att5_at ..
  · exact att6_at ..
  · exact att7_at ..

/-- A trip's block at an entry. -/
theorem tripOut_at (R : Vec Ideal S1x1024x1024 .f32) (W : Vec Ideal S1024x1024 .bf16) (c : Fin 1024) :
    tripOut V Q sk KX VX R W k (ix3 (0 : Fin 1) r c)
      = (R (ix3 (0 : Fin 1) (qrow k r) c) + ∑ x : Fin 1024, attK V Q sk KX VX k ⟨x.val / 128, by omega⟩ r ⟨x.val % 128, by omega⟩ * W (ix2 x c) : EReal) := by
  unfold tripOut
  refine (pay3_at (atts V Q sk KX VX k) _ _ r c).trans ?_
  rw [ld_r R k _ (k0_off13_eq k), View.ld_unit_zero (by decide +kernel)]
  refine congrArg (R (ix3 (0 : Fin 1) (qrow k r) c) + ·) (Finset.sum_congr rfl fun x _ => congrArg (· * W (ix2 x c)) ?_)
  exact atts_at ..
end Cert.KernelIdeal.Swa
end
-- ==== Proof.Planes.lean ====
module

public import proofs.«01_k».proof.Proof.Run
public import proofs.«01_k».proof.Proof.Pure

/-! The window planes of the keys and of the values entry by entry. -/

@[expose] public section
set_option maxRecDepth 16384
noncomputable section
namespace Cert.KernelIdeal.Swa
open Cert.KernelIdeal Cert.KernelIdeal.Gen
open Idealize.ShloMosaic Idealize.ShloMosaic.TcCoe Idealize.SL.Sem

/-- The window of a tile: the halo's rows (zero on the first tile) above the tile's own. -/
def win (s : ℕ) (H : Vec Ideal S1x128x128 .bf16) (T : Vec Ideal S1x1024x128 .bf16) (w : Fin 1152) (l : Fin 128) : EReal :=
  if h : w.val < 128 then (if 0 < s then H (ix3 (0 : Fin 1) (⟨w.val, h⟩ : Fin 128) l) else 0) else T (ix3 (0 : Fin 1) (⟨w.val - 128, by omega⟩ : Fin 1024) l)
/-- Plane `p`: head `p / 2`'s 64 columns of the window, in lane half `p % 2`, zero in the other half. -/
def plane (p : Fin 4) (s : ℕ) (H : Vec Ideal S1x128x128 .bf16) (T : Vec Ideal S1x1024x128 .bf16) (w : Fin 1152) (l : Fin 128) : EReal :=
  if l.val / 64 = p.val % 2 then win s H T w ⟨64 * (p.val / 2) + l.val % 64, by omega⟩ else 0

variable (i : grid0.Coords) (H : Vec Ideal S1x128x128 .bf16) (T : Vec Ideal S1x1024x128 .bf16) (w : Fin 1152) (l : Fin 128)

/-- The factor of the halo's rows: one past the first tile, zero on it. -/
theorem live_at : k0_pay75 (F := Ideal) i = if 0 < (i 1).val then (1 : EReal) else 0 := by
  pointwise [k0_pay75]
  have key : ∀ n : ℕ, n < 4 → (Scalar.extui (Scalar.cmpi CmpIPredicate.sgt (BitVec.ofNat 32 n) 0#32) : BitVec 32).toInt = if 0 < n then 1 else 0 := by decide +kernel
  rw [key _ (i 1).isLt]
  split_ifs <;> simp

/-- The lower-half test. -/
theorem low_at : k0_pay74 (ix2 w l) = BitVec.ofBool (decide (l.val < 64)) := by
  have := l.isLt
  pointwise [k0_pay74]
  simp (disch := word_cmp_side) only [hlo_ix]

/-- A factor of one or zero, as a choice. -/
theorem mul_live (x : EReal) : x * k0_pay75 (F := Ideal) i = if 0 < (i 1).val then x else 0 := by
  rw [live_at]; split_ifs
  · exact mul_one x
  · exact mul_zero x

/-- The key window's payload at an entry. -/
theorem kwin_at : k0_pay76 (F := Ideal) i H T (ix2 w l) = win (i 1).val H T w l := by
  unfold win
  pointwise [k0_pay76]
  exact dite_congr rfl (fun h => mul_live i _) fun _ => rfl
/-- The value window's. -/
theorem vwin_at : k0_pay82 (F := Ideal) (k0_pay75 i) H T (ix2 w l) = win (i 1).val H T w l := by
  unfold win
  pointwise [k0_pay82]
  exact dite_congr rfl (fun h => mul_live i _) fun _ => rfl

/-- The key window half a vector round. -/
theorem kswp_at : k0_pay77 (F := Ideal) i H T (ix2 w l) = win (i 1).val H T w ⟨(l.val + 64) % 128, by omega⟩ := by
  pointwise [k0_pay77]
  refine (kwin_at i H T w _).trans (congrArg (win (i 1).val H T w) (Fin.ext ?_))
  show (l.val + 128 - 64) % 128 = (l.val + 64) % 128
  omega
/-- The value window half a vector round. -/
theorem vswp_at : k0_pay83 (F := Ideal) (k0_pay75 i) H T (ix2 w l) = win (i 1).val H T w ⟨(l.val + 64) % 128, by omega⟩ := by
  pointwise [k0_pay83]
  refine (vwin_at i H T w _).trans (congrArg (win (i 1).val H T w) (Fin.ext ?_))
  show (l.val + 128 - 64) % 128 = (l.val + 64) % 128
  omega

/-- A choice by the lower-half test. -/
theorem sel_low (a b : EReal) : Scalar.select (k0_pay74 (ix2 w l)) a b = if l.val < 64 then a else b := by
  rw [low_at]
  by_cases h : l.val < 64 <;> simp [h, Scalar.select]

/-- A choice between the window's columns and zero, as a plane's. -/
theorem plane_lo (p : Fin 4) (hp : p.val % 2 = 0) (s : ℕ) (x : EReal) (hx : l.val < 64 → x = win s H T w ⟨64 * (p.val / 2) + l.val % 64, by omega⟩) :
    (if l.val < 64 then x else 0) = plane p s H T w l := by
  unfold plane
  split_ifs with h1 h2 h2
  · exact hx h1
  · omega
  · omega
  · rfl
/-- The upper half's. -/
theorem plane_hi (p : Fin 4) (hp : p.val % 2 = 1) (s : ℕ) (x : EReal) (hx : 64 ≤ l.val → x = win s H T w ⟨64 * (p.val / 2) + l.val % 64, by omega⟩) :
    (if l.val < 64 then 0 else x) = plane p s H T w l := by
  unfold plane
  split_ifs with h1 h2 h2
  · omega
  · rfl
  · exact hx (by omega)
  · omega

/-- The key planes' payloads. -/
theorem k_plane0 : k0_pay78 (F := Ideal) i H T (ix3 (0 : Fin 1) w l) = plane 0 (i 1).val H T w l := by
  pointwise [k0_pay78]
  rw [sel_low, kwin_at]
  exact plane_lo H T w l 0 rfl _ _ fun h => congrArg (win _ H T w) (Fin.ext (by simp; omega))
/-- Plane 1. -/
theorem k_plane1 : k0_pay79 (F := Ideal) i H T (ix3 (0 : Fin 1) w l) = plane 1 (i 1).val H T w l := by
  pointwise [k0_pay79]
  rw [sel_low, kswp_at]
  exact plane_hi H T w l 1 rfl _ _ fun h => congrArg (win _ H T w) (Fin.ext (by simp; omega))
/-- Plane 2. -/
theorem k_plane2 : k0_pay80 (F := Ideal) i H T (ix3 (0 : Fin 1) w l) = plane 2 (i 1).val H T w l := by
  pointwise [k0_pay80]
  rw [sel_low, kswp_at]
  exact plane_lo H T w l 2 rfl _ _ fun h => congrArg (win _ H T w) (Fin.ext (by simp; omega))
/-- Plane 3. -/
theorem k_plane3 : k0_pay81 (F := Ideal) k0_pay74 (k0_pay76 i H T) (ix3 (0 : Fin 1) w l) = plane 3 (i 1).val H T w l := by
  pointwise [k0_pay81]
  rw [sel_low, kwin_at]
  exact plane_hi H T w l 3 rfl _ _ fun h => congrArg (win _ H T w) (Fin.ext (by simp; omega))
/-- The value planes' payloads. -/
theorem v_plane0 : k0_pay84 (F := Ideal) k0_pay74 (k0_pay75 i) H T (ix3 (0 : Fin 1) w l) = plane 0 (i 1).val H T w l := by
  pointwise [k0_pay84]
  rw [sel_low, vwin_at]
  exact plane_lo H T w l 0 rfl _ _ fun h => congrArg (win _ H T w) (Fin.ext (by simp; omega))
/-- Plane 1. -/
theorem v_plane1 : k0_pay85 (F := Ideal) k0_pay74 (k0_pay75 i) H T (ix3 (0 : Fin 1) w l) = plane 1 (i 1).val H T w l := by
  pointwise [k0_pay85]
  rw [sel_low, vswp_at]
  exact plane_hi H T w l 1 rfl _ _ fun h => congrArg (win _ H T w) (Fin.ext (by simp; omega))
/-- Plane 2. -/
theorem v_plane2 : k0_pay86 (F := Ideal) k0_pay74 (k0_pay75 i) H T (ix3 (0 : Fin 1) w l) = plane 2 (i 1).val H T w l := by
  pointwise [k0_pay86]
  rw [sel_low, vswp_at]
  exact plane_lo H T w l 2 rfl _ _ fun h => congrArg (win _ H T w) (Fin.ext (by simp; omega))
/-- Plane 3. -/
theorem v_plane3 : k0_pay1 (F := Ideal) k0_pay74 (k0_pay82 (k0_pay75 i) H T) (ix3 (0 : Fin 1) w l) = plane 3 (i 1).val H T w l := by
  pointwise [k0_pay1]
  rw [sel_low, vwin_at]
  exact plane_hi H T w l 3 rfl _ _ fun h => congrArg (win _ H T w) (Fin.ext (by simp; omega))

/-- A plane's store, where it holds an entry, has there that plane's value. -/
theorem tile_plane (n : Fin 4) (P : Vec Ideal S1x1152x128 .bf16) (f : Fin 4 → EReal) (hP : P (ix3 (0 : Fin 1) w l) = f n) (off : Fin 3 → ℕ) (ho : off = ![n.val, 0, 0]) (p : Fin 4) :
    View.TileAt (Val := Elt Ideal) (e := .bf16) (S := S4x1152x128) (ix3 p w l) off S1x1152x128.size P (f p) := by
  subst ho
  intro x hx
  have h0 : p.val = n.val + (x 0).val := hx 0
  have h0' : (x 0).val < 1 := (x 0).isLt
  have h1 : w.val = 0 + (x 1).val := hx 1
  have h2 : l.val = 0 + (x 2).val := hx 2
  have hp : p = n := Fin.ext (by omega)
  have hxe : x = ix3 (0 : Fin 1) w l := by
    funext a
    fin_cases a
    · exact Fin.ext (by show (x 0).val = 0; omega)
    · exact Fin.ext (by show (x 1).val = w.val; omega)
    · exact Fin.ext (by show (x 2).val = l.val; omega)
  rw [hxe, hP, hp]

/-- The key planes. -/
theorem KX_at (x1 : Vec Ideal S1x1024x256 .bf16) (x2 : Vec Ideal S1x128x256 .bf16) (p : Fin 4) :
    KX (F := Ideal) i x1 x2 (ix3 p w l) = plane p (i 1).val (haloK x2) (tileK x1) w l :=
  View.canon_eq_of_allAt _ _ _ (kx_cover i x1 x2 _)
    (View.allAt_cons_unit _ _ _ _ _ (tile_plane w l 3 _ (fun p => plane p (i 1).val (haloK x2) (tileK x1) w l) (k_plane3 ..) _ rfl p)
    (View.allAt_cons_unit _ _ _ _ _ (tile_plane w l 2 _ (fun p => plane p (i 1).val (haloK x2) (tileK x1) w l) (k_plane2 ..) _ rfl p)
    (View.allAt_cons_unit _ _ _ _ _ (tile_plane w l 1 _ (fun p => plane p (i 1).val (haloK x2) (tileK x1) w l) (k_plane1 ..) _ rfl p)
    (View.allAt_cons_unit _ _ _ _ _ (tile_plane w l 0 _ (fun p => plane p (i 1).val (haloK x2) (tileK x1) w l) (k_plane0 ..) _ rfl p) (View.allAt_nil _ _)))))
/-- The value planes. -/
theorem VX_at (x1 : Vec Ideal S1x1024x256 .bf16) (x2 : Vec Ideal S1x128x256 .bf16) (p : Fin 4) :
    VX (F := Ideal) i x1 x2 (ix3 p w l) = plane p (i 1).val (haloV x2) (tileV x1) w l :=
  View.canon_eq_of_allAt _ _ _ (vx_cover i x1 x2 _)
    (View.allAt_cons_unit _ _ _ _ _ (tile_plane w l 3 _ (fun p => plane p (i 1).val (haloV x2) (tileV x1) w l) (v_plane3 ..) _ rfl p)
    (View.allAt_cons_unit _ _ _ _ _ (tile_plane w l 2 _ (fun p => plane p (i 1).val (haloV x2) (tileV x1) w l) (v_plane2 ..) _ rfl p)
    (View.allAt_cons_unit _ _ _ _ _ (tile_plane w l 1 _ (fun p => plane p (i 1).val (haloV x2) (tileV x1) w l) (v_plane1 ..) _ rfl p)
    (View.allAt_cons_unit _ _ _ _ _ (tile_plane w l 0 _ (fun p => plane p (i 1).val (haloV x2) (tileV x1) w l) (v_plane0 ..) _ rfl p) (View.allAt_nil _ _)))))

/-- The row blocks, where one holds an entry, have there their trip's value. -/
theorem blkPieces_at (M : Fin k0_t1_loop.trips → IVec S128x256 1) (Q : Vec Ideal S1x1024x1024 .bf16) (sk : Vec Ideal S16 .f32) (KX VX : Vec Ideal S4x1152x128 .bf16)
    (R : Vec Ideal S1x1024x1024 .f32) (W : Vec Ideal S1024x1024 .bf16) (k : Fin k0_t1_loop.trips) (r : Fin 128) (c : Fin 1024) (n : ℕ) :
    View.AllAt (Val := Elt Ideal) (blkPieces (F := Ideal) M Q sk KX VX R W n) (ix3 (0 : Fin 1) (qrow k r) c) (tripOut (M k) Q sk KX VX R W k (ix3 (0 : Fin 1) r c)) := by
  induction n with
  | zero => exact View.allAt_nil _ _
  | succ n ih =>
    rw [blkPieces]
    split_ifs with h
    · refine View.allAt_cons_unit _ _ _ _ _ ?_ ih
      intro x hx
      have h0 : (x 0).val < 1 := (x 0).isLt
      have hr := r.isLt
      have h1' : (x 1).val < 128 := (x 1).isLt
      have h1 : 128 * k.val + r.val = 128 * n + (x 1).val := by
        have := hx 1; rw [k0_off13_eq] at this; exact this
      have h2 : c.val = 0 + (x 2).val := by
        have := hx 2; rw [k0_off13_eq] at this; exact this
      have hk : (⟨n, h⟩ : Fin k0_t1_loop.trips) = k := Fin.ext (by show n = k.val; omega)
      have hxe : x = ix3 (0 : Fin 1) r c := by
        funext a
        fin_cases a
        · exact Fin.ext (by show (x 0).val = 0; omega)
        · exact Fin.ext (by show (x 1).val = r.val; omega)
        · exact Fin.ext (by show (x 2).val = c.val; omega)
      rw [hxe, hk]
    · exact ih
end Cert.KernelIdeal.Swa
end
-- ==== Proof.Block.lean ====
module

public import proofs.«01_k».proof.Proof.Planes

/-! One grid point's block as attention over the arrays its windows read. -/

@[expose] public section
set_option maxRecDepth 16384
noncomputable section
namespace Cert.KernelIdeal.Swa
open Cert.KernelIdeal Cert.KernelIdeal.Gen
open Idealize.ShloMosaic Idealize.ShloMosaic.TcCoe Idealize.SL.Sem

/-- The scale of the scores, an eighth. -/
def scale : EReal := Ideal.ofBits .f32 1040187392#32

/-- Query position `r` of block `n`. -/
def qpos (n : Fin 32) (r : Fin 128) : Fin 4096 := ⟨128 * n.val + r.val, by omega⟩

/-- Entry `c` of block `n`'s window: the block before and the block itself, zero before the sequence. -/
def wkey (K : Vec Ideal S8x4096x2x64 .f32) (b : Fin 8) (n : Fin 32) (c : Fin 256) (g : Fin 2) (d : Fin 64) : EReal :=
  if h : 128 ≤ 128 * n.val + c.val then K (ix4 b (⟨128 * n.val + c.val - 128, by omega⟩ : Fin 4096) g d) else 0

/-- Whether query `r` of block `n` attends window entry `c`. -/
def seen (n : Fin 32) (r : Fin 128) (c : Fin 256) : Prop := r.val < c.val ∧ c.val ≤ r.val + 128 ∧ (128 ≤ c.val ∨ 0 < n.val)
/-- It is decidable. -/
instance (n : Fin 32) (r : Fin 128) (c : Fin 256) : Decidable (seen n r c) := by unfold seen; infer_instance

/-- The masked score, each query scaled. -/
def kscore (q : Vec Ideal S8x4096x16x64 .f32) (K : Vec Ideal S8x4096x2x64 .f32) (b : Fin 8) (n : Fin 32) (r : Fin 128) (h : Fin 16) (c : Fin 256) : EReal :=
  if seen n r c then ∑ d : Fin 64, q (ix4 b (qpos n r) h d) * scale * wkey K b n c ⟨h.val / 8, by omega⟩ d else Ideal.ofBits .f32 4048155338#32
/-- The attended values of head `h`. -/
def khead (q : Vec Ideal S8x4096x16x64 .f32) (K Vv : Vec Ideal S8x4096x2x64 .f32) (z : Vec Ideal S16 .f32) (b : Fin 8) (n : Fin 32) (r : Fin 128) (h : Fin 16) (d : Fin 64) : EReal :=
  ∑ c : Fin 256, prob (kscore q K b n r h) (z (ix1 h)) c * wkey Vv b n c ⟨h.val / 8, by omega⟩ d
/-- The block's output: the residual and the heads' projection. -/
def kout (x : Vec Ideal S8x4096x1024 .f32) (q : Vec Ideal S8x4096x16x64 .f32) (K Vv : Vec Ideal S8x4096x2x64 .f32) (z : Vec Ideal S16 .f32) (W : Vec Ideal S1024x1024 .f32)
    (b : Fin 8) (n : Fin 32) (r : Fin 128) (c : Fin 1024) : EReal :=
  x (ix3 b (qpos n r) c) + ∑ e : Fin 1024, khead q K Vv z b n r ⟨e.val / 64, by omega⟩ ⟨e.val % 64, by omega⟩ * W (ix2 e c)

/-- A dot product of 128 lanes one half of which is zero is one of 64. -/
theorem lanes (f g : Fin 128 → EReal) (u : Fin 64 → EReal) (p : ℕ) (hp : p < 2) (hg : ∀ x : Fin 128, g x = if x.val / 64 = p then u ⟨x.val % 64, by omega⟩ else 0) :
    ∑ x, f x * g x = ∑ d : Fin 64, f ⟨64 * p + d.val, by omega⟩ * u d := by
  rw [Fin.sum_univ_two_halves 64 64 rfl (fun x => f x * g x)]
  have low : ∀ d : Fin 64, g ⟨d.val, by omega⟩ = if p = 0 then u d else 0 := fun d => by
    rw [hg]; have h1 : d.val / 64 = 0 := by omega
    have h2 : d.val % 64 = d.val := by omega
    simp only [h1, h2, eq_comm]
  have high : ∀ d : Fin 64, g ⟨64 + d.val, by omega⟩ = if p = 1 then u d else 0 := fun d => by
    rw [hg]; have h1 : (64 + d.val) / 64 = 1 := by omega
    have h2 : (64 + d.val) % 64 = d.val := by omega
    simp only [h1, h2, eq_comm]
  simp only [low, high]
  interval_cases p
  · simp
  · simp

section
variable (q : Vec Ideal S8x4096x16x64 .f32) (K Vv : Vec Ideal S8x4096x2x64 .f32) (z : Vec Ideal S16 .f32) (x : Vec Ideal S8x4096x1024 .f32) (W : Vec Ideal S1024x1024 .f32)
  (b : Fin 8) (i : grid0.Coords)
  (x0 : Vec Ideal S1x1024x1024 .bf16) (x1 : Vec Ideal S1x1024x256 .bf16) (x2 : Vec Ideal S1x128x256 .bf16) (x4 : Vec Ideal S1x1024x1024 .f32) (x5 : Vec Ideal S1024x1024 .bf16)

/-- The block of the sequence that trip `k` of tile `i 1` works on. -/
def blkOf (i : grid0.Coords) (k : Fin k0_t1_loop.trips) : Fin 32 := ⟨8 * (i 1).val + k.val, by have := trip_lt k; have : (i 1).val < 4 := (i 1).isLt; omega⟩

/-- The halves of the staged blocks, entry by entry. -/
theorem haloK_at (r l : Fin 128) : haloK x2 (ix3 (0 : Fin 1) r l) = x2 (ix3 (0 : Fin 1) r (⟨l.val, by omega⟩ : Fin 256)) := by
  unfold haloK; rw [View.ld_unit]
  refine congrArg x2 (funext fun a => Fin.ext ?_)
  fin_cases a
  · rfl
  · exact Nat.zero_add r.val
  · exact Nat.zero_add l.val
/-- The halo's values. -/
theorem haloV_at (r l : Fin 128) : haloV x2 (ix3 (0 : Fin 1) r l) = x2 (ix3 (0 : Fin 1) r (⟨128 + l.val, by omega⟩ : Fin 256)) := by
  unfold haloV; rw [View.ld_unit]
  refine congrArg x2 (funext fun a => Fin.ext ?_)
  fin_cases a
  · rfl
  · exact Nat.zero_add r.val
  · rfl
/-- The tile's keys. -/
theorem tileK_at (r : Fin 1024) (l : Fin 128) : tileK x1 (ix3 (0 : Fin 1) r l) = x1 (ix3 (0 : Fin 1) r (⟨l.val, by omega⟩ : Fin 256)) := by
  unfold tileK; rw [View.ld_unit]
  refine congrArg x1 (funext fun a => Fin.ext ?_)
  fin_cases a
  · rfl
  · exact Nat.zero_add r.val
  · exact Nat.zero_add l.val
/-- The tile's values. -/
theorem tileV_at (r : Fin 1024) (l : Fin 128) : tileV x1 (ix3 (0 : Fin 1) r l) = x1 (ix3 (0 : Fin 1) r (⟨128 + l.val, by omega⟩ : Fin 256)) := by
  unfold tileV; rw [View.ld_unit]
  refine congrArg x1 (funext fun a => Fin.ext ?_)
  fin_cases a
  · rfl
  · exact Nat.zero_add r.val
  · rfl

/-- The tile's rows and the halo's rows as the array's make the window of the array. -/
theorem win_at (A : Vec Ideal S8x4096x2x64 .f32) (H : Vec Ideal S1x128x128 .bf16) (T : Vec Ideal S1x1024x128 .bf16)
    (hT : ∀ (r : Fin 1024) (l : Fin 128), T (ix3 (0 : Fin 1) r l)
      = A (ix4 b (⟨1024 * (i 1).val + r.val, by have : (i 1).val < 4 := (i 1).isLt; omega⟩ : Fin 4096) (⟨l.val / 64, by omega⟩ : Fin 2) (⟨l.val % 64, by omega⟩ : Fin 64)))
    (hH : 0 < (i 1).val → ∀ (r l : Fin 128), H (ix3 (0 : Fin 1) r l)
      = A (ix4 b (⟨1024 * (i 1).val + r.val - 128, by have : (i 1).val < 4 := (i 1).isLt; omega⟩ : Fin 4096) (⟨l.val / 64, by omega⟩ : Fin 2) (⟨l.val % 64, by omega⟩ : Fin 64)))
    (k : Fin k0_t1_loop.trips) (c : Fin 256) (g : Fin 2) (d : Fin 64) (l : Fin 128) (hl : l.val = 64 * g.val + d.val) :
    win (i 1).val H T (wrow k c) l = wkey A b (blkOf i k) c g d := by
  have hk := trip_lt k
  have hg : (⟨l.val / 64, by omega⟩ : Fin 2) = g := Fin.ext (by show l.val / 64 = g.val; omega)
  have hd : (⟨l.val % 64, by omega⟩ : Fin 64) = d := Fin.ext (by show l.val % 64 = d.val; omega)
  unfold win wkey
  by_cases h1 : (wrow k c).val < 128
  · have h1' : 128 * k.val + c.val < 128 := h1
    rw [dif_pos h1]
    by_cases h2 : 0 < (i 1).val
    · rw [if_pos h2, hH h2, dif_pos (by show 128 ≤ 128 * (8 * (i 1).val + k.val) + c.val; omega), hg, hd]
      refine congrArg (fun p => A (ix4 b p g d)) (Fin.ext ?_)
      show 1024 * (i 1).val + (128 * k.val + c.val) - 128 = 128 * (8 * (i 1).val + k.val) + c.val - 128
      omega
    · rw [if_neg h2, dif_neg (by show ¬ 128 ≤ 128 * (8 * (i 1).val + k.val) + c.val; omega)]
  · have h1' : ¬ 128 * k.val + c.val < 128 := h1
    rw [dif_neg h1, hT, dif_pos (by show 128 ≤ 128 * (8 * (i 1).val + k.val) + c.val; omega), hg, hd]
    refine congrArg (fun p => A (ix4 b p g d)) (Fin.ext ?_)
    show 1024 * (i 1).val + (128 * k.val + c.val - 128) = 128 * (8 * (i 1).val + k.val) + c.val - 128
    omega

/-- What the windows hold, over the arrays. -/
structure Reads : Prop where
  /-- The queries' columns, scaled. -/
  hq : ∀ (r e : Fin 1024), x0 (ix3 (0 : Fin 1) r e)
    = q (ix4 b (⟨1024 * (i 1).val + r.val, by have : (i 1).val < 4 := (i 1).isLt; omega⟩ : Fin 4096) (⟨e.val / 64, by omega⟩ : Fin 16) (⟨e.val % 64, by omega⟩ : Fin 64)) * scale
  /-- The tile's keys. -/
  hk : ∀ (r : Fin 1024) (l : Fin 128), x1 (ix3 (0 : Fin 1) r (⟨l.val, by omega⟩ : Fin 256))
    = K (ix4 b (⟨1024 * (i 1).val + r.val, by have : (i 1).val < 4 := (i 1).isLt; omega⟩ : Fin 4096) (⟨l.val / 64, by omega⟩ : Fin 2) (⟨l.val % 64, by omega⟩ : Fin 64))
  /-- The tile's values. -/
  hv : ∀ (r : Fin 1024) (l : Fin 128), x1 (ix3 (0 : Fin 1) r (⟨128 + l.val, by omega⟩ : Fin 256))
    = Vv (ix4 b (⟨1024 * (i 1).val + r.val, by have : (i 1).val < 4 := (i 1).isLt; omega⟩ : Fin 4096) (⟨l.val / 64, by omega⟩ : Fin 2) (⟨l.val % 64, by omega⟩ : Fin 64))
  /-- The halo's keys, past the first tile. -/
  hhk : 0 < (i 1).val → ∀ (r l : Fin 128), x2 (ix3 (0 : Fin 1) r (⟨l.val, by omega⟩ : Fin 256))
    = K (ix4 b (⟨1024 * (i 1).val + r.val - 128, by have : (i 1).val < 4 := (i 1).isLt; omega⟩ : Fin 4096) (⟨l.val / 64, by omega⟩ : Fin 2) (⟨l.val % 64, by omega⟩ : Fin 64))
  /-- The halo's values, past the first tile. -/
  hhv : 0 < (i 1).val → ∀ (r l : Fin 128), x2 (ix3 (0 : Fin 1) r (⟨128 + l.val, by omega⟩ : Fin 256))
    = Vv (ix4 b (⟨1024 * (i 1).val + r.val - 128, by have : (i 1).val < 4 := (i 1).isLt; omega⟩ : Fin 4096) (⟨l.val / 64, by omega⟩ : Fin 2) (⟨l.val % 64, by omega⟩ : Fin 64))
  /-- The residual's rows. -/
  hx : ∀ (r e : Fin 1024), x4 (ix3 (0 : Fin 1) r e) = x (ix3 b (⟨1024 * (i 1).val + r.val, by have : (i 1).val < 4 := (i 1).isLt; omega⟩ : Fin 4096) e)
  /-- The projection. -/
  hw : ∀ (e c : Fin 1024), x5 (ix2 e c) = W (ix2 e c)

variable {q K Vv x W b i x0 x1 x2 x4 x5}
variable (R : Reads q K Vv x W b i x0 x1 x2 x4 x5)
include R

/-- The key planes hold the windows of the keys. -/
theorem KX_key (k : Fin k0_t1_loop.trips) (c : Fin 256) (p : Fin 4) (l : Fin 128) :
    KX (F := Ideal) i x1 x2 (ix3 p (wrow k c) l)
      = if l.val / 64 = p.val % 2 then wkey K b (blkOf i k) c ⟨p.val / 2, by omega⟩ ⟨l.val % 64, by omega⟩ else 0 := by
  rw [KX_at]; unfold plane
  split_ifs
  · exact win_at b i K _ _ (fun r l => (tileK_at x1 r l).trans (R.hk r l)) (fun h r l => (haloK_at x2 r l).trans (R.hhk h r l)) k c _ _ _ rfl
  · rfl
/-- The value planes hold the windows of the values. -/
theorem VX_key (k : Fin k0_t1_loop.trips) (c : Fin 256) (p : Fin 4) (l : Fin 128) :
    VX (F := Ideal) i x1 x2 (ix3 p (wrow k c) l)
      = if l.val / 64 = p.val % 2 then wkey Vv b (blkOf i k) c ⟨p.val / 2, by omega⟩ ⟨l.val % 64, by omega⟩ else 0 := by
  rw [VX_at]; unfold plane
  split_ifs
  · exact win_at b i Vv _ _ (fun r l => (tileV_at x1 r l).trans (R.hv r l)) (fun h r l => (haloV_at x2 r l).trans (R.hhv h r l)) k c _ _ _ rfl
  · rfl

/-- A trip's masked scores are the block's. -/
theorem score_at (k : Fin k0_t1_loop.trips) (cc : Fin 8) (par : Fin 2) (p : Fin 4) (hp : p.val = 2 * (cc.val / 4) + par.val) (r : Fin 128) :
    scoreK (mask (BitVec.ofNat 32 (i 1).val) (iota .tc S128x256 32 [1] iota_S128x256_d1_w32) k) x0 (KX (F := Ideal) i x1 x2) k cc p r
      = kscore q K b (blkOf i k) r ⟨2 * cc.val + par.val, by omega⟩ := by
  funext c
  unfold scoreK kscore
  rw [mask_at _ (i 1).isLt]
  have hk := trip_lt k
  have hs : (r.val < c.val ∧ c.val ≤ r.val + 128 ∧ (128 ≤ c.val ∨ 0 < (i 1).val ∨ 0 < k.val)) ↔ seen (blkOf i k) r c := by
    unfold seen
    show _ ↔ (r.val < c.val ∧ c.val ≤ r.val + 128 ∧ (128 ≤ c.val ∨ 0 < 8 * (i 1).val + k.val))
    omega
  rw [decide_eq_decide.mpr hs]
  by_cases h : seen (blkOf i k) r c
  · rw [if_pos h, decide_eq_true h]
    refine (lanes (fun x => x0 (ix3 (0 : Fin 1) (qrow k r) (⟨128 * cc.val + x.val, by omega⟩ : Fin 1024))) (fun x => KX (F := Ideal) i x1 x2 (ix3 p (wrow k c) x)) _ (p.val % 2) (by omega) (KX_key R k c p)).trans ?_
    refine Finset.sum_congr rfl fun d _ => ?_
    rw [R.hq]
    have e1 : (⟨p.val / 2, by omega⟩ : Fin 2) = ⟨(2 * cc.val + par.val) / 8, by omega⟩ := Fin.ext (by show p.val / 2 = (2 * cc.val + par.val) / 8; omega)
    rw [e1]
    refine congrArg (fun y => q y * scale * _) (funext fun a => Fin.ext ?_)
    fin_cases a
    · rfl
    · show 1024 * (i 1).val + (128 * k.val + r.val) = 128 * (8 * (i 1).val + k.val) + r.val
      omega
    · show (128 * cc.val + (64 * (p.val % 2) + d.val)) / 64 = 2 * cc.val + par.val
      omega
    · show (128 * cc.val + (64 * (p.val % 2) + d.val)) % 64 = d.val
      omega
  · rw [if_neg h, decide_eq_false h]
    rfl

/-- A head's window, zero outside its lane half. -/
theorem head_key (k : Fin k0_t1_loop.trips) (cc : Fin 8) (par : Fin 2) (p : Fin 4) (hp : p.val = 2 * (cc.val / 4) + par.val) (h : Fin 16) (hh : h.val = 2 * cc.val + par.val) (r l : Fin 128) :
    headK (mask (BitVec.ofNat 32 (i 1).val) (iota .tc S128x256 32 [1] iota_S128x256_d1_w32) k) x0 z (KX (F := Ideal) i x1 x2) (VX (F := Ideal) i x1 x2) k cc h p r l
      = if l.val / 64 = par.val then khead q K Vv z b (blkOf i k) r h ⟨l.val % 64, by omega⟩ else 0 := by
  unfold headK
  rw [score_at R k cc par p hp r]
  have eh : (⟨2 * cc.val + par.val, by omega⟩ : Fin 16) = h := Fin.ext hh.symm
  have e1 : (⟨p.val / 2, by omega⟩ : Fin 2) = ⟨h.val / 8, by omega⟩ := Fin.ext (by show p.val / 2 = h.val / 8; omega)
  have e2 : p.val % 2 = par.val := by omega
  simp only [VX_key R k, eh, e1, e2]
  split_ifs
  · rfl
  · simp

/-- A pair of heads at a lane is the lane's head. -/
theorem att_key (k : Fin k0_t1_loop.trips) (e : Fin 1024) (r : Fin 128) :
    attK (mask (BitVec.ofNat 32 (i 1).val) (iota .tc S128x256 32 [1] iota_S128x256_d1_w32) k) x0 z (KX (F := Ideal) i x1 x2) (VX (F := Ideal) i x1 x2) k
        ⟨e.val / 128, by omega⟩ r ⟨e.val % 128, by omega⟩
      = khead q K Vv z b (blkOf i k) r ⟨e.val / 64, by omega⟩ ⟨e.val % 64, by omega⟩ := by
  unfold attK
  rw [head_key z R k ⟨e.val / 128, by omega⟩ 0 _ rfl _ rfl, head_key z R k ⟨e.val / 128, by omega⟩ 1 _ rfl _ rfl]
  have ed : (⟨e.val % 128 % 64, by omega⟩ : Fin 64) = ⟨e.val % 64, by omega⟩ := Fin.ext (by show e.val % 128 % 64 = e.val % 64; omega)
  by_cases h : e.val % 128 / 64 = 0
  · rw [if_pos (by exact h), if_neg (by show ¬ e.val % 128 / 64 = 1; omega), add_zero]
    exact congrArg₂ (khead q K Vv z b (blkOf i k) r) (Fin.ext (by show 2 * (e.val / 128) = e.val / 64; omega)) ed
  · rw [if_neg (by exact h), if_pos (by show e.val % 128 / 64 = 1; omega), zero_add]
    exact congrArg₂ (khead q K Vv z b (blkOf i k) r) (Fin.ext (by show 2 * (e.val / 128) + 1 = e.val / 64; omega)) ed

/-- A trip's rows are the block's output. -/
theorem trip_kout (k : Fin k0_t1_loop.trips) (r : Fin 128) (c : Fin 1024) :
    tripOut (mask (BitVec.ofNat 32 (i 1).val) (iota .tc S128x256 32 [1] iota_S128x256_d1_w32) k) x0 z (KX (F := Ideal) i x1 x2) (VX (F := Ideal) i x1 x2) x4 x5 k (ix3 (0 : Fin 1) r c)
      = kout x q K Vv z W b (blkOf i k) r c := by
  rw [tripOut_at]; unfold kout
  rw [R.hx]
  refine congrArg₂ (· + ·) (congrArg x (funext fun a => Fin.ext ?_)) (Finset.sum_congr rfl fun e _ => ?_)
  · fin_cases a
    · rfl
    · show 1024 * (i 1).val + (128 * k.val + r.val) = 128 * (8 * (i 1).val + k.val) + r.val
      omega
    · rfl
  · rw [att_key z R, R.hw]
end
end Cert.KernelIdeal.Swa
end
-- ==== Proof.RefAt.lean ====
module

public import proofs.«01_k».proof.Proof.Gen.ReferenceIdeal.Run
public import proofs.«01_k».proof.Proof.Block
public import Idealize.ShloMosaic.Lib.WordCmp

/-! The reference's result entry by entry, at the exact numbers. -/

@[expose] public section
set_option maxRecDepth 16384
noncomputable section
namespace Cert.ReferenceIdeal.Swa
open Cert.ReferenceIdeal Cert.ReferenceIdeal.Gen
open Idealize.ShloMosaic Idealize.ShloMosaic.TcCoe Idealize.SL.Sem
open Cert.KernelIdeal.Swa (wkey seen qpos scale top den prob)

/-- Blocks of keys, a block of zeros first. -/
def rblk (K : Vec Ideal S8x4096x2x64 .f32) : Vec Ideal S8x33x128x2x64 .f32 :=
  shapeCast _ (pad S8x4224x2x64 ![0, 128, 0, 0] ![0, 0, 0, 0] ![0, 0, 0, 0] K (sitofp (F := Ideal) .f32 (constantI S_ 32 0#32)) pads_S8x4096x2x64_S8x4224x2x64_000_12800_000_000 h_S_) shapeCasts_S8x4224x2x64_S8x33x128x2x64
/-- Each block's window of keys. -/
def rwin (K : Vec Ideal S8x4096x2x64 .f32) : Vec Ideal S8x32x256x2x64 .f32 :=
  concatenate S8x32x256x2x64 2 [⟨S8x32x128x2x64, (extractStridedSlice S8x32x128x2x64 ![0, 0, 0, 0, 0] (rblk K) slices_S8x33x128x2x64_S8x32x128x2x64_0_0_0_0_0)⟩, ⟨S8x32x128x2x64, (extractStridedSlice S8x32x128x2x64 ![0, 1, 0, 0, 0] (rblk K) slices_S8x33x128x2x64_S8x32x128x2x64_0_1_0_0_0)⟩] concatenates_S8x32x128x2x64_S8x32x128x2x64_S8x32x256x2x64_d2
/-- How far a query lies after a window entry. -/
def rdist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))
/-- The band of the window. -/
def rband : IVec S128x256 1 :=
  andi (cmpi .sge rdist (broadcastInDim S128x256 ![] bcast_S_S128x256 (constantI S_ 32 0#32))) (cmpi .slt rdist (broadcastInDim S128x256 ![] bcast_S_S128x256 (constantI S_ 32 128#32)))
/-- Whether a window entry lies in the sequence. -/
def rvalid : IVec S32x1x256 1 :=
  cmpi .sge (addi (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0)))) (broadcastInDim S32x1x256 ![0, 1, 2] bcast_S32x1x1_S32x1x256_0_1_2 (muli (subi (broadcastInDim S32x1x1 ![0] bcast_S32_S32x1x1_0 (iotaInDim S32 32 0)) (broadcastInDim S32x1x1 ![] bcast_S_S32x1x1 (constantI S_ 32 1#32))) (broadcastInDim S32x1x1 ![] bcast_S_S32x1x1 (constantI S_ 32 128#32))))) (broadcastInDim S32x1x256 ![] bcast_S_S32x1x256 (constantI S_ 32 0#32))
/-- The mask of attended entries. -/
def rmask : IVec S32x128x256 1 :=
  andi (broadcastInDim S32x128x256 ![0, 1, 2] bcast_S1x128x256_S32x128x256_0_1_2 (broadcastInDim S1x128x256 ![1, 2] bcast_S128x256_S1x128x256_1_2 rband)) (broadcastInDim S32x128x256 ![0, 1, 2] bcast_S32x1x256_S32x128x256_0_1_2 rvalid)
/-- The dot products of keys and queries. -/
def rdot (q : Vec Ideal S8x4096x16x64 .f32) (K : Vec Ideal S8x4096x2x64 .f32) : Vec Ideal S8x32x2x256x128x8 .f32 :=
  Host.dotGeneral (F := Ideal) (φ₁ := .f32) (φ₂ := .f32) dot_S8x32x256x2x64_S8x32x128x2x8x64_S8x32x2x256x128x8_4_5_2_24_013_013 none (rwin K) (shapeCast _ q shapeCasts_S8x4096x16x64_S8x32x128x2x8x64)
/-- The masked scores. -/
def rscore (q : Vec Ideal S8x4096x16x64 .f32) (K : Vec Ideal S8x4096x2x64 .f32) : Vec Ideal S8x32x2x8x128x256 .f32 :=
  select (broadcastInDim S8x32x2x8x128x256 ![0, 1, 2, 3, 4, 5] bcast_S1x32x1x1x128x256_S8x32x2x8x128x256_0_1_2_3_4_5 (broadcastInDim S1x32x1x1x128x256 ![1, 4, 5] bcast_S32x128x256_S1x32x1x1x128x256_1_4_5 rmask)) (mulf (F := Ideal) (φ := .f32) (transpose S8x32x2x8x128x256 [0, 1, 2, 5, 4, 3] (rdot q K) transposes_S8x32x2x256x128x8_S8x32x2x8x128x256_0_1_2_5_4_3) (broadcastInDim S8x32x2x8x128x256 ![] bcast_S_S8x32x2x8x128x256 (constant (F := Ideal) S_ .f32 0x3E000000#32))) (broadcastInDim S8x32x2x8x128x256 ![] bcast_S_S8x32x2x8x128x256 (id (constant (F := Ideal) S_ .f32 0xF149F2CA#32)))
/-- The sinks, one for each row. -/
def rsink (z : Vec Ideal S16 .f32) : Vec Ideal S8x32x2x8x128x1 .f32 :=
  broadcastInDim S8x32x2x8x128x1 ![0, 1, 2, 3, 4, 5] bcast_S1x1x2x8x1x1_S8x32x2x8x128x1_0_1_2_3_4_5 (broadcastInDim S1x1x2x8x1x1 ![2, 3] bcast_S2x8_S1x1x2x8x1x1_2_3 (shapeCast _ z shapeCasts_S16_S2x8))
/-- Each row's largest score. -/
def rmax (S : Vec Ideal S8x32x2x8x128x256 .f32) : Vec Ideal S8x32x2x8x128 .f32 :=
  Host.reduce (FloatOps.maximumf (F := Ideal) (φ := .f32)) S (constant (F := Ideal) S_ .f32 0xFF800000#32) reducesTo_S8x32x2x8x128x256_S8x32x2x8x128_d5 h_S_
/-- Each row's total. -/
def rsum (E : Vec Ideal S8x32x2x8x128x256 .f32) : Vec Ideal S8x32x2x8x128 .f32 :=
  Host.reduceAdd (F := Ideal) (φ := .f32) E (constant (F := Ideal) S_ .f32 0x00000000#32) reducesTo_S8x32x2x8x128x256_S8x32x2x8x128_d5 h_S_
/-- Each row's largest score or sink. -/
def rtop (S : Vec Ideal S8x32x2x8x128x256 .f32) (z : Vec Ideal S16 .f32) : Vec Ideal S8x32x2x8x128x1 .f32 :=
  maximumf (F := Ideal) (φ := .f32) (broadcastInDim S8x32x2x8x128x1 ![0, 1, 2, 3, 4] bcast_S8x32x2x8x128_S8x32x2x8x128x1_0_1_2_3_4 (rmax S)) (broadcastInDim S8x32x2x8x128x1 ![0, 1, 2, 3, 4, 5] bcast_S1x1x2x8x1x1_S8x32x2x8x128x1_0_1_2_3_4_5 (broadcastInDim S1x1x2x8x1x1 ![2, 3] bcast_S2x8_S1x1x2x8x1x1_2_3 (shapeCast _ z shapeCasts_S16_S2x8)))
/-- The exponentials of the scores. -/
def rexp (S : Vec Ideal S8x32x2x8x128x256 .f32) (z : Vec Ideal S16 .f32) : Vec Ideal S8x32x2x8x128x256 .f32 :=
  Host.exp (F := Ideal) (φ := .f32) (subf (F := Ideal) (φ := .f32) S (broadcastInDim S8x32x2x8x128x256 ![0, 1, 2, 3, 4, 5] bcast_S8x32x2x8x128x1_S8x32x2x8x128x256_0_1_2_3_4_5 (rtop S z)))
/-- Each row's sum. -/
def rden (S : Vec Ideal S8x32x2x8x128x256 .f32) (z : Vec Ideal S16 .f32) : Vec Ideal S8x32x2x8x128x1 .f32 :=
  addf (F := Ideal) (φ := .f32) (broadcastInDim S8x32x2x8x128x1 ![0, 1, 2, 3, 4] bcast_S8x32x2x8x128_S8x32x2x8x128x1_0_1_2_3_4 (rsum (rexp S z))) (Host.exp (F := Ideal) (φ := .f32) (subf (F := Ideal) (φ := .f32) (rsink z) (rtop S z)))
/-- The softmax. -/
def rprob (S : Vec Ideal S8x32x2x8x128x256 .f32) (z : Vec Ideal S16 .f32) : Vec Ideal S8x32x2x8x128x256 .f32 :=
  Host.divf (F := Ideal) (φ := .f32) (rexp S z) (broadcastInDim S8x32x2x8x128x256 ![0, 1, 2, 3, 4, 5] bcast_S8x32x2x8x128x1_S8x32x2x8x128x256_0_1_2_3_4_5 (rden S z))
/-- The attended values, heads last but one. -/
def rheads (Vv : Vec Ideal S8x4096x2x64 .f32) (P : Vec Ideal S8x32x2x8x128x256 .f32) : Vec Ideal S8x32x2x64x8x128 .f32 :=
  Host.dotGeneral (F := Ideal) (φ₁ := .f32) (φ₂ := .f32) dot_S8x32x256x2x64_S8x32x2x8x128x256_S8x32x2x64x8x128_2_5_4_34_013_012 none (rwin Vv) P
/-- The attended values as rows. -/
def rrows (H : Vec Ideal S8x32x2x64x8x128 .f32) : Vec Ideal S8x4096x1024 .f32 :=
  shapeCast _ (transpose S8x32x128x2x8x64 [0, 1, 5, 2, 4, 3] H transposes_S8x32x2x64x8x128_S8x32x128x2x8x64_0_1_5_2_4_3) shapeCasts_S8x32x128x2x8x64_S8x4096x1024
/-- The reference's result. -/
def rout (x : Vec Ideal S8x4096x1024 .f32) (q : Vec Ideal S8x4096x16x64 .f32) (K Vv : Vec Ideal S8x4096x2x64 .f32) (z : Vec Ideal S16 .f32) (W : Vec Ideal S1024x1024 .f32) : Vec Ideal S8x4096x1024 .f32 :=
  addf (F := Ideal) (φ := .f32) x (Host.dotGeneral (F := Ideal) (φ₁ := .f32) (φ₂ := .f32) dot_S8x4096x1024_S1024x1024_S8x4096x1024_2_0_01_1_n_n none (rrows (rheads Vv (rprob (rscore q K) z))) W)

/-- The program's result is this composition. -/
theorem result_eq (m : (ℓ : Loc nD τ sig) → Buf (Elt Ideal) ℓ) (c : Dev nD) :
    Value.res_main_v68 m c = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v68 rout rrows rheads rprob rden rsum rexp rtop rmax rsink rscore rdot rmask rvalid rband rdist rwin rblk
  rfl

/-- The blocks at an entry. -/
theorem rblk_at (K : Vec Ideal S8x4096x2x64 .f32) (b : Fin 8) (n : Fin 33) (r : Fin 128) (g : Fin 2) (d : Fin 64) :
    rblk K (ix5 b n r g d) = if h : 128 ≤ 128 * n.val + r.val then K (ix4 b (⟨128 * n.val + r.val - 128, by omega⟩ : Fin 4096) g d) else 0 := by
  unfold rblk
  pointwise
  have e : n.val * 128 + r.val = 128 * n.val + r.val := by omega
  have hz : (FloatOps.sitofp (F := Ideal) FTy.f32 0#32 : EReal) = 0 := by
    show (((0#32 : BitVec 32).toInt : ℝ) : EReal) = 0
    simp
  by_cases h : 128 ≤ 128 * n.val + r.val
  · have h1 : 128 ≤ n.val * 128 + r.val ∧ n.val * 128 + r.val - 128 < 4096 := by omega
    have e1 : (⟨n.val * 128 + r.val - 128, by omega⟩ : Fin 4096) = ⟨128 * n.val + r.val - 128, by omega⟩ := Fin.ext (by simp only; omega)
    refine (dif_pos h1).trans (Eq.trans ?_ (dif_pos h).symm)
    rw [e1]
  · have h1 : ¬(128 ≤ n.val * 128 + r.val ∧ n.val * 128 + r.val - 128 < 4096) := by omega
    refine (dif_neg h1).trans (Eq.trans hz ?_)
    rw [dif_neg h]

/-- The windows at an entry. -/
theorem rwin_at (K : Vec Ideal S8x4096x2x64 .f32) (b : Fin 8) (n : Fin 32) (c : Fin 256) (g : Fin 2) (d : Fin 64) :
    rwin K (ix5 b n c g d) = wkey K b n c g d := by
  unfold rwin
  pointwise
  unfold wkey
  have hn := n.isLt
  by_cases h : c.val < 128
  · refine (dif_pos h).trans ((rblk_at K b ⟨n.val, by omega⟩ ⟨c.val, h⟩ g d).trans rfl)
  · refine (dif_neg h).trans ((rblk_at K b ⟨1 + n.val, by omega⟩ ⟨c.val - 128, by omega⟩ g d).trans ?_)
    have h1 : 128 ≤ 128 * (1 + n.val) + (c.val - 128) := by omega
    have h2 : 128 ≤ 128 * n.val + c.val := by omega
    refine (dif_pos h1).trans (Eq.trans ?_ (dif_pos h2).symm)
    have e1 : (⟨128 * (1 + n.val) + (c.val - 128) - 128, by omega⟩ : Fin 4096) = ⟨128 * n.val + c.val - 128, by omega⟩ := Fin.ext (by simp only; omega)
    rw [e1]

/-- The mask at an entry. -/
theorem rmask_at (n : Fin 32) (r : Fin 128) (c : Fin 256) : rmask (ix3 n r c) = BitVec.ofBool (decide (seen n r c)) := by
  have hn := n.isLt
  have hr := r.isLt
  have hc := c.isLt
  have sub : ∀ x y : ℤ, BitVec.ofInt 32 x - BitVec.ofInt 32 y = BitVec.ofInt 32 (x - y) := fun x y => by
    rw [sub_eq_add_neg x y, BitVec.ofInt_add, BitVec.ofInt_neg, BitVec.sub_eq_add_neg]
  have nat : ∀ x : ℕ, BitVec.ofNat 32 x = BitVec.ofInt 32 (x : ℤ) := fun x => (BitVec.ofInt_natCast 32 x).symm
  have a2 : IntOp.subi (IntOp.addi (BitVec.ofNat 32 r.val) 128#32) (BitVec.ofNat 32 c.val) = BitVec.ofInt 32 ((r.val : ℤ) + (128 : ℕ) - c.val) := by
    rw [← sub, BitVec.ofInt_add, ← nat, ← nat, ← nat]; rfl
  have a3 : IntOp.addi (BitVec.ofNat 32 c.val) (IntOp.muli (IntOp.subi (BitVec.ofNat 32 n.val) 1#32) 128#32) = BitVec.ofInt 32 ((c.val : ℤ) + ((n.val : ℤ) - (1 : ℕ)) * (128 : ℕ)) := by
    rw [BitVec.ofInt_add, BitVec.ofInt_mul, ← sub, ← nat, ← nat, ← nat, ← nat]; rfl
  have t : ∀ x : ℤ, -2147483648 ≤ x → x < 2147483648 → (BitVec.ofInt 32 x).toInt = x := fun x h1 h2 => by
    rw [BitVec.toInt_ofInt]; exact Int.bmod_eq_of_le (by omega) (by omega)
  have z0 : (0#32).toInt = 0 := by decide
  have z1 : (128#32).toInt = 128 := by decide
  unfold rmask rband rvalid rdist
  pointwise
  rw [a2, a3]
  simp only [WordCmp.cmpi_sge_eq, WordCmp.cmpi_slt_eq]
  rw [t _ (by omega) (by omega), t _ (by omega) (by omega), z0, z1, WordCmp.andi_ofBool, WordCmp.andi_ofBool, ← Bool.decide_and, ← Bool.decide_and]
  refine congrArg BitVec.ofBool (decide_eq_decide.mpr ?_)
  unfold seen
  omega

/-- The dot product at an entry. -/
theorem rdot_at (q : Vec Ideal S8x4096x16x64 .f32) (K : Vec Ideal S8x4096x2x64 .f32) (b : Fin 8) (n : Fin 32) (g : Fin 2) (c : Fin 256) (r : Fin 128) (h : Fin 8) :
    rdot q K (ix6 b n g c r h) = ∑ d : Fin 64, rwin K (ix5 b n c g d) * q (ix4 b (qpos n r) (⟨8 * g.val + h.val, by omega⟩ : Fin 16) d) := by
  have e1 : (⟨n.val * 128 + r.val, by omega⟩ : Fin 4096) = ⟨128 * n.val + r.val, by omega⟩ := Fin.ext (by simp only; omega)
  have e2 : (⟨g.val * 8 + h.val, by omega⟩ : Fin 16) = ⟨8 * g.val + h.val, by omega⟩ := Fin.ext (by simp only; omega)
  unfold rdot qpos
  pointwise
  refine Finset.sum_congr rfl fun d _ => ?_
  rw [e1, e2]

/-- The score at an entry. -/
theorem rscore_at (q : Vec Ideal S8x4096x16x64 .f32) (K : Vec Ideal S8x4096x2x64 .f32) (b : Fin 8) (n : Fin 32) (g : Fin 2) (h : Fin 8) (r : Fin 128) (c : Fin 256) :
    rscore q K (ix6 b n g h r c) = if seen n r c then rdot q K (ix6 b n g c r h) * scale else Ideal.ofBits .f32 4048155338#32 := by
  unfold rscore scale
  pointwise
  rw [rmask_at]
  unfold Scalar.select
  by_cases hs : seen n r c
  · rw [if_pos hs, if_pos (by rw [decide_eq_true hs]; rfl)]
  · rw [if_neg hs, if_neg (by rw [decide_eq_false hs]; decide)]
    rfl

/-- The entries of a row. -/
theorem row_iff (b : Fin 8) (n : Fin 32) (g : Fin 2) (h : Fin 8) (r : Fin 128) (i : S8x32x2x8x128x256.Idx) :
    reducesTo_S8x32x2x8x128x256_S8x32x2x8x128_d5.drop i = ix5 b n g h r ↔ ∃ c : Fin 256, ix6 b n g h r c = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨c, rfl⟩
    funext a
    apply Fin.ext
    match a with
    | ⟨0, _⟩ => rfl
    | ⟨1, _⟩ => rfl
    | ⟨2, _⟩ => rfl
    | ⟨3, _⟩ => rfl
    | ⟨4, _⟩ => rfl

/-- A row's largest score. -/
theorem rmax_at (S : Vec Ideal S8x32x2x8x128x256 .f32) (b : Fin 8) (n : Fin 32) (g : Fin 2) (h : Fin 8) (r : Fin 128) :
    rmax S (ix5 b n g h r) = Finset.fold max (Ideal.ofBits .f32 4286578688#32) (fun c => S (ix6 b n g h r c)) Finset.univ := by
  unfold rmax
  refine (Host.reduce_eq_fold (max : EReal → EReal → EReal) _ _ _ _ _).trans ?_
  exact Finset.fold_filter_eq_fold_of_fiber max _ (fun c : Fin 256 => ix6 b n g h r c) (fun _ _ e => congrFun e 5) (row_iff b n g h r) _ S

/-- A row's total. -/
theorem rsum_at (E : Vec Ideal S8x32x2x8x128x256 .f32) (b : Fin 8) (n : Fin 32) (g : Fin 2) (h : Fin 8) (r : Fin 128) :
    rsum E (ix5 b n g h r) = ∑ c, E (ix6 b n g h r c) := by
  unfold rsum
  have e := Finset.sum_filter_eq_sum_of_fiber _ (fun c : Fin 256 => ix6 b n g h r c) (fun _ _ e => congrFun e 5) (row_iff b n g h r) E
  refine Eq.trans (b := Ideal.ofBits .f32 0#32 + ∑ i ∈ Finset.univ.filter (fun i => reducesTo_S8x32x2x8x128x256_S8x32x2x8x128_d5.drop i = ix5 b n g h r), E i) rfl ?_
  rw [e, Ideal.ofBits_zero_f32, zero_add]

/-- The sink at an entry. -/
theorem rsink_at (z : Vec Ideal S16 .f32) (b : Fin 8) (n : Fin 32) (g : Fin 2) (h : Fin 8) (r : Fin 128) :
    rsink z (ix6 b n g h r (0 : Fin 1)) = z (ix1 (⟨8 * g.val + h.val, by omega⟩ : Fin 16)) := by
  have e : (⟨g.val * 8 + h.val, by omega⟩ : Fin 16) = ⟨8 * g.val + h.val, by omega⟩ := Fin.ext (by simp only; omega)
  unfold rsink
  pointwise
  rw [e]

/-- A row's value on the last axis. -/
theorem rcol_at (M : Vec Ideal S8x32x2x8x128 .f32) (b : Fin 8) (n : Fin 32) (g : Fin 2) (h : Fin 8) (r : Fin 128) :
    (broadcastInDim S8x32x2x8x128x1 ![0, 1, 2, 3, 4] bcast_S8x32x2x8x128_S8x32x2x8x128x1_0_1_2_3_4 M : Vec Ideal S8x32x2x8x128x1 .f32) (ix6 b n g h r (0 : Fin 1)) = M (ix5 b n g h r) := by
  pointwise

/-- The larger of two values, at an entry. -/
theorem max_at {s : Shape} (x y : Vec Ideal s .f32) (i : s.Idx) : maximumf (F := Ideal) (φ := .f32) x y i = (max (x i : EReal) (y i) : EReal) := rfl

/-- The largest of a row, at an entry. -/
theorem rtop_max (S : Vec Ideal S8x32x2x8x128x256 .f32) (z : Vec Ideal S16 .f32) (i : S8x32x2x8x128x1.Idx) :
    rtop S z i = max ((broadcastInDim S8x32x2x8x128x1 ![0, 1, 2, 3, 4] bcast_S8x32x2x8x128_S8x32x2x8x128x1_0_1_2_3_4 (rmax S) : Vec Ideal S8x32x2x8x128x1 .f32) i) (rsink z i) := by
  unfold rtop rsink
  exact max_at _ _ i

/-- The largest score at an entry. -/
theorem rtop_at (S : Vec Ideal S8x32x2x8x128x256 .f32) (z : Vec Ideal S16 .f32) (b : Fin 8) (n : Fin 32) (g : Fin 2) (h : Fin 8) (r : Fin 128) :
    rtop S z (ix6 b n g h r (0 : Fin 1)) = top (fun c => S (ix6 b n g h r c)) (z (ix1 (⟨8 * g.val + h.val, by omega⟩ : Fin 16))) := by
  unfold top
  rw [rtop_max, rcol_at, rmax_at, rsink_at]

/-- The exponential at an entry. -/
theorem rexp_at (S : Vec Ideal S8x32x2x8x128x256 .f32) (z : Vec Ideal S16 .f32) (b : Fin 8) (n : Fin 32) (g : Fin 2) (h : Fin 8) (r : Fin 128) (c : Fin 256) :
    rexp S z (ix6 b n g h r c) = Ideal.exp (S (ix6 b n g h r c) - rtop S z (ix6 b n g h r (0 : Fin 1))) := by
  unfold rexp
  pointwise

/-- The sum at an entry. -/
theorem rden_at (S : Vec Ideal S8x32x2x8x128x256 .f32) (z : Vec Ideal S16 .f32) (b : Fin 8) (n : Fin 32) (g : Fin 2) (h : Fin 8) (r : Fin 128) :
    rden S z (ix6 b n g h r (0 : Fin 1)) = ∑ c, rexp S z (ix6 b n g h r c) + Ideal.exp (z (ix1 (⟨8 * g.val + h.val, by omega⟩ : Fin 16)) - rtop S z (ix6 b n g h r (0 : Fin 1))) := by
  unfold rden rsink
  pointwise
  rw [rsum_at]
  have e : (⟨g.val * 8 + h.val, by omega⟩ : Fin 16) = ⟨8 * g.val + h.val, by omega⟩ := Fin.ext (by simp only; omega)
  rw [e]

/-- The softmax at an entry. -/
theorem rprob_at (S : Vec Ideal S8x32x2x8x128x256 .f32) (z : Vec Ideal S16 .f32) (b : Fin 8) (n : Fin 32) (g : Fin 2) (h : Fin 8) (r : Fin 128) (c : Fin 256) :
    rprob S z (ix6 b n g h r c) = Ideal.div (rexp S z (ix6 b n g h r c)) (rden S z (ix6 b n g h r (0 : Fin 1))) := by
  unfold rprob
  pointwise

/-- The heads at an entry. -/
theorem rheads_at (Vv : Vec Ideal S8x4096x2x64 .f32) (P : Vec Ideal S8x32x2x8x128x256 .f32) (b : Fin 8) (n : Fin 32) (g : Fin 2) (d : Fin 64) (h : Fin 8) (r : Fin 128) :
    rheads Vv P (ix6 b n g d h r) = ∑ c : Fin 256, rwin Vv (ix5 b n c g d) * P (ix6 b n g h r c) := by
  unfold rheads
  pointwise

/-- The rows at an entry. -/
theorem rrows_at (H : Vec Ideal S8x32x2x64x8x128 .f32) (b : Fin 8) (n : Fin 32) (r : Fin 128) (e : Fin 1024) :
    rrows H (ix3 b (qpos n r) e) = H (ix6 b n (⟨e.val / 512, by omega⟩ : Fin 2) (⟨e.val % 64, by omega⟩ : Fin 64) (⟨e.val / 64 % 8, by omega⟩ : Fin 8) r) := by
  unfold rrows qpos
  pointwise

/-- The result at an entry. -/
theorem rout_at (x : Vec Ideal S8x4096x1024 .f32) (q : Vec Ideal S8x4096x16x64 .f32) (K Vv : Vec Ideal S8x4096x2x64 .f32) (z : Vec Ideal S16 .f32) (W : Vec Ideal S1024x1024 .f32) (b : Fin 8) (p : Fin 4096) (c : Fin 1024) :
    rout x q K Vv z W (ix3 b p c) = x (ix3 b p c) + ∑ e : Fin 1024, rrows (rheads Vv (rprob (rscore q K) z)) (ix3 b p e) * W (ix2 e c) := by
  unfold rout
  pointwise

end Cert.ReferenceIdeal.Swa
end
end
-- ==== Proof.Frame.lean ====
module

public import proofs.«01_k».proof.Proof.Run
public import Idealize.ShloMosaic.Lib.Claim

/-! The idealized kernel's frame over the run of `Run.lean`: every block of the pipeline, the whole program's run, and that it ends
with its arguments unchanged and its counters at zero. -/

@[expose] public section
set_option maxRecDepth 16384
noncomputable section
namespace Cert.KernelIdeal.Swa
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight row blocks of one grid point. -/
def piecesOf (i : grid0.Coords) (x0 : Vec F S1x1024x1024 .bf16) (x1 : Vec F S1x1024x256 .bf16) (x2 : Vec F S1x128x256 .bf16) (x3 : Vec F S16 .f32)
    (x4 : Vec F S1x1024x1024 .f32) (x5 : Vec F S1024x1024 .bf16) : List (View.Piece (Elt F) S1x1024x1024 .f32) :=
  blkPieces (fun k => mask (BitVec.ofNat 32 (i 1).val) (iota .tc S128x256 32 [1] iota_S128x256_d1_w32) k) x0 x3 (KX i x1 x2) (VX i x1 x2) x4 x5 8

/-- They fill the output block. -/
theorem pieces_cover (i : grid0.Coords) (x0 : Vec F S1x1024x1024 .bf16) (x1 : Vec F S1x1024x256 .bf16) (x2 : Vec F S1x128x256 .bf16) (x3 : Vec F S16 .f32)
    (x4 : Vec F S1x1024x1024 .f32) (x5 : Vec F S1024x1024 .bf16) (y : S1x1024x1024.Idx) : ∃ pc ∈ piecesOf i x0 x1 x2 x3 x4 x5, y ∈ pc.1.set :=
  View.cover_of_tiledL (s := S1x1024x1024) (piecesOf i x0 x1 x2 x3 x4 x5) S1x128x1024.size (by sl_kernel_rfl) y

/-- What the body leaves in the output block at point `t`. -/
def outsAt (c : Dev nD) (t : Fin cfg0.N) : Vec F S1x1024x1024 .f32 :=
  View.canon (piecesOf (grid0.coords t) (X0_0 m c t) (iblk m c 1 t) (iblk m c 2 t) (iblk m c 3 t) (iblk m c 4 t) (iblk m c 5 t))

/-! ## The pipeline's proof data -/

/-- The pipeline's data on core `c`: the arrays as the region finds them, each input's buffer at its block after the body, the output's at
    `outsAt`, nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t)
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by
  dsimp only [dats]

/-- What the body leaves in window 0's buffer. -/
theorem after0_0 (c : Dev nD) (t : Fin cfg0.N) : (dats m 0 c).after 0 t = X0_0 m c t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = iblk m c 5 t := by dsimp only [dats]
/-- What the body leaves in window 6's buffer. -/
theorem after0_6 (c : Dev nD) (t : Fin cfg0.N) : (dats m 0 c).after 6 t = (outsAt m c t) := by dsimp only [dats]

/-- What window 0's buffer holds when the body starts. -/
theorem before0_0 (c : Dev nD) (t : Fin cfg0.N) (d) : (dats m 0 c).before 0 t d = X0_0 m c t :=
  before0_0_of m (dats m 0 c) (A_eq m c 0) (after0_0 m c) t d
/-- What window 1's buffer holds when the body starts. -/
theorem before0_1 (c : Dev nD) (t : Fin cfg0.N) (d) : (dats m 0 c).before 1 t d = iblk m c 1 t :=
  before0_1_of m (dats m 0 c) (A_eq m c 1) (after0_1 m c) t d
/-- What window 2's buffer holds when the body starts. -/
theorem before0_2 (c : Dev nD) (t : Fin cfg0.N) (d) : (dats m 0 c).before 2 t d = iblk m c 2 t :=
  before0_2_of m (dats m 0 c) (A_eq m c 2) (after0_2 m c) t d
/-- What window 3's buffer holds when the body starts. -/
theorem before0_3 (c : Dev nD) (t : Fin cfg0.N) (d) : (dats m 0 c).before 3 t d = iblk m c 3 t :=
  before0_3_of m (dats m 0 c) (A_eq m c 3) (after0_3 m c) t d
/-- What window 4's buffer holds when the body starts. -/
theorem before0_4 (c : Dev nD) (t : Fin cfg0.N) (d) : (dats m 0 c).before 4 t d = iblk m c 4 t :=
  before0_4_of m (dats m 0 c) (A_eq m c 4) (after0_4 m c) t d
/-- What window 5's buffer holds when the body starts. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ _ _ (X0_0 m c t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, ⟨%e6, H6⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_eq_canon _ _ _ (pieces_cover _ _ _ _ _ _ _)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run: the arrays of the pipeline end as the data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Swa

end
-- ==== Proof.Final.lean ====
module

public import proofs.«01_k».proof.Proof.Frame
public import proofs.«01_k».proof.Proof.Block
public import Idealize.ShloMosaic.Lib.Pipeline.Value
public import Idealize.ShloMosaic.Lib.Claim

/-! The result array after the run, as one function of the arguments. -/

@[expose] public section
set_option maxRecDepth 16384
noncomputable section
namespace Cert.KernelIdeal.Swa
open Cert.KernelIdeal Cert.KernelIdeal.Gen
open Idealize.ShloMosaic Idealize.ShloMosaic.TcCoe Idealize.SL.Sem
open Idealize.ShloMosaic.Pipeline (Dat)

/-- The kernel's result over its arguments. -/
def karr (x : Vec Ideal S8x4096x1024 .f32) (q : Vec Ideal S8x4096x16x64 .f32) (K Vv : Vec Ideal S8x4096x2x64 .f32) (z : Vec Ideal S16 .f32) (W : Vec Ideal S1024x1024 .f32) :
    Vec Ideal S8x4096x1024 .f32 := fun y =>
  kout x q K Vv z W (y 0) ⟨(y 1).val / 128, by have : (y 1).val < 4096 := (y 1).isLt; omega⟩ ⟨(y 1).val % 128, by omega⟩ (y 2)

variable (m : (ℓ : Loc nD τ sig) → Buf (Elt Ideal) ℓ) (ρ : Dev nD → PrngReg)

/-- Where each grid point's blocks lie. -/
theorem idx : ∀ t : Fin cfg0.N, win0_0.index t = ![t.val / 4, t.val % 4, 0] ∧ win0_1.index t = ![t.val / 4, t.val % 4, 4]
    ∧ win0_2.index t = ![t.val / 4, 8 * (t.val % 4) - 1, 4] ∧ win0_3.index t = ![0] ∧ win0_4.index t = ![t.val / 4, t.val % 4, 0]
    ∧ win0_5.index t = ![0, 0] ∧ win0_6.index t = ![t.val / 4, t.val % 4, 0] ∧ (grid0.coords t 1).val = t.val % 4 ∧ t.val / 4 < 8 :=
  (by decide +kernel : ∀ t : Fin grid0.N, _)

/-- Three arrays side by side, in the narrow format. -/
def cat3 (u : Vec Ideal S8x4096x1024 .f32) (v w : Vec Ideal S8x4096x128 .f32) : Vec Ideal S8x4096x1280 .bf16 :=
  truncf (F := Ideal) (s := S8x4096x1280) (φ := .f32) .bf16 (concatenate S8x4096x1280 2 [⟨S8x4096x1024, u⟩, ⟨S8x4096x128, v⟩, ⟨S8x4096x128, w⟩]
    concatenates_S8x4096x1024_S8x4096x128_S8x4096x128_S8x4096x1280_d2) bitsLt_bf16_f32
/-- The queries scaled, the keys and the values side by side. -/
def qkvOf (q : Vec Ideal S8x4096x16x64 .f32) (K Vv : Vec Ideal S8x4096x2x64 .f32) : Vec Ideal S8x4096x1280 .bf16 :=
  cat3 (shapeCast S8x4096x1024 (mulf q (broadcastInDim S8x4096x16x64 ![] bcast_S_S8x4096x16x64 (constant (F := Ideal) S_ .f32 0x3E000000#32))) shapeCasts_S8x4096x16x64_S8x4096x1024)
    (shapeCast S8x4096x128 K shapeCasts_S8x4096x2x64_S8x4096x128) (shapeCast S8x4096x128 Vv shapeCasts_S8x4096x2x64_S8x4096x128)

/-- The region finds them so. -/
theorem V_qkv (c : Dev nD) :
    V m c main_v6 = qkvOf (m ((c : Thread nD τ).loc main_arg1)) (m ((c : Thread nD τ).loc main_arg2)) (m ((c : Thread nD τ).loc main_arg3)) := by
  unfold V hostOps0 qkvOf
  after_results_simp
  exact (show _ = cat3 (StableHlo.after (List.take 6 hostOps0) (fun b => m (c, b)) (Proc.devRef .tc main_v2))
    (StableHlo.after (List.take 6 hostOps0) (fun b => m (c, b)) (Proc.devRef .tc main_v3))
    (StableHlo.after (List.take 6 hostOps0) (fun b => m (c, b)) (Proc.devRef .tc main_v4)) from rfl).trans (congr (congrArg₂ cat3
      (by unfold hostOps0; simp only [List.take]; after_results_simp; rfl)
      (by unfold hostOps0; simp only [List.take]; after_results_simp; rfl))
      (by unfold hostOps0; simp only [List.take]; after_results_simp; rfl))
/-- The projection in the narrow format is the projection. -/
theorem V_w (c : Dev nD) : V m c main_v7 = (truncf (F := Ideal) (s := S1024x1024) .bf16 (m ((c : Thread nD τ).loc main_arg5)) bitsLt_bf16_f32) := by
  unfold V hostOps0
  after_results_simp

variable (q : Vec Ideal S8x4096x16x64 .f32) (K Vv : Vec Ideal S8x4096x2x64 .f32) (b : Fin 8) (p : Fin 4096)

/-- A query column. -/
theorem qkv_q (e : Fin 1280) (h : e.val < 1024) :
    qkvOf q K Vv (ix3 b p e) = q (ix4 b p (⟨e.val / 64, by omega⟩ : Fin 16) (⟨e.val % 64, by omega⟩ : Fin 64)) * scale := by
  unfold scale
  pointwise [qkvOf, cat3]
  exact dif_pos h
/-- A key column. -/
theorem qkv_k (l : Fin 128) :
    qkvOf q K Vv (ix3 b p (⟨1024 + l.val, by omega⟩ : Fin 1280)) = K (ix4 b p (⟨l.val / 64, by omega⟩ : Fin 2) (⟨l.val % 64, by omega⟩ : Fin 64)) := by
  pointwise [qkvOf, cat3]
/-- A value column. -/
theorem qkv_v (l : Fin 128) :
    qkvOf q K Vv (ix3 b p (⟨1152 + l.val, by omega⟩ : Fin 1280)) = Vv (ix4 b p (⟨l.val / 64, by omega⟩ : Fin 2) (⟨l.val % 64, by omega⟩ : Fin 64)) := by
  pointwise [qkvOf, cat3]
  have hl := l.isLt
  refine (dif_neg (by omega)).trans ((dif_neg (by omega)).trans ?_)
  refine congrArg₂ (fun x y => Vv (ix4 b p x y)) (Fin.ext ?_) (Fin.ext ?_)
  · show (1152 + l.val - 1024 - 128) / 64 = l.val / 64; omega
  · show (1152 + l.val - 1024 - 128) % 64 = l.val % 64; omega

/-- The queries' block read off the joined array. -/
theorem blk0 (c : Dev nD) (t : Fin cfg0.N) (r e : Fin 1024) :
    (X0_0 m c t : Vec Ideal S1x1024x1024 .bf16) (ix3 (0 : Fin 1) r e)
      = (V m c main_v6 : Vec Ideal S8x4096x1280 .bf16) (ix3 (⟨t.val / 4, (idx t).2.2.2.2.2.2.2.2⟩ : Fin 8) (⟨1024 * (t.val % 4) + r.val, by omega⟩ : Fin 4096) (⟨e.val, by omega⟩ : Fin 1280)) := by
  unfold X0_0 Pipeline.Window.fill
  rw [dif_pos (moved0_0 t _)]
  blk_ext [iblk, idx t]
/-- The tile's block of keys and values. -/
theorem blk1 (c : Dev nD) (t : Fin cfg0.N) (r : Fin 1024) (l : Fin 256) :
    (iblk m c 1 t : Vec Ideal S1x1024x256 .bf16) (ix3 (0 : Fin 1) r l)
      = (V m c main_v6 : Vec Ideal S8x4096x1280 .bf16) (ix3 (⟨t.val / 4, (idx t).2.2.2.2.2.2.2.2⟩ : Fin 8) (⟨1024 * (t.val % 4) + r.val, by omega⟩ : Fin 4096) (⟨1024 + l.val, by omega⟩ : Fin 1280)) := by
  blk_ext [iblk, idx t]
/-- The halo's. -/
theorem blk2 (c : Dev nD) (t : Fin cfg0.N) (ht : 0 < t.val % 4) (r : Fin 128) (l : Fin 256) :
    (iblk m c 2 t : Vec Ideal S1x128x256 .bf16) (ix3 (0 : Fin 1) r l)
      = (V m c main_v6 : Vec Ideal S8x4096x1280 .bf16) (ix3 (⟨t.val / 4, (idx t).2.2.2.2.2.2.2.2⟩ : Fin 8) (⟨1024 * (t.val % 4) + r.val - 128, by omega⟩ : Fin 4096) (⟨1024 + l.val, by omega⟩ : Fin 1280)) := by
  blk_ext [iblk, idx t]
/-- The sinks, whole. -/
theorem blk3 (c : Dev nD) (t : Fin cfg0.N) : (iblk m c 3 t : Vec Ideal S16 .f32) = (m ((c : Thread nD τ).loc main_arg4)) := by
  blk_ext! [iblk, V, idx t]
/-- The residual's block. -/
theorem blk4 (c : Dev nD) (t : Fin cfg0.N) (r e : Fin 1024) :
    (iblk m c 4 t : Vec Ideal S1x1024x1024 .f32) (ix3 (0 : Fin 1) r e)
      = (m ((c : Thread nD τ).loc main_arg0) : Vec Ideal S8x4096x1024 .f32) (ix3 (⟨t.val / 4, (idx t).2.2.2.2.2.2.2.2⟩ : Fin 8) (⟨1024 * (t.val % 4) + r.val, by omega⟩ : Fin 4096) e) := by
  blk_ext [iblk, V, idx t]
/-- The projection's block, whole. -/
theorem blk5 (c : Dev nD) (t : Fin cfg0.N) (e d : Fin 1024) :
    (iblk m c 5 t : Vec Ideal S1024x1024 .bf16) (ix2 e d) = (V m c main_v7 : Vec Ideal S1024x1024 .bf16) (ix2 e d) := by
  blk_ext [iblk, idx t]

/-- What the windows hold at a grid point. -/
theorem reads (c : Dev nD) (t : Fin cfg0.N) :
    Reads (m ((c : Thread nD τ).loc main_arg1)) (m ((c : Thread nD τ).loc main_arg2)) (m ((c : Thread nD τ).loc main_arg3)) (m ((c : Thread nD τ).loc main_arg0))
      (m ((c : Thread nD τ).loc main_arg5)) (⟨t.val / 4, (idx t).2.2.2.2.2.2.2.2⟩ : Fin 8) (grid0.coords t)
      (X0_0 m c t) (iblk m c 1 t) (iblk m c 2 t) (iblk m c 4 t) (iblk m c 5 t) := by
  have hs : (grid0.coords t 1).val = t.val % 4 := (idx t).2.2.2.2.2.2.2.1
  constructor
  · intro r e
    simp only [hs]
    refine (blk0 m c t r e).trans ?_
    rw [V_qkv]
    exact qkv_q _ _ _ _ _ ⟨e.val, by omega⟩ e.isLt
  · intro r l
    simp only [hs]
    refine (blk1 m c t r ⟨l.val, by omega⟩).trans ?_
    rw [V_qkv]
    exact qkv_k _ _ _ _ _ l
  · intro r l
    simp only [hs]
    refine (blk1 m c t r ⟨128 + l.val, by omega⟩).trans ?_
    rw [V_qkv]
    refine Eq.trans (congrArg (fun e => qkvOf _ _ _ (ix3 _ _ e)) (Fin.ext ?_)) (qkv_v _ _ _ _ _ l)
    show 1024 + (128 + l.val) = 1152 + l.val
    omega
  · intro h r l
    simp only [hs] at h ⊢
    refine (blk2 m c t h r ⟨l.val, by omega⟩).trans ?_
    rw [V_qkv]
    exact qkv_k _ _ _ _ _ l
  · intro h r l
    simp only [hs] at h ⊢
    refine (blk2 m c t h r ⟨128 + l.val, by omega⟩).trans ?_
    rw [V_qkv]
    refine Eq.trans (congrArg (fun e => qkvOf _ _ _ (ix3 _ _ e)) (Fin.ext ?_)) (qkv_v _ _ _ _ _ l)
    show 1024 + (128 + l.val) = 1152 + l.val
    omega
  · intro r e
    simp only [hs]
    exact blk4 m c t r e
  · intro e d
    refine (blk5 m c t e d).trans ?_
    rw [V_w]
    rfl

/-- What a grid point leaves at an entry of its block. -/
theorem outs_at (c : Dev nD) (t : Fin cfg0.N) (k : Fin k0_t1_loop.trips) (r : Fin 128) (d : Fin 1024) :
    outsAt m c t (ix3 (0 : Fin 1) (qrow k r) d)
      = kout (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (⟨t.val / 4, (idx t).2.2.2.2.2.2.2.2⟩ : Fin 8) (blkOf (grid0.coords t) k) r d := by
  unfold outsAt
  refine (View.canon_eq_of_allAt _ _ _ (pieces_cover _ _ _ _ _ _ _ _) (blkPieces_at _ _ _ _ _ _ _ k r d 8)).trans ?_
  refine (trip_kout _ (reads m c t) k r d).trans ?_
  rw [blk3]

/-- The result array at an entry of a grid point's block. -/
theorem karr_at (x : Vec Ideal S8x4096x1024 .f32) (q : Vec Ideal S8x4096x16x64 .f32) (K Vv : Vec Ideal S8x4096x2x64 .f32) (z : Vec Ideal S16 .f32) (W : Vec Ideal S1024x1024 .f32)
    (b : Fin 8) (s : ℕ) (hs : s < 4) (n : Fin 32) (k : Fin k0_t1_loop.trips) (hn : n.val = 8 * s + k.val) (r : Fin 128) (d : Fin 1024) :
    karr x q K Vv z W (ix3 b (⟨1024 * s + (qrow k r).val, by have := (qrow k r).isLt; omega⟩ : Fin 4096) d) = kout x q K Vv z W b n r d := by
  have hr := r.isLt
  refine congrArg₂ (fun n r => kout x q K Vv z W b n r d) (Fin.ext ?_) (Fin.ext ?_)
  · show (1024 * s + (128 * k.val + r.val)) / 128 = n.val; omega
  · show (1024 * s + (128 * k.val + r.val)) % 128 = r.val; omega

/-- The result array after the run. -/
theorem final (c : Dev nD) :
    (dats m 0 c).arrAt 6 cfg0.N = karr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  have y0 : (y 0).val < 1 := (y 0).isLt
  have y1 : (y 1).val < 1024 := (y 1).isLt
  have y2 : (y 2).val < 1024 := (y 2).isLt
  obtain ⟨k, hk⟩ : ∃ k : Fin k0_t1_loop.trips, k.val = (y 1).val / 128 := ⟨⟨(y 1).val / 128, by rw [trips_eq]; omega⟩, rfl⟩
  obtain ⟨r, hr⟩ : ∃ r : Fin 128, r.val = (y 1).val % 128 := ⟨⟨(y 1).val % 128, by omega⟩, rfl⟩
  have hq : (qrow k r).val = (y 1).val := by show 128 * k.val + r.val = _; omega
  have hy : y = (ix3 (0 : Fin 1) (qrow k r) (⟨(y 2).val, y2⟩ : Fin 1024) : S1x1024x1024.Idx) := by
    funext a
    fin_cases a
    · exact Fin.ext (by show (y 0).val = 0; omega)
    · exact Fin.ext hq.symm
    · rfl
  have he : (win0_6.blk t).view.emb y = (ix3 (⟨t.val / 4, (idx t).2.2.2.2.2.2.2.2⟩ : Fin 8) (⟨1024 * (t.val % 4) + (qrow k r).val, by omega⟩ : Fin 4096) (⟨(y 2).val, y2⟩ : Fin 1024) : S8x4096x1024.Idx) := by
    blk_ext [idx t]
  rw [he]
  refine (congrArg (outsAt m c t) hy).trans ?_
  rw [outs_at]
  refine (karr_at _ _ _ _ _ _ _ _ (by omega) _ k ?_ r _).symm
  show 8 * (grid0.coords t 1).val + k.val = _
  rw [(idx t).2.2.2.2.2.2.2.1]

/-- The run: the result array over the arguments, the arguments unchanged. -/
theorem run_final : θ_run defs (onTc (τ := τ) (main (F := Ideal))) ⟨m, fun _ => 0, ρ⟩ fun r => ∀ c : Dev nD,
      r.2.mem ((c : Thread nD τ).loc main_v8) = karr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)
end Cert.KernelIdeal.Swa
end
-- ==== Proof.Equation.lean ====
module

public import proofs.«01_k».proof.Proof.RefAt
public import proofs.«01_k».proof.Proof.Final
public import Idealize.ShloMosaic.Lib.IdealHost

/-! The two results are equal when the queries and keys are real and no sink is plus infinity. -/

@[expose] public section
set_option maxRecDepth 16384
noncomputable section
namespace Cert.ReferenceIdeal.Swa
open Cert.ReferenceIdeal Cert.ReferenceIdeal.Gen
open Idealize.ShloMosaic Idealize.ShloMosaic.TcCoe Idealize.SL.Sem
open Cert.KernelIdeal.Swa (wkey seen qpos scale top den prob kscore khead kout karr)

/-- A value that is a real number. -/
def Real' (x : EReal) : Prop := ∃ y : ℝ, x = y

/-- A product of reals is real. -/
theorem Real'.mul {x y : EReal} (hx : Real' x) (hy : Real' y) : Real' (x * y) := by
  obtain ⟨a, rfl⟩ := hx; obtain ⟨b, rfl⟩ := hy; exact ⟨a * b, (EReal.coe_mul a b).symm⟩
/-- A sum of two reals is real. -/
theorem Real'.add {x y : EReal} (hx : Real' x) (hy : Real' y) : Real' (x + y) := by
  obtain ⟨a, rfl⟩ := hx; obtain ⟨b, rfl⟩ := hy; exact ⟨a + b, (EReal.coe_add a b).symm⟩
/-- Zero is real. -/
theorem Real'.zero : Real' 0 := ⟨0, EReal.coe_zero.symm⟩
/-- A sum of reals is real. -/
theorem Real'.sum {ι : Type} (s : Finset ι) (f : ι → EReal) (h : ∀ i, Real' (f i)) : Real' (∑ i ∈ s, f i) :=
  Finset.sum_induction f Real' (fun _ _ => Real'.add) Real'.zero (fun i _ => h i)
/-- A value off both infinities is real. -/
theorem Real'.of {x : EReal} (h1 : x ≠ ⊥) (h2 : x ≠ ⊤) : Real' x := ⟨x.toReal, (EReal.coe_toReal h2 h1).symm⟩
/-- A real is above minus infinity. -/
theorem Real'.ne_bot {x : EReal} (h : Real' x) : x ≠ ⊥ := by obtain ⟨a, rfl⟩ := h; exact EReal.coe_ne_bot a
/-- A real is below plus infinity. -/
theorem Real'.ne_top {x : EReal} (h : Real' x) : x ≠ ⊤ := by obtain ⟨a, rfl⟩ := h; exact EReal.coe_ne_top a

/-- The scale is an eighth. -/
theorem scale_eq : scale = ((1 / 8 : ℝ) : EReal) := by
  unfold scale
  simp [Ideal.ofBits, Ideal.ieee]
  norm_num
  rw [← EReal.coe_mul]
  norm_num
/-- The scale is real. -/
theorem scale_real : Real' scale := ⟨_, scale_eq⟩
/-- The scale is not negative. -/
theorem scale_nonneg : 0 ≤ scale := by rw [scale_eq]; exact EReal.coe_nonneg.mpr (by norm_num)
/-- The masked score is real. -/
theorem low_real : Real' (Ideal.ofBits .f32 4048155338#32) := by
  simp [Ideal.ofBits, Ideal.ieee]
  exact ⟨_, rfl⟩
/-- The maximum starts at minus infinity. -/
theorem start_eq : Ideal.ofBits .f32 4286578688#32 = (⊥ : EReal) := by
  simp [Ideal.ofBits, Ideal.ieee]

/-- The scale comes out of a sum. -/
theorem scale_sum {ι : Type} (s : Finset ι) (f : ι → EReal) : ∑ i ∈ s, scale * f i = scale * ∑ i ∈ s, f i := by
  classical
  induction s using Finset.induction_on with
  | empty => simp
  | insert a s ha ih => rw [Finset.sum_insert ha, Finset.sum_insert ha, ih, EReal.left_distrib_of_nonneg_of_ne_top scale_nonneg scale_real.ne_top]

/-- An exponential is not negative. -/
theorem exp_nonneg (x : EReal) : 0 ≤ Ideal.exp x := by
  induction x using EReal.rec with
  | bot => exact le_refl _
  | coe r => exact EReal.coe_nonneg.mpr (Real.exp_pos r).le
  | top => exact le_top

/-- A row of scores with one of them real and none, nor the sink, plus infinity has a positive sum. -/
theorem den_ne (s : Fin 256 → EReal) (z : EReal) (c : Fin 256) (hc : Real' (s c)) (hs : ∀ x, s x ≠ ⊤) (hz : z ≠ ⊤) : den s z ≠ 0 := by
  have h1 : s c ≤ top s z := le_max_of_le_left (by rw [Finset.le_fold_max]; exact Or.inr ⟨c, Finset.mem_univ c, le_refl _⟩)
  have h2 : top s z < ⊤ := by
    refine max_lt ?_ (lt_top_iff_ne_top.mpr hz)
    rw [Finset.fold_max_lt]
    exact ⟨by rw [start_eq]; exact bot_lt_top, fun x _ => lt_top_iff_ne_top.mpr (hs x)⟩
  have ht : Real' (top s z) := Real'.of (fun e => hc.ne_bot (le_bot_iff.mp (e ▸ h1))) h2.ne
  obtain ⟨a, ha⟩ := hc
  obtain ⟨t, ht⟩ := ht
  have pos : 0 < Ideal.exp (s c - top s z) := by
    rw [ha, ht, ← EReal.coe_sub, Ideal.exp_coe]
    exact EReal.coe_pos.mpr (Real.exp_pos _)
  have h3 : Ideal.exp (s c - top s z) ≤ ∑ x, Ideal.exp (s x - top s z) :=
    Finset.single_le_sum (f := fun x => Ideal.exp (s x - top s z)) (fun x _ => exp_nonneg _) (Finset.mem_univ c)
  have h4 : 0 < den s z := lt_of_lt_of_le (lt_of_lt_of_le pos h3) (le_add_of_nonneg_right (exp_nonneg _))
  exact h4.ne'

section
variable (x : Vec Ideal S8x4096x1024 .f32) (q : Vec Ideal S8x4096x16x64 .f32) (K Vv : Vec Ideal S8x4096x2x64 .f32) (z : Vec Ideal S16 .f32) (W : Vec Ideal S1024x1024 .f32)

/-- The two scores are one. -/
theorem score_eq (b : Fin 8) (n : Fin 32) (g : Fin 2) (h : Fin 8) (r : Fin 128) (c : Fin 256) :
    rscore q K (ix6 b n g h r c) = kscore q K b n r ⟨8 * g.val + h.val, by omega⟩ c := by
  have e : (⟨(8 * g.val + h.val) / 8, by omega⟩ : Fin 2) = g := Fin.ext (by simp only; omega)
  rw [rscore_at, rdot_at]
  unfold kscore
  refine if_congr Iff.rfl ?_ rfl
  rw [mul_comm, ← scale_sum]
  refine Finset.sum_congr rfl fun d _ => ?_
  rw [rwin_at, e]
  rw [mul_comm (wkey _ _ _ _ _ _) _, ← mul_assoc, mul_comm scale]

/-- The scores are real. -/
theorem kscore_real (hq : ∀ i, Real' (q i)) (hK : ∀ i, Real' (K i)) (b : Fin 8) (n : Fin 32) (r : Fin 128) (h : Fin 16) (c : Fin 256) : Real' (kscore q K b n r h c) := by
  unfold kscore
  split
  · refine Real'.sum _ _ fun d => ((hq _).mul scale_real).mul ?_
    unfold wkey
    split
    · exact hK _
    · exact Real'.zero
  · exact low_real

/-- The two probabilities are one. -/
theorem prob_eq (hq : ∀ i, Real' (q i)) (hK : ∀ i, Real' (K i)) (hz : ∀ i, z i ≠ ⊤) (b : Fin 8) (n : Fin 32) (g : Fin 2) (h : Fin 8) (r : Fin 128) (c : Fin 256) :
    rprob (rscore q K) z (ix6 b n g h r c) = prob (kscore q K b n r ⟨8 * g.val + h.val, by omega⟩) (z (ix1 (⟨8 * g.val + h.val, by omega⟩ : Fin 16))) c := by
  have hd := den_ne (kscore q K b n r ⟨8 * g.val + h.val, by omega⟩) (z (ix1 (⟨8 * g.val + h.val, by omega⟩ : Fin 16))) 0 (kscore_real q K hq hK _ _ _ _ _) (fun x => (kscore_real q K hq hK _ _ _ _ x).ne_top) (hz _)
  have hs : (fun x => rscore q K (ix6 b n g h r x)) = kscore q K b n r ⟨8 * g.val + h.val, by omega⟩ := funext fun x => score_eq q K b n g h r x
  have ht : rtop (rscore q K) z (ix6 b n g h r (0 : Fin 1)) = top (kscore q K b n r ⟨8 * g.val + h.val, by omega⟩) (z (ix1 (⟨8 * g.val + h.val, by omega⟩ : Fin 16))) := by
    rw [rtop_at, hs]
  have hden : rden (rscore q K) z (ix6 b n g h r (0 : Fin 1)) = den (kscore q K b n r ⟨8 * g.val + h.val, by omega⟩) (z (ix1 (⟨8 * g.val + h.val, by omega⟩ : Fin 16))) := by
    rw [rden_at, ht]
    unfold den
    refine congrArg (· + _) (Finset.sum_congr rfl fun x _ => ?_)
    rw [rexp_at, ht, score_eq]
  rw [rprob_at, hden, rexp_at, ht, score_eq]
  unfold prob
  rw [Ideal.mul_one_div hd]

/-- The two attended values are one. -/
theorem head_eq (hq : ∀ i, Real' (q i)) (hK : ∀ i, Real' (K i)) (hz : ∀ i, z i ≠ ⊤) (b : Fin 8) (n : Fin 32) (g : Fin 2) (h : Fin 8) (r : Fin 128) (d : Fin 64) :
    rheads Vv (rprob (rscore q K) z) (ix6 b n g d h r) = khead q K Vv z b n r ⟨8 * g.val + h.val, by omega⟩ d := by
  have e : (⟨(8 * g.val + h.val) / 8, by omega⟩ : Fin 2) = g := Fin.ext (by simp only; omega)
  rw [rheads_at]
  unfold khead
  refine Finset.sum_congr rfl fun c _ => ?_
  rw [prob_eq q K z hq hK hz, rwin_at, e, mul_comm]

/-- The two results are one. -/
theorem out_eq (hq : ∀ i, Real' (q i)) (hK : ∀ i, Real' (K i)) (hz : ∀ i, z i ≠ ⊤) : rout x q K Vv z W = karr x q K Vv z W := by
  funext i
  obtain ⟨b, p, c, rfl⟩ : ∃ (b : Fin 8) (p : Fin 4096) (c : Fin 1024), i = ix3 b p c := ⟨i 0, i 1, i 2, eq_ix3 i⟩
  have hp : p = qpos ⟨p.val / 128, by omega⟩ ⟨p.val % 128, by omega⟩ := Fin.ext (by unfold qpos; simp only; omega)
  rw [rout_at]
  show _ = kout x q K Vv z W b ⟨p.val / 128, by omega⟩ ⟨p.val % 128, by omega⟩ c
  unfold kout
  rw [← hp]
  refine congrArg (x (ix3 b p c) + ·) (Finset.sum_congr rfl fun e _ => ?_)
  refine congrArg (· * W (ix2 e c)) ?_
  have e1 : (⟨8 * (e.val / 512) + e.val / 64 % 8, by omega⟩ : Fin 16) = ⟨e.val / 64, by omega⟩ := Fin.ext (by simp only; omega)
  refine (congrArg (fun p => rrows (rheads Vv (rprob (rscore q K) z)) (ix3 b p e)) hp).trans ?_
  refine (rrows_at _ _ _ _ _).trans ?_
  rw [head_eq q K Vv z hq hK hz, e1]

end

end Cert.ReferenceIdeal.Swa
end
end
-- ==== Proof.Finite.lean ====
module

public import proofs.«01_k».proof.Defs
public import proofs.«01_k».proof.Proof.Equation

/-! What the precondition says of the arrays. -/

@[expose] public section
set_option maxRecDepth 16384
noncomputable section
namespace Cert.Proof
open Idealize.ShloMosaic Idealize.ShloMosaic.TcCoe Idealize.SL.Sem
open Cert.ReferenceIdeal.Swa (Real')

/-- The shape facts of the precondition. -/
theorem pre_facts : Cert.Pre_scores_below_infinity.Facts :=
  ⟨by decide, by decide, by decide⟩

attribute [local instance] pre_facts

open Cert.Pre_scores_below_infinity

/-- Plus infinity's word. -/
theorem inf_eq : Ideal.ofBits .f32 2139095040#32 = (⊤ : EReal) := by
  simp [Ideal.ofBits, Ideal.ieee]

/-- Above minus infinity and below plus infinity, as two compared bits, is a real number. -/
theorem real_of_bits (x : EReal) (h : IntOp.andi (FloatOps.cmpf (F := Ideal) (φ := .f32) .ogt x (Ideal.ofBits .f32 4286578688#32)) (FloatOps.cmpf (F := Ideal) (φ := .f32) .olt x (Ideal.ofBits .f32 2139095040#32)) = 1#1) : Real' x := by
  rw [Cert.ReferenceIdeal.Swa.start_eq, inf_eq] at h
  change IntOp.andi (BitVec.ofBool (decide ((⊥ : EReal) < x))) (BitVec.ofBool (decide (x < (⊤ : EReal)))) = 1#1 at h
  rw [WordCmp.andi_ofBool, WordCmp.ofBool_eq_one_iff, ← Bool.decide_and, decide_eq_true_iff] at h
  exact Real'.of h.1.ne' h.2.ne

/-- Below plus infinity, as a compared bit. -/
theorem below_of_bit (x : EReal) (h : FloatOps.cmpf (F := Ideal) (φ := .f32) .olt x (Ideal.ofBits .f32 2139095040#32) = 1#1) : x ≠ ⊤ := by
  rw [inf_eq] at h
  change BitVec.ofBool (decide (x < (⊤ : EReal))) = 1#1 at h
  rw [WordCmp.ofBool_eq_one_iff, decide_eq_true_iff] at h
  exact h.ne

/-- Under the precondition every query and key is real and no sink is plus infinity. -/
theorem finite (x : FVec Ideal S8x4096x1024 .f32) (q : FVec Ideal S8x4096x16x64 .f32) (K Vv : FVec Ideal S8x4096x2x64 .f32) (z : FVec Ideal S16 .f32) (W : FVec Ideal S1024x1024 .f32)
    (h : (fn x q K Vv z W).1 = (fun _ => 1#1) ∧ (fn x q K Vv z W).2.1 = (fun _ => 1#1) ∧ (fn x q K Vv z W).2.2 = (fun _ => 1#1)) :
    (∀ i, Real' (q i)) ∧ (∀ i, Real' (K i)) ∧ (∀ i, z i ≠ ⊤) :=
  ⟨fun i => real_of_bits _ (congrFun h.1 i), fun i => real_of_bits _ (congrFun h.2.1 i), fun i => below_of_bit _ (congrFun h.2.2 i)⟩

end Cert.Proof
end
end
-- ==== Proof.Texts2.lean ====
module

public import proofs.«01_k».proof.Defs
public import proofs.«01_k».proof.Proof.Gen.Kernel2
public import proofs.«01_k».proof.Proof.Gen.Kernel2Ideal

/-! The two texts of the experts' kernel are one: the body table over machine floats is the ideal
    program's text over machine floats. -/

@[expose] public section
set_option maxRecDepth 16384
noncomputable section
namespace Cert.Proof
open Idealize.ShloMosaic Idealize.ShloMosaic.TcCoe Idealize.SL.Sem

/-- One body, the same text. -/
theorem body2_eq : @Cert.Kernel2.cc0_ffn_experts Bits _ Cert.Kernel2.Gen.facts = @Cert.Kernel2Ideal.cc0_ffn_experts Bits _ Cert.Kernel2Ideal.Gen.facts := rfl

/-- The tables of bodies agree, label by label. -/
theorem defs2₀_eq : Cert.Kernel2.defs₀ (F := Bits) = Cert.Kernel2Ideal.defs₀ (F := Bits) := by
  unfold Cert.Kernel2.defs₀ Cert.Kernel2Ideal.defs₀
  rw [body2_eq]
  refine congrArg Defs.onTc (funext fun l => funext fun a => ?_)
  match l, a with
  | 0, (t, s) => rfl
  | ⟨n + 1, h⟩, _ => exact absurd h (Nat.not_lt.2 (Nat.le_add_left _ _))

/-- The tables with the pipelines agree. -/
theorem defs2_eq : Cert.Kernel2.defs (F := Bits) = Cert.Kernel2Ideal.defs (F := Bits) :=
  congrArg (Pipeline.defs (Cert.Kernel2.pcfgs (F := Bits))) defs2₀_eq
end Cert.Proof
end
end
-- ==== Proof.FfnBody.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Ring

/-! The experts' body from end to end, one theorem for each way through its conditionals. -/

@[expose] public section
set_option maxRecDepth 16384
noncomputable section
namespace Cert.Kernel2Ideal.Ffn
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a step starts its tile: the tile is in use and this is its first step. -/
abbrev condA (i : grid0.Coords) (n : BitVec 32) : BitVec 1 :=
  Scalar.cmpi .ne (Scalar.extui (Scalar.andi (Scalar.cmpi .slt (BitVec.ofNat 32 (i 0).val) n) (Scalar.cmpi .eq (BitVec.ofNat 32 (i 1).val) 0#32)) : BitVec 32) 0#32
/-- The condition under which a step adds its part: the tile is in use. -/
abbrev condB (i : grid0.Coords) (n : BitVec 32) : BitVec 1 :=
  Scalar.cmpi .ne (Scalar.extui (Scalar.cmpi .slt (BitVec.ofNat 32 (i 0).val) n) : BitVec 32) 0#32

/-- The tile's columns `0 … 127`: every eighth row of the block from row 0 on. -/
abbrev xs0 (x0 : Vec F S8192x128 .f32) : Vec F S1024x128 .f32 := View.ld x0 (⟨(⟨![0, 0], S1024x128.size, ![8, 1], inb_S8192x128_S1024x128_0_0_s_8_1⟩ : LoadRect S8192x128), spos_8_1⟩ : Rect S8192x128)
/-- The tile's columns `128 … 255`: every eighth row of the block from row 1 on. -/
abbrev xs1 (x0 : Vec F S8192x128 .f32) : Vec F S1024x128 .f32 := View.ld x0 (⟨(⟨![1, 0], S1024x128.size, ![8, 1], inb_S8192x128_S1024x128_1_0_s_8_1⟩ : LoadRect S8192x128), spos_8_1⟩ : Rect S8192x128)
/-- The tile's columns `256 … 383`: every eighth row of the block from row 2 on. -/
abbrev xs2 (x0 : Vec F S8192x128 .f32) : Vec F S1024x128 .f32 := View.ld x0 (⟨(⟨![2, 0], S1024x128.size, ![8, 1], inb_S8192x128_S1024x128_2_0_s_8_1⟩ : LoadRect S8192x128), spos_8_1⟩ : Rect S8192x128)
/-- The tile's columns `384 … 511`: every eighth row of the block from row 3 on. -/
abbrev xs3 (x0 : Vec F S8192x128 .f32) : Vec F S1024x128 .f32 := View.ld x0 (⟨(⟨![3, 0], S1024x128.size, ![8, 1], inb_S8192x128_S1024x128_3_0_s_8_1⟩ : LoadRect S8192x128), spos_8_1⟩ : Rect S8192x128)
/-- The tile's columns `512 … 639`: every eighth row of the block from row 4 on. -/
abbrev xs4 (x0 : Vec F S8192x128 .f32) : Vec F S1024x128 .f32 := View.ld x0 (⟨(⟨![4, 0], S1024x128.size, ![8, 1], inb_S8192x128_S1024x128_4_0_s_8_1⟩ : LoadRect S8192x128), spos_8_1⟩ : Rect S8192x128)
/-- The tile's columns `640 … 767`: every eighth row of the block from row 5 on. -/
abbrev xs5 (x0 : Vec F S8192x128 .f32) : Vec F S1024x128 .f32 := View.ld x0 (⟨(⟨![5, 0], S1024x128.size, ![8, 1], inb_S8192x128_S1024x128_5_0_s_8_1⟩ : LoadRect S8192x128), spos_8_1⟩ : Rect S8192x128)
/-- The tile's columns `768 … 895`: every eighth row of the block from row 6 on. -/
abbrev xs6 (x0 : Vec F S8192x128 .f32) : Vec F S1024x128 .f32 := View.ld x0 (⟨(⟨![6, 0], S1024x128.size, ![8, 1], inb_S8192x128_S1024x128_6_0_s_8_1⟩ : LoadRect S8192x128), spos_8_1⟩ : Rect S8192x128)
/-- The tile's columns `896 … 1023`: every eighth row of the block from row 7 on. -/
abbrev xs7 (x0 : Vec F S8192x128 .f32) : Vec F S1024x128 .f32 := View.ld x0 (⟨(⟨![7, 0], S1024x128.size, ![8, 1], inb_S8192x128_S1024x128_7_0_s_8_1⟩ : LoadRect S8192x128), spos_8_1⟩ : Rect S8192x128)
/-- The gain's columns `0 … 127`. -/
abbrev gs0 (g : Vec F S1x1024 .f32) : Vec F S1x128 .f32 := View.ld g (Rect.unit (s := S1x1024) ![0, 0] S1x128.size inb_S1x1024_S1x128_0_0)
/-- The gain's columns `128 … 255`. -/
abbrev gs1 (g : Vec F S1x1024 .f32) : Vec F S1x128 .f32 := View.ld g (Rect.unit (s := S1x1024) ![0, 128] S1x128.size inb_S1x1024_S1x128_0_128)
/-- The gain's columns `256 … 383`. -/
abbrev gs2 (g : Vec F S1x1024 .f32) : Vec F S1x128 .f32 := View.ld g (Rect.unit (s := S1x1024) ![0, 256] S1x128.size inb_S1x1024_S1x128_0_256)
/-- The gain's columns `384 … 511`. -/
abbrev gs3 (g : Vec F S1x1024 .f32) : Vec F S1x128 .f32 := View.ld g (Rect.unit (s := S1x1024) ![0, 384] S1x128.size inb_S1x1024_S1x128_0_384)
/-- The gain's columns `512 … 639`. -/
abbrev gs4 (g : Vec F S1x1024 .f32) : Vec F S1x128 .f32 := View.ld g (Rect.unit (s := S1x1024) ![0, 512] S1x128.size inb_S1x1024_S1x128_0_512)
/-- The gain's columns `640 … 767`. -/
abbrev gs5 (g : Vec F S1x1024 .f32) : Vec F S1x128 .f32 := View.ld g (Rect.unit (s := S1x1024) ![0, 640] S1x128.size inb_S1x1024_S1x128_0_640)
/-- The gain's columns `768 … 895`. -/
abbrev gs6 (g : Vec F S1x1024 .f32) : Vec F S1x128 .f32 := View.ld g (Rect.unit (s := S1x1024) ![0, 768] S1x128.size inb_S1x1024_S1x128_0_768)
/-- The gain's columns `896 … 1023`. -/
abbrev gs7 (g : Vec F S1x1024 .f32) : Vec F S1x128 .f32 := View.ld g (Rect.unit (s := S1x1024) ![0, 896] S1x128.size inb_S1x1024_S1x128_0_896)
/-- Each row's `rsqrt` of its mean square, as the body computes it. -/
abbrev rs (x0 : Vec F S8192x128 .f32) : FVec F S1024x1 .f32 := k0_pay7 (xs0 x0) (xs1 x0) (xs2 x0) (xs3 x0) (xs4 x0) (xs5 x0) (xs6 x0) (xs7 x0)

/-- The eight column blocks of the normalized rows the body stores, last first. -/
def hL (x0 : Vec F S8192x128 .f32) (g : Vec F S1x1024 .f32) : List (View.Piece (Elt F) S1024x1024 .bf16) :=
  [⟨Rect.unit (s := S1024x1024) ![0, 896] S1024x128.size inb_S1024x1024_S1024x128_0_896, k0_pay3 (xs7 x0) (rs x0) (gs7 g)⟩,
   ⟨Rect.unit (s := S1024x1024) ![0, 768] S1024x128.size inb_S1024x1024_S1024x128_0_768, k0_pay2 (xs6 x0) (rs x0) (gs6 g)⟩,
   ⟨Rect.unit (s := S1024x1024) ![0, 640] S1024x128.size inb_S1024x1024_S1024x128_0_640, k0_pay1 (xs5 x0) (k0_pay14 (rs x0)) (gs5 g)⟩,
   ⟨Rect.unit (s := S1024x1024) ![0, 512] S1024x128.size inb_S1024x1024_S1024x128_0_512, k0_pay13 (xs4 x0) (rs x0) (gs4 g)⟩,
   ⟨Rect.unit (s := S1024x1024) ![0, 384] S1024x128.size inb_S1024x1024_S1024x128_0_384, k0_pay12 (xs3 x0) (rs x0) (gs3 g)⟩,
   ⟨Rect.unit (s := S1024x1024) ![0, 256] S1024x128.size inb_S1024x1024_S1024x128_0_256, k0_pay11 (xs2 x0) (rs x0) (gs2 g)⟩,
   ⟨Rect.unit (s := S1024x1024) ![0, 128] S1024x128.size inb_S1024x1024_S1024x128_0_128, k0_pay10 (xs1 x0) (rs x0) (gs1 g)⟩,
   ⟨Rect.unit (s := S1024x1024) ![0, 0] S1024x128.size inb_S1024x1024_S1024x128_0_0, k0_pay9 (k0_pay8 (xs0 x0) (xs1 x0) (xs2 x0) (xs3 x0) (xs4 x0) (xs5 x0) (xs6 x0) (xs7 x0) (gs0 g))⟩]
/-- They fill their array. -/
theorem hL_cover (x0 : Vec F S8192x128 .f32) (g : Vec F S1x1024 .f32) (y : S1024x1024.Idx) : ∃ p ∈ hL (F := F) x0 g, y ∈ p.1.set :=
  View.cover_of_tiledL (s := S1024x1024) (hL x0 g) S1024x128.size (by sl_kernel_rfl) y
/-- The normalized rows of a tile. -/
def hOf (x0 : Vec F S8192x128 .f32) (g : Vec F S1x1024 .f32) : Vec F S1024x1024 .bf16 := View.canon (hL x0 g)

/-- The eight strided stores of a finished tile, last first. -/
def oL (acc : Vec F S1024x1024 .f32) : List (View.Piece (Elt F) S8192x128 .f32) :=
  [⟨⟨(⟨![7, 0], S1024x128.size, ![8, 1], inb_S8192x128_S1024x128_7_0_s_8_1⟩ : LoadRect S8192x128), spos_8_1⟩, View.ld acc (Rect.unit (s := S1024x1024) ![0, 896] S1024x128.size inb_S1024x1024_S1024x128_0_896)⟩,
   ⟨⟨(⟨![6, 0], S1024x128.size, ![8, 1], inb_S8192x128_S1024x128_6_0_s_8_1⟩ : LoadRect S8192x128), spos_8_1⟩, View.ld acc (Rect.unit (s := S1024x1024) ![0, 768] S1024x128.size inb_S1024x1024_S1024x128_0_768)⟩,
   ⟨⟨(⟨![5, 0], S1024x128.size, ![8, 1], inb_S8192x128_S1024x128_5_0_s_8_1⟩ : LoadRect S8192x128), spos_8_1⟩, View.ld acc (Rect.unit (s := S1024x1024) ![0, 640] S1024x128.size inb_S1024x1024_S1024x128_0_640)⟩,
   ⟨⟨(⟨![4, 0], S1024x128.size, ![8, 1], inb_S8192x128_S1024x128_4_0_s_8_1⟩ : LoadRect S8192x128), spos_8_1⟩, View.ld acc (Rect.unit (s := S1024x1024) ![0, 512] S1024x128.size inb_S1024x1024_S1024x128_0_512)⟩,
   ⟨⟨(⟨![3, 0], S1024x128.size, ![8, 1], inb_S8192x128_S1024x128_3_0_s_8_1⟩ : LoadRect S8192x128), spos_8_1⟩, View.ld acc (Rect.unit (s := S1024x1024) ![0, 384] S1024x128.size inb_S1024x1024_S1024x128_0_384)⟩,
   ⟨⟨(⟨![2, 0], S1024x128.size, ![8, 1], inb_S8192x128_S1024x128_2_0_s_8_1⟩ : LoadRect S8192x128), spos_8_1⟩, View.ld acc (Rect.unit (s := S1024x1024) ![0, 256] S1024x128.size inb_S1024x1024_S1024x128_0_256)⟩,
   ⟨⟨(⟨![1, 0], S1024x128.size, ![8, 1], inb_S8192x128_S1024x128_1_0_s_8_1⟩ : LoadRect S8192x128), spos_8_1⟩, View.ld acc (Rect.unit (s := S1024x1024) ![0, 128] S1024x128.size inb_S1024x1024_S1024x128_0_128)⟩,
   ⟨⟨(⟨![0, 0], S1024x128.size, ![8, 1], inb_S8192x128_S1024x128_0_0_s_8_1⟩ : LoadRect S8192x128), spos_8_1⟩, View.ld acc (Rect.unit (s := S1024x1024) ![0, 0] S1024x128.size inb_S1024x1024_S1024x128_0_0)⟩]
/-- They fill the block. -/
theorem oL_cover (acc : Vec F S1024x1024 .f32) (y : S8192x128.Idx) : ∃ p ∈ oL (F := F) acc, y ∈ p.1.set := by
  have hy : (y 0).val < 8192 := (y 0).isLt
  have h1 : (y 1).val < 128 := (y 1).isLt
  have key : ∀ (k : ℕ) (inb), (y 0).val % 8 = k →
      y ∈ (⟨(⟨![k, 0], S1024x128.size, ![8, 1], inb⟩ : LoadRect S8192x128), spos_8_1⟩ : Rect S8192x128).set := by
    intro k inb hk
    refine (LoadRect.mem_set _).mpr fun a => ?_
    match a with
    | 0 => exact ⟨(y 0).val / 8, by show _ < 1024; omega, by show (y 0).val = k + 8 * _; omega⟩
    | 1 => exact ⟨(y 1).val, h1, by show (y 1).val = 0 + 1 * (y 1).val; omega⟩
  unfold oL
  simp only [List.mem_cons, List.not_mem_nil, _root_.or_false, exists_eq_or_imp, exists_eq_left]
  have hm : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
  rcases hm with h | h | h | h | h | h | h | h
  · exact (.inl (key 7 _ h))
  · exact (.inr (.inl (key 6 _ h)))
  · exact (.inr (.inr (.inl (key 5 _ h))))
  · exact (.inr (.inr (.inr (.inl (key 4 _ h)))))
  · exact (.inr (.inr (.inr (.inr (.inl (key 3 _ h))))))
  · exact (.inr (.inr (.inr (.inr (.inr (.inl (key 2 _ h)))))))
  · exact (.inr (.inr (.inr (.inr (.inr (.inr (.inl (key 1 _ h))))))))
  · exact (.inr (.inr (.inr (.inr (.inr (.inr (.inr (key 0 _ h))))))))
/-- The block a finished tile leaves. -/
def oOf (acc : Vec F S1024x1024 .f32) : Vec F S8192x128 .f32 := View.canon (oL acc)

/-- A load of a whole scratch array reads it. -/
theorem readAt_sq {sp : Space} {e : EltTy} (v : View sig .tc sp S1024x1024 e) (f : v.ty.Contents (Elt F)) :
    v.readAt (Elt F) (Rect.unit (s := S1024x1024) ![0, 0] S1024x1024.size inb_S1024x1024_S1024x1024_0_0).toLoadRect f = v.read (Elt F) f := View.readAt_full ..
/-- A load of a whole first or second weight block reads it. -/
theorem readAt_w13 {sp : Space} {e : EltTy} (v : View sig .tc sp S1x1024x512 e) (f : v.ty.Contents (Elt F)) :
    v.readAt (Elt F) (Rect.unit (s := S1x1024x512) ![0, 0, 0] S1x1024x512.size inb_S1x1024x512_S1x1024x512_0_0_0).toLoadRect f = v.read (Elt F) f := View.readAt_full ..
/-- A load of a whole third weight block reads it. -/
theorem readAt_w2 {sp : Space} {e : EltTy} (v : View sig .tc sp S1x512x1024 e) (f : v.ty.Contents (Elt F)) :
    v.readAt (Elt F) (Rect.unit (s := S1x512x1024) ![0, 0, 0] S1x512x1024.size inb_S1x512x1024_S1x512x1024_0_0_0).toLoadRect f = v.read (Elt F) f := View.readAt_full ..
/-- A load after a store of the whole scratch array reads the stored value. -/
theorem readCov_sq {sp : Space} (v : View sig .tc sp S1024x1024 .f32) (w : Vec F S1024x1024 .f32) (B : Rect S1024x1024) :
    v.readCov (Val := Elt F) [⟨Rect.unit (s := S1024x1024) ![0, 0] S1024x1024.size inb_S1024x1024_S1024x1024_0_0, w⟩] B.toLoadRect = View.ld w B := by
  unfold View.readCov; rw [View.readAt_eq_ld]; exact congrArg (fun x => View.ld x B) (View.read_writes_full v _ _ w [])

set_option maxHeartbeats 1000000 in
/-- The first step of a tile in use. -/
theorem runA (c : Dev nD) (i : grid0.Coords) (arg2 : Memref sig .tc .smem S72 .i32) (harg2 : arg2.IsWhole) (arg3 : Memref sig .tc .smem S1 .i32) (harg3 : arg3.IsWhole) (arg4 : Memref sig .tc .vmem S8192x128 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x0 : Vec F S8192x128 .f32) (g : Vec F S1x1024 .f32) (x2 x3 : Vec F S1x1024x512 .f32) (x4 : Vec F S1x512x1024 .f32)
    (hA : condA i n0 = 1#1) (hB : condB i n0 = 1#1) (h3 : ¬ k0_cond3 i = 1#1)
    (E : Set ℕ) (K : PUnit → sProp 𝕄) :
    iprop(owns (c : Thread nD τ) arg3 q n ∗ owns (c : Thread nD τ) arg4 fullShare x0 ∗ owns (c : Thread nD τ) arg5 fullShare g ∗ owns (c : Thread nD τ) arg6 fullShare x2 ∗ owns (c : Thread nD τ) arg7 fullShare x3 ∗ owns (c : Thread nD τ) arg8 fullShare x4 ∗ (∃ d, owns (c : Thread nD τ) arg10 fullShare d) ∗ (∃ d, owns (c : Thread nD τ) arg11 fullShare d)
        ∗ (iprop(owns (c : Thread nD τ) arg3 q n ∗ owns (c : Thread nD τ) arg4 fullShare x0 ∗ owns (c : Thread nD τ) arg5 fullShare g ∗ owns (c : Thread nD τ) arg6 fullShare x2 ∗ owns (c : Thread nD τ) arg7 fullShare x3 ∗ owns (c : Thread nD τ) arg8 fullShare x4 ∗ owns (c : Thread nD τ) arg10 fullShare (hOf x0 g) ∗ owns (c : Thread nD τ) arg11 fullShare (k0_pay5 (hOf x0 g) x2 x3 k0_pay4 x4)) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10 arg11 harg11) K := by
  simp only [cc0_ffn_experts_eq_skeleton]; unfold cc0_ffn_experts_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  have eH : runA.sl.H10_8 c arg4 arg5 f4 f5 = hL (arg4.view.read (Elt F) f4) (arg5.view.read (Elt F) f5) := by
    unfold runA.sl.H10_8 hL runA.sl.r_11 runA.sl.r_9 runA.sl.r_8
    unfold runA.sl.r_1 runA.sl.r_2 runA.sl.r_3 runA.sl.r_4 runA.sl.r_5 runA.sl.r_6 runA.sl.r_7
    rfl
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H10]
  · iexists _; isplitr; swap; · iexact H10
    ipureintro; subst hf4 hf5; rw [eH]; exact View.read_writes_eq_canon _ _ (hL _ _) (hL_cover _ _)
  iexists _; isplitr; swap; · iexact H11
  ipureintro; subst hf4 hf5 hf6 hf7 hf8; rw [View.read_writes_full, readAt_w13, readAt_w13, readAt_w2]
  have e10 : runA.sl.v11 c arg4 arg5 arg10 f4 f5 = hOf (arg4.view.read (Elt F) f4) (arg5.view.read (Elt F) f5) := by
    unfold runA.sl.v11 View.readCov; rw [eH, readAt_sq]; exact View.read_writes_eq_canon _ _ (hL _ _) (hL_cover _ _)
  have e11 : runA.sl.v20 (F := F) c arg11 = k0_pay4 := by
    unfold runA.sl.v20 runA.sl.H11_1 View.readCov; exact (readAt_sq _ _).trans (View.read_writes_full _ _ _ _ [])
  rw [e10, e11]

set_option maxHeartbeats 1000000 in
/-- A step in the middle of a tile in use. -/
theorem runB (c : Dev nD) (i : grid0.Coords) (arg2 : Memref sig .tc .smem S72 .i32) (harg2 : arg2.IsWhole) (arg3 : Memref sig .tc .smem S1 .i32) (harg3 : arg3.IsWhole) (arg4 : Memref sig .tc .vmem S8192x128 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x2 x3 : Vec F S1x1024x512 .f32) (x4 : Vec F S1x512x1024 .f32) (h : Vec F S1024x1024 .bf16) (acc : Vec F S1024x1024 .f32)
    (hA : ¬ condA i n0 = 1#1) (hB : condB i n0 = 1#1) (h3 : ¬ k0_cond3 i = 1#1)
    (E : Set ℕ) (K : PUnit → sProp 𝕄) :
    iprop(owns (c : Thread nD τ) arg3 q n ∗ owns (c : Thread nD τ) arg6 fullShare x2 ∗ owns (c : Thread nD τ) arg7 fullShare x3 ∗ owns (c : Thread nD τ) arg8 fullShare x4 ∗ owns (c : Thread nD τ) arg10 fullShare h ∗ owns (c : Thread nD τ) arg11 fullShare acc
        ∗ (iprop(owns (c : Thread nD τ) arg3 q n ∗ owns (c : Thread nD τ) arg6 fullShare x2 ∗ owns (c : Thread nD τ) arg7 fullShare x3 ∗ owns (c : Thread nD τ) arg8 fullShare x4 ∗ owns (c : Thread nD τ) arg10 fullShare h ∗ owns (c : Thread nD τ) arg11 fullShare (k0_pay5 h x2 x3 acc x4)) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10 arg11 harg11) K := by
  simp only [cc0_ffn_experts_eq_skeleton]; unfold cc0_ffn_experts_skel
  simp only [k0_part1_eq_skeleton, k0_part2_eq_skeleton]
  unfold owns
  iintro ⟨⟨%f3, %hf3, H3⟩, ⟨%f6, %hf6, H6⟩, ⟨%f7, %hf7, H7⟩, ⟨%f8, %hf8, H8⟩, ⟨%f10, %hf10, H10⟩, ⟨%f11, %hf11, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  iapply Hk
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H10]
  · iexists _; isplitr; · ipureintro; exact hf10
    iexact H10
  iexists _; isplitr; swap; · iexact H11
  ipureintro; subst hf6 hf7 hf8 hf10 hf11; rw [View.read_writes_full]; rw [readAt_sq, readAt_w13, readAt_w13, readAt_sq, readAt_w2]

set_option maxHeartbeats 1000000 in
/-- The last step of a tile in use. -/
theorem runC (c : Dev nD) (i : grid0.Coords) (arg2 : Memref sig .tc .smem S72 .i32) (harg2 : arg2.IsWhole) (arg3 : Memref sig .tc .smem S1 .i32) (harg3 : arg3.IsWhole) (arg4 : Memref sig .tc .vmem S8192x128 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x2 x3 : Vec F S1x1024x512 .f32) (x4 : Vec F S1x512x1024 .f32) (h : Vec F S1024x1024 .bf16) (acc : Vec F S1024x1024 .f32)
    (hA : ¬ condA i n0 = 1#1) (hB : condB i n0 = 1#1) (h3 : k0_cond3 i = 1#1) (h4 : k0_cond4 i n0 = 1#1) (h5 : ¬ k0_cond5 i n0 = 1#1)
    (E : Set ℕ) (K : PUnit → sProp 𝕄) :
    iprop(owns (c : Thread nD τ) arg3 q n ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare h ∗ owns (c : Thread nD τ) arg11 fullShare acc
        ∗ (iprop(owns (c : Thread nD τ) arg3 q n ∗ owns (c : Thread nD τ) arg6 fullShare x2 ∗ owns (c : Thread nD τ) arg7 fullShare x3 ∗ owns (c : Thread nD τ) arg8 fullShare x4 ∗ owns (c : Thread nD τ) arg9 fullShare (oOf (k0_pay5 h x2 x3 acc x4)) ∗ owns (c : Thread nD τ) arg10 fullShare h ∗ owns (c : Thread nD τ) arg11 fullShare (k0_pay5 h x2 x3 acc x4)) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10 arg11 harg11) K := by
  simp only [cc0_ffn_experts_eq_skeleton]; unfold cc0_ffn_experts_skel
  simp only [k0_part1_eq_skeleton, k0_part2_eq_skeleton]
  unfold owns
  iintro ⟨⟨%f3, %hf3, H3⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB h4 h5
  sl_exec
  sl_step
  iapply Hk
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro; subst hf6 hf7 hf8 hf10 hf11
    have e : runC.sl.H11_1 c arg6 arg7 arg8 arg10 arg11 f6 f7 f8 f10 f11 = [⟨Rect.unit (s := S1024x1024) ![0, 0] S1024x1024.size inb_S1024x1024_S1024x1024_0_0, k0_pay5 (arg10.view.read (Elt F) f10) (arg6.view.read (Elt F) f6) (arg7.view.read (Elt F) f7) (arg11.view.read (Elt F) f11) (arg8.view.read (Elt F) f8)⟩] := by
      unfold runC.sl.H11_1; rw [readAt_sq, readAt_w13, readAt_w13, readAt_sq, readAt_w2]
    have e16 : runC.sl.v16 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 0] S1024x128.size inb_S1024x1024_S1024x128_0_0) := by
      unfold runC.sl.v16; rw [e]; exact readCov_sq _ _ _
    have e18 : runC.sl.v18 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 128] S1024x128.size inb_S1024x1024_S1024x128_0_128) := by
      unfold runC.sl.v18; rw [e]; exact readCov_sq _ _ _
    have e20 : runC.sl.v20 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 256] S1024x128.size inb_S1024x1024_S1024x128_0_256) := by
      unfold runC.sl.v20; rw [e]; exact readCov_sq _ _ _
    have e22 : runC.sl.v22 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 384] S1024x128.size inb_S1024x1024_S1024x128_0_384) := by
      unfold runC.sl.v22; rw [e]; exact readCov_sq _ _ _
    have e24 : runC.sl.v24 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 512] S1024x128.size inb_S1024x1024_S1024x128_0_512) := by
      unfold runC.sl.v24; rw [e]; exact readCov_sq _ _ _
    have e26 : runC.sl.v26 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 640] S1024x128.size inb_S1024x1024_S1024x128_0_640) := by
      unfold runC.sl.v26; rw [e]; exact readCov_sq _ _ _
    have e28 : runC.sl.v28 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 768] S1024x128.size inb_S1024x1024_S1024x128_0_768) := by
      unfold runC.sl.v28; rw [e]; exact readCov_sq _ _ _
    have e30 : runC.sl.v30 c arg6 arg7 arg8 arg10 arg11 f6 f7 f8 f10 f11 = View.ld (k0_pay5 (arg10.view.read (Elt F) f10) (arg6.view.read (Elt F) f6) (arg7.view.read (Elt F) f7) (arg11.view.read (Elt F) f11) (arg8.view.read (Elt F) f8)) (Rect.unit (s := S1024x1024) ![0, 896] S1024x128.size inb_S1024x1024_S1024x128_0_896) := by
      unfold runC.sl.v30; rw [e]; exact readCov_sq _ _ _
    rw [e16, e18, e20, e22, e24, e26, e28, e30]
    exact View.read_writes_eq_canon _ _ (oL _) (oL_cover _)
  isplitl [H10]
  · iexists _; isplitr; · ipureintro; exact hf10
    iexact H10
  iexists _; isplitr; swap; · iexact H11
  ipureintro; subst hf6 hf7 hf8 hf10 hf11; unfold runC.sl.H11_1; rw [View.read_writes_full]; rw [readAt_sq, readAt_w13, readAt_w13, readAt_sq, readAt_w2]

set_option maxHeartbeats 1000000 in
/-- A step of an unused tile before its last. -/
theorem runD (c : Dev nD) (i : grid0.Coords) (arg2 : Memref sig .tc .smem S72 .i32) (harg2 : arg2.IsWhole) (arg3 : Memref sig .tc .smem S1 .i32) (harg3 : arg3.IsWhole) (arg4 : Memref sig .tc .vmem S8192x128 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0)
    (hA : ¬ condA i n0 = 1#1) (hB : ¬ condB i n0 = 1#1) (h3 : ¬ k0_cond3 i = 1#1)
    (E : Set ℕ) (K : PUnit → sProp 𝕄) :
    iprop(owns (c : Thread nD τ) arg3 q n
        ∗ (iprop(owns (c : Thread nD τ) arg3 q n) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10 arg11 harg11) K := by
  simp only [cc0_ffn_experts_eq_skeleton]; unfold cc0_ffn_experts_skel
  simp only [k0_part1_eq_skeleton, k0_part2_eq_skeleton]
  unfold owns
  iintro ⟨⟨%f3, %hf3, H3⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  iapply Hk
  iexists _; isplitr; swap; · iexact H3
  ipureintro; exact hf3

set_option maxHeartbeats 1000000 in
/-- The last step of an unused tile. -/
theorem runE (c : Dev nD) (i : grid0.Coords) (arg2 : Memref sig .tc .smem S72 .i32) (harg2 : arg2.IsWhole) (arg3 : Memref sig .tc .smem S1 .i32) (harg3 : arg3.IsWhole) (arg4 : Memref sig .tc .vmem S8192x128 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0)
    (hA : ¬ condA i n0 = 1#1) (hB : ¬ condB i n0 = 1#1) (h3 : k0_cond3 i = 1#1) (h4 : ¬ k0_cond4 i n0 = 1#1) (h5 : k0_cond5 i n0 = 1#1)
    (E : Set ℕ) (K : PUnit → sProp 𝕄) :
    iprop(owns (c : Thread nD τ) arg3 q n ∗ (∃ d, owns (c : Thread nD τ) arg9 fullShare d)
        ∗ (iprop(owns (c : Thread nD τ) arg3 q n ∗ owns (c : Thread nD τ) arg9 fullShare (k0_pay6)) -∗ K ⟨⟩))
      ⊢ wp frame (wpE (defs₀ (F := F)) Variants.none c none) E (cc0_ffn_experts i arg2 harg2 arg3 harg3 arg4 harg4 arg5 harg5 arg6 harg6 arg7 harg7 arg8 harg8 arg9 harg9 arg10 harg10 arg11 harg11) K := by
  simp only [cc0_ffn_experts_eq_skeleton]; unfold cc0_ffn_experts_skel
  simp only [k0_part1_eq_skeleton, k0_part2_eq_skeleton]
  unfold owns
  iintro ⟨⟨%f3, %hf3, H3⟩, ⟨%d9, %f9, -, H9⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB h4 h5
  sl_exec
  sl_step
  iapply Hk
  isplitl [H3]
  · iexists _; isplitr; · ipureintro; exact hf3
    iexact H3
  iexists _; isplitr; swap; · iexact H9
  ipureintro; exact View.read_writes_full ..

end Cert.Kernel2Ideal.Ffn

end
-- ==== Proof.FfnFrame.lean ====
module

public import proofs.«01_k».proof.Proof.FfnBody
public import Idealize.ShloMosaic.Lib.Claim

/-! The experts' pipeline: what its steps leave in its accumulator and its blocks, the whole program's run, and that it ends with its
arguments unchanged and its counters at zero. -/

@[expose] public section
set_option maxRecDepth 16384
noncomputable section
namespace Cert.Kernel2Ideal.Ffn
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The steps -/

/-- The tile of a step. -/
theorem c0 (t : Fin grid0.N) : (grid0.coords t 0).val = t.val / 7 := by
  have h := Pipeline.Grid.coords_val (G := grid0) t 0 (S := 7) (B := 72) (by decide) rfl
  have ht : t.val < 504 := N_0 ▸ t.isLt
  omega
/-- The part of the inner width a step adds. -/
theorem c1 (t : Fin grid0.N) : (grid0.coords t 1).val = t.val % 7 := by
  have h := Pipeline.Grid.coords_val (G := grid0) t 1 (S := 1) (B := 7) (by decide) rfl
  omega

/-- A tile is in use: its number is below the count. -/
def Used (n : BitVec 32) (i : ℕ) : Prop := (BitVec.ofNat 32 i).toInt < n.toInt

/-- Whether a tile is in use can be decided. -/
instance (n : BitVec 32) (i : ℕ) : Decidable (Used n i) := inferInstanceAs (Decidable (_ < _))

/-- The condition on the accumulation holds when the tile is in use. -/
theorem condB_iff (i : grid0.Coords) (n : BitVec 32) : condB i n = 1#1 ↔ Used n (i 0).val := by
  unfold condB Used
  simp only [WordCmp.scalar_cmpi_eq, WordCmp.cmpi_slt_eq, WordCmp.scalar_extui_ofBool, WordCmp.cmpi_ne_eq, WordCmp.ofBool_decide_eq_one_iff]
  split <;> simp_all

/-- The inner step as a word is the word of `k` exactly at step `k`. -/
theorem eq_zero_iff (i : grid0.Coords) (k : ℕ) (hk : k < 7) : BitVec.ofNat 32 (i 1).val = BitVec.ofNat 32 k ↔ (i 1).val = k := by
  have h1 : (i 1).val < 7 := (i 1).isLt
  rw [WordCmp.ofNat_eq_ofNat_iff (by omega) (by omega)]

/-- The condition on the first step holds when the tile is in use and the inner step is the first. -/
theorem condA_iff (i : grid0.Coords) (n : BitVec 32) : condA i n = 1#1 ↔ Used n (i 0).val ∧ (i 1).val = 0 := by
  unfold condA Used
  rw [← eq_zero_iff i 0 (by omega)]
  simp only [WordCmp.scalar_cmpi_eq, WordCmp.cmpi_slt_eq, WordCmp.cmpi_eq_eq, WordCmp.scalar_andi_eq, WordCmp.andi_ofBool, WordCmp.scalar_extui_ofBool, WordCmp.cmpi_ne_eq, WordCmp.ofBool_decide_eq_one_iff]
  split <;> simp_all

/-- The condition on the last step holds at the seventh inner step. -/
theorem cond3_iff (i : grid0.Coords) : k0_cond3 i = 1#1 ↔ (i 1).val = 6 := by
  rw [← eq_zero_iff i 6 (by omega)]
  unfold k0_cond3
  simp only [WordCmp.scalar_cmpi_eq, WordCmp.cmpi_eq_eq, WordCmp.scalar_extui_ofBool, WordCmp.cmpi_ne_eq, WordCmp.ofBool_decide_eq_one_iff]
  split <;> simp_all

/-- The condition on the result store holds when the tile is in use. -/
theorem cond4_iff (i : grid0.Coords) (n : BitVec 32) : k0_cond4 i n = 1#1 ↔ Used n (i 0).val := condB_iff i n

/-- The condition on the zero store holds when the tile is not in use. -/
theorem cond5_iff (i : grid0.Coords) (n : BitVec 32) : k0_cond5 i n = 1#1 ↔ ¬ Used n (i 0).val := by
  have key : ∀ b : Bool, IntOp.cmpi .ne (Scalar.extui (Scalar.xori (BitVec.ofBool b) 1#1) : BitVec 32) 0#32 = 1#1 ↔ ¬ b = true := by decide
  unfold k0_cond5 Used
  simp only [WordCmp.scalar_cmpi_eq, WordCmp.cmpi_slt_eq]
  rw [key, decide_eq_true_eq]

/-! ## The tables -/

variable (m : (ℓ : Loc nD τ sig) → Buf (Elt F) ℓ) (ρ : Dev nD → PrngReg)

/-- The tables as the launch finds them. -/
def tab : pre0.Contents (Elt F) := fun k => m (((0 : Dev nD).tc : Thread nD τ).loc (pre0.ref k))

/-- The count of tiles in use. -/
def nU (pf : pre0.Contents (Elt F)) : BitVec 32 := pf.at 1 (Rect.unit (s := S1) ![0] S1.size inb_S1_S1_0) numel1_S1

/-- A one-entry array has one index. -/
theorem one_idx (x y : S1.Idx) : x = y := funext fun a => match a with
  | ⟨0, _⟩ => Subsingleton.elim (α := Fin 1) _ _

/-- Every read of the count table is the count. -/
theorem nU_all (pf : pre0.Contents (Elt F)) (x : S1.Idx) : (pf 1 : Vec F S1 .i32) x = nU pf := by
  unfold nU; exact congrArg (pf 1 : Vec F S1 .i32) (one_idx _ _)

/-- The windows read the count too. -/
theorem atD_eq (pf : pre0.Contents (Elt F)) : pf.atD 1 ![0] = nU pf := by
  have h : ∀ a, (![0] : Fin 1 → ℕ) a + 1 ≤ S1.size a := by decide
  exact (dif_pos (c := ∀ a, (![0] : Fin 1 → ℕ) a + 1 ≤ S1.size a) h).trans (nU_all pf _)

/-- The launch's tables are admissible: every expert's number is below eight. -/
theorem tab_ok (h : ∀ x : S72.Idx, ((tab m 0 : Vec F S72 .i32) x).toNat < 8) : ok0 (tab m) := by
  have e : ∀ i : grid0.Coords, ((tab m).at 0 (Rect.unit (s := S72) ![(Scalar.indexCast (BitVec.ofNat 32 (i 0).val)).toNat] S1.size (k0_off1_inb i)) numel1_S1 : BitVec 32).toNat < 8 := fun i => h _
  have f : ∀ (i : grid0.Coords) (c : BitVec 1), (Scalar.select c (BitVec.ofNat 32 (i 1).val) 0#32).toNat < 7 := by
    intro i c
    have h1 : (i 1).val < 7 := (i 1).isLt
    have h2 : (BitVec.ofNat 32 (i 1).val).toNat = (i 1).val := WordCmp.toNat_ofNat_of_lt (by omega)
    unfold Scalar.select
    split
    · rw [h2]; exact h1
    · decide
  refine ⟨fun i => ⟨fun a => ?_, Or.inl rfl⟩, fun i => ⟨fun a => ?_, Or.inl rfl⟩, fun i => ⟨fun a => ?_, Or.inl rfl⟩⟩
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact (by decide : (0 + 1) * 1024 ≤ 1024)
    | ⟨2, _⟩ => exact Nat.mul_le_mul_right 512 (Nat.succ_le_of_lt f1)
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact (by decide : (0 + 1) * 1024 ≤ 1024)
    | ⟨2, _⟩ => exact Nat.mul_le_mul_right 512 (Nat.succ_le_of_lt f1)
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact Nat.mul_le_mul_right 512 (Nat.succ_le_of_lt f1)
    | ⟨2, _⟩ => exact (by decide : (0 + 1) * 1024 ≤ 1024)

/-! ## The pipeline's data -/

variable (a : (pcfg0 (F := F)).Adm)

/-- What the launch finds in a core's buffers. -/
abbrev V (c : Dev nD) (b : Ref sig .tc) : Buf (Elt F) ((c.tc : Thread nD τ).loc b) := m ((c.tc : Thread nD τ).loc b)

/-- Window `w`'s block at step `t`. -/
def iblk (c : Dev nD) (w : Fin 6) (t : Fin grid0.N) : ((((cfg0 a).win w).xblock (grid0.coords t)).Idx → Elt F ((cfg0 a).win w).elt) :=
  (((cfg0 a).win w).blk t).view.read (Elt F) (V m c (Pipeline.arrRef spec0 w))

/-- A number as a step. -/
def pt (n : ℕ) : Fin grid0.N := if h : n < grid0.N then ⟨n, h⟩ else ⟨0, by decide⟩

/-- The point of a point's number is the point. -/
theorem pt_val (t : Fin grid0.N) : pt t.val = t := dif_pos t.isLt

/-- The normed tile held during step `n`. -/
def hN (c : Dev nD) : ℕ → Vec F S1024x1024 .bf16
  | 0 => hOf (iblk m a c 0 (pt 0)) (iblk m a c 1 (pt 0))
  | n + 1 => if (n + 1) % 7 = 0 then hOf (iblk m a c 0 (pt (n + 1))) (iblk m a c 1 (pt (n + 1))) else hN c n

/-- The sum after step `n`. -/
def accN (c : Dev nD) : ℕ → Vec F S1024x1024 .f32
  | 0 => k0_pay5 (hN m a c 0) (iblk m a c 2 (pt 0)) (iblk m a c 3 (pt 0)) k0_pay4 (iblk m a c 4 (pt 0))
  | n + 1 => k0_pay5 (hN m a c (n + 1)) (iblk m a c 2 (pt (n + 1))) (iblk m a c 3 (pt (n + 1))) (if (n + 1) % 7 = 0 then k0_pay4 else accN c n) (iblk m a c 4 (pt (n + 1)))

/-- What the last step of a tile leaves in the output block. -/
def outN (c : Dev nD) (n : ℕ) : Vec F S8192x128 .f32 :=
  if Used (nU a.1) (n / 7) then oOf (accN m a c n) else k0_pay6

/-- What holds between two steps: in a tile in use, past its first step, the scratch holds the normed tile and the sum so far. -/
def Inv (c : Dev nD) (n : ℕ) : sProp 𝕄 :=
  iprop(∃ (H : Vec F S1024x1024 .bf16) (A : Vec F S1024x1024 .f32), ⌜n % 7 ≠ 0 → Used (nU a.1) (n / 7) → H = hN m a c (n - 1) ∧ A = accN m a c (n - 1)⌝
    ∗ owns (c : Thread nD τ) (Memref.whole cc0_scratch0) fullShare H ∗ owns (c : Thread nD τ) (Memref.whole cc0_scratch1) fullShare A ∗ (∃ r, prngReg c r)
    ∗ owns (c : Thread nD τ) (Memref.whole main_arg0) fullShare.right (a.1 0 : Vec F S72 .i32) ∗ owns (c : Thread nD τ) (Memref.whole main_arg1) fullShare.right (a.1 1 : Vec F S1 .i32))

/-- The pipeline's data on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outN m a c t.val
  Φ n := Inv m a c n.val
  q w := fullShare
  owed _ := 0

/-- The windows' arrays at the launch. -/
theorem A_eq (c : Dev nD) (w : Fin 6) : (dats m a 0 c).A w = V m c (Pipeline.arrRef spec0 w) := by
  dsimp only [dats]

/-- The rows' block after a step. -/
theorem after_0 (c : Dev nD) (t : Fin grid0.N) : (dats m a 0 c).after 0 t = iblk m a c 0 t := rfl
/-- The gain's block after a step. -/
theorem after_1 (c : Dev nD) (t : Fin grid0.N) : (dats m a 0 c).after 1 t = iblk m a c 1 t := rfl
/-- The first weights' block after a step. -/
theorem after_2 (c : Dev nD) (t : Fin grid0.N) : (dats m a 0 c).after 2 t = iblk m a c 2 t := rfl
/-- The second weights' block after a step. -/
theorem after_3 (c : Dev nD) (t : Fin grid0.N) : (dats m a 0 c).after 3 t = iblk m a c 3 t := rfl
/-- The third weights' block after a step. -/
theorem after_4 (c : Dev nD) (t : Fin grid0.N) : (dats m a 0 c).after 4 t = iblk m a c 4 t := rfl
/-- The result's block after a step. -/
theorem after_5 (c : Dev nD) (t : Fin grid0.N) : (dats m a 0 c).after 5 t = outN m a c t.val := rfl

/-- The rows' block before a step. -/
theorem before_0 (c : Dev nD) (t : Fin grid0.N) (d) : (dats m a 0 c).before 0 t d = iblk m a c 0 t :=
  ((dats m a 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The gain's block before a step. -/
theorem before_1 (c : Dev nD) (t : Fin grid0.N) (d) : (dats m a 0 c).before 1 t d = iblk m a c 1 t :=
  ((dats m a 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The first weights' block before a step. -/
theorem before_2 (c : Dev nD) (t : Fin grid0.N) (d) : (dats m a 0 c).before 2 t d = iblk m a c 2 t :=
  ((dats m a 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The second weights' block before a step. -/
theorem before_3 (c : Dev nD) (t : Fin grid0.N) (d) : (dats m a 0 c).before 3 t d = iblk m a c 3 t :=
  ((dats m a 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The third weights' block before a step. -/
theorem before_4 (c : Dev nD) (t : Fin grid0.N) (d) : (dats m a 0 c).before 4 t d = iblk m a c 4 t :=
  ((dats m a 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The output's block is written back at a tile's last step only. -/
theorem flush_5 : ∀ t : Fin grid0.N, t.val % 7 ≠ 6 → (spec0 5).flushAt (G := grid0) cc0_transform_5 t = false := by decide +kernel
/-- The result's block is not written back before a tile's last step. -/
theorem flush5 (t : Fin grid0.N) (h : t.val % 7 ≠ 6) : ((cfg0 a).win 5).flush t = false := flush_5 t h

/-! ## The body obligation -/

/-- Window `w`'s buffer at step `t`. -/
abbrev st (w : Fin 6) (t : Fin grid0.N) := ((cfg0 a).win w).stage ((cfg0 a).slots t w)

/-- The body the pipeline calls at step `t`. -/
def bodyAt (t : Fin grid0.N) : Prog (TpuEff nD τ sig (Elt F) Λ₀ .tc) PUnit :=
  cc0_ffn_experts (grid0.coords t) (Memref.whole main_arg0) (Memref.isWhole_whole _) (Memref.whole main_arg1) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _) (Memref.whole cc0_scratch1) (Memref.isWhole_whole _)

/-- The body the table runs at a point. -/
theorem defs₀_row (t : Fin grid0.N) :
    defs₀ (F := F) .tc (cfg0 a).body ((cfg0 a).bodyArgs t ((cfg0 a).slots t)) = bodyAt a t := by
  unfold defs₀; rw [Defs.onTc_tc]; rfl

/-- What the body is called with at step `t` -/
def bodyPre (c : Dev nD) (t : Fin grid0.N) : sProp 𝕄 :=
  iprop(Inv m a c t.val ∗ (dats m a 0 c).owesAt () t.castSucc
    ∗ (∃ d, owns (c : Thread nD τ) (st a 0 t) fullShare ((dats m a 0 c).before 0 t d))
    ∗ (∃ d, owns (c : Thread nD τ) (st a 1 t) fullShare ((dats m a 0 c).before 1 t d))
    ∗ (∃ d, owns (c : Thread nD τ) (st a 2 t) fullShare ((dats m a 0 c).before 2 t d))
    ∗ (∃ d, owns (c : Thread nD τ) (st a 3 t) fullShare ((dats m a 0 c).before 3 t d))
    ∗ (∃ d, owns (c : Thread nD τ) (st a 4 t) fullShare ((dats m a 0 c).before 4 t d))
    ∗ (∃ d, owns (c : Thread nD τ) (st a 5 t) fullShare ((dats m a 0 c).before 5 t d)))

/-- and what it returns. -/
def bodyPost (c : Dev nD) (t : Fin grid0.N) : sProp 𝕄 :=
  iprop(Inv m a c (t.val + 1) ∗ (dats m a 0 c).owesAt () t.succ
    ∗ owns (c : Thread nD τ) (st a 0 t) fullShare ((dats m a 0 c).after 0 t)
    ∗ owns (c : Thread nD τ) (st a 1 t) fullShare ((dats m a 0 c).after 1 t)
    ∗ owns (c : Thread nD τ) (st a 2 t) fullShare ((dats m a 0 c).after 2 t)
    ∗ owns (c : Thread nD τ) (st a 3 t) fullShare ((dats m a 0 c).after 3 t)
    ∗ owns (c : Thread nD τ) (st a 4 t) fullShare ((dats m a 0 c).after 4 t)
    ∗ (dats m a 0 c).leavesExact 5 t)

/-- The body stores into the output's block at a tile's last step only. -/
theorem idle5 (t : Fin grid0.N) : (cfg0 a).idle 5 (grid0.coords t) = decide (t.val % 7 ≠ 6) := by
  show idle0 a.1 5 (grid0.coords t) = _
  have h3 : (k0_cond3 (grid0.coords t) == 1#1) = decide (t.val % 7 = 6) := by
    rw [Bool.eq_iff_iff, beq_iff_eq, cond3_iff, c1, decide_eq_true_eq]
  have h4 : (k0_cond4 (grid0.coords t) (nU a.1) == 1#1) = decide (Used (nU a.1) (t.val / 7)) := by
    rw [Bool.eq_iff_iff, beq_iff_eq, cond4_iff, c0, decide_eq_true_eq]
  have h5 : (k0_cond5 (grid0.coords t) (nU a.1) == 1#1) = decide (¬ Used (nU a.1) (t.val / 7)) := by
    rw [Bool.eq_iff_iff, beq_iff_eq, cond5_iff, c0, decide_eq_true_eq]
  show (!(k0_cond3 (grid0.coords t) == 1#1 && k0_cond4 (grid0.coords t) (a.1.atD 1 ![0]) == 1#1) && !(k0_cond3 (grid0.coords t) == 1#1 && k0_cond5 (grid0.coords t) (a.1.atD 1 ![0]) == 1#1)) = _
  rw [atD_eq, h3, h4, h5]
  by_cases h : t.val % 7 = 6 <;> by_cases h' : Used (nU a.1) (t.val / 7) <;> simp [h, h']

/-- Before a tile's last step the result window carries over. -/
theorem leaves_mid (c : Dev nD) (t : Fin grid0.N) (h : t.val % 7 ≠ 6) :
    (dats m a 0 c).leavesExact 5 t = iprop(∃ d, owns (c : Thread nD τ) (st a 5 t) fullShare ((dats m a 0 c).before 5 t d)) :=
  (dats m a 0 c).leavesExact_idle 5 t ((idle5 a t).trans (decide_eq_true h)) (flush5 a t h)

/-- At a tile's last step the result window holds what the step stored. -/
theorem leaves_end (c : Dev nD) (t : Fin grid0.N) (h : t.val % 7 = 6) :
    (dats m a 0 c).leavesExact 5 t = owns (c : Thread nD τ) (st a 5 t) fullShare (outN m a c t.val) := by
  have hi : (cfg0 a).idle 5 ((cfg0 a).grid.coords t) = false := (idle5 a t).trans (decide_eq_false (not_not.2 h))
  unfold Dat.leavesExact; rw [hi]; rfl

/-- At a tile's first step the normalized rows are made. -/
theorem hN_first (c : Dev nD) (t : Fin grid0.N) (h : t.val % 7 = 0) : hN m a c t.val = hOf (iblk m a c 0 t) (iblk m a c 1 t) := by
  have e := pt_val t
  obtain ⟨n, hn⟩ := t
  cases n with
  | zero => unfold hN; rw [e]
  | succ n => unfold hN; rw [if_pos h, e]

/-- At a later step the normalized rows stay. -/
theorem hN_next (c : Dev nD) (n : ℕ) (h : n % 7 ≠ 0) : hN m a c n = hN m a c (n - 1) := by
  cases n with
  | zero => exact absurd rfl h
  | succ n => rw [hN, if_neg h]; rfl

/-- The accumulator after a tile's first step. -/
theorem accN_first (c : Dev nD) (t : Fin grid0.N) (h : t.val % 7 = 0) :
    accN m a c t.val = k0_pay5 (hN m a c t.val) (iblk m a c 2 t) (iblk m a c 3 t) k0_pay4 (iblk m a c 4 t) := by
  have e := pt_val t
  obtain ⟨n, hn⟩ := t
  cases n with
  | zero => unfold accN; rw [e]
  | succ n => unfold accN; rw [if_pos h, e]

/-- The accumulator after a later step. -/
theorem accN_next (c : Dev nD) (t : Fin grid0.N) (h : t.val % 7 ≠ 0) :
    accN m a c t.val = k0_pay5 (hN m a c t.val) (iblk m a c 2 t) (iblk m a c 3 t) (accN m a c (t.val - 1)) (iblk m a c 4 t) := by
  have e := pt_val t
  obtain ⟨n, hn⟩ := t
  cases n with
  | zero => exact absurd rfl h
  | succ n =>
    show accN m a c (n + 1) = _
    rw [accN, if_neg h, e]; rfl

/-- The first step of a tile in use. -/
theorem sound_A (c : Dev nD) (t : Fin grid0.N) (hu : Used (nU a.1) (t.val / 7)) (hf : t.val % 7 = 0) :
    bodyPre m a c t ⊢ wp frame (wpE (defs₀ (F := F)) Variants.none c none) Set.univ (bodyAt a t) (fun _ => bodyPost m a c t) := by
  unfold bodyPre bodyPost bodyAt Inv
  rw [leaves_mid m a c t (by omega)]
  simp only [before_0, before_1, before_2, before_3, before_4, after_0, after_1, after_2, after_3, after_4]
  iintro ⟨⟨%H, %A, -, HS0, HS1, Hg, HT0, HT1⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ _ _ _ _ _ _ fullShare.right (a.1 1 : Vec F S1 .i32) (nU a.1) (nU_all a.1)
    (iblk m a c 0 t) (iblk m a c 1 t) (iblk m a c 2 t) (iblk m a c 3 t) (iblk m a c 4 t)
    ((condA_iff _ _).2 ⟨by rw [c0]; exact hu, by rw [c1]; exact hf⟩) ((condB_iff _ _).2 (by rw [c0]; exact hu)) (fun h => by rw [cond3_iff, c1] at h; omega) Set.univ _)
  isplitl [HT1]; · iexact HT1
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  iintro ⟨HT1, H0, H1, H2, H3, H4, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ _
    rw [Nat.add_sub_cancel, accN_first m a c t hf, hN_first m a c t hf]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  iexists _; iexact H5

/-- A step between the first and the last of a tile in use. -/
theorem sound_B (c : Dev nD) (t : Fin grid0.N) (hu : Used (nU a.1) (t.val / 7)) (hf : t.val % 7 ≠ 0) (hl : t.val % 7 ≠ 6) :
    bodyPre m a c t ⊢ wp frame (wpE (defs₀ (F := F)) Variants.none c none) Set.univ (bodyAt a t) (fun _ => bodyPost m a c t) := by
  unfold bodyPre bodyPost bodyAt Inv
  rw [leaves_mid m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  obtain ⟨rfl, rfl⟩ := hHA hf hu
  iapply (runB c (grid0.coords t) _ _ _ _ _ _ _ _ _ _ _ _ _ _ _ _ _ _ _ _ fullShare.right (a.1 1 : Vec F S1 .i32) (nU a.1) (nU_all a.1)
    (iblk m a c 2 t) (iblk m a c 3 t) (iblk m a c 4 t) (hN m a c (t.val - 1)) (accN m a c (t.val - 1))
    (fun h => by rw [condA_iff, c1] at h; exact hf h.2) ((condB_iff _ _).2 (by rw [c0]; exact hu)) (fun h => by rw [cond3_iff, c1] at h; omega) Set.univ _)
  isplitl [HT1]; · iexact HT1
  isplitl [H2]; · iexact H2
  isplitl [H3]; · iexact H3
  isplitl [H4]; · iexact H4
  isplitl [HS0]; · iexact HS0
  isplitl [HS1]; · iexact HS1
  iintro ⟨HT1, H2, H3, H4, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ _
    rw [Nat.add_sub_cancel, accN_next m a c t hf, hN_next m a c t.val hf]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  iexists _; iexact H5

/-- The last step of a tile in use. -/
theorem sound_C (c : Dev nD) (t : Fin grid0.N) (hu : Used (nU a.1) (t.val / 7)) (hl : t.val % 7 = 6) :
    bodyPre m a c t ⊢ wp frame (wpE (defs₀ (F := F)) Variants.none c none) Set.univ (bodyAt a t) (fun _ => bodyPost m a c t) := by
  have hf : t.val % 7 ≠ 0 := by omega
  unfold bodyPre bodyPost bodyAt Inv
  rw [leaves_end m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  obtain ⟨rfl, rfl⟩ := hHA hf hu
  iapply (runC c (grid0.coords t) _ _ _ _ _ _ _ _ _ _ _ _ _ _ _ _ _ _ _ _ fullShare.right (a.1 1 : Vec F S1 .i32) (nU a.1) (nU_all a.1)
    (iblk m a c 2 t) (iblk m a c 3 t) (iblk m a c 4 t) (hN m a c (t.val - 1)) (accN m a c (t.val - 1))
    (fun h => by rw [condA_iff, c1] at h; exact hf h.2) ((condB_iff _ _).2 (by rw [c0]; exact hu)) ((cond3_iff _).2 (by rw [c1]; exact hl))
    ((cond4_iff _ _).2 (by rw [c0]; exact hu)) (fun h => by rw [cond5_iff, c0] at h; exact h hu) Set.univ _)
  isplitl [HT1]; · iexact HT1
  isplitl [H2]; · iexact H2
  isplitl [H3]; · iexact H3
  isplitl [H4]; · iexact H4
  isplitl [H5]; · iexists _; iexact H5
  isplitl [HS0]; · iexact HS0
  isplitl [HS1]; · iexact HS1
  iintro ⟨HT1, H2, H3, H4, H5, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro h _
    omega
  isplitl [Ho]; · iexact Ho
  isplitl [H0]; · iexact H0
  isplitl [H1]; · iexact H1
  isplitl [H2]; · iexact H2
  isplitl [H3]; · iexact H3
  isplitl [H4]; · iexact H4
  unfold outN
  rw [if_pos hu, accN_next m a c t hf, hN_next m a c t.val hf]
  iexact H5

/-- A step other than the last of a tile not in use. -/
theorem sound_D (c : Dev nD) (t : Fin grid0.N) (hu : ¬ Used (nU a.1) (t.val / 7)) (hl : t.val % 7 ≠ 6) :
    bodyPre m a c t ⊢ wp frame (wpE (defs₀ (F := F)) Variants.none c none) Set.univ (bodyAt a t) (fun _ => bodyPost m a c t) := by
  unfold bodyPre bodyPost bodyAt Inv
  rw [leaves_mid m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  iapply (runD c (grid0.coords t) _ _ _ _ _ _ _ _ _ _ _ _ _ _ _ _ _ _ _ _ fullShare.right (a.1 1 : Vec F S1 .i32) (nU a.1) (nU_all a.1)
    (fun h => by rw [condA_iff, c0] at h; exact hu h.1) (fun h => by rw [condB_iff, c0] at h; exact hu h) (fun h => by rw [cond3_iff, c1] at h; omega) Set.univ _)
  isplitl [HT1]; · iexact HT1
  iintro HT1
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ h
    rw [show (t.val + 1) / 7 = t.val / 7 by omega] at h
    exact absurd h hu
  isplitl [Ho]; · iexact Ho
  isplitl [H0]; · iexact H0
  isplitl [H1]; · iexact H1
  isplitl [H2]; · iexact H2
  isplitl [H3]; · iexact H3
  isplitl [H4]; · iexact H4
  iexists _; iexact H5

/-- The last step of a tile not in use. -/
theorem sound_E (c : Dev nD) (t : Fin grid0.N) (hu : ¬ Used (nU a.1) (t.val / 7)) (hl : t.val % 7 = 6) :
    bodyPre m a c t ⊢ wp frame (wpE (defs₀ (F := F)) Variants.none c none) Set.univ (bodyAt a t) (fun _ => bodyPost m a c t) := by
  unfold bodyPre bodyPost bodyAt Inv
  rw [leaves_end m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  iapply (runE c (grid0.coords t) _ _ _ _ _ _ _ _ _ _ _ _ _ _ _ _ _ _ _ _ fullShare.right (a.1 1 : Vec F S1 .i32) (nU a.1) (nU_all a.1)
    (fun h => by rw [condA_iff, c0] at h; exact hu h.1) (fun h => by rw [condB_iff, c0] at h; exact hu h) ((cond3_iff _).2 (by rw [c1]; exact hl))
    (fun h => by rw [cond4_iff, c0] at h; exact hu h) ((cond5_iff _ _).2 (by rw [c0]; exact hu)) Set.univ _)
  isplitl [HT1]; · iexact HT1
  isplitl [H5]; · iexists _; iexact H5
  iintro ⟨HT1, H5⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro h _
    omega
  isplitl [Ho]; · iexact Ho
  isplitl [H0]; · iexact H0
  isplitl [H1]; · iexact H1
  isplitl [H2]; · iexact H2
  isplitl [H3]; · iexact H3
  isplitl [H4]; · iexact H4
  unfold outN
  rw [if_neg hu]
  iexact H5

/-- The body at any step. -/
theorem sound_body (c : Dev nD) (t : Fin grid0.N) :
    bodyPre m a c t ⊢ wp frame (wpE (defs₀ (F := F)) Variants.none c none) Set.univ (bodyAt a t) (fun _ => bodyPost m a c t) := by
  by_cases hu : Used (nU a.1) (t.val / 7)
  · by_cases hf : t.val % 7 = 0
    · exact sound_A m a c t hu hf
    · by_cases hl : t.val % 7 = 6
      · exact sound_C m a c t hu hl
      · exact sound_B m a c t hu hf hl
  · by_cases hl : t.val % 7 = 6
    · exact sound_E m a c t hu hl
    · exact sound_D m a c t hu hl

/-- The body's triple as the pipeline asks for it, at every step. -/
theorem body_obligation (c : Dev nD) : BodyObligation (dats m a 0 c) (defs₀ (F := F)) Variants.none () Set.univ := fun t => by
  rw [bigSep_W0, bigSep_W0, defs₀_row]
  exact triple_restated (sound_body m a c t) rfl .rfl fun _ => .rfl

/-! ## The run and the frame -/

/-- The two tables, one by one. -/
theorem tabs_eq (c : Dev nD) (v : pre0.Contents (Elt F)) :
    (Pipeline.ΦT pre0 v c : sProp 𝕄) = iprop(owns (c : Thread nD τ) (Memref.whole main_arg0) fullShare.right (v 0 : Vec F S72 .i32) ∗ owns (c : Thread nD τ) (Memref.whole main_arg1) fullShare.right (v 1 : Vec F S1 .i32)) := by
  unfold Pipeline.ΦT Pipeline.prefHeld
  rw [bigSep_univ_eq_bigSepL [(0 : Fin 2), (1 : Fin 2)] (by decide) (by decide)]
  exact congrArg₂ BIBase.sep (owns_whole (c : Thread nD τ) main_arg0 fullShare.right (v 0)).symm (owns_whole (c : Thread nD τ) main_arg1 fullShare.right (v 1)).symm

/-- The scratch arrays at the launch. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The invariant holds at the launch. -/
theorem inv_in (c : Dev nD) : iprop(Pipeline.ΦA spec0 c ∗ Pipeline.ΦT pre0 a.1 c) ⊢ (Inv m a c 0 : sProp 𝕄) := by
  rw [scratch_eq, tabs_eq]
  unfold Inv
  iintro ⟨⟨⟨⟨%d0, HS0⟩, ⟨%d1, HS1⟩⟩, Hg⟩, HT0, HT1⟩
  iexists _; iexists _
  isplitr
  swap
  · isplitl [HS0]; · iexact HS0
    isplitl [HS1]; · iexact HS1
    isplitl [Hg]; · iexact Hg
    isplitl [HT0]; · iexact HT0
    iexact HT1
  ipureintro
  intro h; exact absurd rfl h

/-- The invariant gives the scratch arrays back. -/
theorem inv_out (c : Dev nD) (n : ℕ) : (Inv m a c n : sProp 𝕄) ⊢ Pipeline.ΦA spec0 c := by
  rw [scratch_eq]
  unfold Inv
  iintro ⟨%H, %A, -, HS0, HS1, Hg, HT0, HT1⟩
  isplitl [HS0 HS1]
  · isplitl [HS0]
    · iexists _; iexact HS0
    iexists _; iexact HS1
  iexact Hg

/-- The program is its one call. -/
theorem main_eq (c : Dev nD) : main (F := F) c = (.op (.customCall (Pipeline.entry 0) ()) fun _ => .ret ⟨⟩) := rfl

/-- The launch's admissible tables. -/
abbrev adm (h : ∀ x : S72.Idx, ((tab m 0 : Vec F S72 .i32) x).toNat < 8) : (p : Fin 1) → (pcfgs (F := F) p).Adm := fun _ => ⟨tab m, tab_ok m h⟩

set_option backward.isDefEq.respectTransparency.types false in
/-- The whole program's run: the arrays of the pipeline end as the data says, and every counter at zero. -/
theorem run_main_quiescent (h : ∀ x : S72.Idx, ((tab m 0 : Vec F S72 .i32) x).toNat < 8) :
    θ_run defs (onTc (τ := τ) (main (F := F))) (s₀ m ρ)
      (fun r => (Pipeline.FramePost (Pipeline.pin pcfgs (adm m h)) (fun p c => dats m (adm m h p) p c) 0 (V m)) r ∧ r.2.sem = fun _ => 0) :=
  Pipeline.θ_run_frameP_track (Q' := _) pcfgs (adm m h) (fun p c => dats m (adm m h p) p c) (0 : Fin 1) launch0 defs₀ Variants.none m ρ main
    (hbody := fun c => (body_obligation m (adm m h 0) c).loose) (hshare := fun _ _ => ite_self _)
    (howed := fun _ _ => rfl) (V := V m) (hmain := Pipeline.hmainP_region _ (0 : Fin 1) defs₀ Variants.none m main main_eq)
    (hA := A_eq m (adm m h 0)) (hpf := fun c k => by rw [Subsingleton.elim c 0]; rfl)
    (hin := inv_in m (adm m h 0)) (hout := fun c => inv_out m (adm m h 0) c _)

/-- The argument arrays end unchanged. -/
theorem unchanged (h : ∀ x : S72.Idx, ((tab m 0 : Vec F S72 .i32) x).toNat < 8) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => by
    obtain ⟨hw, hb⟩ := hr.1 c
    refine ⟨?_, ?_, ?_, ?_, ?_, ?_, ?_⟩
    · exact hb main_arg0 (by decide : main_arg0 ∈ Pipeline.restRefs sig spec0)
    · exact hb main_arg1 (by decide : main_arg1 ∈ Pipeline.restRefs sig spec0)
    · exact (hw 0).trans ((dats m (adm m h 0) 0 c).arrAt_in 0 rfl _)
    · exact (hw 1).trans ((dats m (adm m h 0) 0 c).arrAt_in 1 rfl _)
    · exact (hw 2).trans ((dats m (adm m h 0) 0 c).arrAt_in 2 rfl _)
    · exact (hw 3).trans ((dats m (adm m h 0) 0 c).arrAt_in 3 rfl _)
    · exact (hw 4).trans ((dats m (adm m h 0) 0 c).arrAt_in 4 rfl _)) (run_main_quiescent m ρ h)

/-- The frame: every run ends, with the arguments unchanged and every counter at zero. -/
theorem frame (h : ∀ x : S72.Idx, ((tab m 0 : Vec F S72 .i32) x).toNat < 8) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (unchanged m ρ h) ((θ_run defs _ _).mono (fun _ h => h.2) (run_main_quiescent m ρ h))

end Cert.Kernel2Ideal.Ffn

end
-- ==== Proof.FfnPure.lean ====
module

public import proofs.«01_k».proof.Proof.FfnBody
public import Idealize.ShloMosaic.Lib.Pointwise
public import Idealize.ShloMosaic.Lib.Pipeline.ValueKit
public import Idealize.ShloMosaic.Lib.Pipeline.ReadBack

/-! The experts' body entry by entry, at the exact numbers. -/

@[expose] public section
set_option maxRecDepth 16384
noncomputable section
namespace Cert.Kernel2Ideal.Ffn
open Cert.Kernel2Ideal Cert.Kernel2Ideal.Gen
open Idealize.ShloMosaic Idealize.ShloMosaic.TcCoe Idealize.SL.Sem

/-- Row `8 r + k` of a block of 8192 rows. -/
def brow (r : Fin 1024) (k : Fin 8) : Fin 8192 := ⟨8 * r.val + k.val, by omega⟩
/-- Column `128 k + l` of a row of 1024. -/
def bcol (k : Fin 8) (l : Fin 128) : Fin 1024 := ⟨128 * k.val + l.val, by omega⟩
/-- Which of a row's eight blocks a column lies in. -/
def ck (d : Fin 1024) : Fin 8 := ⟨d.val / 128, by omega⟩
/-- A column's place in its block. -/
def cl (d : Fin 1024) : Fin 128 := ⟨d.val % 128, by omega⟩

/-- A load of every eighth row from row `k` on reads those. -/
theorem ld_x (x0 : Vec Ideal S8192x128 .f32) (k : Fin 8) (off : Fin 2 → ℕ) (h : off = ![k.val, 0]) (inb) (hp) (r : Fin 1024) (l : Fin 128) :
    View.ld x0 (⟨(⟨off, S1024x128.size, ![8, 1], inb⟩ : LoadRect S8192x128), hp⟩ : Rect S8192x128) (ix2 r l) = x0 (ix2 (brow r k) l) := by
  subst h
  refine congrArg x0 (funext fun a => Fin.ext ?_)
  fin_cases a
  · show k.val + 8 * r.val = 8 * r.val + k.val; omega
  · show 0 + 1 * l.val = l.val; omega
/-- A load of 128 of the gain's columns reads those. -/
theorem ld_g (g : Vec Ideal S1x1024 .f32) (k : Fin 8) (off : Fin 2 → ℕ) (h : off = ![0, 128 * k.val]) (inb) (l : Fin 128) :
    View.ld g (Rect.unit (s := S1x1024) off S1x128.size inb) (ix2 (0 : Fin 1) l) = g (ix2 (0 : Fin 1) (bcol k l)) := by
  subst h
  rw [View.ld_unit]
  refine congrArg g (funext fun a => Fin.ext ?_)
  fin_cases a <;> rfl
/-- A load of 128 columns of a square array reads those. -/
theorem ld_a (a : Vec Ideal S1024x1024 .f32) (k : Fin 8) (off : Fin 2 → ℕ) (h : off = ![0, 128 * k.val]) (inb) (r : Fin 1024) (l : Fin 128) :
    View.ld a (Rect.unit (s := S1024x1024) off S1024x128.size inb) (ix2 r l) = a (ix2 r (bcol k l)) := by
  subst h
  rw [View.ld_unit]
  refine congrArg a (funext fun b => Fin.ext ?_)
  fin_cases b
  · exact Nat.zero_add r.val
  · rfl

/-- The sum of a row's squares, as the body adds them. -/
def sqK (x0 : Vec Ideal S8192x128 .f32) (r : Fin 1024) : EReal :=
  ∑ l : Fin 128, (x0 (ix2 (brow r 0) l) * x0 (ix2 (brow r 0) l) + x0 (ix2 (brow r 1) l) * x0 (ix2 (brow r 1) l) + x0 (ix2 (brow r 2) l) * x0 (ix2 (brow r 2) l)
    + x0 (ix2 (brow r 3) l) * x0 (ix2 (brow r 3) l) + x0 (ix2 (brow r 4) l) * x0 (ix2 (brow r 4) l) + x0 (ix2 (brow r 5) l) * x0 (ix2 (brow r 5) l)
    + x0 (ix2 (brow r 6) l) * x0 (ix2 (brow r 6) l) + x0 (ix2 (brow r 7) l) * x0 (ix2 (brow r 7) l))
/-- The `rsqrt` of a row's mean square, as the body computes it. -/
def rsK (x0 : Vec Ideal S8192x128 .f32) (r : Fin 1024) : EReal :=
  Ideal.rsqrt (sqK x0 r * Ideal.ofBits .f32 0x3A800000#32 + Ideal.ofBits .f32 0x358637BD#32)
/-- A normalized row's entry, as the body computes it. -/
def hK (x0 : Vec Ideal S8192x128 .f32) (g : Vec Ideal S1x1024 .f32) (r : Fin 1024) (d : Fin 1024) : EReal :=
  x0 (ix2 (brow r (ck d)) (cl d)) * rsK x0 r * g (ix2 (0 : Fin 1) d)

/-- The `rsqrt` payload at an entry, of the eight chunks read apart. -/
theorem pay7_at (a0 a1 a2 a3 a4 a5 a6 a7 : Vec Ideal S1024x128 .f32) (r : Fin 1024) :
    k0_pay7 (F := Ideal) a0 a1 a2 a3 a4 a5 a6 a7 (ix2 r (0 : Fin 1))
      = Ideal.rsqrt ((∑ l : Fin 128, (a0 (ix2 r l) * a0 (ix2 r l) + a1 (ix2 r l) * a1 (ix2 r l) + a2 (ix2 r l) * a2 (ix2 r l) + a3 (ix2 r l) * a3 (ix2 r l)
          + a4 (ix2 r l) * a4 (ix2 r l) + a5 (ix2 r l) * a5 (ix2 r l) + a6 (ix2 r l) * a6 (ix2 r l) + a7 (ix2 r l) * a7 (ix2 r l)) : EReal)
        * Ideal.ofBits .f32 0x3A800000#32 + Ideal.ofBits .f32 0x358637BD#32) := by
  pointwise [k0_pay7]
/-- The body's `rsqrt` of a row. -/
theorem rs_at (x0 : Vec Ideal S8192x128 .f32) (r : Fin 1024) : rs (F := Ideal) x0 (ix2 r (0 : Fin 1)) = rsK x0 r := by
  unfold rs rsK sqK
  rw [pay7_at]
  have e0 : ∀ l, xs0 (F := Ideal) x0 (ix2 r l) = x0 (ix2 (brow r 0) l) := fun l => ld_x x0 0 _ rfl _ _ r l
  have e1 : ∀ l, xs1 (F := Ideal) x0 (ix2 r l) = x0 (ix2 (brow r 1) l) := fun l => ld_x x0 1 _ rfl _ _ r l
  have e2 : ∀ l, xs2 (F := Ideal) x0 (ix2 r l) = x0 (ix2 (brow r 2) l) := fun l => ld_x x0 2 _ rfl _ _ r l
  have e3 : ∀ l, xs3 (F := Ideal) x0 (ix2 r l) = x0 (ix2 (brow r 3) l) := fun l => ld_x x0 3 _ rfl _ _ r l
  have e4 : ∀ l, xs4 (F := Ideal) x0 (ix2 r l) = x0 (ix2 (brow r 4) l) := fun l => ld_x x0 4 _ rfl _ _ r l
  have e5 : ∀ l, xs5 (F := Ideal) x0 (ix2 r l) = x0 (ix2 (brow r 5) l) := fun l => ld_x x0 5 _ rfl _ _ r l
  have e6 : ∀ l, xs6 (F := Ideal) x0 (ix2 r l) = x0 (ix2 (brow r 6) l) := fun l => ld_x x0 6 _ rfl _ _ r l
  have e7 : ∀ l, xs7 (F := Ideal) x0 (ix2 r l) = x0 (ix2 (brow r 7) l) := fun l => ld_x x0 7 _ rfl _ _ r l
  simp only [e0, e1, e2, e3, e4, e5, e6, e7]

/-- A chunk's payload at an entry. -/
theorem pay3_at (v : Vec Ideal S1024x128 .f32) (w : FVec Ideal S1024x1 .f32) (g : Vec Ideal S1x128 .f32) (r : Fin 1024) (l : Fin 128) :
    k0_pay3 (F := Ideal) v w g (ix2 r l) = (v (ix2 r l) * w (ix2 r (0 : Fin 1)) * g (ix2 (0 : Fin 1) l) : EReal) := by
  pointwise [k0_pay3]

/-- A chunk of normalized rows, at an entry the chunk's store puts at column `d`. -/
theorem chunk_tile (x0 : Vec Ideal S8192x128 .f32) (g : Vec Ideal S1x1024 .f32) (r d : Fin 1024) (k : Fin 8)
    (off : Fin 2 → ℕ) (ho : off = ![0, 128 * k.val])
    (v : Vec Ideal S1024x128 .f32) (hv : ∀ r l, v (ix2 r l) = x0 (ix2 (brow r k) l))
    (w : Vec Ideal S1x128 .f32) (hw : ∀ l, w (ix2 (0 : Fin 1) l) = g (ix2 (0 : Fin 1) (bcol k l))) :
    View.TileAt (Val := Elt Ideal) (S := S1024x1024) (e := .bf16) (ix2 r d) off S1024x128.size (k0_pay3 (F := Ideal) v (rs x0) w) (hK x0 g r d) := by
  subst ho
  intro x hx
  obtain ⟨r', l, rfl⟩ : ∃ (r' : Fin 1024) (l : Fin 128), x = ix2 r' l := ⟨x 0, x 1, by funext a; fin_cases a <;> rfl⟩
  have h0 : r.val = 0 + r'.val := hx 0
  have h1 : d.val = 128 * k.val + l.val := hx 1
  have hr : r' = r := Fin.ext (by omega)
  have hk : ck d = k := Fin.ext (by unfold ck; simp only; omega)
  have hl : cl d = l := Fin.ext (by unfold cl; simp only; omega)
  have hb : bcol k l = d := Fin.ext (by unfold bcol; simp only; omega)
  subst hr
  refine (pay3_at _ _ _ _ _).trans ?_
  rw [hv, hw, rs_at, hb]
  unfold hK
  rw [hk, hl]

/-- The normalized rows at an entry. -/
theorem hOf_at (x0 : Vec Ideal S8192x128 .f32) (g : Vec Ideal S1x1024 .f32) (r d : Fin 1024) :
    hOf (F := Ideal) x0 g (ix2 r d) = hK x0 g r d := by
  refine View.canon_eq_of_allAt _ _ _ (hL_cover x0 g _) ?_
  unfold hL
  refine View.allAt_cons_unit _ _ _ _ _ (chunk_tile x0 g r d 7 _ rfl _ (fun r l => ld_x x0 7 _ rfl _ _ r l) _ (fun l => ld_g g 7 _ rfl _ l)) ?_
  refine View.allAt_cons_unit _ _ _ _ _ (chunk_tile x0 g r d 6 _ rfl _ (fun r l => ld_x x0 6 _ rfl _ _ r l) _ (fun l => ld_g g 6 _ rfl _ l)) ?_
  refine View.allAt_cons_unit _ _ _ _ _ (chunk_tile x0 g r d 5 _ rfl _ (fun r l => ld_x x0 5 _ rfl _ _ r l) _ (fun l => ld_g g 5 _ rfl _ l)) ?_
  refine View.allAt_cons_unit _ _ _ _ _ (chunk_tile x0 g r d 4 _ rfl _ (fun r l => ld_x x0 4 _ rfl _ _ r l) _ (fun l => ld_g g 4 _ rfl _ l)) ?_
  refine View.allAt_cons_unit _ _ _ _ _ (chunk_tile x0 g r d 3 _ rfl _ (fun r l => ld_x x0 3 _ rfl _ _ r l) _ (fun l => ld_g g 3 _ rfl _ l)) ?_
  refine View.allAt_cons_unit _ _ _ _ _ (chunk_tile x0 g r d 2 _ rfl _ (fun r l => ld_x x0 2 _ rfl _ _ r l) _ (fun l => ld_g g 2 _ rfl _ l)) ?_
  refine View.allAt_cons_unit _ _ _ _ _ (chunk_tile x0 g r d 1 _ rfl _ (fun r l => ld_x x0 1 _ rfl _ _ r l) _ (fun l => ld_g g 1 _ rfl _ l)) ?_
  refine View.allAt_cons_unit _ _ _ _ _ (chunk_tile x0 g r d 0 _ rfl _ (fun r l => ld_x x0 0 _ rfl _ _ r l) _ (fun l => ld_g g 0 _ rfl _ l)) ?_
  exact View.allAt_nil _ _

/-- A strided store of a finished tile, at an entry it puts at row `8 r + k`. -/
theorem out_tile (acc : Vec Ideal S1024x1024 .f32) (r : Fin 1024) (k : Fin 8) (l : Fin 128) (k' : Fin 8) (off off' : Fin 2 → ℕ) (ho : off = ![k'.val, 0]) (ho' : off' = ![0, 128 * k'.val]) (inb) (hp) (inb') :
    View.RectAt (Val := Elt Ideal) (S := S8192x128) (e := .f32) (ix2 (brow r k) l) (⟨(⟨off, S1024x128.size, ![8, 1], inb⟩ : LoadRect S8192x128), hp⟩ : Rect S8192x128)
      (View.ld acc (Rect.unit (s := S1024x1024) off' S1024x128.size inb')) (acc (ix2 r (bcol k l))) := by
  subst ho
  intro x hx
  obtain ⟨r', l', rfl⟩ : ∃ (r' : Fin 1024) (l' : Fin 128), x = ix2 r' l' := ⟨x 0, x 1, by funext a; fin_cases a <;> rfl⟩
  have h0 : k'.val + 8 * r'.val = 8 * r.val + k.val := congrArg Fin.val (congrFun hx 0)
  have h1 : 0 + 1 * l'.val = l.val := congrArg Fin.val (congrFun hx 1)
  have hk : k' = k := Fin.ext (by omega)
  have hr : r' = r := Fin.ext (by omega)
  have hl : l' = l := Fin.ext (by omega)
  subst hk hr hl
  exact ld_a acc k' _ ho' _ r' l'

/-- The block a finished tile leaves, at an entry. -/
theorem oOf_at (acc : Vec Ideal S1024x1024 .f32) (r : Fin 1024) (k : Fin 8) (l : Fin 128) :
    oOf (F := Ideal) acc (ix2 (brow r k) l) = acc (ix2 r (bcol k l)) := by
  refine View.canon_eq_of_allAt _ _ _ (oL_cover acc _) ?_
  unfold oL
  refine View.allAt_cons _ _ _ (out_tile acc r k l 7 _ _ rfl rfl _ _ _) ?_
  refine View.allAt_cons _ _ _ (out_tile acc r k l 6 _ _ rfl rfl _ _ _) ?_
  refine View.allAt_cons _ _ _ (out_tile acc r k l 5 _ _ rfl rfl _ _ _) ?_
  refine View.allAt_cons _ _ _ (out_tile acc r k l 4 _ _ rfl rfl _ _ _) ?_
  refine View.allAt_cons _ _ _ (out_tile acc r k l 3 _ _ rfl rfl _ _ _) ?_
  refine View.allAt_cons _ _ _ (out_tile acc r k l 2 _ _ rfl rfl _ _ _) ?_
  refine View.allAt_cons _ _ _ (out_tile acc r k l 1 _ _ rfl rfl _ _ _) ?_
  refine View.allAt_cons _ _ _ (out_tile acc r k l 0 _ _ rfl rfl _ _ _) ?_
  exact View.allAt_nil _ _

/-- The gated product of two numbers, as the body computes it. -/
def gateK (a b : EReal) : EReal := a * Ideal.div (Ideal.ofBits .f32 0x3F800000#32) (Ideal.ofBits .f32 0x3F800000#32 + Ideal.exp (Ideal.ofBits .f32 0x00000000#32 - a)) * b

/-- A step's payload at an entry: the sum so far and this step's part. -/
theorem pay5_at (h : Vec Ideal S1024x1024 .bf16) (w1 w3 : Vec Ideal S1x1024x512 .f32) (acc : Vec Ideal S1024x1024 .f32) (w2 : Vec Ideal S1x512x1024 .f32) (r d : Fin 1024) :
    k0_pay5 (F := Ideal) h w1 w3 acc w2 (ix2 r d)
      = (acc (ix2 r d) + ∑ j : Fin 512, gateK (∑ x : Fin 1024, h (ix2 r x) * w1 (ix3 (0 : Fin 1) x j)) (∑ x : Fin 1024, h (ix2 r x) * w3 (ix3 (0 : Fin 1) x j)) * w2 (ix3 (0 : Fin 1) j d) : EReal) := by
  unfold gateK
  pointwise [k0_pay5]
/-- The sum starts from zero. -/
theorem pay4_at (y : S1024x1024.Idx) : k0_pay4 (F := Ideal) y = (0 : EReal) := by
  have : k0_pay4 (F := Ideal) y = Ideal.ofBits .f32 0x00000000#32 := by pointwise [k0_pay4]
  rw [this, Ideal.ofBits_zero_f32]
/-- A tile not in use is zero. -/
theorem pay6_at (y : S8192x128.Idx) : k0_pay6 (F := Ideal) y = (0 : EReal) := by
  have : k0_pay6 (F := Ideal) y = Ideal.ofBits .f32 0x00000000#32 := by pointwise [k0_pay6]
  rw [this, Ideal.ofBits_zero_f32]

end Cert.Kernel2Ideal.Ffn
-- ==== Proof.FfnVal.lean ====
module

public import proofs.«01_k».proof.Proof.FfnFrame
public import proofs.«01_k».proof.Proof.FfnPure
public import Idealize.ShloMosaic.Lib.Pipeline.Value

/-! The experts' result array after the run, as one function of the arguments. -/

@[expose] public section
set_option maxRecDepth 16384
noncomputable section
namespace Cert.Kernel2Ideal.Ffn
open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (a : (pcfg0 (F := Ideal)).Adm)

/-- A step's tile is one of 72. -/
theorem tile_lt (t : Fin grid0.N) : t.val / 7 < 72 := by have ht : t.val < 504 := N_0 ▸ t.isLt; omega
/-- A step's tile. -/
def tl (t : Fin grid0.N) : Fin 72 := ⟨t.val / 7, tile_lt t⟩
/-- The expert a tile's rows go to. -/
def te (i : Fin 72) : ℕ := (((a.1 0 : Vec Ideal S72 .i32) (ix1 i)) : BitVec 32).toNat

/-- Where the rows' block lies. -/
theorem idx0 (t : Fin grid0.N) : ((pcfg0 (F := Ideal)).win a 0).index t = ![t.val / 7, 0] :=
  (by decide +kernel : ∀ t : Fin grid0.N, cc0_transform_0 (grid0.coords t) = ![t.val / 7, 0]) t
/-- Where the gain's block lies. -/
theorem idx1 (t : Fin grid0.N) : ((pcfg0 (F := Ideal)).win a 1).index t = ![0, 0] :=
  (by decide +kernel : ∀ t : Fin grid0.N, cc0_transform_1 (grid0.coords t) = ![0, 0]) t
/-- Where the result's block lies. -/
theorem idx5 (t : Fin grid0.N) : ((pcfg0 (F := Ideal)).win a 5).index t = ![t.val / 7, 0] :=
  (by decide +kernel : ∀ t : Fin grid0.N, cc0_transform_5 (grid0.coords t) = ![t.val / 7, 0]) t
/-- The chosen part in a tile in use. -/
theorem sel_used (t : Fin grid0.N) (hu : Used (nU a.1) (t.val / 7)) :
    (Scalar.select (Scalar.cmpi .slt (BitVec.ofNat 32 (grid0.coords t 0).val) (nU a.1)) (BitVec.ofNat 32 (grid0.coords t 1).val) 0#32).toNat = t.val % 7 := by
  rw [c0, c1]
  unfold Used at hu
  simp only [WordCmp.scalar_cmpi_eq, WordCmp.cmpi_slt_eq, hu, decide_true]
  show (BitVec.ofNat 32 (t.val % 7)).toNat = _
  exact WordCmp.toNat_ofNat_of_lt (by omega)
/-- The expert's number read off the table. -/
theorem at_te (t : Fin grid0.N) :
    (a.1.at 0 (Rect.unit (s := S72) ![(Scalar.indexCast (BitVec.ofNat 32 (grid0.coords t 0).val)).toNat] S1.size (k0_off1_inb (grid0.coords t))) numel1_S1 : BitVec 32).toNat = te a (tl t) := by
  have h : (Scalar.indexCast (BitVec.ofNat 32 (grid0.coords t 0).val)).toNat = t.val / 7 := by
    rw [c0]
    exact WordCmp.toNat_ofNat_of_lt (by have := tile_lt t; omega)
  unfold te
  refine congrArg (fun x => ((a.1 0 : Vec Ideal S72 .i32) x : BitVec 32).toNat) (funext fun b => Fin.ext ?_)
  match b with
  | ⟨0, _⟩ => show _ + _ = t.val / 7; rw [← h]; rfl
/-- Where the first weights' block lies, in a tile in use. -/
theorem idx2 (t : Fin grid0.N) (hu : Used (nU a.1) (t.val / 7)) : ((pcfg0 (F := Ideal)).win a 2).index t = ![te a (tl t), 0, t.val % 7] := by
  rw [← at_te a t, ← sel_used a t hu]; rfl
/-- Where the second weights' block lies, in a tile in use. -/
theorem idx3 (t : Fin grid0.N) (hu : Used (nU a.1) (t.val / 7)) : ((pcfg0 (F := Ideal)).win a 3).index t = ![te a (tl t), 0, t.val % 7] := by
  rw [← at_te a t, ← sel_used a t hu]; rfl
/-- Where the third weights' block lies, in a tile in use. -/
theorem idx4 (t : Fin grid0.N) (hu : Used (nU a.1) (t.val / 7)) : ((pcfg0 (F := Ideal)).win a 4).index t = ![te a (tl t), t.val % 7, 0] := by
  rw [← at_te a t, ← sel_used a t hu]; rfl

/-- A tile's block of rows. -/
theorem blk0 (c : Dev nD) (t : Fin grid0.N) (p : Fin 8192) (l : Fin 128) :
    (iblk m a c 0 t : Vec Ideal S8192x128 .f32) (ix2 p l)
      = (m ((c.tc : Thread nD τ).loc main_arg2) : Vec Ideal S589824x128 .f32) (ix2 (⟨8192 * (t.val / 7) + p.val, by have := tile_lt t; omega⟩ : Fin 589824) l) := by
  have h0 := idx0 a t
  blk_ext [iblk, V, h0]
/-- The gain, whole. -/
theorem blk1 (c : Dev nD) (t : Fin grid0.N) :
    (iblk m a c 1 t : Vec Ideal S1x1024 .f32) = m ((c.tc : Thread nD τ).loc main_arg3) := by
  have h0 := idx1 a t
  blk_ext! [iblk, V, h0]
/-- The first weights' block. -/
theorem blk2 (c : Dev nD) (t : Fin grid0.N) (hu : Used (nU a.1) (t.val / 7)) (e : Fin 8) (he : te a (tl t) = e.val) (d : Fin 1024) (j : Fin 512) :
    (iblk m a c 2 t : Vec Ideal S1x1024x512 .f32) (ix3 (0 : Fin 1) d j)
      = (m ((c.tc : Thread nD τ).loc main_arg4) : Vec Ideal S8x1024x3584 .f32) (ix3 e d (⟨512 * (t.val % 7) + j.val, by omega⟩ : Fin 3584)) := by
  have h0 := idx2 a t hu
  rw [he] at h0
  blk_ext [iblk, V, h0]
/-- The second weights' block. -/
theorem blk3 (c : Dev nD) (t : Fin grid0.N) (hu : Used (nU a.1) (t.val / 7)) (e : Fin 8) (he : te a (tl t) = e.val) (d : Fin 1024) (j : Fin 512) :
    (iblk m a c 3 t : Vec Ideal S1x1024x512 .f32) (ix3 (0 : Fin 1) d j)
      = (m ((c.tc : Thread nD τ).loc main_arg5) : Vec Ideal S8x1024x3584 .f32) (ix3 e d (⟨512 * (t.val % 7) + j.val, by omega⟩ : Fin 3584)) := by
  have h0 := idx3 a t hu
  rw [he] at h0
  blk_ext [iblk, V, h0]
/-- The third weights' block. -/
theorem blk4 (c : Dev nD) (t : Fin grid0.N) (hu : Used (nU a.1) (t.val / 7)) (e : Fin 8) (he : te a (tl t) = e.val) (j : Fin 512) (d : Fin 1024) :
    (iblk m a c 4 t : Vec Ideal S1x512x1024 .f32) (ix3 (0 : Fin 1) j d)
      = (m ((c.tc : Thread nD τ).loc main_arg6) : Vec Ideal S8x3584x1024 .f32) (ix3 e (⟨512 * (t.val % 7) + j.val, by omega⟩ : Fin 3584) d) := by
  have h0 := idx4 a t hu
  rw [he] at h0
  blk_ext [iblk, V, h0]

/-! ## The sum over the inner width -/

/-- A tile's rows of the input. -/
def xb (x : Vec Ideal S589824x128 .f32) (i : Fin 72) : Vec Ideal S8192x128 .f32 := fun y =>
  x (ix2 (⟨8192 * i.val + (y 0).val, by have : (y 0).val < 8192 := (y 0).isLt; omega⟩ : Fin 589824) (⟨(y 1).val, (y 1).isLt⟩ : Fin 128))
/-- One inner entry's contribution to a row's result. -/
def term (x : Vec Ideal S589824x128 .f32) (g : Vec Ideal S1x1024 .f32) (w1 w3 : Vec Ideal S8x1024x3584 .f32) (w2 : Vec Ideal S8x3584x1024 .f32)
    (i : Fin 72) (e : Fin 8) (r d : Fin 1024) (J : Fin 3584) : EReal :=
  gateK (∑ y : Fin 1024, hK (xb x i) g r y * w1 (ix3 e y J)) (∑ y : Fin 1024, hK (xb x i) g r y * w3 (ix3 e y J)) * w2 (ix3 e J d)
/-- A step's contribution. -/
def part (x : Vec Ideal S589824x128 .f32) (g : Vec Ideal S1x1024 .f32) (w1 w3 : Vec Ideal S8x1024x3584 .f32) (w2 : Vec Ideal S8x3584x1024 .f32)
    (i : Fin 72) (e : Fin 8) (r d : Fin 1024) (f : ℕ) : EReal :=
  ∑ j : Fin 512, term x g w1 w3 w2 i e r d (⟨512 * (f % 7) + j.val, by omega⟩ : Fin 3584)

/-- Seven steps' contributions are the whole sum. -/
theorem part_sum (u : Fin 3584 → EReal) :
    ∑ f ∈ Finset.range 7, ∑ j : Fin 512, u (⟨512 * (f % 7) + j.val, by omega⟩ : Fin 3584) = ∑ J : Fin 3584, u J := by
  rw [Finset.sum_range]
  have e := Equiv.sum_comp (finProdFinEquiv (m := 7) (n := 512)) u
  rw [← e, Fintype.sum_prod_type]
  refine Finset.sum_congr rfl fun f _ => Finset.sum_congr rfl fun j _ => congrArg u (Fin.ext ?_)
  have hf := f.isLt
  show 512 * (f.val % 7) + j.val = j.val + 512 * f.val
  omega

/-- The rows a step finds are its tile's. -/
theorem blk0_eq (c : Dev nD) (t : Fin grid0.N) :
    (iblk m a c 0 t : Vec Ideal S8192x128 .f32) = xb (m ((c.tc : Thread nD τ).loc main_arg2)) (tl t) := by
  funext y
  obtain ⟨p, l, rfl⟩ : ∃ (p : Fin 8192) (l : Fin 128), y = ix2 p l := ⟨y 0, y 1, by funext b; fin_cases b <;> rfl⟩
  exact blk0 m a c t p l

/-- The normalized rows stay through a tile. -/
theorem hN_eq (c : Dev nD) (i : Fin 72) (f : ℕ) : f < 7 → ∀ t : Fin grid0.N, t.val = 7 * i.val + f →
    hN m a c t.val = hOf (F := Ideal) (xb (m ((c.tc : Thread nD τ).loc main_arg2)) i) (m ((c.tc : Thread nD τ).loc main_arg3)) := by
  induction f with
  | zero =>
    intro _ t ht
    rw [hN_first m a c t (by omega), blk0_eq, blk1]
    rw [show tl t = i from Fin.ext (by show t.val / 7 = i.val; omega)]
  | succ f ih =>
    intro hf t ht
    rw [hN_next m a c t.val (by omega)]
    exact ih (by omega) ⟨t.val - 1, by have := t.isLt; omega⟩ (by show t.val - 1 = _; omega)

/-- Where the result's block puts its entries. -/
theorem emb5 (t : Fin grid0.N) (p : Fin 8192) (l : Fin 128) :
    (((cfg0 a).win 5).blk t).view.emb (ix2 p l : S8192x128.Idx) = (ix2 (⟨8192 * (t.val / 7) + p.val, by have := tile_lt t; omega⟩ : Fin 589824) l : S589824x128.Idx) := by
  have h0 := congrFun (idx5 a t) 0
  have h1 := congrFun (idx5 a t) 1
  blk_ext
  · show ((pcfg0 (F := Ideal)).win a 5).index t 0 * 8192 + p.val = _
    rw [h0]; show t.val / 7 * 8192 + p.val = _; omega
  · show ((pcfg0 (F := Ideal)).win a 5).index t 1 * 128 + l.val = _
    rw [h1]; show 0 * 128 + l.val = _; omega
/-- An index of a block of rows by its row and its lane. -/
theorem idx_rows (y : S8192x128.Idx) : ∃ (p : Fin 8192) (l : Fin 128), y = ix2 p l := ⟨y 0, y 1, by funext b; fin_cases b <;> rfl⟩
/-- The result's block is written back at a tile's last step. -/
theorem flush5_last : ∀ i : Fin 72, ∃ t : Fin grid0.N, (spec0 5).flushAt (G := grid0) cc0_transform_5 t = true ∧ t.val / 7 = i.val := by decide +kernel
/-- The blocks written back fill the result array. -/
theorem covers5 : ((cfg0 a).win 5).Covers := by
  refine ⟨fun b => ?_, fun β => ?_⟩
  · match b with
    | ⟨0, _⟩ => exact (by decide : 0 < 8192)
    | ⟨1, _⟩ => exact (by decide : 0 < 128)
  · have b0 : (β ⟨0, Nat.zero_lt_two⟩).val < 72 := Nat.lt_of_lt_of_eq (β ⟨0, Nat.zero_lt_two⟩).isLt (show (589824 + 8192 - 1) / 8192 = 72 by norm_num)
    have b1 : (β ⟨1, Nat.one_lt_two⟩).val < 1 := Nat.lt_of_lt_of_eq (β ⟨1, Nat.one_lt_two⟩).isLt (show (128 + 128 - 1) / 128 = 1 by norm_num)
    obtain ⟨t, hf, ht⟩ := flush5_last ⟨_, b0⟩
    refine ⟨t, hf, fun b => ?_⟩
    have h0 : ((cfg0 a).win 5).index t = ![t.val / 7, 0] := idx5 a t
    rw [h0]
    match b with
    | ⟨0, _⟩ => exact ⟨ht, Or.inl rfl⟩
    | ⟨1, _⟩ => exact ⟨(by omega : 0 = (β ⟨1, Nat.one_lt_two⟩).val), Or.inl rfl⟩

variable (E : Fin 72 → Fin 8) (hE : ∀ i, te a i = (E i).val)

include hE in
/-- What one step of a tile in use adds. -/
theorem step_at (c : Dev nD) (i : Fin 72) (hu : Used (nU a.1) i.val) (t : Fin grid0.N) (ht : t.val / 7 = i.val) (acc : Vec Ideal S1024x1024 .f32) (r d : Fin 1024) :
    k0_pay5 (F := Ideal) (hN m a c t.val) (iblk m a c 2 t) (iblk m a c 3 t) acc (iblk m a c 4 t) (ix2 r d)
      = (acc (ix2 r d) + part (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) i (E i) r d (t.val % 7) : EReal) := by
  refine (pay5_at _ _ _ _ _ r d).trans ?_
  have hi : tl t = i := Fin.ext ht
  have hu' : Used (nU a.1) (t.val / 7) := by rw [ht]; exact hu
  have he : te a (tl t) = (E i).val := by rw [hi]; exact hE i
  refine congrArg (acc (ix2 r d) + ·) ?_
  unfold part term
  refine Finset.sum_congr rfl fun j _ => ?_
  have hh := hN_eq m a c i (t.val % 7) (by omega) t (by omega)
  have e1 : ∀ y, hN m a c t.val (ix2 r y) = hK (xb (m ((c.tc : Thread nD τ).loc main_arg2)) i) (m ((c.tc : Thread nD τ).loc main_arg3)) r y := fun y => by
    rw [hh]; exact hOf_at _ _ _ _
  have e2 := fun y => blk2 m a c t hu' (E i) he y j
  have e3 := fun y => blk3 m a c t hu' (E i) he y j
  have e4 := blk4 m a c t hu' (E i) he j d
  simp only [e1, e2, e3, e4, Nat.mod_mod]

include hE in
/-- The sum after each step of a tile in use. -/
theorem acc_at (c : Dev nD) (i : Fin 72) (hu : Used (nU a.1) i.val) (r d : Fin 1024) (f : ℕ) : f < 7 → ∀ t : Fin grid0.N, t.val = 7 * i.val + f →
    accN m a c t.val (ix2 r d) = (∑ k ∈ Finset.range (f + 1), part (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) i (E i) r d k : EReal) := by
  induction f with
  | zero =>
    intro _ t ht
    rw [accN_first m a c t (by omega)]
    refine (step_at m a E hE c i hu t (by omega) _ r d).trans ?_
    rw [pay4_at, zero_add, Finset.sum_range_one, show t.val % 7 = 0 by omega]
  | succ f ih =>
    intro hf t ht
    rw [accN_next m a c t (by omega)]
    refine (step_at m a E hE c i hu t (by omega) _ r d).trans ?_
    have := ih (by omega) ⟨t.val - 1, by have := t.isLt; omega⟩ (by show t.val - 1 = _; omega)
    rw [Finset.sum_range_succ, show t.val % 7 = f + 1 by omega]
    exact congrArg (· + _) this

/-! ## The result array -/

/-- The kernel's result at a tile, a row of it and a column: the expert's sum in a tile in use, zero in another. -/
def kval (n : BitVec 32) (E : Fin 72 → Fin 8) (x : Vec Ideal S589824x128 .f32) (g : Vec Ideal S1x1024 .f32) (w1 w3 : Vec Ideal S8x1024x3584 .f32) (w2 : Vec Ideal S8x3584x1024 .f32)
    (i : Fin 72) (r d : Fin 1024) : EReal :=
  if Used n i.val then ∑ J : Fin 3584, term x g w1 w3 w2 i (E i) r d J else 0
/-- The kernel's result over its arguments. -/
def karr (n : BitVec 32) (E : Fin 72 → Fin 8) (x : Vec Ideal S589824x128 .f32) (g : Vec Ideal S1x1024 .f32) (w1 w3 : Vec Ideal S8x1024x3584 .f32) (w2 : Vec Ideal S8x3584x1024 .f32) :
    Vec Ideal S589824x128 .f32 := fun y =>
  kval n E x g w1 w3 w2 (⟨(y 0).val / 8192, by have : (y 0).val < 589824 := (y 0).isLt; omega⟩ : Fin 72) (⟨(y 0).val % 8192 / 8, by omega⟩ : Fin 1024)
    (⟨128 * ((y 0).val % 8) + (y 1).val, by have : (y 1).val < 128 := (y 1).isLt; omega⟩ : Fin 1024)

/-- The result array at an entry of a tile's block. -/
theorem karr_at (n : BitVec 32) (E : Fin 72 → Fin 8) (x : Vec Ideal S589824x128 .f32) (g : Vec Ideal S1x1024 .f32) (w1 w3 : Vec Ideal S8x1024x3584 .f32) (w2 : Vec Ideal S8x3584x1024 .f32)
    (i : Fin 72) (r : Fin 1024) (k : Fin 8) (l : Fin 128) (p : Fin 589824) (hp : p.val = 8192 * i.val + (brow r k).val) :
    karr n E x g w1 w3 w2 (ix2 p l) = kval n E x g w1 w3 w2 i r (bcol k l) := by
  have hp' : p.val = 8192 * i.val + (8 * r.val + k.val) := hp
  have hr := r.isLt
  have hk := k.isLt
  unfold karr
  rw [show (⟨((ix2 p l : S589824x128.Idx) 0).val / 8192, by have : ((ix2 p l : S589824x128.Idx) 0).val < 589824 := ((ix2 p l : S589824x128.Idx) 0).isLt; omega⟩ : Fin 72) = i from Fin.ext (by show p.val / 8192 = i.val; omega),
    show (⟨((ix2 p l : S589824x128.Idx) 0).val % 8192 / 8, by omega⟩ : Fin 1024) = r from Fin.ext (by show p.val % 8192 / 8 = r.val; omega)]
  refine congrArg (kval n E x g w1 w3 w2 i r) (Fin.ext ?_)
  show 128 * (p.val % 8) + l.val = 128 * k.val + l.val
  omega

include hE in
/-- What a tile's last step leaves at an entry of its block. -/
theorem out_at (c : Dev nD) (t : Fin grid0.N) (ht : t.val % 7 = 6) (r : Fin 1024) (k : Fin 8) (l : Fin 128) :
    outN m a c t.val (ix2 (brow r k) l)
      = kval (nU a.1) E (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (tl t) r (bcol k l) := by
  unfold outN kval
  by_cases hu : Used (nU a.1) (t.val / 7)
  · rw [if_pos hu, if_pos (show Used (nU a.1) (tl t).val from hu), oOf_at]
    refine (acc_at m a E hE c (tl t) hu r (bcol k l) 6 (by omega) t (by show t.val = 7 * (t.val / 7) + 6; omega)).trans ?_
    unfold part
    exact part_sum _
  · rw [if_neg hu, if_neg (show ¬ Used (nU a.1) (tl t).val from hu), pay6_at]

include hE in
/-- The result array after the run. -/
theorem final (c : Dev nD) :
    (dats m a 0 c).arrAt 5 (cfg0 a).N = karr (nU a.1) E (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (dats m a 0 c).arrAt_eq_of_covers 5 _ (covers5 a) fun t hf y => ?_
  have ht : t.val % 7 = 6 := by
    by_contra hc
    rw [flush5 a t hc] at hf
    exact absurd hf (by decide)
  obtain ⟨p, l, rfl⟩ : ∃ (p : Fin 8192) (l : Fin 128), y = (ix2 p l : S8192x128.Idx) := idx_rows y
  obtain ⟨r, k, rfl⟩ : ∃ (r : Fin 1024) (k : Fin 8), p = brow r k :=
    ⟨⟨p.val / 8, by omega⟩, ⟨p.val % 8, by omega⟩, Fin.ext (by show p.val = 8 * (p.val / 8) + p.val % 8; omega)⟩
  rw [emb5]
  exact (out_at m a E hE c t ht r k l).trans (karr_at _ _ _ _ _ _ _ (tl t) r k l _ rfl).symm

omit E in
/-- The experts of the launch's table. -/
def eOf (h : ∀ x : S72.Idx, ((tab m 0 : Vec Ideal S72 .i32) x).toNat < 8) (i : Fin 72) : Fin 8 := ⟨te (adm m h 0) i, h _⟩

/-- The run: the result array over the arguments, the arguments unchanged. -/
theorem run_final (h : ∀ x : S72.Idx, ((tab m 0 : Vec Ideal S72 .i32) x).toNat < 8) :
    θ_run defs (onTc (τ := τ) (main (F := Ideal))) ⟨m, fun _ => 0, ρ⟩ (fun r => ∀ c : Dev nD,
      r.2.mem ((c.tc : Thread nD τ).loc main_v0) = karr (nU (tab m)) (eOf m h) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have hv : θ_run defs (onTc (τ := τ) (main (F := Ideal))) ⟨m, fun _ => 0, ρ⟩ (fun r => ∀ c : Dev nD,
      r.2.mem ((c.tc : Thread nD τ).loc main_v0) = karr (nU (tab m)) (eOf m h) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))) :=
    (θ_run defs _ _).mono (fun r hr c => ((hr.1 c).1 5).trans (final m (adm m h 0) (eOf m h) (fun _ => rfl) c)) (run_main_quiescent m ρ h)
  (θ_run defs _ _).mono (fun r hr c => ⟨hr.1 c, hr.2 c⟩) (θ_run_and hv (unchanged m ρ h))

end Cert.Kernel2Ideal.Ffn

end
-- ==== Proof.FfnRef.lean ====
module

public import proofs.«01_k».proof.Proof.Gen.Reference2Ideal.Run
public import proofs.«01_k».proof.Proof.FfnVal

/-! The experts' reference entry by entry, at the exact numbers. -/

@[expose] public section
set_option maxRecDepth 16384
noncomputable section
namespace Cert.Reference2Ideal.Ffn
open Cert.Reference2Ideal Cert.Reference2Ideal.Gen
open Idealize.ShloMosaic Idealize.ShloMosaic.TcCoe Idealize.SL.Sem
open Cert.Kernel2Ideal.Ffn (ck cl)

/-- The input as rows of 1024. -/
def rx (x : Vec Ideal S589824x128 .f32) : Vec Ideal S73728x1024 .f32 := shapeCast _ x shapeCasts_S589824x128_S73728x1024
/-- Each row's sum of squares. -/
def rsq (x : Vec Ideal S589824x128 .f32) : Vec Ideal S73728 .f32 :=
  Host.reduceAdd (F := Ideal) (φ := .f32) (mulf (F := Ideal) (φ := .f32) (rx x) (rx x)) (constant (F := Ideal) S_ .f32 0x00000000#32) reducesTo_S73728x1024_S73728_d1 h_S_
/-- Each row's `rsqrt` of its mean square. -/
def rrs (s : Vec Ideal S73728 .f32) : Vec Ideal S73728x1 .f32 :=
  Host.rsqrt (F := Ideal) (φ := .f32) (addf (F := Ideal) (φ := .f32) (Host.divf (F := Ideal) (φ := .f32) (broadcastInDim S73728x1 ![0] bcast_S73728_S73728x1_0 s) (broadcastInDim S73728x1 ![] bcast_S_S73728x1 (constant (F := Ideal) S_ .f32 0x44800000#32))) (broadcastInDim S73728x1 ![] bcast_S_S73728x1 (constant (F := Ideal) S_ .f32 0x358637BD#32)))
/-- The normalized rows. -/
def rh (x : Vec Ideal S589824x128 .f32) (g : Vec Ideal S1x1024 .f32) : Vec Ideal S73728x1024 .f32 :=
  mulf (F := Ideal) (φ := .f32) (mulf (F := Ideal) (φ := .f32) (rx x) (broadcastInDim S73728x1024 ![0, 1] bcast_S73728x1_S73728x1024_0_1 (rrs (rsq x)))) (broadcastInDim S73728x1024 ![0, 1] bcast_S1x1024_S73728x1024_0_1 g)
/-- Each tile's gates: one at its expert if it is in use. -/
def rgt (te : IVec S72 32) (n : IVec S1 32) : Vec Ideal S72x8 .f32 :=
  mulf (F := Ideal) (φ := .f32) (uitofp (F := Ideal) .f32 (cmpi .eq (broadcastInDim S72x8 ![0, 1] bcast_S72x1_S72x8_0_1 (broadcastInDim S72x1 ![0] bcast_S72_S72x1_0 te)) (broadcastInDim S72x8 ![0, 1] bcast_S1x8_S72x8_0_1 (iotaInDim S1x8 32 1)))) (broadcastInDim S72x8 ![0, 1] bcast_S72x1_S72x8_0_1 (uitofp (F := Ideal) .f32 (broadcastInDim S72x1 ![0] bcast_S72_S72x1_0 (cmpi .slt (iotaInDim S72 32 0) (broadcastInDim S72 ![] bcast_S_S72 (shapeCast _ n shapeCasts_S1_S_))))))
/-- Each row's gates. -/
def rg (te : IVec S72 32) (n : IVec S1 32) : Vec Ideal S73728x8 .f32 :=
  shapeCast _ (broadcastInDim S72x1024x8 ![0, 2] bcast_S72x8_S72x1024x8_0_2 (rgt te n)) shapeCasts_S72x1024x8_S73728x8
/-- One expert's weights of the first or second kind. -/
def rw1 (w : Vec Ideal S8x1024x3584 .f32) (k : Fin 8) (hs : S8x1024x3584.Slices ![k.val, 0, 0] S1x1024x3584) : Vec Ideal S1024x3584 .f32 :=
  shapeCast _ (extractStridedSlice S1x1024x3584 ![k.val, 0, 0] w hs) shapeCasts_S1x1024x3584_S1024x3584
/-- One expert's weights of the third kind. -/
def rw2 (w : Vec Ideal S8x3584x1024 .f32) (k : Fin 8) (hs : S8x3584x1024.Slices ![k.val, 0, 0] S1x3584x1024) : Vec Ideal S3584x1024 .f32 :=
  shapeCast _ (extractStridedSlice S1x3584x1024 ![k.val, 0, 0] w hs) shapeCasts_S1x3584x1024_S3584x1024
/-- One expert's gates. -/
def rgk (G : Vec Ideal S73728x8 .f32) (k : Fin 8) (hs : S73728x8.Slices ![0, k.val] S73728x1) : Vec Ideal S73728x1 .f32 :=
  extractStridedSlice S73728x1 ![0, k.val] G hs
/-- The rows through one expert's first or second weights. -/
def rup (H : Vec Ideal S73728x1024 .f32) (w : Vec Ideal S1024x3584 .f32) : Vec Ideal S73728x3584 .f32 :=
  Host.dotGeneral (F := Ideal) (φ₁ := .f32) (φ₂ := .f32) dot_S73728x1024_S1024x3584_S73728x3584_1_0_0_1_n_n none H w
/-- The gated product. -/
def rgate (A B : Vec Ideal S73728x3584 .f32) : Vec Ideal S73728x3584 .f32 :=
  mulf (F := Ideal) (φ := .f32) (mulf (F := Ideal) (φ := .f32) A (Host.divf (F := Ideal) (φ := .f32) (broadcastInDim S73728x3584 ![] bcast_S_S73728x3584 (constant (F := Ideal) S_ .f32 0x3F800000#32)) (addf (F := Ideal) (φ := .f32) (broadcastInDim S73728x3584 ![] bcast_S_S73728x3584 (constant (F := Ideal) S_ .f32 0x3F800000#32)) (Host.exp (F := Ideal) (φ := .f32) (Host.negf (F := Ideal) (φ := .f32) A))))) B
/-- One expert's part of every row. -/
def rterm (s : Vec Ideal S73728x1 .f32) (H : Vec Ideal S73728x1024 .f32) (w1 w3 : Vec Ideal S1024x3584 .f32) (w2 : Vec Ideal S3584x1024 .f32) : Vec Ideal S73728x1024 .f32 :=
  mulf (F := Ideal) (φ := .f32) (broadcastInDim S73728x1024 ![0, 1] bcast_S73728x1_S73728x1024_0_1 s) (Host.dotGeneral (F := Ideal) (φ₁ := .f32) (φ₂ := .f32) dot_S73728x3584_S3584x1024_S73728x1024_1_0_0_1_n_n none (rgate (rup H w1) (rup H w3)) w2)
/-- Expert `k`'s part of every row. -/
def rpart (te : IVec S72 32) (n : IVec S1 32) (x : Vec Ideal S589824x128 .f32) (g : Vec Ideal S1x1024 .f32) (w1 w3 : Vec Ideal S8x1024x3584 .f32) (w2 : Vec Ideal S8x3584x1024 .f32)
    (k : Fin 8) (hg : S73728x8.Slices ![0, k.val] S73728x1) (h1 : S8x1024x3584.Slices ![k.val, 0, 0] S1x1024x3584) (h2 : S8x3584x1024.Slices ![k.val, 0, 0] S1x3584x1024) : Vec Ideal S73728x1024 .f32 :=
  rterm (rgk (rg te n) k hg) (rh x g) (rw1 w1 k h1) (rw1 w3 k h1) (rw2 w2 k h2)
/-- The reference's result. -/
def rout (te : IVec S72 32) (n : IVec S1 32) (x : Vec Ideal S589824x128 .f32) (g : Vec Ideal S1x1024 .f32) (w1 w3 : Vec Ideal S8x1024x3584 .f32) (w2 : Vec Ideal S8x3584x1024 .f32) : Vec Ideal S589824x128 .f32 :=
  shapeCast _ ((addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (broadcastInDim S73728x1024 ![] bcast_S_S73728x1024 (constant (F := Ideal) S_ .f32 0x00000000#32))
    (rpart te n x g w1 w3 w2 0 slices_S73728x8_S73728x1_0_0 slices_S8x1024x3584_S1x1024x3584_0_0_0 slices_S8x3584x1024_S1x3584x1024_0_0_0))
    (rpart te n x g w1 w3 w2 1 slices_S73728x8_S73728x1_0_1 slices_S8x1024x3584_S1x1024x3584_1_0_0 slices_S8x3584x1024_S1x3584x1024_1_0_0))
    (rpart te n x g w1 w3 w2 2 slices_S73728x8_S73728x1_0_2 slices_S8x1024x3584_S1x1024x3584_2_0_0 slices_S8x3584x1024_S1x3584x1024_2_0_0))
    (rpart te n x g w1 w3 w2 3 slices_S73728x8_S73728x1_0_3 slices_S8x1024x3584_S1x1024x3584_3_0_0 slices_S8x3584x1024_S1x3584x1024_3_0_0))
    (rpart te n x g w1 w3 w2 4 slices_S73728x8_S73728x1_0_4 slices_S8x1024x3584_S1x1024x3584_4_0_0 slices_S8x3584x1024_S1x3584x1024_4_0_0))
    (rpart te n x g w1 w3 w2 5 slices_S73728x8_S73728x1_0_5 slices_S8x1024x3584_S1x1024x3584_5_0_0 slices_S8x3584x1024_S1x3584x1024_5_0_0))
    (rpart te n x g w1 w3 w2 6 slices_S73728x8_S73728x1_0_6 slices_S8x1024x3584_S1x1024x3584_6_0_0 slices_S8x3584x1024_S1x3584x1024_6_0_0))
    (rpart te n x g w1 w3 w2 7 slices_S73728x8_S73728x1_0_7 slices_S8x1024x3584_S1x1024x3584_7_0_0 slices_S8x3584x1024_S1x3584x1024_7_0_0))) shapeCasts_S73728x1024_S589824x128

/-- The program's run ends with this composition, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145) = rout (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by
    unfold Value.res_main_v99 Value.res_main_v27 Value.res_main_v42 Value.res_main_v57 Value.res_main_v72 Value.res_main_v87 Value.res_main_v102 Value.res_main_v117 Value.res_main_v132
    unfold Value.res_main_v12 Value.res_main_v23 Value.res_main_v0
    unfold rout rpart rterm rgate rup rgk rw2 rw1 rg rgt rh rrs rsq rx
    rfl), (h c).2⟩) (Value.run (F := Ideal) m ρ)

variable (te : IVec S72 32) (n : IVec S1 32) (x : Vec Ideal S589824x128 .f32) (g : Vec Ideal S1x1024 .f32) (w1 w3 : Vec Ideal S8x1024x3584 .f32) (w2 : Vec Ideal S8x3584x1024 .f32)

/-- The rows at an entry. -/
theorem rx_at (R : Fin 73728) (d : Fin 1024) : rx x (ix2 R d) = x (ix2 (⟨8 * R.val + d.val / 128, by omega⟩ : Fin 589824) (cl d)) := by
  unfold rx cl
  pointwise
  exact congrArg (fun p => x (ix2 p _)) (Fin.ext (by simp only; omega))

/-- The entries of a row. -/
theorem row_iff (R : Fin 73728) (i : S73728x1024.Idx) :
    reducesTo_S73728x1024_S73728_d1.drop i = ix1 R ↔ ∃ c : Fin 1024, ix2 R c = i := by
  constructor
  · intro e
    refine ⟨i 1, ?_⟩
    funext a; apply Fin.ext
    match a with
    | ⟨0, _⟩ => exact (congrArg Fin.val (congrFun e ⟨0, by decide⟩)).symm
    | ⟨1, _⟩ => rfl
  · rintro ⟨c, rfl⟩
    funext a
    apply Fin.ext
    match a with
    | ⟨0, _⟩ => rfl

/-- The sum of squares at a row. -/
theorem rsq_at (R : Fin 73728) : rsq x (ix1 R) = ∑ d : Fin 1024, (rx x (ix2 R d) * rx x (ix2 R d) : EReal) := by
  unfold rsq
  have e := Finset.sum_filter_eq_sum_of_fiber _ (fun c : Fin 1024 => ix2 R c) (fun _ _ e => congrFun e 1) (row_iff R) (mulf (F := Ideal) (φ := .f32) (rx x) (rx x))
  refine Eq.trans (b := Ideal.ofBits .f32 0#32 + ∑ i ∈ Finset.univ.filter (fun i => reducesTo_S73728x1024_S73728_d1.drop i = ix1 R), mulf (F := Ideal) (φ := .f32) (rx x) (rx x) i) rfl ?_
  rw [e, Ideal.ofBits_zero_f32, zero_add]
  rfl

/-- The `rsqrt` at a row. -/
theorem rrs_at (s : Vec Ideal S73728 .f32) (R : Fin 73728) :
    rrs s (ix2 R (0 : Fin 1)) = Ideal.rsqrt (Ideal.div (s (ix1 R)) (Ideal.ofBits .f32 0x44800000#32) + Ideal.ofBits .f32 0x358637BD#32) := by
  pointwise [rrs]

/-- The normalized rows at an entry. -/
theorem rh_at (R : Fin 73728) (d : Fin 1024) :
    rh x g (ix2 R d) = rx x (ix2 R d) * rrs (rsq x) (ix2 R (0 : Fin 1)) * g (ix2 (0 : Fin 1) d) := by
  pointwise [rh]

/-- The gates at a tile. -/
theorem rgt_at (i : Fin 72) (e : Fin 8) :
    rgt te n (ix2 i e) = (FloatOps.uitofp (F := Ideal) .f32 (IntOp.cmpi .eq (te (ix1 i)) (BitVec.ofNat 32 e.val))
      * FloatOps.uitofp (F := Ideal) .f32 (IntOp.cmpi .slt (BitVec.ofNat 32 i.val) (n (ix1 (0 : Fin 1)))) : EReal) := by
  pointwise [rgt]

/-- The gates at a row. -/
theorem rg_at (R : Fin 73728) (e : Fin 8) : rg te n (ix2 R e) = rgt te n (ix2 (⟨R.val / 1024, by omega⟩ : Fin 72) e) := by
  unfold rg
  pointwise

/-- One expert's gates at a row. -/
theorem rgk_at (G : Vec Ideal S73728x8 .f32) (k : Fin 8) (hs) (R : Fin 73728) : rgk G k hs (ix2 R (0 : Fin 1)) = G (ix2 R k) := by
  unfold rgk
  pointwise
/-- One expert's weights at an entry. -/
theorem rw1_at (w : Vec Ideal S8x1024x3584 .f32) (k : Fin 8) (hs) (y : Fin 1024) (J : Fin 3584) : rw1 w k hs (ix2 y J) = w (ix3 k y J) := by
  unfold rw1
  pointwise
/-- One expert's weights at an entry. -/
theorem rw2_at (w : Vec Ideal S8x3584x1024 .f32) (k : Fin 8) (hs) (J : Fin 3584) (d : Fin 1024) : rw2 w k hs (ix2 J d) = w (ix3 k J d) := by
  unfold rw2
  pointwise
/-- The rows through weights, at an entry. -/
theorem rup_at (H : Vec Ideal S73728x1024 .f32) (w : Vec Ideal S1024x3584 .f32) (R : Fin 73728) (J : Fin 3584) :
    rup H w (ix2 R J) = ∑ y : Fin 1024, (H (ix2 R y) * w (ix2 y J) : EReal) := by
  unfold rup
  pointwise
/-- The gated product at an entry. -/
theorem rgate_at (A B : Vec Ideal S73728x3584 .f32) (R : Fin 73728) (J : Fin 3584) :
    rgate A B (ix2 R J) = (A (ix2 R J) * Ideal.div (Ideal.ofBits .f32 0x3F800000#32) (Ideal.ofBits .f32 0x3F800000#32 + Ideal.exp (- (A (ix2 R J) : EReal))) * B (ix2 R J) : EReal) := by
  unfold rgate
  pointwise
/-- One expert's part at an entry. -/
theorem rterm_at (s : Vec Ideal S73728x1 .f32) (H : Vec Ideal S73728x1024 .f32) (u1 u3 : Vec Ideal S1024x3584 .f32) (u2 : Vec Ideal S3584x1024 .f32) (R : Fin 73728) (d : Fin 1024) :
    rterm s H u1 u3 u2 (ix2 R d) = (s (ix2 R (0 : Fin 1)) * ∑ J : Fin 3584, rgate (rup H u1) (rup H u3) (ix2 R J) * u2 (ix2 J d) : EReal) := by
  unfold rterm
  pointwise

end Cert.Reference2Ideal.Ffn

end
-- ==== Proof.FfnEq.lean ====
module

public import proofs.«01_k».proof.Proof.FfnRef
public import Idealize.ShloMosaic.Lib.IdealHost
public import Idealize.ShloMosaic.Lib.WordCmp

/-! The experts' two results are equal when every tile names one of the eight experts. -/

@[expose] public section
set_option maxRecDepth 16384
noncomputable section
namespace Cert.Reference2Ideal.Ffn
open Cert.Reference2Ideal Cert.Reference2Ideal.Gen
open Idealize.ShloMosaic Idealize.ShloMosaic.TcCoe Idealize.SL.Sem
open Cert.Kernel2Ideal.Ffn (brow bcol ck cl sqK rsK hK gateK xb term kval karr karr_at Used)

/-- The reference's row of a tile's row. -/
def grow (i : Fin 72) (r : Fin 1024) : Fin 73728 := ⟨1024 * i.val + r.val, by omega⟩

/-- The word of 1024. -/
theorem big_eq : Ideal.ofBits .f32 0x44800000#32 = ((1024 : ℝ) : EReal) := by
  simp [Ideal.ofBits, Ideal.ieee, -EReal.coe_mul]; norm_num
/-- The word of one part in 1024. -/
theorem small_eq : Ideal.ofBits .f32 0x3A800000#32 = (((1024 : ℝ)⁻¹ : ℝ) : EReal) := by
  simp [Ideal.ofBits, Ideal.ieee, -EReal.coe_mul]; norm_num
/-- Dividing by 1024 is multiplying by one part in 1024. -/
theorem div_big (s : EReal) : Ideal.div s (Ideal.ofBits .f32 0x44800000#32) = s * Ideal.ofBits .f32 0x3A800000#32 := by
  rw [big_eq, small_eq]
  unfold Ideal.div
  rw [if_neg (by exact_mod_cast (by norm_num : (1024 : ℝ) ≠ 0)), EReal.coe_inv]

/-- The kernel's gated product is the reference's. -/
theorem gate_eq (a b : EReal) :
    (a * Ideal.div (Ideal.ofBits .f32 0x3F800000#32) (Ideal.ofBits .f32 0x3F800000#32 + Ideal.exp (- a)) * b : EReal) = gateK a b := by
  unfold gateK
  rw [Ideal.ofBits_zero_f32, zero_sub]

section
variable (te : IVec S72 32) (n : IVec S1 32) (x : Vec Ideal S589824x128 .f32) (g : Vec Ideal S1x1024 .f32) (w1 w3 : Vec Ideal S8x1024x3584 .f32) (w2 : Vec Ideal S8x3584x1024 .f32)

/-- The rows of a tile. -/
theorem rx_tile (i : Fin 72) (r d : Fin 1024) : rx x (ix2 (grow i r) d) = xb x i (ix2 (brow r (ck d)) (cl d)) := by
  rw [rx_at]
  unfold xb
  refine congrArg (fun p => x (ix2 p (cl d))) (Fin.ext ?_)
  show 8 * (1024 * i.val + r.val) + d.val / 128 = 8192 * i.val + (8 * r.val + d.val / 128)
  omega

/-- The two sums of squares are one. -/
theorem sq_tile (i : Fin 72) (r : Fin 1024) : rsq x (ix1 (grow i r)) = sqK (xb x i) r := by
  rw [rsq_at]
  refine (Finset.sum_congr rfl fun d _ => by rw [rx_tile]).trans ?_
  refine (Fin.sum_univ_mul_divNat_modNat 8 128 (fun k l => (xb x i (ix2 (brow r k) l) * xb x i (ix2 (brow r k) l) : EReal))).trans ?_
  rw [Finset.sum_comm]
  unfold sqK
  exact Finset.sum_congr rfl fun l _ => Fin.sum_univ_eight _

/-- The normalized rows of a tile. -/
theorem rh_tile (i : Fin 72) (r d : Fin 1024) : rh x g (ix2 (grow i r) d) = hK (xb x i) g r d := by
  rw [rh_at, rrs_at, sq_tile, div_big, rx_tile]
  rfl

/-- A tile's gate is one at its expert if the tile is in use, else zero. -/
theorem rg_tile (i : Fin 72) (r : Fin 1024) (e : Fin 8) (E : Fin 8) (hE : (te (ix1 i)).toNat = E.val) :
    rg te n (ix2 (grow i r) e) = (if E = e ∧ Used (n (ix1 (0 : Fin 1))) i.val then (1 : EReal) else 0) := by
  have hi : (⟨(grow i r).val / 1024, by omega⟩ : Fin 72) = i := Fin.ext (by show (1024 * i.val + r.val) / 1024 = i.val; omega)
  rw [rg_at, hi, rgt_at]
  have h1 : IntOp.cmpi .eq (te (ix1 i)) (BitVec.ofNat 32 e.val) = BitVec.ofBool (decide (E = e)) := by
    have ee : te (ix1 i) = BitVec.ofNat 32 E.val := by rw [← hE]; exact (BitVec.ofNat_toNat _ _).symm ▸ (BitVec.setWidth_eq _).symm
    rw [ee]
    have : ∀ a b : Fin 8, IntOp.cmpi .eq (BitVec.ofNat 32 a.val) (BitVec.ofNat 32 b.val) = BitVec.ofBool (decide (a = b)) := by decide
    exact this E e
  have h2 : IntOp.cmpi .slt (BitVec.ofNat 32 i.val) (n (ix1 (0 : Fin 1))) = BitVec.ofBool (decide (Used (n (ix1 (0 : Fin 1))) i.val)) := by
    show BitVec.ofBool (BitVec.slt _ _) = _
    refine congrArg BitVec.ofBool ?_
    unfold BitVec.slt Used
    rfl
  rw [h1, h2]
  show ((((BitVec.ofBool (decide (E = e))).toNat : ℝ) : EReal) * (((BitVec.ofBool (decide (Used (n (ix1 (0 : Fin 1))) i.val))).toNat : ℝ) : EReal)) = _
  by_cases a : E = e <;> by_cases b : Used (n (ix1 (0 : Fin 1))) i.val <;> simp [a, b]

/-- An expert's part of a tile's row. -/
theorem rpart_tile (i : Fin 72) (r d : Fin 1024) (k : Fin 8) (E : Fin 8) (hE : (te (ix1 i)).toNat = E.val) (hg h1 h2) :
    rpart te n x g w1 w3 w2 k hg h1 h2 (ix2 (grow i r) d)
      = if E = k then kval (n (ix1 (0 : Fin 1))) (fun _ => E) x g w1 w3 w2 i r d else 0 := by
  have hu : ∀ w : Vec Ideal S8x1024x3584 .f32, ∀ J, rup (rh x g) (rw1 w k h1) (ix2 (grow i r) J) = ∑ y : Fin 1024, (hK (xb x i) g r y * w (ix3 k y J) : EReal) := fun w J => by
    rw [rup_at]
    exact Finset.sum_congr rfl fun y _ => by rw [rh_tile, rw1_at]
  have hs : ∑ J : Fin 3584, (rgate (rup (rh x g) (rw1 w1 k h1)) (rup (rh x g) (rw1 w3 k h1)) (ix2 (grow i r) J) * rw2 w2 k h2 (ix2 J d) : EReal)
      = ∑ J : Fin 3584, term x g w1 w3 w2 i k r d J := Finset.sum_congr rfl fun J _ => by
    rw [rgate_at, gate_eq, rw2_at, hu, hu]
    rfl
  unfold rpart
  rw [rterm_at, rgk_at, hs, rg_tile te n i r k E hE]
  unfold kval
  by_cases a : E = k
  · subst a
    by_cases b : Used (n (ix1 (0 : Fin 1))) i.val
    · rw [if_pos ⟨rfl, b⟩, if_pos rfl, if_pos b, one_mul]
    · rw [if_neg (fun h => b h.2), if_pos rfl, if_neg b, zero_mul]
  · rw [if_neg (fun h => a h.1), if_neg a, zero_mul]

/-- A sum of eight with one of them kept. -/
theorem pick (E : Fin 8) (v : EReal) :
    ((if E = 0 then v else 0) + (if E = 1 then v else 0) + (if E = 2 then v else 0) + (if E = 3 then v else 0)
      + (if E = 4 then v else 0) + (if E = 5 then v else 0) + (if E = 6 then v else 0) + (if E = 7 then v else 0) : EReal) = v := by
  fin_cases E <;> simp

/-- The two results are one. -/
theorem out_eq (E : Fin 72 → Fin 8) (hE : ∀ i, (te (ix1 i)).toNat = (E i).val) :
    rout te n x g w1 w3 w2 = karr (n (ix1 (0 : Fin 1))) E x g w1 w3 w2 := by
  funext y
  obtain ⟨p, l, rfl⟩ : ∃ (p : Fin 589824) (l : Fin 128), y = ix2 p l := ⟨y 0, y 1, eq_ix2 y⟩
  have hp := p.isLt
  obtain ⟨i, r, k, hk⟩ : ∃ (i : Fin 72) (r : Fin 1024) (k : Fin 8), p.val = 8192 * i.val + (brow r k).val :=
    ⟨⟨p.val / 8192, by omega⟩, ⟨p.val % 8192 / 8, by omega⟩, ⟨p.val % 8, by omega⟩, by
      show p.val = 8192 * (p.val / 8192) + (8 * (p.val % 8192 / 8) + p.val % 8); omega⟩
  refine Eq.trans ?_ (karr_at _ _ _ _ _ _ _ i r k l p hk).symm
  have hk' : p.val = 8192 * i.val + (8 * r.val + k.val) := hk
  unfold rout
  pointwise
  have e1 : (⟨p.val / 8, by omega⟩ : Fin 73728) = grow i r := Fin.ext (by show p.val / 8 = 1024 * i.val + r.val; omega)
  have e2 : (⟨p.val % 8 * 128 + l.val, by omega⟩ : Fin 1024) = bcol k l := Fin.ext (by show p.val % 8 * 128 + l.val = 128 * k.val + l.val; omega)
  simp only [e1, e2]
  simp only [rpart_tile te n x g w1 w3 w2 i r (bcol k l) _ (E i) (hE i)]
  exact pick (E i) _
end

end Cert.Reference2Ideal.Ffn

end
-- ==== Proof.Experts.lean ====
module

public import proofs.«01_k».proof.Defs
public import proofs.«01_k».proof.Proof.FfnEq
public import proofs.«01_k».proof.Proof.Finite

/-! What the precondition says of the table of experts. -/

@[expose] public section
set_option maxRecDepth 16384
noncomputable section
namespace Cert.Proof
open Idealize.ShloMosaic Idealize.ShloMosaic.TcCoe Idealize.SL.Sem

/-- The shape facts of the precondition. -/
theorem pre2_facts : Cert.Pre_experts_in_range.Facts := ⟨by decide⟩

attribute [local instance] pre2_facts

open Cert.Pre_experts_in_range

/-- A word from 0 up to 8, as two compared bits, is a number below 8. -/
theorem below_eight (w : BitVec 32) (h : IntOp.andi (IntOp.cmpi .sge w 0#32) (IntOp.cmpi .slt w 8#32) = 1#1) : w.toNat < 8 := by
  change IntOp.andi (BitVec.ofBool (BitVec.sle 0#32 w)) (BitVec.ofBool (BitVec.slt w 8#32)) = 1#1 at h
  rw [WordCmp.andi_ofBool, WordCmp.ofBool_eq_one_iff, Bool.and_eq_true] at h
  obtain ⟨h1, h2⟩ := h
  rw [BitVec.sle_iff_toInt_le] at h1
  rw [BitVec.slt_iff_toInt_lt] at h2
  have e0 : (0#32 : BitVec 32).toInt = 0 := by decide
  have e8 : (8#32 : BitVec 32).toInt = 8 := by decide
  rw [e0] at h1
  rw [e8] at h2
  have hw := w.isLt
  rw [BitVec.toInt_eq_toNat_cond] at h1 h2
  split at h1 <;> omega

/-- Under the precondition every tile names one of the eight experts. -/
theorem experts {F : FTy → Type} [FloatOps F] (te : IVec S72 32) (n : IVec S1 32) (x : FVec F S589824x128 .f32) (g : FVec F S1x1024 .f32) (w1 w3 : FVec F S8x1024x3584 .f32) (w2 : FVec F S8x3584x1024 .f32)
    (h : fn te n x g w1 w3 w2 = fun _ => 1#1) (i : S72.Idx) : (te i).toNat < 8 :=
  below_eight _ (congrFun h i)

end Cert.Proof
end
end
-- ==== Proof.Texts3.lean ====
module

public import proofs.«01_k».proof.Defs
public import proofs.«01_k».proof.Proof.Gen.Kernel3
public import proofs.«01_k».proof.Proof.Gen.Kernel3Ideal

/-! The two texts of the dense kernel are one: the body table over machine floats is the ideal
    program's text over machine floats. -/

@[expose] public section
set_option maxRecDepth 16384
noncomputable section
namespace Cert.Proof
open Idealize.ShloMosaic Idealize.ShloMosaic.TcCoe Idealize.SL.Sem

/-- One body, the same text. -/
theorem body3_eq : @Cert.Kernel3.cc0_ffn_res Bits _ Cert.Kernel3.Gen.facts = @Cert.Kernel3Ideal.cc0_ffn_res Bits _ Cert.Kernel3Ideal.Gen.facts := rfl

/-- The tables of bodies agree, label by label. -/
theorem defs3₀_eq : Cert.Kernel3.defs₀ (F := Bits) = Cert.Kernel3Ideal.defs₀ (F := Bits) := by
  unfold Cert.Kernel3.defs₀ Cert.Kernel3Ideal.defs₀
  rw [body3_eq]
  refine congrArg Defs.onTc (funext fun l => funext fun a => ?_)
  match l, a with
  | 0, (t, s) => rfl
  | ⟨n + 1, h⟩, _ => exact absurd h (Nat.not_lt.2 (Nat.le_add_left _ _))

/-- The tables with the pipelines agree. -/
theorem defs3_eq : Cert.Kernel3.defs (F := Bits) = Cert.Kernel3Ideal.defs (F := Bits) :=
  congrArg (Pipeline.defs (Cert.Kernel3.pcfgs (F := Bits))) defs3₀_eq

/-- One main program, the same text. -/
theorem main3_eq : Cert.Kernel3.main (F := Bits) = Cert.Kernel3Ideal.main (F := Bits) := by
  unfold Cert.Kernel3.main Cert.Kernel3Ideal.main
  rfl
end Cert.Proof
end
end
-- ==== Proof.DenseBody.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Ring

/-! The dense body from end to end, one theorem for each way through its conditionals. -/

@[expose] public section
set_option maxRecDepth 16384
noncomputable section
namespace Cert.Kernel3Ideal.Dense
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a step starts its tile: the tile is in use and this is its first step. -/
abbrev condA (i : grid0.Coords) (n : BitVec 32) : BitVec 1 :=
  Scalar.cmpi .ne (Scalar.extui (Scalar.andi (Scalar.cmpi .slt (BitVec.ofNat 32 (i 0).val) n) (Scalar.cmpi .eq (BitVec.ofNat 32 (i 1).val) 0#32)) : BitVec 32) 0#32
/-- The condition under which a step adds its part: the tile is in use. -/
abbrev condB (i : grid0.Coords) (n : BitVec 32) : BitVec 1 :=
  Scalar.cmpi .ne (Scalar.extui (Scalar.cmpi .slt (BitVec.ofNat 32 (i 0).val) n) : BitVec 32) 0#32

/-- The normalized rows of a tile. -/
def hOf (x0 : Vec F S1024x1024 .f32) (g : Vec F S1x1024 .f32) : Vec F S1024x1024 .bf16 := k0_pay1 x0 g
/-- The block a finished tile leaves: its rows plus the sum. -/
def oOf (acc x0 : Vec F S1024x1024 .f32) : Vec F S1024x1024 .f32 := k0_pay4 acc x0

/-- A load of the whole gain reads it. -/
theorem readAt_g {sp : Space} {e : EltTy} (v : View sig .tc sp S1x1024 e) (f : v.ty.Contents (Elt F)) :
    v.readAt (Elt F) (Rect.unit (s := S1x1024) ![0, 0] S1x1024.size inb_S1x1024_S1x1024_0_0).toLoadRect f = v.read (Elt F) f := View.readAt_full ..
/-- A load of a whole scratch array reads it. -/
theorem readAt_sq {sp : Space} {e : EltTy} (v : View sig .tc sp S1024x1024 e) (f : v.ty.Contents (Elt F)) :
    v.readAt (Elt F) (Rect.unit (s := S1024x1024) ![0, 0] S1024x1024.size inb_S1024x1024_S1024x1024_0_0).toLoadRect f = v.read (Elt F) f := View.readAt_full ..
/-- A load of a whole first or second weight block reads it. -/
theorem readAt_w13 {sp : Space} {e : EltTy} (v : View sig .tc sp S1x1024x512 e) (f : v.ty.Contents (Elt F)) :
    v.readAt (Elt F) (Rect.unit (s := S1x1024x512) ![0, 0, 0] S1x1024x512.size inb_S1x1024x512_S1x1024x512_0_0_0).toLoadRect f = v.read (Elt F) f := View.readAt_full ..
/-- A load of a whole third weight block reads it. -/
theorem readAt_w2 {sp : Space} {e : EltTy} (v : View sig .tc sp S1x512x1024 e) (f : v.ty.Contents (Elt F)) :
    v.readAt (Elt F) (Rect.unit (s := S1x512x1024) ![0, 0, 0] S1x512x1024.size inb_S1x512x1024_S1x512x1024_0_0_0).toLoadRect f = v.read (Elt F) f := View.readAt_full ..
/-- A load after a store of the whole scratch array reads the stored value. -/
theorem readCov_sq {sp : Space} (v : View sig .tc sp S1024x1024 .f32) (w : Vec F S1024x1024 .f32) (B : Rect S1024x1024) :
    v.readCov (Val := Elt F) [⟨Rect.unit (s := S1024x1024) ![0, 0] S1024x1024.size inb_S1024x1024_S1024x1024_0_0, w⟩] B.toLoadRect = View.ld w B := by
  unfold View.readCov; rw [View.readAt_eq_ld]; exact congrArg (fun x => View.ld x B) (View.read_writes_full v _ _ w [])

set_option maxHeartbeats 1000000 in
/-- The first step of a tile in use. -/
theorem runA (c : Dev nD) (i : grid0.Coords) (arg2 : Memref sig .tc .smem S32 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x0 : Vec F S1024x1024 .f32) (g : Vec F S1x1024 .f32) (x2 x3 : Vec F S1x1024x512 .f32) (x4 : Vec F S1x512x1024 .f32)
    (hA : condA i n0 = 1#1) (hB : condB i n0 = 1#1) (h3 : ¬ k0_cond3 i = 1#1)
    (E : Set ℕ) (K : PUnit → sProp 𝕄) :
    iprop(owns (c : Thread nD τ) arg3 q n ∗ owns (c : Thread nD τ) arg4 fullShare x0 ∗ owns (c : Thread nD τ) arg5 fullShare g ∗ owns (c : Thread nD τ) arg6 fullShare x2 ∗ owns (c : Thread nD τ) arg7 fullShare x3 ∗ owns (c : Thread nD τ) arg8 fullShare x4 ∗ (∃ d, owns (c : Thread nD τ) arg10 fullShare d) ∗ (∃ d, owns (c : Thread nD τ) arg11 fullShare d)
        ∗ (iprop(owns (c : Thread nD τ) arg3 q n ∗ owns (c : Thread nD τ) arg4 fullShare x0 ∗ owns (c : Thread nD τ) arg5 fullShare g ∗ owns (c : Thread nD τ) arg6 fullShare x2 ∗ owns (c : Thread nD τ) arg7 fullShare x3 ∗ owns (c : Thread nD τ) arg8 fullShare x4 ∗ owns (c : Thread nD τ) arg10 fullShare (hOf x0 g) ∗ owns (c : Thread nD τ) arg11 fullShare (k0_pay3 (hOf x0 g) x2 x3 k0_pay2 x4)) -∗ K ⟨⟩))
      ⊢ wp frame (wpE (defs₀ (F := F)) Variants.none c none) E (cc0_ffn_res i arg2 harg2 arg3 harg3 arg4 harg4 arg5 harg5 arg6 harg6 arg7 harg7 arg8 harg8 arg9 harg9 arg10 harg10 arg11 harg11) K := by
  simp only [cc0_ffn_res_eq_skeleton]; unfold cc0_ffn_res_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H10]
  · iexists _; isplitr; swap; · iexact H10
    ipureintro; subst hf4 hf5; unfold runA.sl.H10_1; rw [View.read_writes_full, readAt_sq, readAt_g]; rfl
  iexists _; isplitr; swap; · iexact H11
  ipureintro; subst hf4 hf5 hf6 hf7 hf8; rw [View.read_writes_full, readAt_w13, readAt_w13, readAt_w2]
  have e10 : runA.sl.v11 c arg4 arg5 arg10 f4 f5 = hOf (arg4.view.read (Elt F) f4) (arg5.view.read (Elt F) f5) := by
    unfold runA.sl.v11 runA.sl.H10_1 View.readCov
    rw [readAt_sq, readAt_sq, readAt_g]; exact View.read_writes_full _ _ _ _ []
  have e11 : runA.sl.v20 (F := F) c arg11 = k0_pay2 := by
    unfold runA.sl.v20 runA.sl.H11_1 View.readCov; exact (readAt_sq _ _).trans (View.read_writes_full _ _ _ _ [])
  rw [e10, e11]

set_option maxHeartbeats 1000000 in
/-- A step in the middle of a tile in use. -/
theorem runB (c : Dev nD) (i : grid0.Coords) (arg2 : Memref sig .tc .smem S32 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x2 x3 : Vec F S1x1024x512 .f32) (x4 : Vec F S1x512x1024 .f32) (h : Vec F S1024x1024 .bf16) (acc : Vec F S1024x1024 .f32)
    (hA : ¬ condA i n0 = 1#1) (hB : condB i n0 = 1#1) (h3 : ¬ k0_cond3 i = 1#1)
    (E : Set ℕ) (K : PUnit → sProp 𝕄) :
    iprop(owns (c : Thread nD τ) arg3 q n ∗ owns (c : Thread nD τ) arg6 fullShare x2 ∗ owns (c : Thread nD τ) arg7 fullShare x3 ∗ owns (c : Thread nD τ) arg8 fullShare x4 ∗ owns (c : Thread nD τ) arg10 fullShare h ∗ owns (c : Thread nD τ) arg11 fullShare acc
        ∗ (iprop(owns (c : Thread nD τ) arg3 q n ∗ owns (c : Thread nD τ) arg6 fullShare x2 ∗ owns (c : Thread nD τ) arg7 fullShare x3 ∗ owns (c : Thread nD τ) arg8 fullShare x4 ∗ owns (c : Thread nD τ) arg10 fullShare h ∗ owns (c : Thread nD τ) arg11 fullShare (k0_pay3 h x2 x3 acc x4)) -∗ K ⟨⟩))
      ⊢ wp frame (wpE (defs₀ (F := F)) Variants.none c none) E (cc0_ffn_res i arg2 harg2 arg3 harg3 arg4 harg4 arg5 harg5 arg6 harg6 arg7 harg7 arg8 harg8 arg9 harg9 arg10 harg10 arg11 harg11) K := by
  simp only [cc0_ffn_res_eq_skeleton]; unfold cc0_ffn_res_skel
  unfold owns
  iintro ⟨⟨%f3, %hf3, H3⟩, ⟨%f6, %hf6, H6⟩, ⟨%f7, %hf7, H7⟩, ⟨%f8, %hf8, H8⟩, ⟨%f10, %hf10, H10⟩, ⟨%f11, %hf11, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  iapply Hk
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H10]
  · iexists _; isplitr; · ipureintro; exact hf10
    iexact H10
  iexists _; isplitr; swap; · iexact H11
  ipureintro; subst hf6 hf7 hf8 hf10 hf11; rw [View.read_writes_full]; rw [readAt_sq, readAt_w13, readAt_w13, readAt_sq, readAt_w2]

set_option maxHeartbeats 1000000 in
/-- The last step of a tile in use. -/
theorem runC (c : Dev nD) (i : grid0.Coords) (arg2 : Memref sig .tc .smem S32 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0) (x0 : Vec F S1024x1024 .f32) (x2 x3 : Vec F S1x1024x512 .f32) (x4 : Vec F S1x512x1024 .f32) (h : Vec F S1024x1024 .bf16) (acc : Vec F S1024x1024 .f32)
    (hA : ¬ condA i n0 = 1#1) (hB : condB i n0 = 1#1) (h3 : k0_cond3 i = 1#1) (h4 : k0_cond4 i n0 = 1#1) (h5 : ¬ k0_cond5 i n0 = 1#1)
    (E : Set ℕ) (K : PUnit → sProp 𝕄) :
    iprop(owns (c : Thread nD τ) arg3 q n ∗ owns (c : Thread nD τ) arg4 fullShare x0 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare h ∗ owns (c : Thread nD τ) arg11 fullShare acc
        ∗ (iprop(owns (c : Thread nD τ) arg3 q n ∗ owns (c : Thread nD τ) arg4 fullShare x0 ∗ owns (c : Thread nD τ) arg6 fullShare x2 ∗ owns (c : Thread nD τ) arg7 fullShare x3 ∗ owns (c : Thread nD τ) arg8 fullShare x4 ∗ owns (c : Thread nD τ) arg9 fullShare (oOf (k0_pay3 h x2 x3 acc x4) x0) ∗ owns (c : Thread nD τ) arg10 fullShare h ∗ owns (c : Thread nD τ) arg11 fullShare (k0_pay3 h x2 x3 acc x4)) -∗ K ⟨⟩))
      ⊢ wp frame (wpE (defs₀ (F := F)) Variants.none c none) E (cc0_ffn_res i arg2 harg2 arg3 harg3 arg4 harg4 arg5 harg5 arg6 harg6 arg7 harg7 arg8 harg8 arg9 harg9 arg10 harg10 arg11 harg11) K := by
  simp only [cc0_ffn_res_eq_skeleton]; unfold cc0_ffn_res_skel
  unfold owns
  iintro ⟨⟨%f3, %hf3, H3⟩, ⟨%f4, %hf4, H4⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB h4 h5
  sl_exec
  sl_step
  iapply Hk
  isplitl [H3]
  · iexists _; isplitr; · ipureintro; exact hf3
    iexact H3
  isplitl [H4]
  · iexists _; isplitr; · ipureintro; exact hf4
    iexact H4
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro; subst hf6 hf7 hf8 hf10 hf11
    have e : runC.sl.H11_1 c arg6 arg7 arg8 arg10 arg11 f6 f7 f8 f10 f11 = [⟨Rect.unit (s := S1024x1024) ![0, 0] S1024x1024.size inb_S1024x1024_S1024x1024_0_0, k0_pay3 (arg10.view.read (Elt F) f10) (arg6.view.read (Elt F) f6) (arg7.view.read (Elt F) f7) (arg11.view.read (Elt F) f11) (arg8.view.read (Elt F) f8)⟩] := by
      unfold runC.sl.H11_1; rw [readAt_sq, readAt_w13, readAt_w13, readAt_sq, readAt_w2]
    have e16 : runC.sl.v16 c arg6 arg7 arg8 arg10 arg11 f6 f7 f8 f10 f11 = k0_pay3 (arg10.view.read (Elt F) f10) (arg6.view.read (Elt F) f6) (arg7.view.read (Elt F) f7) (arg11.view.read (Elt F) f11) (arg8.view.read (Elt F) f8) := by
      unfold runC.sl.v16 View.readCov; rw [e]; exact (readAt_sq _ _).trans (View.read_writes_full _ _ _ _ [])
    subst hf4
    rw [View.read_writes_full, e16, readAt_sq]; rfl
  isplitl [H10]
  · iexists _; isplitr; · ipureintro; exact hf10
    iexact H10
  iexists _; isplitr; swap; · iexact H11
  ipureintro; subst hf6 hf7 hf8 hf10 hf11; unfold runC.sl.H11_1; rw [View.read_writes_full]; rw [readAt_sq, readAt_w13, readAt_w13, readAt_sq, readAt_w2]

set_option maxHeartbeats 1000000 in
/-- A step of an unused tile before its last. -/
theorem runD (c : Dev nD) (i : grid0.Coords) (arg2 : Memref sig .tc .smem S32 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0)
    (hA : ¬ condA i n0 = 1#1) (hB : ¬ condB i n0 = 1#1) (h3 : ¬ k0_cond3 i = 1#1)
    (E : Set ℕ) (K : PUnit → sProp 𝕄) :
    iprop(owns (c : Thread nD τ) arg3 q n
        ∗ (iprop(owns (c : Thread nD τ) arg3 q n) -∗ K ⟨⟩))
      ⊢ wp frame (wpE (defs₀ (F := F)) Variants.none c none) E (cc0_ffn_res i arg2 harg2 arg3 harg3 arg4 harg4 arg5 harg5 arg6 harg6 arg7 harg7 arg8 harg8 arg9 harg9 arg10 harg10 arg11 harg11) K := by
  simp only [cc0_ffn_res_eq_skeleton]; unfold cc0_ffn_res_skel
  unfold owns
  iintro ⟨⟨%f3, %hf3, H3⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB
  sl_exec
  sl_step
  iapply Hk
  iexists _; isplitr; swap; · iexact H3
  ipureintro; exact hf3

set_option maxHeartbeats 1000000 in
/-- The last step of an unused tile. -/
theorem runE (c : Dev nD) (i : grid0.Coords) (arg2 : Memref sig .tc .smem S32 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (q : PosShare TreeShare) (n : Vec F S1 .i32) (n0 : BitVec 32) (hn0 : ∀ x, n x = n0)
    (hA : ¬ condA i n0 = 1#1) (hB : ¬ condB i n0 = 1#1) (h3 : k0_cond3 i = 1#1) (h4 : ¬ k0_cond4 i n0 = 1#1) (h5 : k0_cond5 i n0 = 1#1)
    (E : Set ℕ) (K : PUnit → sProp 𝕄) :
    iprop(owns (c : Thread nD τ) arg3 q n ∗ (∃ d, owns (c : Thread nD τ) arg9 fullShare d)
        ∗ (iprop(owns (c : Thread nD τ) arg3 q n ∗ owns (c : Thread nD τ) arg9 fullShare (k0_pay5)) -∗ K ⟨⟩))
      ⊢ wp frame (wpE (defs₀ (F := F)) Variants.none c none) E (cc0_ffn_res i arg2 harg2 arg3 harg3 arg4 harg4 arg5 harg5 arg6 harg6 arg7 harg7 arg8 harg8 arg9 harg9 arg10 harg10 arg11 harg11) K := by
  simp only [cc0_ffn_res_eq_skeleton]; unfold cc0_ffn_res_skel
  unfold owns
  iintro ⟨⟨%f3, %hf3, H3⟩, ⟨%d9, %f9, -, H9⟩, Hk⟩
  have hn : ∀ x, arg3.view.readAt (Elt F) (Rect.unit (s := S1) ![0] S1.size inb_S1_S1_0).toLoadRect f3 x = n0 := by
    intro x; rw [View.readAt_eq_ld, hf3]; exact hn0 _
  rw [← hn (Shape.Idx.first (numel1_S1.symm ▸ Nat.one_pos))] at hA hB h4 h5
  sl_exec
  sl_step
  iapply Hk
  isplitl [H3]
  · iexists _; isplitr; · ipureintro; exact hf3
    iexact H3
  iexists _; isplitr; swap; · iexact H9
  ipureintro; exact View.read_writes_full ..

end Cert.Kernel3Ideal.Dense

end
-- ==== Proof.DenseFrame.lean ====
module

public import proofs.«01_k».proof.Proof.DenseBody
public import Idealize.ShloMosaic.Lib.Claim
public import Idealize.ShloMosaic.Lib.StableHlo.RunRead

/-! The dense pipeline: what its steps leave in its accumulator and its blocks, the whole program's run, and that it ends with its
arguments unchanged and its counters at zero. -/

@[expose] public section
set_option maxRecDepth 16384
noncomputable section
namespace Cert.Kernel3Ideal.Dense
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The steps -/

/-- The tile of a step. -/
theorem c0 (t : Fin grid0.N) : (grid0.coords t 0).val = t.val / 7 := by
  have h := Pipeline.Grid.coords_val (G := grid0) t 0 (S := 7) (B := 32) (by decide) rfl
  have ht : t.val < 224 := N_0 ▸ t.isLt
  omega
/-- The part of the inner width a step adds. -/
theorem c1 (t : Fin grid0.N) : (grid0.coords t 1).val = t.val % 7 := by
  have h := Pipeline.Grid.coords_val (G := grid0) t 1 (S := 1) (B := 7) (by decide) rfl
  omega

/-- A tile is in use: its number is below the count. -/
def Used (n : BitVec 32) (i : ℕ) : Prop := (BitVec.ofNat 32 i).toInt < n.toInt

/-- Whether a tile is in use can be decided. -/
instance (n : BitVec 32) (i : ℕ) : Decidable (Used n i) := inferInstanceAs (Decidable (_ < _))

/-- The condition on the accumulation holds when the tile is in use. -/
theorem condB_iff (i : grid0.Coords) (n : BitVec 32) : condB i n = 1#1 ↔ Used n (i 0).val := by
  unfold condB Used
  simp only [WordCmp.scalar_cmpi_eq, WordCmp.cmpi_slt_eq, WordCmp.scalar_extui_ofBool, WordCmp.cmpi_ne_eq, WordCmp.ofBool_decide_eq_one_iff]
  split <;> simp_all

/-- The inner step as a word is the word of `k` exactly at step `k`. -/
theorem eq_zero_iff (i : grid0.Coords) (k : ℕ) (hk : k < 7) : BitVec.ofNat 32 (i 1).val = BitVec.ofNat 32 k ↔ (i 1).val = k := by
  have h1 : (i 1).val < 7 := (i 1).isLt
  rw [WordCmp.ofNat_eq_ofNat_iff (by omega) (by omega)]

/-- The condition on the first step holds when the tile is in use and the inner step is the first. -/
theorem condA_iff (i : grid0.Coords) (n : BitVec 32) : condA i n = 1#1 ↔ Used n (i 0).val ∧ (i 1).val = 0 := by
  unfold condA Used
  rw [← eq_zero_iff i 0 (by omega)]
  simp only [WordCmp.scalar_cmpi_eq, WordCmp.cmpi_slt_eq, WordCmp.cmpi_eq_eq, WordCmp.scalar_andi_eq, WordCmp.andi_ofBool, WordCmp.scalar_extui_ofBool, WordCmp.cmpi_ne_eq, WordCmp.ofBool_decide_eq_one_iff]
  split <;> simp_all

/-- The condition on the last step holds at the seventh inner step. -/
theorem cond3_iff (i : grid0.Coords) : k0_cond3 i = 1#1 ↔ (i 1).val = 6 := by
  rw [← eq_zero_iff i 6 (by omega)]
  unfold k0_cond3
  simp only [WordCmp.scalar_cmpi_eq, WordCmp.cmpi_eq_eq, WordCmp.scalar_extui_ofBool, WordCmp.cmpi_ne_eq, WordCmp.ofBool_decide_eq_one_iff]
  split <;> simp_all

/-- The condition on the result store holds when the tile is in use. -/
theorem cond4_iff (i : grid0.Coords) (n : BitVec 32) : k0_cond4 i n = 1#1 ↔ Used n (i 0).val := condB_iff i n

/-- The condition on the zero store holds when the tile is not in use. -/
theorem cond5_iff (i : grid0.Coords) (n : BitVec 32) : k0_cond5 i n = 1#1 ↔ ¬ Used n (i 0).val := by
  have key : ∀ b : Bool, IntOp.cmpi .ne (Scalar.extui (Scalar.xori (BitVec.ofBool b) 1#1) : BitVec 32) 0#32 = 1#1 ↔ ¬ b = true := by decide
  unfold k0_cond5 Used
  simp only [WordCmp.scalar_cmpi_eq, WordCmp.cmpi_slt_eq]
  rw [key, decide_eq_true_eq]

/-! ## The tables -/

variable (m : (ℓ : Loc nD τ sig) → Buf (Elt F) ℓ) (ρ : Dev nD → PrngReg)

/-- What the region finds in a core's buffers: the memory after the host operations. -/
abbrev V (c : Dev nD) (b : Ref sig .tc) : Buf (Elt F) ((c.tc : Thread nD τ).loc b) := StableHlo.after hostOps0 (fun b => m (c, b)) b

/-- No host operation leaves an array unspecified. -/
theorem hostOps0_fresh : (hostOps0 : List (HloOp τ sig (Elt F))).Forall fun op => op.fresh = ∅ := by
  simp only [List.Forall]; repeat' constructor

/-- The region finds `main_arg0` as launched. -/
theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
/-- The region finds `main_arg1` as launched. -/
theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
/-- The region finds `main_arg2` as launched. -/
theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
/-- The region finds `main_arg3` as launched. -/
theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
/-- The region finds `main_arg4` as launched. -/
theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))

/-- The tables as the region finds them. -/
def tab : pre0.Contents (Elt F) := fun k => V m (0 : Dev nD) (pre0.ref k)

/-- Every tile names the one set of weights. -/
theorem tab_0 : (tab m 0 : Vec F S32 .i32) = fun _ => 0#32 := by
  show (V m (0 : Dev nD) main_v0 : Vec F S32 .i32) = _
  unfold V
  after_reads_simp
  rfl
/-- Every tile is in use. -/
theorem tab_1 : (tab m 1 : Vec F S1 .i32) = fun _ => 32#32 := by
  show (V m (0 : Dev nD) main_v1 : Vec F S1 .i32) = _
  unfold V
  after_reads_simp
  rfl

/-- The count of tiles in use. -/
def nU (pf : pre0.Contents (Elt F)) : BitVec 32 := pf.at 1 (Rect.unit (s := S1) ![0] S1.size inb_S1_S1_0) numel1_S1

/-- A one-entry array has one index. -/
theorem one_idx (x y : S1.Idx) : x = y := funext fun a => match a with
  | ⟨0, _⟩ => Subsingleton.elim (α := Fin 1) _ _

/-- Every read of the count table is the count. -/
theorem nU_all (pf : pre0.Contents (Elt F)) (x : S1.Idx) : (pf 1 : Vec F S1 .i32) x = nU pf := by
  unfold nU; exact congrArg (pf 1 : Vec F S1 .i32) (one_idx _ _)

/-- The windows read the count too. -/
theorem atD_eq (pf : pre0.Contents (Elt F)) : pf.atD 1 ![0] = nU pf := by
  have h : ∀ a, (![0] : Fin 1 → ℕ) a + 1 ≤ S1.size a := by decide
  exact (dif_pos (c := ∀ a, (![0] : Fin 1 → ℕ) a + 1 ≤ S1.size a) h).trans (nU_all pf _)

/-- Every entry of the first table is below one. -/
theorem tab_lt (x : S32.Idx) : ((tab m 0 : Vec F S32 .i32) x).toNat < 1 := by
  rw [tab_0]; show (0#32 : BitVec 32).toNat < 1; decide

/-- The launch's tables are admissible: every tile uses the one set of weights. -/
theorem tab_ok : ok0 (tab m) := by
  have e : ∀ i : grid0.Coords, ((tab m).at 0 (Rect.unit (s := S32) ![(Scalar.indexCast (BitVec.ofNat 32 (i 0).val)).toNat] S1.size (k0_off1_inb i)) numel1_S1 : BitVec 32).toNat < 1 := fun i => tab_lt m _
  have f : ∀ (i : grid0.Coords) (c : BitVec 1), (Scalar.select c (BitVec.ofNat 32 (i 1).val) 0#32).toNat < 7 := by
    intro i c
    have h1 : (i 1).val < 7 := (i 1).isLt
    have h2 : (BitVec.ofNat 32 (i 1).val).toNat = (i 1).val := WordCmp.toNat_ofNat_of_lt (by omega)
    unfold Scalar.select
    split
    · rw [h2]; exact h1
    · decide
  refine ⟨fun i => ⟨fun a => ?_, Or.inl rfl⟩, fun i => ⟨fun a => ?_, Or.inl rfl⟩, fun i => ⟨fun a => ?_, Or.inl rfl⟩⟩
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact (by decide : (0 + 1) * 1024 ≤ 1024)
    | ⟨2, _⟩ => exact Nat.mul_le_mul_right 512 (Nat.succ_le_of_lt f1)
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact (by decide : (0 + 1) * 1024 ≤ 1024)
    | ⟨2, _⟩ => exact Nat.mul_le_mul_right 512 (Nat.succ_le_of_lt f1)
  · have e1 := e i; have f1 := f i (Scalar.cmpi .slt (BitVec.ofNat 32 (i 0).val) ((tab m).at 1 (Rect.unit (s := S1) ![0] S1.size inb_S1_S1_0) numel1_S1))
    match a with
    | ⟨0, _⟩ => exact Nat.mul_le_mul_right 1 (Nat.succ_le_of_lt e1)
    | ⟨1, _⟩ => exact Nat.mul_le_mul_right 512 (Nat.succ_le_of_lt f1)
    | ⟨2, _⟩ => exact (by decide : (0 + 1) * 1024 ≤ 1024)

/-! ## The pipeline's data -/

variable (a : (pcfg0 (F := F)).Adm)

/-- Window `w`'s block at step `t`. -/
def iblk (c : Dev nD) (w : Fin 6) (t : Fin grid0.N) : ((((cfg0 a).win w).xblock (grid0.coords t)).Idx → Elt F ((cfg0 a).win w).elt) :=
  (((cfg0 a).win w).blk t).view.read (Elt F) (V m c (Pipeline.arrRef spec0 w))

/-- A number as a step. -/
def pt (n : ℕ) : Fin grid0.N := if h : n < grid0.N then ⟨n, h⟩ else ⟨0, by decide⟩

/-- The point of a point's number is the point. -/
theorem pt_val (t : Fin grid0.N) : pt t.val = t := dif_pos t.isLt

/-- The normed tile held during step `n`. -/
def hN (c : Dev nD) : ℕ → Vec F S1024x1024 .bf16
  | 0 => hOf (iblk m a c 0 (pt 0)) (iblk m a c 1 (pt 0))
  | n + 1 => if (n + 1) % 7 = 0 then hOf (iblk m a c 0 (pt (n + 1))) (iblk m a c 1 (pt (n + 1))) else hN c n

/-- The sum after step `n`. -/
def accN (c : Dev nD) : ℕ → Vec F S1024x1024 .f32
  | 0 => k0_pay3 (hN m a c 0) (iblk m a c 2 (pt 0)) (iblk m a c 3 (pt 0)) k0_pay2 (iblk m a c 4 (pt 0))
  | n + 1 => k0_pay3 (hN m a c (n + 1)) (iblk m a c 2 (pt (n + 1))) (iblk m a c 3 (pt (n + 1))) (if (n + 1) % 7 = 0 then k0_pay2 else accN c n) (iblk m a c 4 (pt (n + 1)))

/-- What the last step of a tile leaves in the output block. -/
def outN (c : Dev nD) (n : ℕ) : Vec F S1024x1024 .f32 :=
  if Used (nU a.1) (n / 7) then oOf (accN m a c n) (iblk m a c 0 (pt n)) else k0_pay5

/-- What holds between two steps: in a tile in use, past its first step, the scratch holds the normed tile and the sum so far. -/
def Inv (c : Dev nD) (n : ℕ) : sProp 𝕄 :=
  iprop(∃ (H : Vec F S1024x1024 .bf16) (A : Vec F S1024x1024 .f32), ⌜n % 7 ≠ 0 → Used (nU a.1) (n / 7) → H = hN m a c (n - 1) ∧ A = accN m a c (n - 1)⌝
    ∗ owns (c : Thread nD τ) (Memref.whole cc0_scratch0) fullShare H ∗ owns (c : Thread nD τ) (Memref.whole cc0_scratch1) fullShare A ∗ (∃ r, prngReg c r)
    ∗ owns (c : Thread nD τ) (Memref.whole main_v0) fullShare.right (a.1 0 : Vec F S32 .i32) ∗ owns (c : Thread nD τ) (Memref.whole main_v1) fullShare.right (a.1 1 : Vec F S1 .i32))

/-- The pipeline's data on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outN m a c t.val
  Φ n := Inv m a c n.val
  q w := fullShare
  owed _ := 0

/-- The windows' arrays at the launch. -/
theorem A_eq (c : Dev nD) (w : Fin 6) : (dats m a 0 c).A w = V m c (Pipeline.arrRef spec0 w) := by
  dsimp only [dats]

/-- The rows' block after a step. -/
theorem after_0 (c : Dev nD) (t : Fin grid0.N) : (dats m a 0 c).after 0 t = iblk m a c 0 t := rfl
/-- The gain's block after a step. -/
theorem after_1 (c : Dev nD) (t : Fin grid0.N) : (dats m a 0 c).after 1 t = iblk m a c 1 t := rfl
/-- The first weights' block after a step. -/
theorem after_2 (c : Dev nD) (t : Fin grid0.N) : (dats m a 0 c).after 2 t = iblk m a c 2 t := rfl
/-- The second weights' block after a step. -/
theorem after_3 (c : Dev nD) (t : Fin grid0.N) : (dats m a 0 c).after 3 t = iblk m a c 3 t := rfl
/-- The third weights' block after a step. -/
theorem after_4 (c : Dev nD) (t : Fin grid0.N) : (dats m a 0 c).after 4 t = iblk m a c 4 t := rfl
/-- The result's block after a step. -/
theorem after_5 (c : Dev nD) (t : Fin grid0.N) : (dats m a 0 c).after 5 t = outN m a c t.val := rfl

/-- The rows' block before a step. -/
theorem before_0 (c : Dev nD) (t : Fin grid0.N) (d) : (dats m a 0 c).before 0 t d = iblk m a c 0 t :=
  ((dats m a 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The gain's block before a step. -/
theorem before_1 (c : Dev nD) (t : Fin grid0.N) (d) : (dats m a 0 c).before 1 t d = iblk m a c 1 t :=
  ((dats m a 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The first weights' block before a step. -/
theorem before_2 (c : Dev nD) (t : Fin grid0.N) (d) : (dats m a 0 c).before 2 t d = iblk m a c 2 t :=
  ((dats m a 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The second weights' block before a step. -/
theorem before_3 (c : Dev nD) (t : Fin grid0.N) (d) : (dats m a 0 c).before 3 t d = iblk m a c 3 t :=
  ((dats m a 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The third weights' block before a step. -/
theorem before_4 (c : Dev nD) (t : Fin grid0.N) (d) : (dats m a 0 c).before 4 t d = iblk m a c 4 t :=
  ((dats m a 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The output's block is written back at a tile's last step only. -/
theorem flush_5 : ∀ t : Fin grid0.N, t.val % 7 ≠ 6 → (spec0 5).flushAt (G := grid0) cc0_transform_5 t = false := by decide +kernel
/-- The result's block is not written back before a tile's last step. -/
theorem flush5 (t : Fin grid0.N) (h : t.val % 7 ≠ 6) : ((cfg0 a).win 5).flush t = false := flush_5 t h

/-! ## The body obligation -/

/-- Window `w`'s buffer at step `t`. -/
abbrev st (w : Fin 6) (t : Fin grid0.N) := ((cfg0 a).win w).stage ((cfg0 a).slots t w)

/-- The body the pipeline calls at step `t`. -/
def bodyAt (t : Fin grid0.N) : Prog (TpuEff nD τ sig (Elt F) Λ₀ .tc) PUnit :=
  cc0_ffn_res (grid0.coords t) (Memref.whole main_v0) (Memref.isWhole_whole _) (Memref.whole main_v1) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _) (Memref.whole cc0_scratch1) (Memref.isWhole_whole _)

/-- The body the table runs at a point. -/
theorem defs₀_row (t : Fin grid0.N) :
    defs₀ (F := F) .tc (cfg0 a).body ((cfg0 a).bodyArgs t ((cfg0 a).slots t)) = bodyAt a t := by
  unfold defs₀; rw [Defs.onTc_tc]; rfl

/-- What the body is called with at step `t` -/
def bodyPre (c : Dev nD) (t : Fin grid0.N) : sProp 𝕄 :=
  iprop(Inv m a c t.val ∗ (dats m a 0 c).owesAt () t.castSucc
    ∗ (∃ d, owns (c : Thread nD τ) (st a 0 t) fullShare ((dats m a 0 c).before 0 t d))
    ∗ (∃ d, owns (c : Thread nD τ) (st a 1 t) fullShare ((dats m a 0 c).before 1 t d))
    ∗ (∃ d, owns (c : Thread nD τ) (st a 2 t) fullShare ((dats m a 0 c).before 2 t d))
    ∗ (∃ d, owns (c : Thread nD τ) (st a 3 t) fullShare ((dats m a 0 c).before 3 t d))
    ∗ (∃ d, owns (c : Thread nD τ) (st a 4 t) fullShare ((dats m a 0 c).before 4 t d))
    ∗ (∃ d, owns (c : Thread nD τ) (st a 5 t) fullShare ((dats m a 0 c).before 5 t d)))

/-- and what it returns. -/
def bodyPost (c : Dev nD) (t : Fin grid0.N) : sProp 𝕄 :=
  iprop(Inv m a c (t.val + 1) ∗ (dats m a 0 c).owesAt () t.succ
    ∗ owns (c : Thread nD τ) (st a 0 t) fullShare ((dats m a 0 c).after 0 t)
    ∗ owns (c : Thread nD τ) (st a 1 t) fullShare ((dats m a 0 c).after 1 t)
    ∗ owns (c : Thread nD τ) (st a 2 t) fullShare ((dats m a 0 c).after 2 t)
    ∗ owns (c : Thread nD τ) (st a 3 t) fullShare ((dats m a 0 c).after 3 t)
    ∗ owns (c : Thread nD τ) (st a 4 t) fullShare ((dats m a 0 c).after 4 t)
    ∗ (dats m a 0 c).leavesExact 5 t)

/-- The body stores into the output's block at a tile's last step only. -/
theorem idle5 (t : Fin grid0.N) : (cfg0 a).idle 5 (grid0.coords t) = decide (t.val % 7 ≠ 6) := by
  show idle0 a.1 5 (grid0.coords t) = _
  have h3 : (k0_cond3 (grid0.coords t) == 1#1) = decide (t.val % 7 = 6) := by
    rw [Bool.eq_iff_iff, beq_iff_eq, cond3_iff, c1, decide_eq_true_eq]
  have h4 : (k0_cond4 (grid0.coords t) (nU a.1) == 1#1) = decide (Used (nU a.1) (t.val / 7)) := by
    rw [Bool.eq_iff_iff, beq_iff_eq, cond4_iff, c0, decide_eq_true_eq]
  have h5 : (k0_cond5 (grid0.coords t) (nU a.1) == 1#1) = decide (¬ Used (nU a.1) (t.val / 7)) := by
    rw [Bool.eq_iff_iff, beq_iff_eq, cond5_iff, c0, decide_eq_true_eq]
  show (!(k0_cond3 (grid0.coords t) == 1#1 && k0_cond4 (grid0.coords t) (a.1.atD 1 ![0]) == 1#1) && !(k0_cond3 (grid0.coords t) == 1#1 && k0_cond5 (grid0.coords t) (a.1.atD 1 ![0]) == 1#1)) = _
  rw [atD_eq, h3, h4, h5]
  by_cases h : t.val % 7 = 6 <;> by_cases h' : Used (nU a.1) (t.val / 7) <;> simp [h, h']

/-- Before a tile's last step the result window carries over. -/
theorem leaves_mid (c : Dev nD) (t : Fin grid0.N) (h : t.val % 7 ≠ 6) :
    (dats m a 0 c).leavesExact 5 t = iprop(∃ d, owns (c : Thread nD τ) (st a 5 t) fullShare ((dats m a 0 c).before 5 t d)) :=
  (dats m a 0 c).leavesExact_idle 5 t ((idle5 a t).trans (decide_eq_true h)) (flush5 a t h)

/-- At a tile's last step the result window holds what the step stored. -/
theorem leaves_end (c : Dev nD) (t : Fin grid0.N) (h : t.val % 7 = 6) :
    (dats m a 0 c).leavesExact 5 t = owns (c : Thread nD τ) (st a 5 t) fullShare (outN m a c t.val) := by
  have hi : (cfg0 a).idle 5 ((cfg0 a).grid.coords t) = false := (idle5 a t).trans (decide_eq_false (not_not.2 h))
  unfold Dat.leavesExact; rw [hi]; rfl

/-- At a tile's first step the normalized rows are made. -/
theorem hN_first (c : Dev nD) (t : Fin grid0.N) (h : t.val % 7 = 0) : hN m a c t.val = hOf (iblk m a c 0 t) (iblk m a c 1 t) := by
  have e := pt_val t
  obtain ⟨n, hn⟩ := t
  cases n with
  | zero => unfold hN; rw [e]
  | succ n => unfold hN; rw [if_pos h, e]

/-- At a later step the normalized rows stay. -/
theorem hN_next (c : Dev nD) (n : ℕ) (h : n % 7 ≠ 0) : hN m a c n = hN m a c (n - 1) := by
  cases n with
  | zero => exact absurd rfl h
  | succ n => rw [hN, if_neg h]; rfl

/-- The accumulator after a tile's first step. -/
theorem accN_first (c : Dev nD) (t : Fin grid0.N) (h : t.val % 7 = 0) :
    accN m a c t.val = k0_pay3 (hN m a c t.val) (iblk m a c 2 t) (iblk m a c 3 t) k0_pay2 (iblk m a c 4 t) := by
  have e := pt_val t
  obtain ⟨n, hn⟩ := t
  cases n with
  | zero => unfold accN; rw [e]
  | succ n => unfold accN; rw [if_pos h, e]

/-- The accumulator after a later step. -/
theorem accN_next (c : Dev nD) (t : Fin grid0.N) (h : t.val % 7 ≠ 0) :
    accN m a c t.val = k0_pay3 (hN m a c t.val) (iblk m a c 2 t) (iblk m a c 3 t) (accN m a c (t.val - 1)) (iblk m a c 4 t) := by
  have e := pt_val t
  obtain ⟨n, hn⟩ := t
  cases n with
  | zero => exact absurd rfl h
  | succ n =>
    show accN m a c (n + 1) = _
    rw [accN, if_neg h, e]; rfl

/-- The first step of a tile in use. -/
theorem sound_A (c : Dev nD) (t : Fin grid0.N) (hu : Used (nU a.1) (t.val / 7)) (hf : t.val % 7 = 0) :
    bodyPre m a c t ⊢ wp frame (wpE (defs₀ (F := F)) Variants.none c none) Set.univ (bodyAt a t) (fun _ => bodyPost m a c t) := by
  unfold bodyPre bodyPost bodyAt Inv
  rw [leaves_mid m a c t (by omega)]
  simp only [before_0, before_1, before_2, before_3, before_4, after_0, after_1, after_2, after_3, after_4]
  iintro ⟨⟨%H, %A, -, HS0, HS1, Hg, HT0, HT1⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ _ _ _ _ _ _ fullShare.right (a.1 1 : Vec F S1 .i32) (nU a.1) (nU_all a.1)
    (iblk m a c 0 t) (iblk m a c 1 t) (iblk m a c 2 t) (iblk m a c 3 t) (iblk m a c 4 t)
    ((condA_iff _ _).2 ⟨by rw [c0]; exact hu, by rw [c1]; exact hf⟩) ((condB_iff _ _).2 (by rw [c0]; exact hu)) (fun h => by rw [cond3_iff, c1] at h; omega) Set.univ _)
  isplitl [HT1]; · iexact HT1
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  iintro ⟨HT1, H0, H1, H2, H3, H4, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ _
    rw [Nat.add_sub_cancel, accN_first m a c t hf, hN_first m a c t hf]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  iexists _; iexact H5

/-- A step between the first and the last of a tile in use. -/
theorem sound_B (c : Dev nD) (t : Fin grid0.N) (hu : Used (nU a.1) (t.val / 7)) (hf : t.val % 7 ≠ 0) (hl : t.val % 7 ≠ 6) :
    bodyPre m a c t ⊢ wp frame (wpE (defs₀ (F := F)) Variants.none c none) Set.univ (bodyAt a t) (fun _ => bodyPost m a c t) := by
  unfold bodyPre bodyPost bodyAt Inv
  rw [leaves_mid m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  obtain ⟨rfl, rfl⟩ := hHA hf hu
  iapply (runB c (grid0.coords t) _ _ _ _ _ _ _ _ _ _ _ _ _ _ _ _ _ _ _ _ fullShare.right (a.1 1 : Vec F S1 .i32) (nU a.1) (nU_all a.1)
    (iblk m a c 2 t) (iblk m a c 3 t) (iblk m a c 4 t) (hN m a c (t.val - 1)) (accN m a c (t.val - 1))
    (fun h => by rw [condA_iff, c1] at h; exact hf h.2) ((condB_iff _ _).2 (by rw [c0]; exact hu)) (fun h => by rw [cond3_iff, c1] at h; omega) Set.univ _)
  isplitl [HT1]; · iexact HT1
  isplitl [H2]; · iexact H2
  isplitl [H3]; · iexact H3
  isplitl [H4]; · iexact H4
  isplitl [HS0]; · iexact HS0
  isplitl [HS1]; · iexact HS1
  iintro ⟨HT1, H2, H3, H4, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ _
    rw [Nat.add_sub_cancel, accN_next m a c t hf, hN_next m a c t.val hf]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  iexists _; iexact H5

/-- The last step of a tile in use. -/
theorem sound_C (c : Dev nD) (t : Fin grid0.N) (hu : Used (nU a.1) (t.val / 7)) (hl : t.val % 7 = 6) :
    bodyPre m a c t ⊢ wp frame (wpE (defs₀ (F := F)) Variants.none c none) Set.univ (bodyAt a t) (fun _ => bodyPost m a c t) := by
  have hf : t.val % 7 ≠ 0 := by omega
  unfold bodyPre bodyPost bodyAt Inv
  rw [leaves_end m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  obtain ⟨rfl, rfl⟩ := hHA hf hu
  iapply (runC c (grid0.coords t) _ _ _ _ _ _ _ _ _ _ _ _ _ _ _ _ _ _ _ _ fullShare.right (a.1 1 : Vec F S1 .i32) (nU a.1) (nU_all a.1)
    (iblk m a c 0 t) (iblk m a c 2 t) (iblk m a c 3 t) (iblk m a c 4 t) (hN m a c (t.val - 1)) (accN m a c (t.val - 1))
    (fun h => by rw [condA_iff, c1] at h; exact hf h.2) ((condB_iff _ _).2 (by rw [c0]; exact hu)) ((cond3_iff _).2 (by rw [c1]; exact hl))
    ((cond4_iff _ _).2 (by rw [c0]; exact hu)) (fun h => by rw [cond5_iff, c0] at h; exact h hu) Set.univ _)
  isplitl [HT1]; · iexact HT1
  isplitl [H0]; · iexact H0
  isplitl [H2]; · iexact H2
  isplitl [H3]; · iexact H3
  isplitl [H4]; · iexact H4
  isplitl [H5]; · iexists _; iexact H5
  isplitl [HS0]; · iexact HS0
  isplitl [HS1]; · iexact HS1
  iintro ⟨HT1, H0, H2, H3, H4, H5, HS0, HS1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro h _
    omega
  isplitl [Ho]; · iexact Ho
  isplitl [H0]; · iexact H0
  isplitl [H1]; · iexact H1
  isplitl [H2]; · iexact H2
  isplitl [H3]; · iexact H3
  isplitl [H4]; · iexact H4
  unfold outN
  rw [if_pos hu, pt_val, accN_next m a c t hf, hN_next m a c t.val hf]
  iexact H5

/-- A step other than the last of a tile not in use. -/
theorem sound_D (c : Dev nD) (t : Fin grid0.N) (hu : ¬ Used (nU a.1) (t.val / 7)) (hl : t.val % 7 ≠ 6) :
    bodyPre m a c t ⊢ wp frame (wpE (defs₀ (F := F)) Variants.none c none) Set.univ (bodyAt a t) (fun _ => bodyPost m a c t) := by
  unfold bodyPre bodyPost bodyAt Inv
  rw [leaves_mid m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  iapply (runD c (grid0.coords t) _ _ _ _ _ _ _ _ _ _ _ _ _ _ _ _ _ _ _ _ fullShare.right (a.1 1 : Vec F S1 .i32) (nU a.1) (nU_all a.1)
    (fun h => by rw [condA_iff, c0] at h; exact hu h.1) (fun h => by rw [condB_iff, c0] at h; exact hu h) (fun h => by rw [cond3_iff, c1] at h; omega) Set.univ _)
  isplitl [HT1]; · iexact HT1
  iintro HT1
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro _ h
    rw [show (t.val + 1) / 7 = t.val / 7 by omega] at h
    exact absurd h hu
  isplitl [Ho]; · iexact Ho
  isplitl [H0]; · iexact H0
  isplitl [H1]; · iexact H1
  isplitl [H2]; · iexact H2
  isplitl [H3]; · iexact H3
  isplitl [H4]; · iexact H4
  iexists _; iexact H5

/-- The last step of a tile not in use. -/
theorem sound_E (c : Dev nD) (t : Fin grid0.N) (hu : ¬ Used (nU a.1) (t.val / 7)) (hl : t.val % 7 = 6) :
    bodyPre m a c t ⊢ wp frame (wpE (defs₀ (F := F)) Variants.none c none) Set.univ (bodyAt a t) (fun _ => bodyPost m a c t) := by
  unfold bodyPre bodyPost bodyAt Inv
  rw [leaves_end m a c t hl]
  simp only [before_0, before_1, before_2, before_3, before_4, after_0, after_1, after_2, after_3, after_4]
  iintro ⟨⟨%H, %A, %hHA, HS0, HS1, Hg, HT0, HT1⟩, Ho, ⟨%d0, H0⟩, ⟨%d1, H1⟩, ⟨%d2, H2⟩, ⟨%d3, H3⟩, ⟨%d4, H4⟩, ⟨%d5, H5⟩⟩
  iapply (runE c (grid0.coords t) _ _ _ _ _ _ _ _ _ _ _ _ _ _ _ _ _ _ _ _ fullShare.right (a.1 1 : Vec F S1 .i32) (nU a.1) (nU_all a.1)
    (fun h => by rw [condA_iff, c0] at h; exact hu h.1) (fun h => by rw [condB_iff, c0] at h; exact hu h) ((cond3_iff _).2 (by rw [c1]; exact hl))
    (fun h => by rw [cond4_iff, c0] at h; exact hu h) ((cond5_iff _ _).2 (by rw [c0]; exact hu)) Set.univ _)
  isplitl [HT1]; · iexact HT1
  isplitl [H5]; · iexists _; iexact H5
  iintro ⟨HT1, H5⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro h _
    omega
  isplitl [Ho]; · iexact Ho
  isplitl [H0]; · iexact H0
  isplitl [H1]; · iexact H1
  isplitl [H2]; · iexact H2
  isplitl [H3]; · iexact H3
  isplitl [H4]; · iexact H4
  unfold outN
  rw [if_neg hu]
  iexact H5

/-- The body at any step. -/
theorem sound_body (c : Dev nD) (t : Fin grid0.N) :
    bodyPre m a c t ⊢ wp frame (wpE (defs₀ (F := F)) Variants.none c none) Set.univ (bodyAt a t) (fun _ => bodyPost m a c t) := by
  by_cases hu : Used (nU a.1) (t.val / 7)
  · by_cases hf : t.val % 7 = 0
    · exact sound_A m a c t hu hf
    · by_cases hl : t.val % 7 = 6
      · exact sound_C m a c t hu hl
      · exact sound_B m a c t hu hf hl
  · by_cases hl : t.val % 7 = 6
    · exact sound_E m a c t hu hl
    · exact sound_D m a c t hu hl

/-- The body's triple as the pipeline asks for it, at every step. -/
theorem body_obligation (c : Dev nD) : BodyObligation (dats m a 0 c) (defs₀ (F := F)) Variants.none () Set.univ := fun t => by
  rw [bigSep_W0, bigSep_W0, defs₀_row]
  exact triple_restated (sound_body m a c t) rfl .rfl fun _ => .rfl

/-! ## The run and the frame -/

/-- The two tables, one by one. -/
theorem tabs_eq (c : Dev nD) (v : pre0.Contents (Elt F)) :
    (Pipeline.ΦT pre0 v c : sProp 𝕄) = iprop(owns (c : Thread nD τ) (Memref.whole main_v0) fullShare.right (v 0 : Vec F S32 .i32) ∗ owns (c : Thread nD τ) (Memref.whole main_v1) fullShare.right (v 1 : Vec F S1 .i32)) := by
  unfold Pipeline.ΦT Pipeline.prefHeld
  rw [bigSep_univ_eq_bigSepL [(0 : Fin 2), (1 : Fin 2)] (by decide) (by decide)]
  exact congrArg₂ BIBase.sep (owns_whole (c : Thread nD τ) main_v0 fullShare.right (v 0)).symm (owns_whole (c : Thread nD τ) main_v1 fullShare.right (v 1)).symm

/-- The scratch arrays at the launch. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The invariant holds at the launch. -/
theorem inv_in (c : Dev nD) : iprop(Pipeline.ΦA spec0 c ∗ Pipeline.ΦT pre0 a.1 c) ⊢ (Inv m a c 0 : sProp 𝕄) := by
  rw [scratch_eq, tabs_eq]
  unfold Inv
  iintro ⟨⟨⟨⟨%d0, HS0⟩, ⟨%d1, HS1⟩⟩, Hg⟩, HT0, HT1⟩
  iexists _; iexists _
  isplitr
  swap
  · isplitl [HS0]; · iexact HS0
    isplitl [HS1]; · iexact HS1
    isplitl [Hg]; · iexact Hg
    isplitl [HT0]; · iexact HT0
    iexact HT1
  ipureintro
  intro h; exact absurd rfl h

/-- The invariant gives the scratch arrays back. -/
theorem inv_out (c : Dev nD) (n : ℕ) : (Inv m a c n : sProp 𝕄) ⊢ Pipeline.ΦA spec0 c := by
  rw [scratch_eq]
  unfold Inv
  iintro ⟨%H, %A, -, HS0, HS1, Hg, HT0, HT1⟩
  isplitl [HS0 HS1]
  · isplitl [HS0]
    · iexists _; iexact HS0
    iexists _; iexact HS1
  iexact Hg

/-- The launch's admissible tables. -/
abbrev adm : (p : Fin 1) → (pcfgs (F := F) p).Adm := fun _ => ⟨tab m, tab_ok m⟩

set_option backward.isDefEq.respectTransparency.types false in
/-- The whole program's run: the arrays of the pipeline end as the data says, and every counter at zero. -/
theorem run_main_quiescent :
    θ_run defs (onTc (τ := τ) (main (F := F))) (s₀ m ρ)
      (fun r => (Pipeline.FramePost (Pipeline.pin pcfgs (adm m)) (fun p c => dats m (adm m p) p c) 0 (V m)) r ∧ r.2.sem = fun _ => 0) :=
  Pipeline.θ_run_frameP_track (Q' := _) pcfgs (adm m) (fun p c => dats m (adm m p) p c) (0 : Fin 1) launch0 defs₀ Variants.none m ρ main
    (hbody := fun c => (body_obligation m (adm m 0) c).loose) (hshare := fun _ _ => ite_self _)
    (howed := fun _ _ => rfl) (V := V m) (hmain := Pipeline.hmainP_prefix _ (0 : Fin 1) defs₀ Variants.none m main hostOps0 hostOps0_sub hostOps0_fresh main_chain)
    (hA := A_eq m (adm m 0)) (hpf := fun c k => by rw [Subsingleton.elim c 0]; rfl)
    (hin := inv_in m (adm m 0)) (hout := fun c => inv_out m (adm m 0) c _)

/-- The argument arrays end unchanged. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
    obtain ⟨hw, hb⟩ := hr.1 c
    refine ⟨?_, ?_, ?_, ?_, ?_⟩
    · exact ((hw 0).trans ((dats m (adm m 0) 0 c).arrAt_in 0 rfl _)).trans (V_main_arg0 m c)
    · exact (hb main_arg1 (by decide : main_arg1 ∈ Pipeline.restRefs sig spec0)).trans (V_main_arg1 m c)
    · exact (hb main_arg2 (by decide : main_arg2 ∈ Pipeline.restRefs sig spec0)).trans (V_main_arg2 m c)
    · exact (hb main_arg3 (by decide : main_arg3 ∈ Pipeline.restRefs sig spec0)).trans (V_main_arg3 m c)
    · exact (hb main_arg4 (by decide : main_arg4 ∈ Pipeline.restRefs sig spec0)).trans (V_main_arg4 m c)) (run_main_quiescent m ρ)

/-- The frame: every run ends, with the arguments unchanged and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.Kernel3Ideal.Dense

end
-- ==== Proof.DensePure.lean ====
module

public import proofs.«01_k».proof.Proof.DenseBody
public import proofs.«01_k».proof.Proof.FfnPure
public import Idealize.ShloMosaic.Lib.Pointwise
public import Idealize.ShloMosaic.Lib.Pipeline.ValueKit
public import Idealize.ShloMosaic.Lib.Pipeline.ReadBack

/-! The dense body entry by entry, at the exact numbers. -/

@[expose] public section
set_option maxRecDepth 16384
noncomputable section
namespace Cert.Kernel3Ideal.Dense
open Cert.Kernel3Ideal Cert.Kernel3Ideal.Gen
open Idealize.ShloMosaic Idealize.ShloMosaic.TcCoe Idealize.SL.Sem
open Cert.Kernel2Ideal.Ffn (gateK)

/-- A row's sum of squares. -/
def sqK (x0 : Vec Ideal S1024x1024 .f32) (r : Fin 1024) : EReal := ∑ y : Fin 1024, x0 (ix2 r y) * x0 (ix2 r y)
/-- The normalized rows at an entry. -/
def hK (x0 : Vec Ideal S1024x1024 .f32) (g : Fin 1024 → EReal) (r d : Fin 1024) : EReal :=
  x0 (ix2 r d) * Ideal.rsqrt (Ideal.div (sqK x0 r) (Ideal.ofBits .f32 0x44800000#32) + Ideal.ofBits .f32 0x358637BD#32) * g d

/-- The normalized rows as the body stores them. -/
theorem hOf_at (x0 : Vec Ideal S1024x1024 .f32) (g : Vec Ideal S1x1024 .f32) (r d : Fin 1024) :
    hOf (F := Ideal) x0 g (ix2 r d) = hK x0 (fun e => g (ix2 (0 : Fin 1) e)) r d := by
  unfold hOf hK sqK
  pointwise [k0_pay1]

/-- A step's payload at an entry: the sum so far and this step's part. -/
theorem pay3_at (h : Vec Ideal S1024x1024 .bf16) (w1 w3 : Vec Ideal S1x1024x512 .f32) (acc : Vec Ideal S1024x1024 .f32) (w2 : Vec Ideal S1x512x1024 .f32) (r d : Fin 1024) :
    k0_pay3 (F := Ideal) h w1 w3 acc w2 (ix2 r d)
      = (acc (ix2 r d) + ∑ j : Fin 512, gateK (∑ x : Fin 1024, h (ix2 r x) * w1 (ix3 (0 : Fin 1) x j)) (∑ x : Fin 1024, h (ix2 r x) * w3 (ix3 (0 : Fin 1) x j)) * w2 (ix3 (0 : Fin 1) j d) : EReal) := by
  unfold gateK
  pointwise [k0_pay3]
/-- The sum starts from zero. -/
theorem pay2_at (y : S1024x1024.Idx) : k0_pay2 (F := Ideal) y = (0 : EReal) := by
  have : k0_pay2 (F := Ideal) y = Ideal.ofBits .f32 0x00000000#32 := by pointwise [k0_pay2]
  rw [this, Ideal.ofBits_zero_f32]
/-- A finished tile at an entry: its row's entry plus the sum. -/
theorem oOf_at (acc x0 : Vec Ideal S1024x1024 .f32) (y : S1024x1024.Idx) : oOf (F := Ideal) acc x0 y = (x0 y + acc y : EReal) := by
  unfold oOf
  pointwise [k0_pay4]

end Cert.Kernel3Ideal.Dense
end
-- ==== Proof.DenseVal.lean ====
module

public import proofs.«01_k».proof.Proof.DenseFrame
public import proofs.«01_k».proof.Proof.DensePure
public import proofs.«01_k».proof.Proof.FfnVal
public import Idealize.ShloMosaic.Lib.Pipeline.Value
public import Idealize.ShloMosaic.Lib.StableHlo.ReadAt

/-! The dense call's result array after the run, as one function of the arguments. -/

@[expose] public section
set_option maxRecDepth 16384
noncomputable section
namespace Cert.Kernel3Ideal.Dense
open Cert.Kernel3Ideal Cert.Kernel3Ideal.Gen
open Idealize.ShloMosaic Idealize.ShloMosaic.TcCoe Idealize.SL.Sem
open Idealize.ShloMosaic.Pipeline (Dat)
open Cert.Kernel2Ideal.Ffn (gateK part_sum)

variable (m : (ℓ : Loc nD τ sig) → Buf (Elt Ideal) ℓ) (ρ : Dev nD → PrngReg) (a : (pcfg0 (F := Ideal)).Adm)

/-- A step's tile is one of 32. -/
theorem tile_lt (t : Fin grid0.N) : t.val / 7 < 32 := by have ht : t.val < 224 := N_0 ▸ t.isLt; omega
/-- A step's tile. -/
def tl (t : Fin grid0.N) : Fin 32 := ⟨t.val / 7, tile_lt t⟩
/-- Which weights a tile uses. -/
def te (i : Fin 32) : ℕ := (((a.1 0 : Vec Ideal S32 .i32) (ix1 i)) : BitVec 32).toNat

/-- Where the rows' block lies. -/
theorem idx0 (t : Fin grid0.N) : ((pcfg0 (F := Ideal)).win a 0).index t = ![t.val / 7, 0] :=
  (by decide +kernel : ∀ t : Fin grid0.N, cc0_transform_0 (grid0.coords t) = ![t.val / 7, 0]) t
/-- Where the gain's block lies. -/
theorem idx1 (t : Fin grid0.N) : ((pcfg0 (F := Ideal)).win a 1).index t = ![0, 0] :=
  (by decide +kernel : ∀ t : Fin grid0.N, cc0_transform_1 (grid0.coords t) = ![0, 0]) t
/-- Where the result's block lies. -/
theorem idx5 (t : Fin grid0.N) : ((pcfg0 (F := Ideal)).win a 5).index t = ![t.val / 7, 0] :=
  (by decide +kernel : ∀ t : Fin grid0.N, cc0_transform_5 (grid0.coords t) = ![t.val / 7, 0]) t
/-- The chosen part in a tile in use. -/
theorem sel_used (t : Fin grid0.N) (hu : Used (nU a.1) (t.val / 7)) :
    (Scalar.select (Scalar.cmpi .slt (BitVec.ofNat 32 (grid0.coords t 0).val) (nU a.1)) (BitVec.ofNat 32 (grid0.coords t 1).val) 0#32).toNat = t.val % 7 := by
  rw [c0, c1]
  unfold Used at hu
  simp only [WordCmp.scalar_cmpi_eq, WordCmp.cmpi_slt_eq, hu, decide_true]
  show (BitVec.ofNat 32 (t.val % 7)).toNat = _
  exact WordCmp.toNat_ofNat_of_lt (by omega)
/-- The weights' number read off the table. -/
theorem at_te (t : Fin grid0.N) :
    (a.1.at 0 (Rect.unit (s := S32) ![(Scalar.indexCast (BitVec.ofNat 32 (grid0.coords t 0).val)).toNat] S1.size (k0_off1_inb (grid0.coords t))) numel1_S1 : BitVec 32).toNat = te a (tl t) := by
  have h : (Scalar.indexCast (BitVec.ofNat 32 (grid0.coords t 0).val)).toNat = t.val / 7 := by
    rw [c0]
    exact WordCmp.toNat_ofNat_of_lt (by have := tile_lt t; omega)
  unfold te
  refine congrArg (fun x => ((a.1 0 : Vec Ideal S32 .i32) x : BitVec 32).toNat) (funext fun b => Fin.ext ?_)
  match b with
  | ⟨0, _⟩ => show _ + _ = t.val / 7; rw [← h]; rfl
/-- Where the first weights' block lies, in a tile in use. -/
theorem idx2 (t : Fin grid0.N) (hu : Used (nU a.1) (t.val / 7)) : ((pcfg0 (F := Ideal)).win a 2).index t = ![te a (tl t), 0, t.val % 7] := by
  rw [← at_te a t, ← sel_used a t hu]; rfl
/-- Where the second weights' block lies, in a tile in use. -/
theorem idx3 (t : Fin grid0.N) (hu : Used (nU a.1) (t.val / 7)) : ((pcfg0 (F := Ideal)).win a 3).index t = ![te a (tl t), 0, t.val % 7] := by
  rw [← at_te a t, ← sel_used a t hu]; rfl
/-- Where the third weights' block lies, in a tile in use. -/
theorem idx4 (t : Fin grid0.N) (hu : Used (nU a.1) (t.val / 7)) : ((pcfg0 (F := Ideal)).win a 4).index t = ![te a (tl t), t.val % 7, 0] := by
  rw [← at_te a t, ← sel_used a t hu]; rfl

/-- The gain as the region finds it. -/
theorem V_g (c : Dev nD) (d : Fin 1024) : (V m c main_v2 : Vec Ideal S1x1024 .f32) (ix2 (0 : Fin 1) d) = (m ((c.tc : Thread nD τ).loc main_arg1) : Vec Ideal S1024 .f32) (ix1 d) := by
  unfold V
  after_reads_at
/-- The first weights as the region finds them. -/
theorem V_w1 (c : Dev nD) (d : Fin 1024) (J : Fin 3584) : (V m c main_v3 : Vec Ideal S1x1024x3584 .f32) (ix3 (0 : Fin 1) d J) = (m ((c.tc : Thread nD τ).loc main_arg2) : Vec Ideal S1024x3584 .f32) (ix2 d J) := by
  unfold V
  after_reads_at
/-- The second weights as the region finds them. -/
theorem V_w3 (c : Dev nD) (d : Fin 1024) (J : Fin 3584) : (V m c main_v4 : Vec Ideal S1x1024x3584 .f32) (ix3 (0 : Fin 1) d J) = (m ((c.tc : Thread nD τ).loc main_arg3) : Vec Ideal S1024x3584 .f32) (ix2 d J) := by
  unfold V
  after_reads_at
/-- The third weights as the region finds them. -/
theorem V_w2 (c : Dev nD) (J : Fin 3584) (d : Fin 1024) : (V m c main_v5 : Vec Ideal S1x3584x1024 .f32) (ix3 (0 : Fin 1) J d) = (m ((c.tc : Thread nD τ).loc main_arg4) : Vec Ideal S3584x1024 .f32) (ix2 J d) := by
  unfold V
  after_reads_at

/-- A tile's rows of the input. -/
def xb (x : Vec Ideal S32768x1024 .f32) (i : Fin 32) : Vec Ideal S1024x1024 .f32 := fun y =>
  x (ix2 (⟨1024 * i.val + (y 0).val, by have : (y 0).val < 1024 := (y 0).isLt; omega⟩ : Fin 32768) (⟨(y 1).val, (y 1).isLt⟩ : Fin 1024))

/-- A tile's block of rows. -/
theorem blk0 (c : Dev nD) (t : Fin grid0.N) (p : Fin 1024) (l : Fin 1024) :
    (iblk m a c 0 t : Vec Ideal S1024x1024 .f32) (ix2 p l)
      = (V m c main_arg0 : Vec Ideal S32768x1024 .f32) (ix2 (⟨1024 * (t.val / 7) + p.val, by have := tile_lt t; omega⟩ : Fin 32768) l) := by
  have h0 := idx0 a t
  blk_ext [iblk, h0]
/-- The gain, whole. -/
theorem blk1 (c : Dev nD) (t : Fin grid0.N) (d : Fin 1024) :
    (iblk m a c 1 t : Vec Ideal S1x1024 .f32) (ix2 (0 : Fin 1) d) = (V m c main_v2 : Vec Ideal S1x1024 .f32) (ix2 (0 : Fin 1) d) := by
  have h0 := idx1 a t
  blk_ext [iblk, h0]
/-- The first weights' block. -/
theorem blk2 (c : Dev nD) (t : Fin grid0.N) (hu : Used (nU a.1) (t.val / 7)) (he : te a (tl t) = 0) (d : Fin 1024) (j : Fin 512) :
    (iblk m a c 2 t : Vec Ideal S1x1024x512 .f32) (ix3 (0 : Fin 1) d j)
      = (V m c main_v3 : Vec Ideal S1x1024x3584 .f32) (ix3 (0 : Fin 1) d (⟨512 * (t.val % 7) + j.val, by omega⟩ : Fin 3584)) := by
  have h0 := idx2 a t hu
  rw [he] at h0
  blk_ext [iblk, h0]
/-- The second weights' block. -/
theorem blk3 (c : Dev nD) (t : Fin grid0.N) (hu : Used (nU a.1) (t.val / 7)) (he : te a (tl t) = 0) (d : Fin 1024) (j : Fin 512) :
    (iblk m a c 3 t : Vec Ideal S1x1024x512 .f32) (ix3 (0 : Fin 1) d j)
      = (V m c main_v4 : Vec Ideal S1x1024x3584 .f32) (ix3 (0 : Fin 1) d (⟨512 * (t.val % 7) + j.val, by omega⟩ : Fin 3584)) := by
  have h0 := idx3 a t hu
  rw [he] at h0
  blk_ext [iblk, h0]
/-- The third weights' block. -/
theorem blk4 (c : Dev nD) (t : Fin grid0.N) (hu : Used (nU a.1) (t.val / 7)) (he : te a (tl t) = 0) (j : Fin 512) (d : Fin 1024) :
    (iblk m a c 4 t : Vec Ideal S1x512x1024 .f32) (ix3 (0 : Fin 1) j d)
      = (V m c main_v5 : Vec Ideal S1x3584x1024 .f32) (ix3 (0 : Fin 1) (⟨512 * (t.val % 7) + j.val, by omega⟩ : Fin 3584) d) := by
  have h0 := idx4 a t hu
  rw [he] at h0
  blk_ext [iblk, h0]

/-! ## The sum over the inner width -/

/-- One inner entry's contribution to a row's result. -/
def term (x : Vec Ideal S32768x1024 .f32) (g : Vec Ideal S1024 .f32) (w1 w3 : Vec Ideal S1024x3584 .f32) (w2 : Vec Ideal S3584x1024 .f32)
    (i : Fin 32) (r d : Fin 1024) (J : Fin 3584) : EReal :=
  gateK (∑ y : Fin 1024, hK (xb x i) (fun e => g (ix1 e)) r y * w1 (ix2 y J)) (∑ y : Fin 1024, hK (xb x i) (fun e => g (ix1 e)) r y * w3 (ix2 y J)) * w2 (ix2 J d)
/-- A step's contribution. -/
def part (x : Vec Ideal S32768x1024 .f32) (g : Vec Ideal S1024 .f32) (w1 w3 : Vec Ideal S1024x3584 .f32) (w2 : Vec Ideal S3584x1024 .f32)
    (i : Fin 32) (r d : Fin 1024) (f : ℕ) : EReal :=
  ∑ j : Fin 512, term x g w1 w3 w2 i r d (⟨512 * (f % 7) + j.val, by omega⟩ : Fin 3584)

/-- The rows a step finds are its tile's. -/
theorem blk0_eq (c : Dev nD) (t : Fin grid0.N) :
    (iblk m a c 0 t : Vec Ideal S1024x1024 .f32) = xb (m ((c.tc : Thread nD τ).loc main_arg0)) (tl t) := by
  funext y
  obtain ⟨p, l, rfl⟩ : ∃ (p : Fin 1024) (l : Fin 1024), y = ix2 p l := ⟨y 0, y 1, by funext b; fin_cases b <;> rfl⟩
  refine (blk0 m a c t p l).trans ?_
  rw [V_main_arg0]; rfl
/-- The gain a step finds. -/
theorem blk1_eq (c : Dev nD) (t : Fin grid0.N) (d : Fin 1024) :
    (iblk m a c 1 t : Vec Ideal S1x1024 .f32) (ix2 (0 : Fin 1) d) = (m ((c.tc : Thread nD τ).loc main_arg1) : Vec Ideal S1024 .f32) (ix1 d) := (blk1 m a c t d).trans (V_g m c d)

/-- The normalized rows stay through a tile. -/
theorem hN_eq (c : Dev nD) (i : Fin 32) (r d : Fin 1024) (f : ℕ) : f < 7 → ∀ t : Fin grid0.N, t.val = 7 * i.val + f →
    hN m a c t.val (ix2 r d) = hK (xb (m ((c.tc : Thread nD τ).loc main_arg0)) i) (fun e => (m ((c.tc : Thread nD τ).loc main_arg1) : Vec Ideal S1024 .f32) (ix1 e)) r d := by
  induction f with
  | zero =>
    intro _ t ht
    rw [hN_first m a c t (by omega), blk0_eq]
    rw [show tl t = i from Fin.ext (by show t.val / 7 = i.val; omega)]
    refine (hOf_at _ _ r d).trans ?_
    exact congrArg (fun g => hK (xb (m ((c.tc : Thread nD τ).loc main_arg0)) i) g r d) (funext fun e => blk1_eq m a c t e)
  | succ f ih =>
    intro hf t ht
    rw [hN_next m a c t.val (by omega)]
    exact ih (by omega) ⟨t.val - 1, by have := t.isLt; omega⟩ (by show t.val - 1 = _; omega)

/-- Where the result's block puts its entries. -/
theorem emb5 (t : Fin grid0.N) (p : Fin 1024) (l : Fin 1024) :
    (((cfg0 a).win 5).blk t).view.emb (ix2 p l : S1024x1024.Idx) = (ix2 (⟨1024 * (t.val / 7) + p.val, by have := tile_lt t; omega⟩ : Fin 32768) l : S32768x1024.Idx) := by
  have h0 := congrFun (idx5 a t) 0
  have h1 := congrFun (idx5 a t) 1
  blk_ext
  · show ((pcfg0 (F := Ideal)).win a 5).index t 0 * 1024 + p.val = _
    rw [h0]; show t.val / 7 * 1024 + p.val = _; omega
  · show ((pcfg0 (F := Ideal)).win a 5).index t 1 * 1024 + l.val = _
    rw [h1]; show 0 * 1024 + l.val = _; omega
/-- An index of a block of rows by its row and its column. -/
theorem idx_rows (y : S1024x1024.Idx) : ∃ (p : Fin 1024) (l : Fin 1024), y = ix2 p l := ⟨y 0, y 1, by funext b; fin_cases b <;> rfl⟩
/-- The result's block is written back at a tile's last step. -/
theorem flush5_last : ∀ i : Fin 32, ∃ t : Fin grid0.N, (spec0 5).flushAt (G := grid0) cc0_transform_5 t = true ∧ t.val / 7 = i.val := by decide +kernel
/-- The blocks written back fill the result array. -/
theorem covers5 : ((cfg0 a).win 5).Covers := by
  refine ⟨fun b => ?_, fun β => ?_⟩
  · match b with
    | ⟨0, _⟩ => exact (by decide : 0 < 1024)
    | ⟨1, _⟩ => exact (by decide : 0 < 1024)
  · have b0 : (β ⟨0, Nat.zero_lt_two⟩).val < 32 := Nat.lt_of_lt_of_eq (β ⟨0, Nat.zero_lt_two⟩).isLt (show (32768 + 1024 - 1) / 1024 = 32 by norm_num)
    have b1 : (β ⟨1, Nat.one_lt_two⟩).val < 1 := Nat.lt_of_lt_of_eq (β ⟨1, Nat.one_lt_two⟩).isLt (show (1024 + 1024 - 1) / 1024 = 1 by norm_num)
    obtain ⟨t, hf, ht⟩ := flush5_last ⟨_, b0⟩
    refine ⟨t, hf, fun b => ?_⟩
    have h0 : ((cfg0 a).win 5).index t = ![t.val / 7, 0] := idx5 a t
    rw [h0]
    match b with
    | ⟨0, _⟩ => exact ⟨ht, Or.inl rfl⟩
    | ⟨1, _⟩ => exact ⟨(by omega : 0 = (β ⟨1, Nat.one_lt_two⟩).val), Or.inl rfl⟩

variable (hU : ∀ i : Fin 32, Used (nU a.1) i.val) (hT : ∀ i, te a i = 0)

include hU hT in
/-- What one step adds. -/
theorem step_at (c : Dev nD) (i : Fin 32) (t : Fin grid0.N) (ht : t.val / 7 = i.val) (acc : Vec Ideal S1024x1024 .f32) (r d : Fin 1024) :
    k0_pay3 (F := Ideal) (hN m a c t.val) (iblk m a c 2 t) (iblk m a c 3 t) acc (iblk m a c 4 t) (ix2 r d)
      = (acc (ix2 r d) + part (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i r d (t.val % 7) : EReal) := by
  refine (pay3_at _ _ _ _ _ r d).trans ?_
  have hi : tl t = i := Fin.ext ht
  have hu' : Used (nU a.1) (t.val / 7) := by rw [ht]; exact hU i
  have he : te a (tl t) = 0 := hT _
  refine congrArg (acc (ix2 r d) + ·) ?_
  unfold part term
  refine Finset.sum_congr rfl fun j _ => ?_
  have e1 := fun y => hN_eq m a c i r y (t.val % 7) (by omega) t (by omega)
  have e2 := fun y => (blk2 m a c t hu' he y j).trans (V_w1 m c y _)
  have e3 := fun y => (blk3 m a c t hu' he y j).trans (V_w3 m c y _)
  have e4 := (blk4 m a c t hu' he j d).trans (V_w2 m c _ d)
  simp only [e1, e2, e3, e4, Nat.mod_mod]

include hU hT in
/-- The sum after each step. -/
theorem acc_at (c : Dev nD) (i : Fin 32) (r d : Fin 1024) (f : ℕ) : f < 7 → ∀ t : Fin grid0.N, t.val = 7 * i.val + f →
    accN m a c t.val (ix2 r d) = (∑ k ∈ Finset.range (f + 1), part (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i r d k : EReal) := by
  induction f with
  | zero =>
    intro _ t ht
    rw [accN_first m a c t (by omega)]
    refine (step_at m a hU hT c i t (by omega) _ r d).trans ?_
    rw [pay2_at, zero_add, Finset.sum_range_one, show t.val % 7 = 0 by omega]
  | succ f ih =>
    intro hf t ht
    rw [accN_next m a c t (by omega)]
    refine (step_at m a hU hT c i t (by omega) _ r d).trans ?_
    have := ih (by omega) ⟨t.val - 1, by have := t.isLt; omega⟩ (by show t.val - 1 = _; omega)
    rw [Finset.sum_range_succ, show t.val % 7 = f + 1 by omega]
    exact congrArg (· + _) this

/-! ## The result array -/

/-- The kernel's result at a tile, a row of it and a column: the input's entry plus the sum. -/
def kval (x : Vec Ideal S32768x1024 .f32) (g : Vec Ideal S1024 .f32) (w1 w3 : Vec Ideal S1024x3584 .f32) (w2 : Vec Ideal S3584x1024 .f32)
    (i : Fin 32) (r d : Fin 1024) : EReal :=
  xb x i (ix2 r d) + ∑ J : Fin 3584, term x g w1 w3 w2 i r d J
/-- The kernel's result over its arguments. -/
def karr (x : Vec Ideal S32768x1024 .f32) (g : Vec Ideal S1024 .f32) (w1 w3 : Vec Ideal S1024x3584 .f32) (w2 : Vec Ideal S3584x1024 .f32) :
    Vec Ideal S32768x1024 .f32 := fun y =>
  kval x g w1 w3 w2 (⟨(y 0).val / 1024, by have : (y 0).val < 32768 := (y 0).isLt; omega⟩ : Fin 32) (⟨(y 0).val % 1024, by omega⟩ : Fin 1024)
    (⟨(y 1).val, (y 1).isLt⟩ : Fin 1024)

/-- The result array at an entry of a tile's block. -/
theorem karr_at (x : Vec Ideal S32768x1024 .f32) (g : Vec Ideal S1024 .f32) (w1 w3 : Vec Ideal S1024x3584 .f32) (w2 : Vec Ideal S3584x1024 .f32)
    (i : Fin 32) (r d : Fin 1024) (p : Fin 32768) (hp : p.val = 1024 * i.val + r.val) :
    karr x g w1 w3 w2 (ix2 p d) = kval x g w1 w3 w2 i r d := by
  have hr := r.isLt
  unfold karr
  rw [show (⟨((ix2 p d : S32768x1024.Idx) 0).val / 1024, by have : ((ix2 p d : S32768x1024.Idx) 0).val < 32768 := ((ix2 p d : S32768x1024.Idx) 0).isLt; omega⟩ : Fin 32) = i from Fin.ext (by show p.val / 1024 = i.val; omega),
    show (⟨((ix2 p d : S32768x1024.Idx) 0).val % 1024, by omega⟩ : Fin 1024) = r from Fin.ext (by show p.val % 1024 = r.val; omega)]
  rfl

include hU hT in
/-- What a tile's last step leaves at an entry of its block. -/
theorem out_at (c : Dev nD) (t : Fin grid0.N) (ht : t.val % 7 = 6) (r d : Fin 1024) :
    outN m a c t.val (ix2 r d) = kval (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (tl t) r d := by
  have hu : Used (nU a.1) (t.val / 7) := hU (tl t)
  unfold outN kval
  rw [if_pos hu, oOf_at, pt_val, blk0_eq]
  refine congrArg (xb (m ((c.tc : Thread nD τ).loc main_arg0)) (tl t) (ix2 r d) + ·) ?_
  refine (acc_at m a hU hT c (tl t) r d 6 (by omega) t (by show t.val = 7 * (t.val / 7) + 6; omega)).trans ?_
  unfold part
  exact part_sum _

include hU hT in
/-- The result array after the run. -/
theorem final (c : Dev nD) :
    (dats m a 0 c).arrAt 5 (cfg0 a).N = karr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m a 0 c).arrAt_eq_of_covers 5 _ (covers5 a) fun t hf y => ?_
  have ht : t.val % 7 = 6 := by
    by_contra hc
    rw [flush5 a t hc] at hf
    exact absurd hf (by decide)
  obtain ⟨r, d, rfl⟩ : ∃ (r : Fin 1024) (d : Fin 1024), y = (ix2 r d : S1024x1024.Idx) := idx_rows y
  rw [emb5]
  exact (out_at m a hU hT c t ht r d).trans (karr_at _ _ _ _ _ (tl t) r d _ rfl).symm

omit hU hT in
/-- The launch's count is every tile. -/
theorem all_used (i : Fin 32) : Used (nU (tab m)) i.val := by
  have e : nU (tab m) = 32#32 := (nU_all (tab m) (ix1 (0 : Fin 1))).symm.trans (congrFun (tab_1 m) _)
  rw [e]
  exact (by decide : ∀ i : Fin 32, Used 32#32 i.val) i
omit hU hT in
/-- The launch's table names the one set of weights. -/
theorem all_zero (i : Fin 32) : te (adm m 0) i = 0 := Nat.lt_one_iff.mp (tab_lt m (ix1 i))

/-- The run: the result array over the arguments, the arguments unchanged. -/
theorem run_final :
    θ_run defs (onTc (τ := τ) (main (F := Ideal))) ⟨m, fun _ => 0, ρ⟩ (fun r => ∀ c : Dev nD,
      r.2.mem ((c.tc : Thread nD τ).loc main_v6) = karr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hv : θ_run defs (onTc (τ := τ) (main (F := Ideal))) ⟨m, fun _ => 0, ρ⟩ (fun r => ∀ c : Dev nD,
      r.2.mem ((c.tc : Thread nD τ).loc main_v6) = karr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
    (θ_run defs _ _).mono (fun r hr c => ((hr.1 c).1 5).trans (final m (adm m 0) (all_used m) (all_zero m) c)) (run_main_quiescent m ρ)
  (θ_run defs _ _).mono (fun r hr c => ⟨hr.1 c, hr.2 c⟩) (θ_run_and hv (unchanged m ρ))

end Cert.Kernel3Ideal.Dense

end
-- ==== Proof.DenseRef.lean ====
module

public import proofs.«01_k».proof.Proof.Gen.Reference3Ideal.Run
public import proofs.«01_k».proof.Proof.DenseVal
public import proofs.«01_k».proof.Proof.FfnEq

/-! The dense reference entry by entry, at the exact numbers, and its equality with the kernel's
    result. -/

@[expose] public section
set_option maxRecDepth 16384
noncomputable section
namespace Cert.Reference3Ideal.Dense
open Cert.Reference3Ideal Cert.Reference3Ideal.Gen
open Idealize.ShloMosaic Idealize.ShloMosaic.TcCoe Idealize.SL.Sem
open Cert.Kernel2Ideal.Ffn (gateK)
open Cert.Reference2Ideal.Ffn (gate_eq)
open Cert.Kernel3Ideal.Dense (sqK hK xb term kval karr karr_at)

/-- Each row's sum of squares. -/
def rsq (x : Vec Ideal S32768x1024 .f32) : Vec Ideal S32768 .f32 :=
  Host.reduceAdd (F := Ideal) (φ := .f32) (mulf (F := Ideal) (φ := .f32) x x) (constant (F := Ideal) S_ .f32 0x00000000#32) reducesTo_S32768x1024_S32768_d1 h_S_
/-- Each row's `rsqrt` of its mean square. -/
def rrs (s : Vec Ideal S32768 .f32) : Vec Ideal S32768x1 .f32 :=
  Host.rsqrt (F := Ideal) (φ := .f32) (addf (F := Ideal) (φ := .f32) (Host.divf (F := Ideal) (φ := .f32) (broadcastInDim S32768x1 ![0] bcast_S32768_S32768x1_0 s) (broadcastInDim S32768x1 ![] bcast_S_S32768x1 (constant (F := Ideal) S_ .f32 0x44800000#32))) (broadcastInDim S32768x1 ![] bcast_S_S32768x1 (constant (F := Ideal) S_ .f32 0x358637BD#32)))
/-- The normalized rows. -/
def rh (x : Vec Ideal S32768x1024 .f32) (g : Vec Ideal S1024 .f32) : Vec Ideal S32768x1024 .f32 :=
  mulf (F := Ideal) (φ := .f32) (mulf (F := Ideal) (φ := .f32) x (broadcastInDim S32768x1024 ![0, 1] bcast_S32768x1_S32768x1024_0_1 (rrs (rsq x)))) (broadcastInDim S32768x1024 ![0, 1] bcast_S1x1024_S32768x1024_0_1 (broadcastInDim S1x1024 ![1] bcast_S1024_S1x1024_1 g))
/-- The rows through the first or second weights. -/
def rup (H : Vec Ideal S32768x1024 .f32) (w : Vec Ideal S1024x3584 .f32) : Vec Ideal S32768x3584 .f32 :=
  Host.dotGeneral (F := Ideal) (φ₁ := .f32) (φ₂ := .f32) dot_S32768x1024_S1024x3584_S32768x3584_1_0_0_1_n_n none H w
/-- The gated product. -/
def rgate (A B : Vec Ideal S32768x3584 .f32) : Vec Ideal S32768x3584 .f32 :=
  mulf (F := Ideal) (φ := .f32) (mulf (F := Ideal) (φ := .f32) A (Host.divf (F := Ideal) (φ := .f32) (broadcastInDim S32768x3584 ![] bcast_S_S32768x3584 (constant (F := Ideal) S_ .f32 0x3F800000#32)) (addf (F := Ideal) (φ := .f32) (broadcastInDim S32768x3584 ![] bcast_S_S32768x3584 (constant (F := Ideal) S_ .f32 0x3F800000#32)) (Host.exp (F := Ideal) (φ := .f32) (Host.negf (F := Ideal) (φ := .f32) A))))) B
/-- The input plus the gated product through the third weights. -/
def rres (x : Vec Ideal S32768x1024 .f32) (G : Vec Ideal S32768x3584 .f32) (w2 : Vec Ideal S3584x1024 .f32) : Vec Ideal S32768x1024 .f32 :=
  addf (F := Ideal) (φ := .f32) x (Host.dotGeneral (F := Ideal) (φ₁ := .f32) (φ₂ := .f32) dot_S32768x3584_S3584x1024_S32768x1024_1_0_0_1_n_n none G w2)
/-- The reference's result. -/
def rout (x : Vec Ideal S32768x1024 .f32) (g : Vec Ideal S1024 .f32) (w1 w3 : Vec Ideal S1024x3584 .f32) (w2 : Vec Ideal S3584x1024 .f32) : Vec Ideal S32768x1024 .f32 :=
  rres x (rgate (rup (rh x g) w1) (rup (rh x g) w3)) w2

/-- The program's run ends with this composition, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = rout (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    unfold rout rres rgate rup rh rrs rsq
    rfl), (h c).2⟩) (Value.run (F := Ideal) m ρ)

section
variable (x : Vec Ideal S32768x1024 .f32) (g : Vec Ideal S1024 .f32) (w1 w3 : Vec Ideal S1024x3584 .f32) (w2 : Vec Ideal S3584x1024 .f32)

/-- The entries of a row. -/
theorem row_iff (R : Fin 32768) (i : S32768x1024.Idx) :
    reducesTo_S32768x1024_S32768_d1.drop i = ix1 R ↔ ∃ c : Fin 1024, ix2 R c = i := by
  constructor
  · intro e
    refine ⟨i 1, ?_⟩
    funext a; apply Fin.ext
    match a with
    | ⟨0, _⟩ => exact (congrArg Fin.val (congrFun e ⟨0, by decide⟩)).symm
    | ⟨1, _⟩ => rfl
  · rintro ⟨c, rfl⟩
    funext a
    apply Fin.ext
    match a with
    | ⟨0, _⟩ => rfl

/-- The sum of squares at a row. -/
theorem rsq_at (R : Fin 32768) : rsq x (ix1 R) = ∑ d : Fin 1024, (x (ix2 R d) * x (ix2 R d) : EReal) := by
  unfold rsq
  have e := Finset.sum_filter_eq_sum_of_fiber _ (fun c : Fin 1024 => ix2 R c) (fun _ _ e => congrFun e 1) (row_iff R) (mulf (F := Ideal) (φ := .f32) x x)
  refine Eq.trans (b := Ideal.ofBits .f32 0#32 + ∑ i ∈ Finset.univ.filter (fun i => reducesTo_S32768x1024_S32768_d1.drop i = ix1 R), mulf (F := Ideal) (φ := .f32) x x i) rfl ?_
  rw [e, Ideal.ofBits_zero_f32, zero_add]
  rfl

/-- The `rsqrt` at a row. -/
theorem rrs_at (s : Vec Ideal S32768 .f32) (R : Fin 32768) :
    rrs s (ix2 R (0 : Fin 1)) = Ideal.rsqrt (Ideal.div (s (ix1 R)) (Ideal.ofBits .f32 0x44800000#32) + Ideal.ofBits .f32 0x358637BD#32) := by
  pointwise [rrs]

/-- The normalized rows at an entry. -/
theorem rh_at (R : Fin 32768) (d : Fin 1024) :
    rh x g (ix2 R d) = x (ix2 R d) * rrs (rsq x) (ix2 R (0 : Fin 1)) * g (ix1 d) := by
  pointwise [rh]

/-- The rows through weights, at an entry. -/
theorem rup_at (H : Vec Ideal S32768x1024 .f32) (w : Vec Ideal S1024x3584 .f32) (R : Fin 32768) (J : Fin 3584) :
    rup H w (ix2 R J) = ∑ y : Fin 1024, (H (ix2 R y) * w (ix2 y J) : EReal) := by
  unfold rup
  pointwise
/-- The gated product at an entry. -/
theorem rgate_at (A B : Vec Ideal S32768x3584 .f32) (R : Fin 32768) (J : Fin 3584) :
    rgate A B (ix2 R J) = (A (ix2 R J) * Ideal.div (Ideal.ofBits .f32 0x3F800000#32) (Ideal.ofBits .f32 0x3F800000#32 + Ideal.exp (- (A (ix2 R J) : EReal))) * B (ix2 R J) : EReal) := by
  unfold rgate
  pointwise
/-- The result at an entry. -/
theorem rres_at (G : Vec Ideal S32768x3584 .f32) (R : Fin 32768) (d : Fin 1024) :
    rres x G w2 (ix2 R d) = (x (ix2 R d) + ∑ J : Fin 3584, G (ix2 R J) * w2 (ix2 J d) : EReal) := by
  unfold rres
  pointwise

/-- The reference's row of a tile's row. -/
def grow (i : Fin 32) (r : Fin 1024) : Fin 32768 := ⟨1024 * i.val + r.val, by omega⟩

/-- The normalized rows of a tile. -/
theorem rh_tile (i : Fin 32) (r d : Fin 1024) : rh x g (ix2 (grow i r) d) = hK (xb x i) (fun e => g (ix1 e)) r d := by
  rw [rh_at, rrs_at, rsq_at]
  rfl

/-- The two results at an entry of a tile. -/
theorem rout_tile (i : Fin 32) (r d : Fin 1024) : rout x g w1 w3 w2 (ix2 (grow i r) d) = kval x g w1 w3 w2 i r d := by
  have hu : ∀ w : Vec Ideal S1024x3584 .f32, ∀ J, rup (rh x g) w (ix2 (grow i r) J) = ∑ y : Fin 1024, (hK (xb x i) (fun e => g (ix1 e)) r y * w (ix2 y J) : EReal) := fun w J => by
    rw [rup_at]
    exact Finset.sum_congr rfl fun y _ => by rw [rh_tile]
  unfold rout
  rw [rres_at]
  unfold kval
  refine congrArg (xb x i (ix2 r d) + ·) (Finset.sum_congr rfl fun J _ => ?_)
  rw [rgate_at, gate_eq, hu, hu]
  rfl

/-- The two results are one. -/
theorem out_eq : rout x g w1 w3 w2 = karr x g w1 w3 w2 := by
  funext y
  obtain ⟨p, d, rfl⟩ : ∃ (p : Fin 32768) (d : Fin 1024), y = ix2 p d := ⟨y 0, y 1, eq_ix2 y⟩
  have hp := p.isLt
  obtain ⟨i, r, rfl⟩ : ∃ (i : Fin 32) (r : Fin 1024), p = grow i r :=
    ⟨⟨p.val / 1024, by omega⟩, ⟨p.val % 1024, by omega⟩, Fin.ext (by show p.val = 1024 * (p.val / 1024) + p.val % 1024; omega)⟩
  exact (rout_tile x g w1 w3 w2 i r d).trans (karr_at x g w1 w3 w2 i r d _ rfl).symm
end

end Cert.Reference3Ideal.Dense

end
-- ==== Proof.Texts4.lean ====
module

public import proofs.«01_k».proof.Defs
public import proofs.«01_k».proof.Proof.Gen.Kernel4
public import proofs.«01_k».proof.Proof.Gen.Kernel4Ideal

/-! The two texts of the input-projection kernel are one: the body table over machine floats is the ideal
    program's text over machine floats. -/

@[expose] public section
set_option maxRecDepth 16384
noncomputable section
namespace Cert.Proof
open Idealize.ShloMosaic Idealize.ShloMosaic.TcCoe Idealize.SL.Sem

/-- One body, the same text. -/
theorem body4_eq : @Cert.Kernel4.cc0_inproj_even Bits _ Cert.Kernel4.Gen.facts = @Cert.Kernel4Ideal.cc0_inproj_even Bits _ Cert.Kernel4Ideal.Gen.facts := rfl

/-- The tables of bodies agree, label by label. -/
theorem defs4₀_eq : Cert.Kernel4.defs₀ (F := Bits) = Cert.Kernel4Ideal.defs₀ (F := Bits) := by
  unfold Cert.Kernel4.defs₀ Cert.Kernel4Ideal.defs₀
  rw [body4_eq]
  refine congrArg Defs.onTc (funext fun l => funext fun a => ?_)
  match l, a with
  | 0, (t, s) => rfl
  | ⟨n + 1, h⟩, _ => exact absurd h (Nat.not_lt.2 (Nat.le_add_left _ _))

/-- The tables with the pipelines agree. -/
theorem defs4_eq : Cert.Kernel4.defs (F := Bits) = Cert.Kernel4Ideal.defs (F := Bits) :=
  congrArg (Pipeline.defs (Cert.Kernel4.pcfgs (F := Bits))) defs4₀_eq

/-- One main program, the same text. -/
theorem main4_eq : Cert.Kernel4.main (F := Bits) = Cert.Kernel4Ideal.main (F := Bits) := by
  unfold Cert.Kernel4.main Cert.Kernel4Ideal.main
  rfl
end Cert.Proof
end
end
-- ==== Proof.InpPure.lean ====
module

public import proofs.«01_k».proof.Proof.Gen.Kernel4Ideal.Skeleton
public import Idealize.ShloMosaic.Lib.Pointwise
public import Idealize.ShloMosaic.Lib.Pipeline.ValueKit
public import Idealize.ShloMosaic.Lib.Pipeline.ReadBack
public import Idealize.ShloMosaic.Lib.Pipeline.Value

/-! The input-projection body entry by entry, at the exact numbers. -/

@[expose] public section
set_option maxRecDepth 16384
noncomputable section
namespace Cert.Kernel4Ideal.Inp
open Cert.Kernel4Ideal Cert.Kernel4Ideal.Gen
open Idealize.ShloMosaic Idealize.ShloMosaic.TcCoe Idealize.SL.Sem

/-- A row's normalized entry. -/
def hK (x : Fin 1024 → EReal) (g : Fin 1024 → EReal) (d : Fin 1024) : EReal :=
  x d * Ideal.rsqrt (Ideal.div (∑ y : Fin 1024, x y * x y) (Ideal.ofBits .f32 0x44800000#32) + Ideal.ofBits .f32 0x358637BD#32) * g d
/-- The smooth gate of a number. -/
def siluK (u : EReal) : EReal :=
  u * Ideal.div (Ideal.ofBits .f32 0x3F800000#32) (Ideal.ofBits .f32 0x3F800000#32 + Ideal.exp (Ideal.ofBits .f32 0x00000000#32 - u))
/-- A weighted sum of four numbers. -/
def c4K (a b c d : EReal) (wa wb wc wd : EReal) : EReal := a * wa + b * wb + c * wc + d * wd

/-- The normalized rows. -/
theorem pay3_at (x : Vec Ideal S512x1024 .f32) (g : Vec Ideal S1x1024 .f32) (p : Fin 512) (d : Fin 1024) :
    k0_pay3 (F := Ideal) x g (ix2 p d) = hK (fun e => x (ix2 p e)) (fun e => g (ix2 (0 : Fin 1) e)) d := by
  unfold hK
  pointwise [k0_pay3]
/-- The normalized rows, narrowed. -/
theorem pay4_at (x : Vec Ideal S512x1024 .f32) (g : Vec Ideal S1x1024 .f32) (p : Fin 512) (d : Fin 1024) :
    k0_pay4 (F := Ideal) x g (ix2 p d) = hK (fun e => x (ix2 p e)) (fun e => g (ix2 (0 : Fin 1) e)) d := by
  unfold hK
  pointwise [k0_pay4, k0_pay3]
/-- A projection. -/
theorem pay7_at (h : Vec Ideal S512x1024 .bf16) (w : Vec Ideal S1024x512 .bf16) (p j : Fin 512) :
    k0_pay7 (F := Ideal) h w (ix2 p j) = (∑ d : Fin 1024, h (ix2 p d) * w (ix2 d j) : EReal) := by
  pointwise [k0_pay7]
/-- A projection. -/
theorem pay8_at (h : Vec Ideal S512x1024 .bf16) (w : Vec Ideal S1024x512 .bf16) (p j : Fin 512) :
    k0_pay8 (F := Ideal) h w (ix2 p j) = (∑ d : Fin 1024, h (ix2 p d) * w (ix2 d j) : EReal) := by
  pointwise [k0_pay8]
/-- A projection. -/
theorem pay17_at (h : Vec Ideal S512x1024 .bf16) (w : Vec Ideal S1024x512 .bf16) (p j : Fin 512) :
    k0_pay17 (F := Ideal) h w (ix2 p j) = (∑ d : Fin 1024, h (ix2 p d) * w (ix2 d j) : EReal) := by
  pointwise [k0_pay17]
/-- A product of two projections. -/
theorem pay27_at (h : Vec Ideal S512x1024 .bf16) (w w' : Vec Ideal S1024x512 .bf16) (p j : Fin 512) :
    k0_pay27 (F := Ideal) h (k0_pay26 h w) w' (ix2 p j) = ((∑ d : Fin 1024, h (ix2 p d) * w (ix2 d j)) * (∑ d : Fin 1024, h (ix2 p d) * w' (ix2 d j)) : EReal) := by
  pointwise [k0_pay27, k0_pay26]
/-- A gated convolution of width four. -/
theorem pay12_at (V : Vec Ideal S520x512 .f32) (w0 w1 w2 w3 : Vec Ideal S1x512 .f32) (p j : Fin 512) :
    k0_pay12 (F := Ideal) V (k0_pay9 V w0 w1) (k0_pay10 V) (k0_pay11 w2) w3 (ix2 p j)
      = siluK (c4K (V (ix2 (⟨5 + p.val, by omega⟩ : Fin 520) j)) (V (ix2 (⟨6 + p.val, by omega⟩ : Fin 520) j)) (V (ix2 (⟨7 + p.val, by omega⟩ : Fin 520) j)) (V (ix2 (⟨8 + p.val, by omega⟩ : Fin 520) j))
          (w0 (ix2 (0 : Fin 1) j)) (w1 (ix2 (0 : Fin 1) j)) (w2 (ix2 (0 : Fin 1) j)) (w3 (ix2 (0 : Fin 1) j))) := by
  unfold siluK c4K
  pointwise [k0_pay12, k0_pay9, k0_pay10, k0_pay11]
  have r3 : (8 + p.val + 520 - 3) % 520 = 5 + p.val := by omega
  have r2 : (8 + p.val + 520 - 2) % 520 = 6 + p.val := by omega
  have r1 : (8 + p.val + 520 - 1) % 520 = 7 + p.val := by omega
  simp only [r3, r2, r1]
/-- A gated convolution of width four. -/
theorem pay19_at (V : Vec Ideal S520x512 .f32) (w0 w1 w2 w3 : Vec Ideal S1x512 .f32) (p j : Fin 512) :
    k0_pay19 (F := Ideal) V (k0_pay18 V) w0 w1 w2 w3 (ix2 p j)
      = siluK (c4K (V (ix2 (⟨5 + p.val, by omega⟩ : Fin 520) j)) (V (ix2 (⟨6 + p.val, by omega⟩ : Fin 520) j)) (V (ix2 (⟨7 + p.val, by omega⟩ : Fin 520) j)) (V (ix2 (⟨8 + p.val, by omega⟩ : Fin 520) j))
          (w0 (ix2 (0 : Fin 1) j)) (w1 (ix2 (0 : Fin 1) j)) (w2 (ix2 (0 : Fin 1) j)) (w3 (ix2 (0 : Fin 1) j))) := by
  unfold siluK c4K
  pointwise [k0_pay19, k0_pay18]
  have r3 : (8 + p.val + 520 - 3) % 520 = 5 + p.val := by omega
  have r2 : (8 + p.val + 520 - 2) % 520 = 6 + p.val := by omega
  have r1 : (8 + p.val + 520 - 1) % 520 = 7 + p.val := by omega
  simp only [r3, r2, r1]
/-- A gated convolution of width four. -/
theorem pay30_at (V : Vec Ideal S520x512 .f32) (w0 w1 w2 w3 : Vec Ideal S1x512 .f32) (p j : Fin 512) :
    k0_pay30 (F := Ideal) (k0_pay28 V w0 w1 w2) (k0_pay29 V w3) (ix2 p j)
      = siluK (c4K (V (ix2 (⟨5 + p.val, by omega⟩ : Fin 520) j)) (V (ix2 (⟨6 + p.val, by omega⟩ : Fin 520) j)) (V (ix2 (⟨7 + p.val, by omega⟩ : Fin 520) j)) (V (ix2 (⟨8 + p.val, by omega⟩ : Fin 520) j))
          (w0 (ix2 (0 : Fin 1) j)) (w1 (ix2 (0 : Fin 1) j)) (w2 (ix2 (0 : Fin 1) j)) (w3 (ix2 (0 : Fin 1) j))) := by
  unfold siluK c4K
  pointwise [k0_pay28, k0_pay29, k0_pay30]
  have r3 : (8 + p.val + 520 - 3) % 520 = 5 + p.val := by omega
  have r2 : (8 + p.val + 520 - 2) % 520 = 6 + p.val := by omega
  have r1 : (8 + p.val + 520 - 1) % 520 = 7 + p.val := by omega
  simp only [r3, r2, r1]
/-- A gate times a convolution of width three. -/
theorem pay31_at (h : Vec Ideal S512x1024 .bf16) (w : Vec Ideal S1024x512 .bf16) (V : Vec Ideal S520x512 .f32) (w0 w1 w2 : Vec Ideal S1x512 .f32) (p j : Fin 512) :
    k0_pay31 (F := Ideal) h w V w0 w1 w2 (ix2 p j)
      = ((∑ d : Fin 1024, h (ix2 p d) * w (ix2 d j)) * (V (ix2 (⟨6 + p.val, by omega⟩ : Fin 520) j) * w0 (ix2 (0 : Fin 1) j) + V (ix2 (⟨7 + p.val, by omega⟩ : Fin 520) j) * w1 (ix2 (0 : Fin 1) j) + V (ix2 (⟨8 + p.val, by omega⟩ : Fin 520) j) * w2 (ix2 (0 : Fin 1) j)) : EReal) := by
  pointwise [k0_pay31]
  have r2 : (8 + p.val + 520 - 2) % 520 = 6 + p.val := by omega
  have r1 : (8 + p.val + 520 - 1) % 520 = 7 + p.val := by omega
  simp only [r2, r1]
/-- A gated projection. -/
theorem pay1_at (h : Vec Ideal S512x1024 .bf16) (w : Vec Ideal S1024x512 .bf16) (p j : Fin 512) :
    k0_pay1 (F := Ideal) h (k0_pay32 w) (ix2 p j) = siluK (∑ d : Fin 1024, h (ix2 p d) * w (ix2 d j)) := by
  unfold siluK
  pointwise [k0_pay1, k0_pay32]
/-- The narrow projection in its three parts. -/
theorem pay2_at (h : Vec Ideal S512x1024 .f32) (hb : Vec Ideal S512x1024 .bf16) (w w' : Vec Ideal S1024x128 .bf16) (p : Fin 512) (j : Fin 128) :
    k0_pay2 (F := Ideal) h hb w w' (ix2 p j)
      = ((∑ d : Fin 1024, hb (ix2 p d) * w (ix2 d j)) + (∑ d : Fin 1024, (h (ix2 p d) - hb (ix2 p d)) * w (ix2 d j)) + (∑ d : Fin 1024, hb (ix2 p d) * w' (ix2 d j)) : EReal) := by
  pointwise [k0_pay2]
/-- A head's entry over its length, scaled. -/
def l2q (u : Fin 128 → EReal) (l : Fin 128) : EReal :=
  u l * (Ideal.rsqrt ((∑ y : Fin 128, u y * u y) + Ideal.ofBits .f32 0x358637BD#32) * Ideal.ofBits .f32 0x3DB504F3#32)
/-- A head's entry over its length. -/
def l2k (u : Fin 128 → EReal) (l : Fin 128) : EReal :=
  u l * Ideal.rsqrt ((∑ y : Fin 128, u y * u y) + Ideal.ofBits .f32 0x358637BD#32)
/-- A head of the queries. -/
theorem pay13_at (V : Vec Ideal S520x512 .f32) (a b c : Vec Ideal S512x512 .f32) (w : Vec Ideal S1x512 .f32) (p : Fin 512) (l : Fin 128) :
    k0_pay13 (F := Ideal) V a b c w (ix2 p l) = l2q (fun y => k0_pay12 (F := Ideal) V a b c w (ix2 p (⟨y.val, by omega⟩ : Fin 512))) l := by
  unfold l2q
  generalize hg : k0_pay12 (F := Ideal) V a b c w = G
  pointwise [k0_pay13, hg]
/-- A head of the queries. -/
theorem pay14_at (V : Vec Ideal S520x512 .f32) (a b c : Vec Ideal S512x512 .f32) (w : Vec Ideal S1x512 .f32) (p : Fin 512) (l : Fin 128) :
    k0_pay14 (F := Ideal) V a b c w (ix2 p l) = l2q (fun y => k0_pay12 (F := Ideal) V a b c w (ix2 p (⟨128 + y.val, by omega⟩ : Fin 512))) l := by
  unfold l2q
  generalize hg : k0_pay12 (F := Ideal) V a b c w = G
  pointwise [k0_pay14, hg]
/-- A head of the queries. -/
theorem pay15_at (G : Vec Ideal S512x512 .f32) (p : Fin 512) (l : Fin 128) :
    k0_pay15 (F := Ideal) G (ix2 p l) = l2q (fun y => G (ix2 p (⟨256 + y.val, by omega⟩ : Fin 512))) l := by
  unfold l2q
  pointwise [k0_pay15]
/-- A head of the queries. -/
theorem pay16_at (G : Vec Ideal S512x512 .f32) (p : Fin 512) (l : Fin 128) :
    k0_pay16 (F := Ideal) G (ix2 p l) = l2q (fun y => G (ix2 p (⟨384 + y.val, by omega⟩ : Fin 512))) l := by
  unfold l2q
  pointwise [k0_pay16]
/-- A head of the keys. -/
theorem pay22_at (V : Vec Ideal S520x512 .f32) (a : Vec Ideal S512x512 .f32) (w0 w1 w2 w3 : Vec Ideal S1x512 .f32) (p : Fin 512) (l : Fin 128) :
    k0_pay22 (F := Ideal) (k0_pay20 V a w0 w1 w2 w3) (k0_pay21 V a w0 w1 w2 w3) (ix2 p l)
      = l2k (fun y => k0_pay19 (F := Ideal) V a w0 w1 w2 w3 (ix2 p (⟨y.val, by omega⟩ : Fin 512))) l := by
  unfold l2k
  unfold k0_pay21 k0_pay20
  generalize hg : k0_pay19 (F := Ideal) V a w0 w1 w2 w3 = G
  pointwise [k0_pay22]
/-- A head of the keys. -/
theorem pay23_at (G : Vec Ideal S512x512 .f32) (p : Fin 512) (l : Fin 128) :
    k0_pay23 (F := Ideal) G (ix2 p l) = l2k (fun y => G (ix2 p (⟨128 + y.val, by omega⟩ : Fin 512))) l := by
  unfold l2k
  pointwise [k0_pay23]
/-- A head of the keys. -/
theorem pay24_at (G : Vec Ideal S512x512 .f32) (p : Fin 512) (l : Fin 128) :
    k0_pay24 (F := Ideal) G (ix2 p l) = l2k (fun y => G (ix2 p (⟨256 + y.val, by omega⟩ : Fin 512))) l := by
  unfold l2k
  pointwise [k0_pay24]
/-- A head of the keys. -/
theorem pay25_at (G : Vec Ideal S512x512 .f32) (p : Fin 512) (l : Fin 128) :
    k0_pay25 (F := Ideal) G (ix2 p l) = l2k (fun y => G (ix2 p (⟨384 + y.val, by omega⟩ : Fin 512))) l := by
  unfold l2k
  pointwise [k0_pay25]
end Cert.Kernel4Ideal.Inp
end
end
-- ==== Proof.InpPieces.lean ====
module

public import proofs.«01_k».proof.Proof.InpPure
public import Idealize.ShloMosaic.Lib.Pipeline.FrameBody
public import Idealize.ShloMosaic.Lib.WritesUnit

/-! What a list of stores leaves at an entry: the carried projections and the packed result. -/

@[expose] public section
set_option maxRecDepth 16384
noncomputable section
namespace Cert.Kernel4Ideal.Inp
open Cert.Kernel4Ideal Cert.Kernel4Ideal.Gen
open Idealize.ShloMosaic Idealize.ShloMosaic.TcCoe Idealize.SL.Sem

/-- An entry under the newest store reads its payload. -/
theorem hit {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ _ _ _
/-- An entry outside the newest store reads the earlier ones. -/
theorem miss {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y := by
  refine View.canon_cons_of_not_mem _ _ fun h => ?_
  have h' : y ∈ (Rect.unit off size inb).set := h
  rw [Rect.mem_set_unit] at h'
  have := h' a
  omega

/-- The carried rows: eight from the tile before, then this tile's. -/
def SK (H P : ℕ → ℕ → EReal) (s c : ℕ) : EReal := if s < 8 then H s c else P (s - 8) c

variable (H P : ℕ → ℕ → EReal) (hd : Vec Ideal S8x2048 .f32) (A0 A1 A2 A3 : Vec Ideal S512x512 .f32)
  (hH : ∀ (s : Fin 8) (c : Fin 2048), hd (ix2 s c) = H s.val c.val)
  (h0 : ∀ p j : Fin 512, A0 (ix2 p j) = P p.val j.val)
  (h1 : ∀ p j : Fin 512, A1 (ix2 p j) = P p.val (512 + j.val))
  (h2 : ∀ p j : Fin 512, A2 (ix2 p j) = P p.val (1024 + j.val))
  (h3 : ∀ p j : Fin 512, A3 (ix2 p j) = P p.val (1536 + j.val))
  (T : List (View.Piece (Elt Ideal) S520x2048 .f32))

/-- The carried array after the first stores. -/
def L3 : List (View.Piece (Elt Ideal) S520x2048 .f32) :=
  ⟨Rect.unit ![8, 512] S512x512.size inb_S520x2048_S512x512_8_512, A1⟩ ::
  ⟨Rect.unit ![8, 0] S512x512.size inb_S520x2048_S512x512_8_0, A0⟩ ::
  ⟨Rect.unit ![0, 0] S8x2048.size inb_S520x2048_S8x2048_0_0, hd⟩ :: T
/-- … after the next. -/
def L4 : List (View.Piece (Elt Ideal) S520x2048 .f32) :=
  ⟨Rect.unit ![8, 1024] S512x512.size inb_S520x2048_S512x512_8_1024, A2⟩ :: L3 hd A0 A1 T
/-- … after the last. -/
def L5 : List (View.Piece (Elt Ideal) S520x2048 .f32) :=
  ⟨Rect.unit ![8, 1536] S512x512.size inb_S520x2048_S512x512_8_1536, A3⟩ :: L4 hd A0 A1 A2 T

include hH h0 h1 in
/-- The first columns after the first stores. -/
theorem L3_at (s : Fin 520) (c : Fin 2048) (hc : c.val < 1024) : View.canon (L3 hd A0 A1 T) (ix2 s c) = SK H P s.val c.val := by
  unfold L3 SK
  by_cases hs : s.val < 8
  · rw [miss _ _ _ _ (0 : Fin 2) (Or.inl (show s.val < 8 from hs)), miss _ _ _ _ (0 : Fin 2) (Or.inl (show s.val < 8 from hs)),
      hit _ _ _ _ (ix2 (⟨s.val, hs⟩ : Fin 8) c) (Fin.forall_fin_two.mpr ⟨(Nat.zero_add _).symm, (Nat.zero_add _).symm⟩), if_pos hs]
    exact hH _ _
  · rw [if_neg hs]
    have hs' := s.isLt
    by_cases hc' : c.val < 512
    · rw [miss _ _ _ _ (1 : Fin 2) (Or.inl (show c.val < 512 from hc')),
        hit _ _ _ _ (ix2 (⟨s.val - 8, by omega⟩ : Fin 512) (⟨c.val, hc'⟩ : Fin 512)) (Fin.forall_fin_two.mpr ⟨show s.val = 8 + (s.val - 8) by omega, (Nat.zero_add _).symm⟩)]
      exact h0 _ _
    · rw [hit _ _ _ _ (ix2 (⟨s.val - 8, by omega⟩ : Fin 512) (⟨c.val - 512, by omega⟩ : Fin 512)) (Fin.forall_fin_two.mpr ⟨show s.val = 8 + (s.val - 8) by omega, show c.val = 512 + (c.val - 512) by omega⟩)]
      refine (h1 _ _).trans ?_
      rw [show 512 + (c.val - 512) = c.val by omega]
include hH h0 h1 h2 in
/-- The columns so far after the next store. -/
theorem L4_at (s : Fin 520) (c : Fin 2048) (hc : c.val < 1536) (hcs : s.val < 8 → c.val < 1024) : View.canon (L4 hd A0 A1 A2 T) (ix2 s c) = SK H P s.val c.val := by
  unfold L4
  have hs' := s.isLt
  by_cases hc' : c.val < 1024
  · rw [miss _ _ _ _ (1 : Fin 2) (Or.inl (show c.val < 1024 from hc'))]
    exact L3_at H P hd A0 A1 hH h0 h1 T s c hc'
  · have hs : ¬ s.val < 8 := fun h => hc' (hcs h)
    unfold SK
    rw [if_neg hs, hit _ _ _ _ (ix2 (⟨s.val - 8, by omega⟩ : Fin 512) (⟨c.val - 1024, by omega⟩ : Fin 512)) (Fin.forall_fin_two.mpr ⟨show s.val = 8 + (s.val - 8) by omega, show c.val = 1024 + (c.val - 1024) by omega⟩)]
    refine (h2 _ _).trans ?_
    rw [show 1024 + (c.val - 1024) = c.val by omega]
include hH h0 h1 h2 h3 in
/-- The whole carried array. -/
theorem L5_at (s : Fin 520) (c : Fin 2048) : View.canon (L5 hd A0 A1 A2 A3 T) (ix2 s c) = SK H P s.val c.val := by
  unfold L5
  have hs' := s.isLt
  have hc := c.isLt
  by_cases hs : s.val < 8
  · unfold L4 L3 SK
    rw [miss _ _ _ _ (0 : Fin 2) (Or.inl (show s.val < 8 from hs)), miss _ _ _ _ (0 : Fin 2) (Or.inl (show s.val < 8 from hs)),
      miss _ _ _ _ (0 : Fin 2) (Or.inl (show s.val < 8 from hs)), miss _ _ _ _ (0 : Fin 2) (Or.inl (show s.val < 8 from hs)),
      hit _ _ _ _ (ix2 (⟨s.val, hs⟩ : Fin 8) c) (Fin.forall_fin_two.mpr ⟨(Nat.zero_add _).symm, (Nat.zero_add _).symm⟩), if_pos hs]
    exact hH _ _
  by_cases hc' : c.val < 1536
  · rw [miss _ _ _ _ (1 : Fin 2) (Or.inl (show c.val < 1536 from hc'))]
    exact L4_at H P hd A0 A1 A2 hH h0 h1 h2 T s c hc' fun h => absurd h hs
  · unfold SK
    rw [if_neg hs, hit _ _ _ _ (ix2 (⟨s.val - 8, by omega⟩ : Fin 512) (⟨c.val - 1536, by omega⟩ : Fin 512)) (Fin.forall_fin_two.mpr ⟨show s.val = 8 + (s.val - 8) by omega, show c.val = 1536 + (c.val - 1536) by omega⟩)]
    refine (h3 _ _).trans ?_
    rw [show 1536 + (c.val - 1536) = c.val by omega]

/-- The packed result's stores. -/
def L7 (z cz v : Vec Ideal S512x512 .bf16) (b0 b1 b2 b3 b4 b5 b6 b7 : Vec Ideal S512x128 .bf16) : List (View.Piece (Elt Ideal) S512x2560 .bf16) :=
  [⟨Rect.unit ![0, 1536] S512x512.size inb_S512x2560_S512x512_0_1536, z⟩,
   ⟨Rect.unit ![0, 2048] S512x512.size inb_S512x2560_S512x512_0_2048, cz⟩,
   ⟨Rect.unit ![0, 1024] S512x512.size inb_S512x2560_S512x512_0_1024, v⟩,
   ⟨Rect.unit ![0, 896] S512x128.size inb_S512x2560_S512x128_0_896, b7⟩,
   ⟨Rect.unit ![0, 768] S512x128.size inb_S512x2560_S512x128_0_768, b6⟩,
   ⟨Rect.unit ![0, 640] S512x128.size inb_S512x2560_S512x128_0_640, b5⟩,
   ⟨Rect.unit ![0, 512] S512x128.size inb_S512x2560_S512x128_0_512, b4⟩,
   ⟨Rect.unit ![0, 384] S512x128.size inb_S512x2560_S512x128_0_384, b3⟩,
   ⟨Rect.unit ![0, 256] S512x128.size inb_S512x2560_S512x128_0_256, b2⟩,
   ⟨Rect.unit ![0, 128] S512x128.size inb_S512x2560_S512x128_0_128, b1⟩,
   ⟨Rect.unit ![0, 0] S512x128.size inb_S512x2560_S512x128_0_0, b0⟩]

/-- The packed result at an entry. -/
theorem L7_at (O : ℕ → ℕ → EReal) (z cz v : Vec Ideal S512x512 .bf16) (b0 b1 b2 b3 b4 b5 b6 b7 : Vec Ideal S512x128 .bf16)
    (hz : ∀ p j : Fin 512, z (ix2 p j) = O p.val (1536 + j.val)) (hcz : ∀ p j : Fin 512, cz (ix2 p j) = O p.val (2048 + j.val))
    (hv : ∀ p j : Fin 512, v (ix2 p j) = O p.val (1024 + j.val))
    (e0 : ∀ (p : Fin 512) (j : Fin 128), b0 (ix2 p j) = O p.val (0 + j.val)) (e1 : ∀ (p : Fin 512) (j : Fin 128), b1 (ix2 p j) = O p.val (128 + j.val))
    (e2 : ∀ (p : Fin 512) (j : Fin 128), b2 (ix2 p j) = O p.val (256 + j.val)) (e3 : ∀ (p : Fin 512) (j : Fin 128), b3 (ix2 p j) = O p.val (384 + j.val))
    (e4 : ∀ (p : Fin 512) (j : Fin 128), b4 (ix2 p j) = O p.val (512 + j.val)) (e5 : ∀ (p : Fin 512) (j : Fin 128), b5 (ix2 p j) = O p.val (640 + j.val))
    (e6 : ∀ (p : Fin 512) (j : Fin 128), b6 (ix2 p j) = O p.val (768 + j.val)) (e7 : ∀ (p : Fin 512) (j : Fin 128), b7 (ix2 p j) = O p.val (896 + j.val))
    (p : Fin 512) (c : Fin 2560) : View.canon (L7 z cz v b0 b1 b2 b3 b4 b5 b6 b7) (ix2 p c) = O p.val c.val := by
  unfold L7
  have hc := c.isLt
  have key5 : ∀ (o : ℕ) (w : Vec Ideal S512x512 .bf16) (inb : ∀ a, (![0, o] : Fin 2 → ℕ) a + S512x512.size a ≤ S512x2560.size a) (L : List (View.Piece (Elt Ideal) S512x2560 .bf16)),
      (∀ q j : Fin 512, w (ix2 q j) = O q.val (o + j.val)) → (¬ (o ≤ c.val ∧ c.val < o + 512) → View.canon L (ix2 p c) = O p.val c.val) →
      View.canon ((⟨Rect.unit ![0, o] S512x512.size inb, w⟩ : View.Piece (Elt Ideal) S512x2560 .bf16) :: L) (ix2 p c) = O p.val c.val := by
    intro o w inb L hw hL
    by_cases h : o ≤ c.val ∧ c.val < o + 512
    · rw [hit _ _ _ _ (ix2 p (⟨c.val - o, by omega⟩ : Fin 512)) (Fin.forall_fin_two.mpr ⟨(Nat.zero_add _).symm, show c.val = o + (c.val - o) by omega⟩)]
      refine (hw _ _).trans ?_
      rw [show o + (c.val - o) = c.val by omega]
    · rw [miss _ _ _ _ (1 : Fin 2) (show c.val < o ∨ o + 512 ≤ c.val by omega)]
      exact hL h
  have key1 : ∀ (o : ℕ) (w : Vec Ideal S512x128 .bf16) (inb : ∀ a, (![0, o] : Fin 2 → ℕ) a + S512x128.size a ≤ S512x2560.size a) (L : List (View.Piece (Elt Ideal) S512x2560 .bf16)),
      (∀ (q : Fin 512) (j : Fin 128), w (ix2 q j) = O q.val (o + j.val)) → (¬ (o ≤ c.val ∧ c.val < o + 128) → View.canon L (ix2 p c) = O p.val c.val) →
      View.canon ((⟨Rect.unit ![0, o] S512x128.size inb, w⟩ : View.Piece (Elt Ideal) S512x2560 .bf16) :: L) (ix2 p c) = O p.val c.val := by
    intro o w inb L hw hL
    by_cases h : o ≤ c.val ∧ c.val < o + 128
    · rw [hit _ _ _ _ (ix2 p (⟨c.val - o, by omega⟩ : Fin 128)) (Fin.forall_fin_two.mpr ⟨(Nat.zero_add _).symm, show c.val = o + (c.val - o) by omega⟩)]
      refine (hw _ _).trans ?_
      rw [show o + (c.val - o) = c.val by omega]
    · rw [miss _ _ _ _ (1 : Fin 2) (show c.val < o ∨ o + 128 ≤ c.val by omega)]
      exact hL h
  refine key5 _ _ _ _ hz fun n1 => key5 _ _ _ _ hcz fun n2 => key5 _ _ _ _ hv fun n3 => key1 _ _ _ _ e7 fun n4 => key1 _ _ _ _ e6 fun n5 =>
    key1 _ _ _ _ e5 fun n6 => key1 _ _ _ _ e4 fun n7 => key1 _ _ _ _ e3 fun n8 => key1 _ _ _ _ e2 fun n9 => key1 _ _ _ _ e1 fun n10 =>
    key1 _ _ _ _ e0 fun n11 => ?_
  exfalso
  omega
end Cert.Kernel4Ideal.Inp
end
end
-- ==== Proof.InpReads.lean ====
module

public import proofs.«01_k».proof.Proof.InpPieces
public import proofs.«01_k».proof.Proof.Gen.Kernel4Ideal.Frame
public import Idealize.ShloMosaic.Lib.VecWindow
public import Idealize.ShloMosaic.Lib.Ring

/-! What one step of the input-projection call leaves, in both ways through its conditional. -/

@[expose] public section
set_option maxRecDepth 16384
noncomputable section
namespace Cert.Kernel4Ideal.Inp
open Cert.Kernel4Ideal Cert.Kernel4Ideal.Gen
open Idealize.ShloMosaic Idealize.ShloMosaic.TcCoe Idealize.SL.Sem

/-- A projection of a row. -/
def prK (h : Fin 1024 → EReal) (w : Fin 1024 → ℕ → EReal) (c : ℕ) : EReal := ∑ d : Fin 1024, h d * w d c
/-- What the convolutions read of a row: three projections and a product of two. -/
def PK (h : Fin 1024 → EReal) (w : Fin 1024 → ℕ → EReal) (c : ℕ) : EReal :=
  if c < 1536 then prK h w c else prK h w (c + 1024) * prK h w (c + 1536)
/-- A gated convolution of width four over the row and the three before it. -/
def cvK (u : ℕ → ℕ → EReal) (cq : ℕ → ℕ → EReal) (c : ℕ) : EReal :=
  siluK (c4K (u 3 c) (u 2 c) (u 1 c) (u 0 c) (cq 0 c) (cq 1 c) (cq 2 c) (cq 3 c))
/-- The packed result's entry. -/
def O7 (h : Fin 1024 → EReal) (w : Fin 1024 → ℕ → EReal) (u : ℕ → ℕ → EReal) (cq cs : ℕ → ℕ → EReal) (c : ℕ) : EReal :=
  if c < 512 then l2q (fun y => cvK u cq (128 * (c / 128) + y.val)) (⟨c % 128, Nat.mod_lt _ (by decide)⟩ : Fin 128)
  else if c < 1024 then l2k (fun y => cvK u cq (128 * (c / 128) + y.val)) (⟨c % 128, Nat.mod_lt _ (by decide)⟩ : Fin 128)
  else if c < 1536 then cvK u cq c
  else if c < 2048 then siluK (prK h w c)
  else prK h w c * (u 2 (c - 512) * cs 0 (c - 2048) + u 1 (c - 512) * cs 1 (c - 2048) + u 0 (c - 512) * cs 2 (c - 2048))

/-- A tile's rows, by number. -/
def xr (x0 : Vec Ideal S512x1024 .f32) (p : ℕ) : Fin 1024 → EReal := fun e => if h : p < 512 then x0 (ix2 (⟨p, h⟩ : Fin 512) e) else 0
/-- The gain, by number. -/
def gr (x1 : Vec Ideal S1x1024 .f32) : Fin 1024 → EReal := fun e => x1 (ix2 (0 : Fin 1) e)
/-- The weights' columns, by number. -/
def wN (x2 : Vec Ideal S1024x3584 .bf16) (d : Fin 1024) (c : ℕ) : EReal := if h : c < 3584 then x2 (ix2 d (⟨c, h⟩ : Fin 3584)) else 0
/-- The first convolutions' weights, by number. -/
def cqN (x5 : Vec Ideal S4x1536 .f32) (j c : ℕ) : EReal := if h : j < 4 ∧ c < 1536 then x5 (ix2 (⟨j, h.1⟩ : Fin 4) (⟨c, h.2⟩ : Fin 1536)) else 0
/-- The last convolution's weights, by number. -/
def csN (x6 : Vec Ideal S3x512 .f32) (j c : ℕ) : EReal := if h : j < 3 ∧ c < 512 then x6 (ix2 (⟨j, h.1⟩ : Fin 3) (⟨c, h.2⟩ : Fin 512)) else 0

/-- A row's projections by number. -/
def Pr (x0 : Vec Ideal S512x1024 .f32) (x1 : Vec Ideal S1x1024 .f32) (x2 : Vec Ideal S1024x3584 .bf16) (p c : ℕ) : EReal :=
  PK (hK (xr x0 p) (gr x1)) (wN x2) c
/-- The carried entry a number of rows back. -/
def bk (H P : ℕ → ℕ → EReal) (p b c : ℕ) : EReal := SK H P (8 + p - b) c

/-- A load of a block of weight columns at an entry. -/
theorem w_at (m : Memref sig .tc .vmem S1024x3584 .bf16) (h : m.IsWhole) (x : Vec Ideal S1024x3584 .bf16) (o : ℕ) (inb : ∀ a, (![0, o] : Fin 2 → ℕ) a + S1024x512.size a ≤ S1024x3584.size a)
    (ho : o + 512 ≤ 3584) (d : Fin 1024) (j : Fin 512) :
    m.view.readAt (Elt Ideal) (Rect.unit (s := S1024x3584) ![0, o] S1024x512.size inb).toLoadRect (h.unread x) (ix2 d j) = wN x d (o + j.val) := by
  rw [View.readAt_eq_ld, h.read_unread]
  unfold wN
  have hj : o + j.val < 3584 := by omega
  rw [dif_pos hj]
  refine congrArg x (funext fun a => Fin.ext ?_)
  match a with
  | ⟨0, _⟩ => show 0 + 1 * d.val = d.val; omega
  | ⟨1, _⟩ => show o + 1 * j.val = o + j.val; omega
/-- A load of one row of a block of the first convolutions' weights. -/
theorem cq_at (m : Memref sig .tc .vmem S4x1536 .f32) (h : m.IsWhole) (x : Vec Ideal S4x1536 .f32) (o r : ℕ) (inb : ∀ a, (![0, o] : Fin 2 → ℕ) a + S4x512.size a ≤ S4x1536.size a)
    (inb' : ∀ a, (![r, 0] : Fin 2 → ℕ) a + S1x512.size a ≤ S4x512.size a) (h1) (ho : o + 512 ≤ 1536) (hr : r < 4) (j : Fin 512) :
    m.view.readAt (Elt Ideal) ((Rect.unit (s := S4x1536) ![0, o] S4x512.size inb).withinL (Rect.unit (s := S4x512) ![r, 0] S1x512.size inb').toLoadRect h1) (h.unread x) (ix2 (0 : Fin 1) j) = cqN x r (o + j.val) := by
  refine (congrFun (h.read_unread x) _).trans ?_
  unfold cqN
  have hj : r < 4 ∧ o + j.val < 1536 := ⟨hr, by omega⟩
  rw [dif_pos hj]
  refine congrArg x (funext fun a => Fin.ext ?_)
  match a with
  | ⟨0, _⟩ => show 0 + (r + 1 * 0) = r; omega
  | ⟨1, _⟩ => show o + 0 + 1 * j.val = o + j.val; omega
/-- A load of one row of the last convolution's weights. -/
theorem cs_at (m : Memref sig .tc .vmem S3x512 .f32) (h : m.IsWhole) (x : Vec Ideal S3x512 .f32) (r : ℕ)
    (inb' : ∀ a, (![r, 0] : Fin 2 → ℕ) a + S1x512.size a ≤ S3x512.size a) (hr : r < 3) (j : Fin 512) :
    m.view.readAt (Elt Ideal) (Rect.unit (s := S3x512) ![r, 0] S1x512.size inb').toLoadRect (h.unread x) (ix2 (0 : Fin 1) j) = csN x r j.val := by
  refine (congrFun (h.read_unread x) _).trans ?_
  unfold csN
  rw [dif_pos ⟨hr, j.isLt⟩]
  refine congrArg x (funext fun a => Fin.ext ?_)
  match a with
  | ⟨0, _⟩ => show r + 1 * 0 = r; omega
  | ⟨1, _⟩ => show 0 + 1 * j.val = j.val; omega
/-- A load of the whole block of rows. -/
theorem x_at (m : Memref sig .tc .vmem S512x1024 .f32) (h : m.IsWhole) (x : Vec Ideal S512x1024 .f32) (inb : ∀ a, (![0, 0] : Fin 2 → ℕ) a + S512x1024.size a ≤ S512x1024.size a) :
    m.view.readAt (Elt Ideal) (Rect.unit (s := S512x1024) ![0, 0] S512x1024.size inb).toLoadRect (h.unread x) = x := by
  rw [View.readAt_full, h.read_unread]
/-- A load of the whole gain. -/
theorem g_at (m : Memref sig .tc .vmem S1x1024 .f32) (h : m.IsWhole) (x : Vec Ideal S1x1024 .f32) (inb : ∀ a, (![0, 0] : Fin 2 → ℕ) a + S1x1024.size a ≤ S1x1024.size a) :
    m.view.readAt (Elt Ideal) (Rect.unit (s := S1x1024) ![0, 0] S1x1024.size inb).toLoadRect (h.unread x) = x := by
  rw [View.readAt_full, h.read_unread]
/-- A load of a whole narrow weight array. -/
theorem wa_at (m : Memref sig .tc .vmem S1024x128 .bf16) (h : m.IsWhole) (x : Vec Ideal S1024x128 .bf16) (inb : ∀ a, (![0, 0] : Fin 2 → ℕ) a + S1024x128.size a ≤ S1024x128.size a) :
    m.view.readAt (Elt Ideal) (Rect.unit (s := S1024x128) ![0, 0] S1024x128.size inb).toLoadRect (h.unread x) = x := by
  rw [View.readAt_full, h.read_unread]

/-- A row's normalized entries by number. -/
theorem h_at (x0 : Vec Ideal S512x1024 .f32) (x1 : Vec Ideal S1x1024 .f32) (p : Fin 512) (d : Fin 1024) :
    k0_pay4 (F := Ideal) x0 x1 (ix2 p d) = hK (xr x0 p.val) (gr x1) d := by
  rw [pay4_at]
  congr 1
  funext e
  unfold xr
  rw [dif_pos p.isLt]
/-- A column of a row's projections, of an array of weights known by number. -/
theorem sum_at (x0 : Vec Ideal S512x1024 .f32) (x1 : Vec Ideal S1x1024 .f32) (x2 : Vec Ideal S1024x3584 .bf16) (w : Vec Ideal S1024x512 .bf16) (o : ℕ)
    (hw : ∀ (d : Fin 1024) (j : Fin 512), w (ix2 d j) = wN x2 d (o + j.val)) (p j : Fin 512) :
    (∑ d : Fin 1024, k0_pay4 (F := Ideal) x0 x1 (ix2 p d) * w (ix2 d j) : EReal) = prK (hK (xr x0 p.val) (gr x1)) (wN x2) (o + j.val) :=
  Finset.sum_congr rfl fun d _ => by rw [h_at, hw]
/-- A gated convolution read off the carried array. -/
theorem cv_at (H P : ℕ → ℕ → EReal) (x5 : Vec Ideal S4x1536 .f32) (V : Vec Ideal S520x512 .f32) (w0 w1 w2 w3 : Vec Ideal S1x512 .f32) (o : ℕ)
    (hV : ∀ (s : Fin 520) (j : Fin 512), V (ix2 s j) = SK H P s.val (o + j.val))
    (e0 : ∀ j : Fin 512, w0 (ix2 (0 : Fin 1) j) = cqN x5 0 (o + j.val)) (e1 : ∀ j : Fin 512, w1 (ix2 (0 : Fin 1) j) = cqN x5 1 (o + j.val))
    (e2 : ∀ j : Fin 512, w2 (ix2 (0 : Fin 1) j) = cqN x5 2 (o + j.val)) (e3 : ∀ j : Fin 512, w3 (ix2 (0 : Fin 1) j) = cqN x5 3 (o + j.val)) (p j : Fin 512) :
    siluK (c4K (V (ix2 (⟨5 + p.val, by omega⟩ : Fin 520) j)) (V (ix2 (⟨6 + p.val, by omega⟩ : Fin 520) j)) (V (ix2 (⟨7 + p.val, by omega⟩ : Fin 520) j)) (V (ix2 (⟨8 + p.val, by omega⟩ : Fin 520) j))
          (w0 (ix2 (0 : Fin 1) j)) (w1 (ix2 (0 : Fin 1) j)) (w2 (ix2 (0 : Fin 1) j)) (w3 (ix2 (0 : Fin 1) j)))
      = cvK (bk H P p.val) (cqN x5) (o + j.val) := by
  unfold cvK bk
  rw [hV, hV, hV, hV, e0, e1, e2, e3]
  have r3 : 8 + p.val - 3 = 5 + p.val := by omega
  have r2 : 8 + p.val - 2 = 6 + p.val := by omega
  have r1 : 8 + p.val - 1 = 7 + p.val := by omega
  have r0 : 8 + p.val - 0 = 8 + p.val := by omega
  rw [r3, r2, r1, r0]

section Steps
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S3x512 .f32) (harg7 : arg7.IsWhole) (arg8 : Memref sig .tc .vmem S512x2560 .bf16) (harg8 : arg8.IsWhole) (arg9 : Memref sig .tc .vmem S512x128 .f32) (harg9 : arg9.IsWhole) (arg10 : Memref sig .tc .vmem S520x2048 .f32) (harg10 : arg10.IsWhole)
    (x0 : Vec Ideal S512x1024 .f32) (x1 : Vec Ideal S1x1024 .f32) (x2 : Vec Ideal S1024x3584 .bf16) (x3 : Vec Ideal S1024x128 .bf16) (x4 : Vec Ideal S1024x128 .bf16) (x5 : Vec Ideal S4x1536 .f32) (x6 : Vec Ideal S3x512 .f32) (xs0 : Vec Ideal S520x2048 .f32)
    (H : ℕ → ℕ → EReal)

/-- The projections' first columns by number. -/
theorem P0_at (p j : Fin 512) : k0_pay7 (F := Ideal) (k0_pay4 x0 x1) (arg3.view.readAt (Elt Ideal) (Rect.unit (s := S1024x3584) ![0, 0] S1024x512.size inb_S1024x3584_S1024x512_0_0).toLoadRect (harg3.unread x2)) (ix2 p j) = Pr x0 x1 x2 p.val j.val := by
  rw [pay7_at, sum_at x0 x1 x2 _ 0 (fun d j => w_at arg3 harg3 x2 0 _ (by omega) d j)]
  unfold Pr PK
  rw [if_pos (by omega), Nat.zero_add]
/-- The next columns. -/
theorem P1_at (p j : Fin 512) : k0_pay8 (F := Ideal) (k0_pay4 x0 x1) (arg3.view.readAt (Elt Ideal) (Rect.unit (s := S1024x3584) ![0, 512] S1024x512.size inb_S1024x3584_S1024x512_0_512).toLoadRect (harg3.unread x2)) (ix2 p j) = Pr x0 x1 x2 p.val (512 + j.val) := by
  rw [pay8_at, sum_at x0 x1 x2 _ 512 (fun d j => w_at arg3 harg3 x2 512 _ (by omega) d j)]
  unfold Pr PK
  rw [if_pos (by omega)]
/-- The next columns. -/
theorem P2_at (p j : Fin 512) : k0_pay17 (F := Ideal) (k0_pay4 x0 x1) (arg3.view.readAt (Elt Ideal) (Rect.unit (s := S1024x3584) ![0, 1024] S1024x512.size inb_S1024x3584_S1024x512_0_1024).toLoadRect (harg3.unread x2)) (ix2 p j) = Pr x0 x1 x2 p.val (1024 + j.val) := by
  rw [pay17_at, sum_at x0 x1 x2 _ 1024 (fun d j => w_at arg3 harg3 x2 1024 _ (by omega) d j)]
  unfold Pr PK
  rw [if_pos (by omega)]
/-- The last columns: a product of two projections. -/
theorem P3_at (p j : Fin 512) : k0_pay27 (F := Ideal) (k0_pay4 x0 x1) (k0_pay26 (k0_pay4 x0 x1) (arg3.view.readAt (Elt Ideal) (Rect.unit (s := S1024x3584) ![0, 2560] S1024x512.size inb_S1024x3584_S1024x512_0_2560).toLoadRect (harg3.unread x2))) (arg3.view.readAt (Elt Ideal) (Rect.unit (s := S1024x3584) ![0, 3072] S1024x512.size inb_S1024x3584_S1024x512_0_3072).toLoadRect (harg3.unread x2)) (ix2 p j) = Pr x0 x1 x2 p.val (1536 + j.val) := by
  rw [pay27_at, sum_at x0 x1 x2 _ 2560 (fun d j => w_at arg3 harg3 x2 2560 _ (by omega) d j), sum_at x0 x1 x2 _ 3072 (fun d j => w_at arg3 harg3 x2 3072 _ (by omega) d j)]
  unfold Pr PK
  rw [if_neg (by omega), show 2560 + j.val = 1536 + j.val + 1024 by omega, show 3072 + j.val = 1536 + j.val + 1536 by omega]
/-- The normalized rows of a step. -/
theorem r1_B : kernelRun0_B.sl.r_1 (F := Ideal) c arg1 harg1 arg2 harg2 x0 x1 = k0_pay4 x0 x1 := by
  unfold kernelRun0_B.sl.r_1
  rw [x_at, g_at]
/-- The carried array after the first stores. -/
theorem hs3_B : kernelRun0_B.sl.HS0_3 (F := Ideal) c i arg1 harg1 arg2 harg2 arg3 harg3 arg10 harg10 x0 x1 x2 xs0 = L3 (k0_pay6 (F := Ideal) i (arg10.view.readAt (Elt Ideal) (Rect.unit (s := S520x2048) ![512, 0] S8x2048.size inb_S520x2048_S8x2048_512_0).toLoadRect (harg10.unread xs0))) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) [] := by
  unfold kernelRun0_B.sl.HS0_3 L3
  rw [r1_B]
/-- … after the next. -/
theorem hs4_B : kernelRun0_B.sl.HS0_4 (F := Ideal) c i arg1 harg1 arg2 harg2 arg3 harg3 arg10 harg10 x0 x1 x2 xs0 = L4 (k0_pay6 (F := Ideal) i (arg10.view.readAt (Elt Ideal) (Rect.unit (s := S520x2048) ![512, 0] S8x2048.size inb_S520x2048_S8x2048_512_0).toLoadRect (harg10.unread xs0))) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) (k0_pay17 (k0_pay4 (F := Ideal) x0 x1) (arg3.view.readAt (Elt Ideal) (Rect.unit (s := S1024x3584) ![0, 1024] S1024x512.size inb_S1024x3584_S1024x512_0_1024).toLoadRect (harg3.unread x2))) [] := by
  unfold kernelRun0_B.sl.HS0_4 L4
  rw [r1_B, hs3_B]
/-- … after the last. -/
theorem hs5_B : kernelRun0_B.sl.HS0_5 (F := Ideal) c i arg1 harg1 arg2 harg2 arg3 harg3 arg10 harg10 x0 x1 x2 xs0 = L5 (k0_pay6 (F := Ideal) i (arg10.view.readAt (Elt Ideal) (Rect.unit (s := S520x2048) ![512, 0] S8x2048.size inb_S520x2048_S8x2048_512_0).toLoadRect (harg10.unread xs0))) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) (k0_pay17 (k0_pay4 (F := Ideal) x0 x1) (arg3.view.readAt (Elt Ideal) (Rect.unit (s := S1024x3584) ![0, 1024] S1024x512.size inb_S1024x3584_S1024x512_0_1024).toLoadRect (harg3.unread x2))) (k0_pay27 (k0_pay4 (F := Ideal) x0 x1) (k0_pay26 (k0_pay4 (F := Ideal) x0 x1) (arg3.view.readAt (Elt Ideal) (Rect.unit (s := S1024x3584) ![0, 2560] S1024x512.size inb_S1024x3584_S1024x512_0_2560).toLoadRect (harg3.unread x2))) (arg3.view.readAt (Elt Ideal) (Rect.unit (s := S1024x3584) ![0, 3072] S1024x512.size inb_S1024x3584_S1024x512_0_3072).toLoadRect (harg3.unread x2))) [] := by
  unfold kernelRun0_B.sl.HS0_5 L5 kernelRun0_B.sl.r_11
  rw [r1_B, hs4_B]
/-- The normalized rows of a step. -/
theorem r1_A : kernelRun0_A.sl.r_1 (F := Ideal) c arg1 harg1 arg2 harg2 x0 x1 = k0_pay4 x0 x1 := by
  unfold kernelRun0_A.sl.r_1
  rw [x_at, g_at]
/-- The carried array after the first stores. -/
theorem hs3_A : kernelRun0_A.sl.HS0_4 (F := Ideal) c i arg1 harg1 arg2 harg2 arg3 harg3 arg10 x0 x1 x2 = L3 (k0_pay6 (F := Ideal) i (kernelRun0_A.sl.v30 (F := Ideal) c arg10)) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) kernelRun0_A.sl.HS0_1 := by
  unfold kernelRun0_A.sl.HS0_4 L3
  rw [r1_A]
/-- … after the next. -/
theorem hs4_A : kernelRun0_A.sl.HS0_5 (F := Ideal) c i arg1 harg1 arg2 harg2 arg3 harg3 arg10 x0 x1 x2 = L4 (k0_pay6 (F := Ideal) i (kernelRun0_A.sl.v30 (F := Ideal) c arg10)) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) (k0_pay17 (k0_pay4 (F := Ideal) x0 x1) (arg3.view.readAt (Elt Ideal) (Rect.unit (s := S1024x3584) ![0, 1024] S1024x512.size inb_S1024x3584_S1024x512_0_1024).toLoadRect (harg3.unread x2))) kernelRun0_A.sl.HS0_1 := by
  unfold kernelRun0_A.sl.HS0_5 L4
  rw [r1_A, hs3_A]
/-- … after the last. -/
theorem hs5_A : kernelRun0_A.sl.HS0_6 (F := Ideal) c i arg1 harg1 arg2 harg2 arg3 harg3 arg10 x0 x1 x2 = L5 (k0_pay6 (F := Ideal) i (kernelRun0_A.sl.v30 (F := Ideal) c arg10)) (k0_pay7 (k0_pay4 (F := Ideal) x0 x1) (arg3.view.readAt (Elt Ideal) (Rect.unit (s := S1024x3584) ![0, 0] S1024x512.size inb_S1024x3584_S1024x512_0_0).toLoadRect (harg3.unread x2))) (k0_pay8 (k0_pay4 (F := Ideal) x0 x1) (arg3.view.readAt (Elt Ideal) (Rect.unit (s := S1024x3584) ![0, 512] S1024x512.size inb_S1024x3584_S1024x512_0_512).toLoadRect (harg3.unread x2))) (k0_pay17 (k0_pay4 (F := Ideal) x0 x1) (arg3.view.readAt (Elt Ideal) (Rect.unit (s := S1024x3584) ![0, 1024] S1024x512.size inb_S1024x3584_S1024x512_0_1024).toLoadRect (harg3.unread x2))) (k0_pay27 (k0_pay4 (F := Ideal) x0 x1) (k0_pay26 (k0_pay4 (F := Ideal) x0 x1) (arg3.view.readAt (Elt Ideal) (Rect.unit (s := S1024x3584) ![0, 2560] S1024x512.size inb_S1024x3584_S1024x512_0_2560).toLoadRect (harg3.unread x2))) (arg3.view.readAt (Elt Ideal) (Rect.unit (s := S1024x3584) ![0, 3072] S1024x512.size inb_S1024x3584_S1024x512_0_3072).toLoadRect (harg3.unread x2))) kernelRun0_A.sl.HS0_1 := by
  unfold kernelRun0_A.sl.HS0_6 L5 kernelRun0_A.sl.r_11
  rw [r1_A, hs4_A]
section B
variable (hH : ∀ (s : Fin 8) (e : Fin 2048), k0_pay6 (F := Ideal) i (arg10.view.readAt (Elt Ideal) (Rect.unit (s := S520x2048) ![512, 0] S8x2048.size inb_S520x2048_S8x2048_512_0).toLoadRect (harg10.unread xs0)) (ix2 s e) = H s.val e.val)

include hH in
/-- A load of the carried columns from 0. -/
theorem v48_B (s : Fin 520) (j : Fin 512) : kernelRun0_B.sl.v48 (F := Ideal) c i arg1 harg1 arg2 harg2 arg3 harg3 arg10 harg10 x0 x1 x2 xs0 (ix2 s j) = SK H (Pr x0 x1 x2) s.val (0 + j.val) := by
  unfold kernelRun0_B.sl.v48
  rw [View.readCov_eq_canon', hs3_B]
  have e : (Rect.unit (s := S520x2048) ![0, 0] S520x512.size inb_S520x2048_S520x512_0_0).toLoadRect.idx (ix2 s j) = ix2 s (⟨0 + j.val, by omega⟩ : Fin 2048) := by
    funext a
    refine Fin.ext ?_
    match a with
    | ⟨0, _⟩ => show 0 + 1 * s.val = s.val; omega
    | ⟨1, _⟩ => show 0 + 1 * j.val = 0 + j.val; omega
  refine (congrArg (View.canon _) e).trans ?_
  exact L3_at H (Pr x0 x1 x2) _ _ _ hH (P0_at arg3 harg3 x0 x1 x2) (P1_at arg3 harg3 x0 x1 x2) _ s _ (show 0 + j.val < 1024 by omega)

include hH in
/-- A load of the carried columns from 512. -/
theorem v141_B (s : Fin 520) (j : Fin 512) : kernelRun0_B.sl.v141 (F := Ideal) c i arg1 harg1 arg2 harg2 arg3 harg3 arg10 harg10 x0 x1 x2 xs0 (ix2 s j) = SK H (Pr x0 x1 x2) s.val (512 + j.val) := by
  unfold kernelRun0_B.sl.v141
  rw [View.readCov_eq_canon', hs4_B]
  have e : (Rect.unit (s := S520x2048) ![0, 512] S520x512.size inb_S520x2048_S520x512_0_512).toLoadRect.idx (ix2 s j) = ix2 s (⟨512 + j.val, by omega⟩ : Fin 2048) := by
    funext a
    refine Fin.ext ?_
    match a with
    | ⟨0, _⟩ => show 0 + 1 * s.val = s.val; omega
    | ⟨1, _⟩ => show 512 + 1 * j.val = 512 + j.val; omega
  refine (congrArg (View.canon _) e).trans ?_
  exact L4_at H (Pr x0 x1 x2) _ _ _ _ hH (P0_at arg3 harg3 x0 x1 x2) (P1_at arg3 harg3 x0 x1 x2) (P2_at arg3 harg3 x0 x1 x2) _ s _ (show 512 + j.val < 1536 by omega) (fun _ => (show 512 + j.val < 1024 by omega))

include hH in
/-- A load of the carried columns from 1024. -/
theorem v230_B (s : Fin 520) (j : Fin 512) : kernelRun0_B.sl.v230 (F := Ideal) c i arg1 harg1 arg2 harg2 arg3 harg3 arg10 harg10 x0 x1 x2 xs0 (ix2 s j) = SK H (Pr x0 x1 x2) s.val (1024 + j.val) := by
  unfold kernelRun0_B.sl.v230
  rw [View.readCov_eq_canon', hs5_B]
  have e : (Rect.unit (s := S520x2048) ![0, 1024] S520x512.size inb_S520x2048_S520x512_0_1024).toLoadRect.idx (ix2 s j) = ix2 s (⟨1024 + j.val, by omega⟩ : Fin 2048) := by
    funext a
    refine Fin.ext ?_
    match a with
    | ⟨0, _⟩ => show 0 + 1 * s.val = s.val; omega
    | ⟨1, _⟩ => show 1024 + 1 * j.val = 1024 + j.val; omega
  refine (congrArg (View.canon _) e).trans ?_
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s _

include hH in
/-- A load of the carried columns from 1536. -/
theorem v270_B (s : Fin 520) (j : Fin 512) : kernelRun0_B.sl.v270 (F := Ideal) c i arg1 harg1 arg2 harg2 arg3 harg3 arg10 harg10 x0 x1 x2 xs0 (ix2 s j) = SK H (Pr x0 x1 x2) s.val (1536 + j.val) := by
  unfold kernelRun0_B.sl.v270
  rw [View.readCov_eq_canon', hs5_B]
  have e : (Rect.unit (s := S520x2048) ![0, 1536] S520x512.size inb_S520x2048_S520x512_0_1536).toLoadRect.idx (ix2 s j) = ix2 s (⟨1536 + j.val, by omega⟩ : Fin 2048) := by
    funext a
    refine Fin.ext ?_
    match a with
    | ⟨0, _⟩ => show 0 + 1 * s.val = s.val; omega
    | ⟨1, _⟩ => show 1536 + 1 * j.val = 1536 + j.val; omega
  refine (congrArg (View.canon _) e).trans ?_
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s _
end B
section A
variable (hH : ∀ (s : Fin 8) (e : Fin 2048), k0_pay6 (F := Ideal) i (kernelRun0_A.sl.v30 (F := Ideal) c arg10) (ix2 s e) = H s.val e.val)

include hH in
/-- A load of the carried columns from 0. -/
theorem v48_A (s : Fin 520) (j : Fin 512) : kernelRun0_A.sl.v48 (F := Ideal) c i arg1 harg1 arg2 harg2 arg3 harg3 arg10 x0 x1 x2 (ix2 s j) = SK H (Pr x0 x1 x2) s.val (0 + j.val) := by
  unfold kernelRun0_A.sl.v48
  rw [View.readCov_eq_canon', hs3_A]
  have e : (Rect.unit (s := S520x2048) ![0, 0] S520x512.size inb_S520x2048_S520x512_0_0).toLoadRect.idx (ix2 s j) = ix2 s (⟨0 + j.val, by omega⟩ : Fin 2048) := by
    funext a
    refine Fin.ext ?_
    match a with
    | ⟨0, _⟩ => show 0 + 1 * s.val = s.val; omega
    | ⟨1, _⟩ => show 0 + 1 * j.val = 0 + j.val; omega
  refine (congrArg (View.canon _) e).trans ?_
  exact L3_at H (Pr x0 x1 x2) _ _ _ hH (P0_at arg3 harg3 x0 x1 x2) (P1_at arg3 harg3 x0 x1 x2) _ s _ (show 0 + j.val < 1024 by omega)

include hH in
/-- A load of the carried columns from 512. -/
theorem v141_A (s : Fin 520) (j : Fin 512) : kernelRun0_A.sl.v141 (F := Ideal) c i arg1 harg1 arg2 harg2 arg3 harg3 arg10 x0 x1 x2 (ix2 s j) = SK H (Pr x0 x1 x2) s.val (512 + j.val) := by
  unfold kernelRun0_A.sl.v141
  rw [View.readCov_eq_canon', hs4_A]
  have e : (Rect.unit (s := S520x2048) ![0, 512] S520x512.size inb_S520x2048_S520x512_0_512).toLoadRect.idx (ix2 s j) = ix2 s (⟨512 + j.val, by omega⟩ : Fin 2048) := by
    funext a
    refine Fin.ext ?_
    match a with
    | ⟨0, _⟩ => show 0 + 1 * s.val = s.val; omega
    | ⟨1, _⟩ => show 512 + 1 * j.val = 512 + j.val; omega
  refine (congrArg (View.canon _) e).trans ?_
  exact L4_at H (Pr x0 x1 x2) _ _ _ _ hH (P0_at arg3 harg3 x0 x1 x2) (P1_at arg3 harg3 x0 x1 x2) (P2_at arg3 harg3 x0 x1 x2) _ s _ (show 512 + j.val < 1536 by omega) (fun _ => (show 512 + j.val < 1024 by omega))

include hH in
/-- A load of the carried columns from 1024. -/
theorem v230_A (s : Fin 520) (j : Fin 512) : kernelRun0_A.sl.v230 (F := Ideal) c i arg1 harg1 arg2 harg2 arg3 harg3 arg10 x0 x1 x2 (ix2 s j) = SK H (Pr x0 x1 x2) s.val (1024 + j.val) := by
  unfold kernelRun0_A.sl.v230
  rw [View.readCov_eq_canon', hs5_A]
  have e : (Rect.unit (s := S520x2048) ![0, 1024] S520x512.size inb_S520x2048_S520x512_0_1024).toLoadRect.idx (ix2 s j) = ix2 s (⟨1024 + j.val, by omega⟩ : Fin 2048) := by
    funext a
    refine Fin.ext ?_
    match a with
    | ⟨0, _⟩ => show 0 + 1 * s.val = s.val; omega
    | ⟨1, _⟩ => show 1024 + 1 * j.val = 1024 + j.val; omega
  refine (congrArg (View.canon _) e).trans ?_
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s _

include hH in
/-- A load of the carried columns from 1536. -/
theorem v270_A (s : Fin 520) (j : Fin 512) : kernelRun0_A.sl.v270 (F := Ideal) c i arg1 harg1 arg2 harg2 arg3 harg3 arg10 x0 x1 x2 (ix2 s j) = SK H (Pr x0 x1 x2) s.val (1536 + j.val) := by
  unfold kernelRun0_A.sl.v270
  rw [View.readCov_eq_canon', hs5_A]
  have e : (Rect.unit (s := S520x2048) ![0, 1536] S520x512.size inb_S520x2048_S520x512_0_1536).toLoadRect.idx (ix2 s j) = ix2 s (⟨1536 + j.val, by omega⟩ : Fin 2048) := by
    funext a
    refine Fin.ext ?_
    match a with
    | ⟨0, _⟩ => show 0 + 1 * s.val = s.val; omega
    | ⟨1, _⟩ => show 1536 + 1 * j.val = 1536 + j.val; omega
  refine (congrArg (View.canon _) e).trans ?_
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s _
end A
end Steps
end Cert.Kernel4Ideal.Inp
end
end
-- ==== Proof.InpOut.lean ====
module

public import proofs.«01_k».proof.Proof.InpReads

/-! What one step of the input-projection call leaves in its two results and in the carried array. -/

@[expose] public section
set_option maxRecDepth 16384
noncomputable section
namespace Cert.Kernel4Ideal.Inp
open Cert.Kernel4Ideal Cert.Kernel4Ideal.Gen
open Idealize.ShloMosaic Idealize.ShloMosaic.TcCoe Idealize.SL.Sem

/-- The queries' columns of the packed result. -/
theorem O7_q (h : Fin 1024 → EReal) (w : Fin 1024 → ℕ → EReal) (u cq cs : ℕ → ℕ → EReal) (o : ℕ) (ho : o % 128 = 0) (ho' : o < 512) (l : Fin 128) :
    O7 h w u cq cs (o + l.val) = l2q (fun y => cvK u cq (o + y.val)) l := by
  have hl := l.isLt
  unfold O7
  rw [if_pos (by omega)]
  have e1 : 128 * ((o + l.val) / 128) = o := by omega
  have e2 : (o + l.val) % 128 = l.val := by omega
  rw [e1]
  exact congrArg _ (Fin.ext e2)
/-- The keys' columns of the packed result. -/
theorem O7_k (h : Fin 1024 → EReal) (w : Fin 1024 → ℕ → EReal) (u cq cs : ℕ → ℕ → EReal) (o : ℕ) (ho : o % 128 = 0) (h0 : 512 ≤ o) (ho' : o < 1024) (l : Fin 128) :
    O7 h w u cq cs (o + l.val) = l2k (fun y => cvK u cq (o + y.val)) l := by
  have hl := l.isLt
  unfold O7
  rw [if_neg (by omega), if_pos (by omega)]
  have e1 : 128 * ((o + l.val) / 128) = o := by omega
  have e2 : (o + l.val) % 128 = l.val := by omega
  rw [e1]
  exact congrArg _ (Fin.ext e2)
/-- The values' columns. -/
theorem O7_v (h : Fin 1024 → EReal) (w : Fin 1024 → ℕ → EReal) (u cq cs : ℕ → ℕ → EReal) (j : Fin 512) :
    O7 h w u cq cs (1024 + j.val) = cvK u cq (1024 + j.val) := by
  unfold O7
  rw [if_neg (by omega), if_neg (by omega), if_pos (by omega)]
/-- The gates' columns. -/
theorem O7_z (h : Fin 1024 → EReal) (w : Fin 1024 → ℕ → EReal) (u cq cs : ℕ → ℕ → EReal) (j : Fin 512) :
    O7 h w u cq cs (1536 + j.val) = siluK (prK h w (1536 + j.val)) := by
  unfold O7
  rw [if_neg (by omega), if_neg (by omega), if_neg (by omega), if_pos (by omega)]
/-- The short convolution's columns. -/
theorem O7_c (h : Fin 1024 → EReal) (w : Fin 1024 → ℕ → EReal) (u cq cs : ℕ → ℕ → EReal) (j : Fin 512) :
    O7 h w u cq cs (2048 + j.val) = prK h w (2048 + j.val) * (u 2 (1536 + j.val) * cs 0 j.val + u 1 (1536 + j.val) * cs 1 j.val + u 0 (1536 + j.val) * cs 2 j.val) := by
  unfold O7
  rw [if_neg (by omega), if_neg (by omega), if_neg (by omega), if_neg (by omega), show 2048 + j.val - 512 = 1536 + j.val by omega, show 2048 + j.val - 2048 = j.val by omega]
/-- The narrow result's entry. -/
def O8 (h : Fin 1024 → EReal) (wh wl : Fin 1024 → EReal) : EReal :=
  (∑ d : Fin 1024, h d * wh d) + (∑ d : Fin 1024, (h d - h d) * wh d) + (∑ d : Fin 1024, h d * wl d)

/-- The short convolution read off the carried array. -/
theorem cz_at (H : ℕ → ℕ → EReal) (x0 : Vec Ideal S512x1024 .f32) (x1 : Vec Ideal S1x1024 .f32) (x2 : Vec Ideal S1024x3584 .bf16) (x6 : Vec Ideal S3x512 .f32)
    (w : Vec Ideal S1024x512 .bf16) (V : Vec Ideal S520x512 .f32) (w0 w1 w2 : Vec Ideal S1x512 .f32)
    (hw : ∀ (d : Fin 1024) (j : Fin 512), w (ix2 d j) = wN x2 d (2048 + j.val))
    (hV : ∀ (s : Fin 520) (j : Fin 512), V (ix2 s j) = SK H (Pr x0 x1 x2) s.val (1536 + j.val))
    (e0 : ∀ j : Fin 512, w0 (ix2 (0 : Fin 1) j) = csN x6 0 j.val) (e1 : ∀ j : Fin 512, w1 (ix2 (0 : Fin 1) j) = csN x6 1 j.val)
    (e2 : ∀ j : Fin 512, w2 (ix2 (0 : Fin 1) j) = csN x6 2 j.val) (p j : Fin 512) :
    ((∑ d : Fin 1024, k0_pay4 (F := Ideal) x0 x1 (ix2 p d) * w (ix2 d j)) * (V (ix2 (⟨6 + p.val, by omega⟩ : Fin 520) j) * w0 (ix2 (0 : Fin 1) j) + V (ix2 (⟨7 + p.val, by omega⟩ : Fin 520) j) * w1 (ix2 (0 : Fin 1) j) + V (ix2 (⟨8 + p.val, by omega⟩ : Fin 520) j) * w2 (ix2 (0 : Fin 1) j)) : EReal)
      = prK (hK (xr x0 p.val) (gr x1)) (wN x2) (2048 + j.val) * (bk H (Pr x0 x1 x2) p.val 2 (1536 + j.val) * csN x6 0 j.val + bk H (Pr x0 x1 x2) p.val 1 (1536 + j.val) * csN x6 1 j.val + bk H (Pr x0 x1 x2) p.val 0 (1536 + j.val) * csN x6 2 j.val) := by
  rw [sum_at x0 x1 x2 w 2048 hw, hV, hV, hV, e0, e1, e2]
  unfold bk
  have r2 : 8 + p.val - 2 = 6 + p.val := by omega
  have r1 : 8 + p.val - 1 = 7 + p.val := by omega
  have r0 : 8 + p.val - 0 = 8 + p.val := by omega
  rw [r2, r1, r0]

section Steps
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S3x512 .f32) (harg7 : arg7.IsWhole) (arg8 : Memref sig .tc .vmem S512x2560 .bf16) (harg8 : arg8.IsWhole) (arg9 : Memref sig .tc .vmem S512x128 .f32) (harg9 : arg9.IsWhole) (arg10 : Memref sig .tc .vmem S520x2048 .f32) (harg10 : arg10.IsWhole)
    (x0 : Vec Ideal S512x1024 .f32) (x1 : Vec Ideal S1x1024 .f32) (x2 : Vec Ideal S1024x3584 .bf16) (x3 : Vec Ideal S1024x128 .bf16) (x4 : Vec Ideal S1024x128 .bf16) (x5 : Vec Ideal S4x1536 .f32) (x6 : Vec Ideal S3x512 .f32) (xs0 : Vec Ideal S520x2048 .f32)
    (H : ℕ → ℕ → EReal)

section B
variable (hH : ∀ (s : Fin 8) (e : Fin 2048), k0_pay6 (F := Ideal) i (arg10.view.readAt (Elt Ideal) (Rect.unit (s := S520x2048) ![512, 0] S8x2048.size inb_S520x2048_S8x2048_512_0).toLoadRect (harg10.unread xs0)) (ix2 s e) = H s.val e.val)

include hH in
/-- The queries' gated convolution. -/
theorem q_B (p j : Fin 512) : kernelRun0_B.sl.r_5 (F := Ideal) c i arg1 harg1 arg2 harg2 arg3 harg3 arg6 harg6 arg10 harg10 x0 x1 x2 x5 xs0 (ix2 p j) = cvK (bk H (Pr x0 x1 x2) p.val) (cqN x5) (0 + j.val) := by
  unfold kernelRun0_B.sl.r_5 kernelRun0_B.sl.r_2 kernelRun0_B.sl.r_3 kernelRun0_B.sl.r_4
  refine (pay12_at _ _ _ _ _ p j).trans ?_
  exact cv_at H (Pr x0 x1 x2) x5 _ _ _ _ _ 0 (fun s j => v48_B c i arg1 harg1 arg2 harg2 arg3 harg3 arg10 harg10 x0 x1 x2 xs0 H hH s j) (fun j => cq_at arg6 harg6 x5 0 0 _ _ _ (by omega) (by omega) j) (fun j => cq_at arg6 harg6 x5 0 1 _ _ _ (by omega) (by omega) j) (fun j => cq_at arg6 harg6 x5 0 2 _ _ _ (by omega) (by omega) j) (fun j => cq_at arg6 harg6 x5 0 3 _ _ _ (by omega) (by omega) j) p j
include hH in
/-- The keys' gated convolution. -/
theorem k_B (p j : Fin 512) : kernelRun0_B.sl.r_8 (F := Ideal) c i arg1 harg1 arg2 harg2 arg3 harg3 arg6 harg6 arg10 harg10 x0 x1 x2 x5 xs0 (ix2 p j) = cvK (bk H (Pr x0 x1 x2) p.val) (cqN x5) (512 + j.val) := by
  unfold kernelRun0_B.sl.r_8 kernelRun0_B.sl.r_7
  refine (pay19_at _ _ _ _ _ p j).trans ?_
  exact cv_at H (Pr x0 x1 x2) x5 _ _ _ _ _ 512 (fun s j => v141_B c i arg1 harg1 arg2 harg2 arg3 harg3 arg10 harg10 x0 x1 x2 xs0 H hH s j) (fun j => cq_at arg6 harg6 x5 512 0 _ _ _ (by omega) (by omega) j) (fun j => cq_at arg6 harg6 x5 512 1 _ _ _ (by omega) (by omega) j) (fun j => cq_at arg6 harg6 x5 512 2 _ _ _ (by omega) (by omega) j) (fun j => cq_at arg6 harg6 x5 512 3 _ _ _ (by omega) (by omega) j) p j
include hH in
/-- The values' gated convolution. -/
theorem v_B (p j : Fin 512) : k0_pay30 (F := Ideal) (kernelRun0_B.sl.r_12 c i arg1 harg1 arg2 harg2 arg3 harg3 arg6 harg6 arg10 harg10 x0 x1 x2 x5 xs0) (kernelRun0_B.sl.r_13 c i arg1 harg1 arg2 harg2 arg3 harg3 arg6 harg6 arg10 harg10 x0 x1 x2 x5 xs0) (ix2 p j) = cvK (bk H (Pr x0 x1 x2) p.val) (cqN x5) (1024 + j.val) := by
  unfold kernelRun0_B.sl.r_12 kernelRun0_B.sl.r_13
  refine (pay30_at _ _ _ _ _ p j).trans ?_
  exact cv_at H (Pr x0 x1 x2) x5 _ _ _ _ _ 1024 (fun s j => v230_B c i arg1 harg1 arg2 harg2 arg3 harg3 arg10 harg10 x0 x1 x2 xs0 H hH s j) (fun j => cq_at arg6 harg6 x5 1024 0 _ _ _ (by omega) (by omega) j) (fun j => cq_at arg6 harg6 x5 1024 1 _ _ _ (by omega) (by omega) j) (fun j => cq_at arg6 harg6 x5 1024 2 _ _ _ (by omega) (by omega) j) (fun j => cq_at arg6 harg6 x5 1024 3 _ _ _ (by omega) (by omega) j) p j
include hH in
/-- The packed result's block. -/
theorem out7_B (hc0 : ¬cond0_0 i) (p : Fin 512) (e : Fin 2560) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xs0 (ix2 p e) = O7 (hK (xr x0 p.val) (gr x1)) (wN x2) (bk H (Pr x0 x1 x2) p.val) (cqN x5) (csN x6) e.val := by
  unfold out0_B_7
  rw [View.read_writes_junk_eq_canon]
  unfold kernelRun0_B
  dsimp only
  refine L7_at (fun q e => O7 (hK (xr x0 q) (gr x1)) (wN x2) (bk H (Pr x0 x1 x2) q) (cqN x5) (csN x6) e) _ _ _ _ _ _ _ _ _ _ _ ?_ ?_ ?_ ?_ ?_ ?_ ?_ ?_ ?_ ?_ ?_ p e
  · intro p j
    unfold kernelRun0_B.sl.r_14
    rw [O7_z, r1_B]
    exact (pay1_at _ _ p j).trans (congrArg siluK (sum_at x0 x1 x2 _ 1536 (fun d j => w_at arg3 harg3 x2 1536 _ (by omega) d j) p j))
  · intro p j
    rw [O7_c, r1_B]
    refine (pay31_at _ _ _ _ _ _ p j).trans ?_
    exact cz_at H x0 x1 x2 x6 _ _ _ _ _ (fun d j => w_at arg3 harg3 x2 2048 _ (by omega) d j) (fun s j => v270_B c i arg1 harg1 arg2 harg2 arg3 harg3 arg10 harg10 x0 x1 x2 xs0 H hH s j)
      (fun j => cs_at arg7 harg7 x6 0 _ (by omega) j) (fun j => cs_at arg7 harg7 x6 1 _ (by omega) j) (fun j => cs_at arg7 harg7 x6 2 _ (by omega) j) p j
  · intro p j
    rw [O7_v]
    exact v_B c i arg1 harg1 arg2 harg2 arg3 harg3 arg6 harg6 arg10 harg10 x0 x1 x2 x5 xs0 H hH p j
  · intro p l
    rw [O7_q _ _ _ _ _ 0 (by omega) (by omega)]
    refine (pay13_at _ _ _ _ _ p l).trans ?_
    exact congrArg (fun f => l2q f l) (funext fun y => (q_B c i arg1 harg1 arg2 harg2 arg3 harg3 arg6 harg6 arg10 harg10 x0 x1 x2 x5 xs0 H hH p (⟨y.val, by omega⟩ : Fin 512)))
  · intro p l
    unfold kernelRun0_B.sl.r_6
    rw [O7_q _ _ _ _ _ 128 (by omega) (by omega)]
    refine (pay14_at _ _ _ _ _ p l).trans ?_
    exact congrArg (fun f => l2q f l) (funext fun y => (q_B c i arg1 harg1 arg2 harg2 arg3 harg3 arg6 harg6 arg10 harg10 x0 x1 x2 x5 xs0 H hH p (⟨128 + y.val, by omega⟩ : Fin 512)).trans (congrArg _ (Nat.zero_add _)))
  · intro p l
    rw [O7_q _ _ _ _ _ 256 (by omega) (by omega)]
    refine (pay15_at _ p l).trans ?_
    exact congrArg (fun f => l2q f l) (funext fun y => (q_B c i arg1 harg1 arg2 harg2 arg3 harg3 arg6 harg6 arg10 harg10 x0 x1 x2 x5 xs0 H hH p (⟨256 + y.val, by omega⟩ : Fin 512)).trans (congrArg _ (Nat.zero_add _)))
  · intro p l
    rw [O7_q _ _ _ _ _ 384 (by omega) (by omega)]
    refine (pay16_at _ p l).trans ?_
    exact congrArg (fun f => l2q f l) (funext fun y => (q_B c i arg1 harg1 arg2 harg2 arg3 harg3 arg6 harg6 arg10 harg10 x0 x1 x2 x5 xs0 H hH p (⟨384 + y.val, by omega⟩ : Fin 512)).trans (congrArg _ (Nat.zero_add _)))
  · intro p l
    unfold kernelRun0_B.sl.r_9 kernelRun0_B.sl.r_10
    rw [O7_k _ _ _ _ _ 512 (by omega) (by omega) (by omega)]
    refine (pay22_at _ _ _ _ _ _ p l).trans ?_
    exact congrArg (fun f => l2k f l) (funext fun y => (k_B c i arg1 harg1 arg2 harg2 arg3 harg3 arg6 harg6 arg10 harg10 x0 x1 x2 x5 xs0 H hH p (⟨y.val, by omega⟩ : Fin 512)))
  · intro p l
    rw [O7_k _ _ _ _ _ 640 (by omega) (by omega) (by omega)]
    refine (pay23_at _ p l).trans ?_
    exact congrArg (fun f => l2k f l) (funext fun y => (k_B c i arg1 harg1 arg2 harg2 arg3 harg3 arg6 harg6 arg10 harg10 x0 x1 x2 x5 xs0 H hH p (⟨128 + y.val, by omega⟩ : Fin 512)).trans (congrArg _ (by show 512 + (128 + y.val) = 640 + y.val; omega)))
  · intro p l
    rw [O7_k _ _ _ _ _ 768 (by omega) (by omega) (by omega)]
    refine (pay24_at _ p l).trans ?_
    exact congrArg (fun f => l2k f l) (funext fun y => (k_B c i arg1 harg1 arg2 harg2 arg3 harg3 arg6 harg6 arg10 harg10 x0 x1 x2 x5 xs0 H hH p (⟨256 + y.val, by omega⟩ : Fin 512)).trans (congrArg _ (by show 512 + (256 + y.val) = 768 + y.val; omega)))
  · intro p l
    rw [O7_k _ _ _ _ _ 896 (by omega) (by omega) (by omega)]
    refine (pay25_at _ p l).trans ?_
    exact congrArg (fun f => l2k f l) (funext fun y => (k_B c i arg1 harg1 arg2 harg2 arg3 harg3 arg6 harg6 arg10 harg10 x0 x1 x2 x5 xs0 H hH p (⟨384 + y.val, by omega⟩ : Fin 512)).trans (congrArg _ (by show 512 + (384 + y.val) = 896 + y.val; omega)))

/-- The narrow result's block. -/
theorem out8_B (hc0 : ¬cond0_0 i) (p : Fin 512) (e : Fin 128) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 xs0 (ix2 p e) = O8 (hK (xr x0 p.val) (gr x1)) (fun d => x3 (ix2 d e)) (fun d => x4 (ix2 d e)) := by
  unfold out0_B_8
  rw [View.read_writes_junk_eq_canon]
  unfold kernelRun0_B
  dsimp only
  refine (hit _ _ _ _ (ix2 p e) (Fin.forall_fin_two.mpr ⟨(Nat.zero_add _).symm, (Nat.zero_add _).symm⟩)).trans ?_
  unfold kernelRun0_B.sl.r
  rw [r1_B, x_at, g_at, wa_at, wa_at]
  refine (pay2_at _ _ _ _ p e).trans ?_
  unfold O8
  have e3 : ∀ d : Fin 1024, k0_pay3 (F := Ideal) x0 x1 (ix2 p d) = hK (xr x0 p.val) (gr x1) d := fun d => by
    rw [pay3_at, ← h_at, pay4_at]
  simp only [h_at, e3]

include hH in
/-- The carried array. -/
theorem sout_B (hc0 : ¬cond0_0 i) (s : Fin 520) (e : Fin 2048) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 xs0 (ix2 s e) = SK H (Pr x0 x1 x2) s.val e.val := by
  unfold sout0_B_0
  rw [View.read_writes_junk_eq_canon]
  unfold kernelRun0_B
  dsimp only
  show View.canon (kernelRun0_B.sl.HS0_5 (F := Ideal) c i arg1 harg1 arg2 harg2 arg3 harg3 arg10 harg10 x0 x1 x2 xs0) (ix2 s e) = _
  rw [hs5_B]
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s e
end B
section A
variable (hH : ∀ (s : Fin 8) (e : Fin 2048), k0_pay6 (F := Ideal) i (kernelRun0_A.sl.v30 (F := Ideal) c arg10) (ix2 s e) = H s.val e.val)

include hH in
/-- The queries' gated convolution. -/
theorem q_A (p j : Fin 512) : kernelRun0_A.sl.r_5 (F := Ideal) c i arg1 harg1 arg2 harg2 arg3 harg3 arg6 harg6 arg10 x0 x1 x2 x5 (ix2 p j) = cvK (bk H (Pr x0 x1 x2) p.val) (cqN x5) (0 + j.val) := by
  unfold kernelRun0_A.sl.r_5 kernelRun0_A.sl.r_2 kernelRun0_A.sl.r_3 kernelRun0_A.sl.r_4
  refine (pay12_at _ _ _ _ _ p j).trans ?_
  exact cv_at H (Pr x0 x1 x2) x5 _ _ _ _ _ 0 (fun s j => v48_A c i arg1 harg1 arg2 harg2 arg3 harg3 arg10 x0 x1 x2 H hH s j) (fun j => cq_at arg6 harg6 x5 0 0 _ _ _ (by omega) (by omega) j) (fun j => cq_at arg6 harg6 x5 0 1 _ _ _ (by omega) (by omega) j) (fun j => cq_at arg6 harg6 x5 0 2 _ _ _ (by omega) (by omega) j) (fun j => cq_at arg6 harg6 x5 0 3 _ _ _ (by omega) (by omega) j) p j
include hH in
/-- The keys' gated convolution. -/
theorem k_A (p j : Fin 512) : kernelRun0_A.sl.r_8 (F := Ideal) c i arg1 harg1 arg2 harg2 arg3 harg3 arg6 harg6 arg10 x0 x1 x2 x5 (ix2 p j) = cvK (bk H (Pr x0 x1 x2) p.val) (cqN x5) (512 + j.val) := by
  unfold kernelRun0_A.sl.r_8 kernelRun0_A.sl.r_7
  refine (pay19_at _ _ _ _ _ p j).trans ?_
  exact cv_at H (Pr x0 x1 x2) x5 _ _ _ _ _ 512 (fun s j => v141_A c i arg1 harg1 arg2 harg2 arg3 harg3 arg10 x0 x1 x2 H hH s j) (fun j => cq_at arg6 harg6 x5 512 0 _ _ _ (by omega) (by omega) j) (fun j => cq_at arg6 harg6 x5 512 1 _ _ _ (by omega) (by omega) j) (fun j => cq_at arg6 harg6 x5 512 2 _ _ _ (by omega) (by omega) j) (fun j => cq_at arg6 harg6 x5 512 3 _ _ _ (by omega) (by omega) j) p j
include hH in
/-- The values' gated convolution. -/
theorem v_A (p j : Fin 512) : k0_pay30 (F := Ideal) (kernelRun0_A.sl.r_12 c i arg1 harg1 arg2 harg2 arg3 harg3 arg6 harg6 arg10 x0 x1 x2 x5) (kernelRun0_A.sl.r_13 c i arg1 harg1 arg2 harg2 arg3 harg3 arg6 harg6 arg10 x0 x1 x2 x5) (ix2 p j) = cvK (bk H (Pr x0 x1 x2) p.val) (cqN x5) (1024 + j.val) := by
  unfold kernelRun0_A.sl.r_12 kernelRun0_A.sl.r_13
  refine (pay30_at _ _ _ _ _ p j).trans ?_
  exact cv_at H (Pr x0 x1 x2) x5 _ _ _ _ _ 1024 (fun s j => v230_A c i arg1 harg1 arg2 harg2 arg3 harg3 arg10 x0 x1 x2 H hH s j) (fun j => cq_at arg6 harg6 x5 1024 0 _ _ _ (by omega) (by omega) j) (fun j => cq_at arg6 harg6 x5 1024 1 _ _ _ (by omega) (by omega) j) (fun j => cq_at arg6 harg6 x5 1024 2 _ _ _ (by omega) (by omega) j) (fun j => cq_at arg6 harg6 x5 1024 3 _ _ _ (by omega) (by omega) j) p j
include hH in
/-- The packed result's block. -/
theorem out7_A (hc0 : cond0_0 i) (p : Fin 512) (e : Fin 2560) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 (ix2 p e) = O7 (hK (xr x0 p.val) (gr x1)) (wN x2) (bk H (Pr x0 x1 x2) p.val) (cqN x5) (csN x6) e.val := by
  unfold out0_A_7
  rw [View.read_writes_junk_eq_canon]
  unfold kernelRun0_A
  dsimp only
  refine L7_at (fun q e => O7 (hK (xr x0 q) (gr x1)) (wN x2) (bk H (Pr x0 x1 x2) q) (cqN x5) (csN x6) e) _ _ _ _ _ _ _ _ _ _ _ ?_ ?_ ?_ ?_ ?_ ?_ ?_ ?_ ?_ ?_ ?_ p e
  · intro p j
    unfold kernelRun0_A.sl.r_14
    rw [O7_z, r1_A]
    exact (pay1_at _ _ p j).trans (congrArg siluK (sum_at x0 x1 x2 _ 1536 (fun d j => w_at arg3 harg3 x2 1536 _ (by omega) d j) p j))
  · intro p j
    rw [O7_c, r1_A]
    refine (pay31_at _ _ _ _ _ _ p j).trans ?_
    exact cz_at H x0 x1 x2 x6 _ _ _ _ _ (fun d j => w_at arg3 harg3 x2 2048 _ (by omega) d j) (fun s j => v270_A c i arg1 harg1 arg2 harg2 arg3 harg3 arg10 x0 x1 x2 H hH s j)
      (fun j => cs_at arg7 harg7 x6 0 _ (by omega) j) (fun j => cs_at arg7 harg7 x6 1 _ (by omega) j) (fun j => cs_at arg7 harg7 x6 2 _ (by omega) j) p j
  · intro p j
    rw [O7_v]
    exact v_A c i arg1 harg1 arg2 harg2 arg3 harg3 arg6 harg6 arg10 x0 x1 x2 x5 H hH p j
  · intro p l
    rw [O7_q _ _ _ _ _ 0 (by omega) (by omega)]
    refine (pay13_at _ _ _ _ _ p l).trans ?_
    exact congrArg (fun f => l2q f l) (funext fun y => (q_A c i arg1 harg1 arg2 harg2 arg3 harg3 arg6 harg6 arg10 x0 x1 x2 x5 H hH p (⟨y.val, by omega⟩ : Fin 512)))
  · intro p l
    unfold kernelRun0_A.sl.r_6
    rw [O7_q _ _ _ _ _ 128 (by omega) (by omega)]
    refine (pay14_at _ _ _ _ _ p l).trans ?_
    exact congrArg (fun f => l2q f l) (funext fun y => (q_A c i arg1 harg1 arg2 harg2 arg3 harg3 arg6 harg6 arg10 x0 x1 x2 x5 H hH p (⟨128 + y.val, by omega⟩ : Fin 512)).trans (congrArg _ (Nat.zero_add _)))
  · intro p l
    rw [O7_q _ _ _ _ _ 256 (by omega) (by omega)]
    refine (pay15_at _ p l).trans ?_
    exact congrArg (fun f => l2q f l) (funext fun y => (q_A c i arg1 harg1 arg2 harg2 arg3 harg3 arg6 harg6 arg10 x0 x1 x2 x5 H hH p (⟨256 + y.val, by omega⟩ : Fin 512)).trans (congrArg _ (Nat.zero_add _)))
  · intro p l
    rw [O7_q _ _ _ _ _ 384 (by omega) (by omega)]
    refine (pay16_at _ p l).trans ?_
    exact congrArg (fun f => l2q f l) (funext fun y => (q_A c i arg1 harg1 arg2 harg2 arg3 harg3 arg6 harg6 arg10 x0 x1 x2 x5 H hH p (⟨384 + y.val, by omega⟩ : Fin 512)).trans (congrArg _ (Nat.zero_add _)))
  · intro p l
    unfold kernelRun0_A.sl.r_9 kernelRun0_A.sl.r_10
    rw [O7_k _ _ _ _ _ 512 (by omega) (by omega) (by omega)]
    refine (pay22_at _ _ _ _ _ _ p l).trans ?_
    exact congrArg (fun f => l2k f l) (funext fun y => (k_A c i arg1 harg1 arg2 harg2 arg3 harg3 arg6 harg6 arg10 x0 x1 x2 x5 H hH p (⟨y.val, by omega⟩ : Fin 512)))
  · intro p l
    rw [O7_k _ _ _ _ _ 640 (by omega) (by omega) (by omega)]
    refine (pay23_at _ p l).trans ?_
    exact congrArg (fun f => l2k f l) (funext fun y => (k_A c i arg1 harg1 arg2 harg2 arg3 harg3 arg6 harg6 arg10 x0 x1 x2 x5 H hH p (⟨128 + y.val, by omega⟩ : Fin 512)).trans (congrArg _ (by show 512 + (128 + y.val) = 640 + y.val; omega)))
  · intro p l
    rw [O7_k _ _ _ _ _ 768 (by omega) (by omega) (by omega)]
    refine (pay24_at _ p l).trans ?_
    exact congrArg (fun f => l2k f l) (funext fun y => (k_A c i arg1 harg1 arg2 harg2 arg3 harg3 arg6 harg6 arg10 x0 x1 x2 x5 H hH p (⟨256 + y.val, by omega⟩ : Fin 512)).trans (congrArg _ (by show 512 + (256 + y.val) = 768 + y.val; omega)))
  · intro p l
    rw [O7_k _ _ _ _ _ 896 (by omega) (by omega) (by omega)]
    refine (pay25_at _ p l).trans ?_
    exact congrArg (fun f => l2k f l) (funext fun y => (k_A c i arg1 harg1 arg2 harg2 arg3 harg3 arg6 harg6 arg10 x0 x1 x2 x5 H hH p (⟨384 + y.val, by omega⟩ : Fin 512)).trans (congrArg _ (by show 512 + (384 + y.val) = 896 + y.val; omega)))

/-- The narrow result's block. -/
theorem out8_A (hc0 : cond0_0 i) (p : Fin 512) (e : Fin 128) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 (ix2 p e) = O8 (hK (xr x0 p.val) (gr x1)) (fun d => x3 (ix2 d e)) (fun d => x4 (ix2 d e)) := by
  unfold out0_A_8
  rw [View.read_writes_junk_eq_canon]
  unfold kernelRun0_A
  dsimp only
  refine (hit _ _ _ _ (ix2 p e) (Fin.forall_fin_two.mpr ⟨(Nat.zero_add _).symm, (Nat.zero_add _).symm⟩)).trans ?_
  unfold kernelRun0_A.sl.r
  rw [r1_A, x_at, g_at, wa_at, wa_at]
  refine (pay2_at _ _ _ _ p e).trans ?_
  unfold O8
  have e3 : ∀ d : Fin 1024, k0_pay3 (F := Ideal) x0 x1 (ix2 p d) = hK (xr x0 p.val) (gr x1) d := fun d => by
    rw [pay3_at, ← h_at, pay4_at]
  simp only [h_at, e3]

include hH in
/-- The carried array. -/
theorem sout_A (hc0 : cond0_0 i) (s : Fin 520) (e : Fin 2048) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 (ix2 s e) = SK H (Pr x0 x1 x2) s.val e.val := by
  unfold sout0_A_0
  rw [View.read_writes_junk_eq_canon]
  unfold kernelRun0_A
  dsimp only
  show View.canon (kernelRun0_A.sl.HS0_6 (F := Ideal) c i arg1 harg1 arg2 harg2 arg3 harg3 arg10 x0 x1 x2) (ix2 s e) = _
  rw [hs5_A]
  exact L5_at H (Pr x0 x1 x2) _ _ _ _ _ hH (P0_at arg3 harg3 x0 x1 x2) (P1_at arg3 harg3 x0 x1 x2) (P2_at arg3 harg3 x0 x1 x2) (P3_at arg3 harg3 x0 x1 x2) _ s e
end A
end Steps
end Cert.Kernel4Ideal.Inp
end
end
-- ==== Proof.InpPut.lean ====
module

public import proofs.«01_k».proof.Proof.Gen.Kernel4Ideal
public import Idealize.ShloMosaic.Lib.Pointwise
public import Idealize.ShloMosaic.Lib.Routing.OpsPair
public import Idealize.ShloMosaic.Lib.Routing.OpsSet

/-! Eight columns set into an array, entry by entry. -/

@[expose] public section
set_option maxRecDepth 16384
noncomputable section
namespace Cert.Kernel4Ideal.Inp
open Cert.Kernel4Ideal Cert.Kernel4Ideal.Gen
open Idealize.ShloMosaic Idealize.ShloMosaic.TcCoe Idealize.ShloMosaic.Routing

/-- An entry of the eight columns lands at its own place. -/
theorem lands_put (idx : IVec S1 32) (hidx : (idx (ix1 (0 : Fin 1))).toInt = 0) (a r : Fin 1024) (b : Fin 8) (c : Fin 128) :
    scatter_S1024x128_S1_S1024x8_01_n_1_0.resultIdx? (ix2 a b) idx = some (ix2 r c) ↔ a.val = r.val ∧ b.val = c.val := by
  have w0 : scatter_S1024x128_S1_S1024x8_01_n_1_0.window (ix2 a b) 0 = a.val := rfl
  have w1 : scatter_S1024x128_S1_S1024x8_01_n_1_0.window (ix2 a b) 1 = b.val := rfl
  have s0 : scatter_S1024x128_S1_S1024x8_01_n_1_0.start (ix2 a b) idx 0 = 0 := rfl
  have s1 : scatter_S1024x128_S1_S1024x8_01_n_1_0.start (ix2 a b) idx 1 = 0 := by
    refine Eq.trans (b := (idx (ix1 (0 : Fin 1))).toInt) ?_ hidx
    refine congrArg (fun t => (idx t).toInt) ?_
    funext t
    match t with
    | ⟨0, _⟩ => exact Subsingleton.elim (α := Fin 1) _ _
  rw [resultIdx?_eq_some]
  constructor
  · intro h
    have h0 : (0 : Int) + (a.val : Int) = (r.val : Int) := by rw [← w0, ← s0]; exact h 0
    have h1 : (0 : Int) + (b.val : Int) = (c.val : Int) := by rw [← w1, ← s1]; exact h 1
    omega
  · rintro ⟨h0, h1⟩ t
    match t with
    | ⟨0, _⟩ =>
      refine (congrArg₂ (fun x y : Int => x + y) s0 (congrArg Int.ofNat w0)).trans ?_
      show (0 : Int) + (a.val : Int) = (r.val : Int)
      omega
    | ⟨1, _⟩ =>
      refine (congrArg₂ (fun x y : Int => x + y) s1 (congrArg Int.ofNat w1)).trans ?_
      show (0 : Int) + (b.val : Int) = (c.val : Int)
      omega

/-- An entry of the eight columns has two coordinates. -/
theorem eight_eq (k : S1024x8.Idx) : k = ix2 (k 0) (k 1) := by
  funext t
  match t with
  | ⟨0, _⟩ => rfl
  | ⟨1, _⟩ => rfl

/-- The array after the setting, at an entry. -/
theorem put_at {α : Type} (x0 : S1024x128.Idx → α) (u : S1024x8.Idx → α) (idx : IVec S1 32) (hidx : (idx (ix1 (0 : Fin 1))).toInt = 0) (r : Fin 1024) (c : Fin 128) :
    Host.scatter scatter_S1024x128_S1_S1024x8_01_n_1_0 (fun _ b => b) x0 idx u (ix2 r c) = if h : c.val < 8 then u (ix2 r (⟨c.val, h⟩ : Fin 8)) else x0 (ix2 r c) := by
  have lands : ∀ k : S1024x8.Idx, scatter_S1024x128_S1_S1024x8_01_n_1_0.resultIdx? k idx = some (ix2 r c) → (k 0).val = r.val ∧ (k 1).val = c.val := fun k hk =>
    (lands_put idx hidx (k 0) r (k 1) c).1 ((congrArg (fun t => scatter_S1024x128_S1_S1024x8_01_n_1_0.resultIdx? t idx) (eight_eq k).symm).trans hk)
  by_cases h : c.val < 8
  · rw [dif_pos h]
    refine scatter_set_hit _ x0 idx u _ _ (fun k hk => ?_) (ix2 r (⟨c.val, h⟩ : Fin 8)) ((lands_put idx hidx r r _ c).2 ⟨rfl, rfl⟩)
    obtain ⟨q0, q1⟩ := lands k hk
    refine congrArg u ((eight_eq k).trans ?_)
    exact congrArg₂ ix2 (Fin.ext q0) (Fin.ext q1)
  · rw [dif_neg h]
    exact scatter_set_miss _ x0 idx u _ fun k hk => h ((lands k hk).2 ▸ (k 1).isLt)

end Cert.Kernel4Ideal.Inp
end
end
-- ==== Proof.InpVal.lean ====
module

public import proofs.«01_k».proof.Proof.InpOut
public import proofs.«01_k».proof.Proof.InpPut
public import proofs.«01_k».proof.Proof.Gen.Kernel4Ideal.Value
public import Idealize.ShloMosaic.Lib.Pipeline.Value
public import Idealize.ShloMosaic.Lib.StableHlo.ReadAt

/-! The input projection's two result arrays after the run, as functions of the arguments. -/

@[expose] public section
set_option maxRecDepth 16384
noncomputable section
namespace Cert.Kernel4Ideal.Inp
open Cert.Kernel4Ideal Cert.Kernel4Ideal.Gen
open Idealize.ShloMosaic Idealize.ShloMosaic.TcCoe Idealize.SL.Sem
open Idealize.ShloMosaic.Pipeline (Dat)

/-! ## The results over the arguments -/

/-- A row of the input, by number. -/
def rowN (x : Vec Ideal S32768x1024 .f32) (R : ℕ) : Fin 1024 → EReal := fun e => if h : R < 32768 then x (ix2 (⟨R, h⟩ : Fin 32768) e) else 0
/-- A column of the weights, by number. -/
def colN (w : Vec Ideal S1024x3592 .f32) (d : Fin 1024) (c : ℕ) : EReal := if h : c < 3592 then w (ix2 d (⟨c, h⟩ : Fin 3592)) else 0
/-- A normalized row of the input. -/
def hG (x : Vec Ideal S32768x1024 .f32) (g : Vec Ideal S1024 .f32) (R : ℕ) : Fin 1024 → EReal := hK (rowN x R) (fun e => g (ix1 e))
/-- The weights' columns without the eight narrow ones. -/
def wG (w : Vec Ideal S1024x3592 .f32) (d : Fin 1024) (c : ℕ) : EReal := if c < 2048 then colN w d c else colN w d (c + 8)
/-- The eight narrow columns, filled up with zeros. -/
def wab (w : Vec Ideal S1024x3592 .f32) (e : ℕ) (d : Fin 1024) : EReal := if e < 8 then colN w d (2048 + e) else 0
/-- What the convolutions read some rows back, nothing before a sequence's first row. -/
def uG (x : Vec Ideal S32768x1024 .f32) (g : Vec Ideal S1024 .f32) (w : Vec Ideal S1024x3592 .f32) (R b c : ℕ) : EReal :=
  if b ≤ R % 4096 then PK (hG x g (R - b)) (wG w) c else 0
/-- The packed result's entry. -/
def val7 (x : Vec Ideal S32768x1024 .f32) (g : Vec Ideal S1024 .f32) (w : Vec Ideal S1024x3592 .f32) (cq : Vec Ideal S4x1536 .f32) (cs : Vec Ideal S3x512 .f32) (R e : ℕ) : EReal :=
  O7 (hG x g R) (wG w) (uG x g w R) (cqN cq) (csN cs) e
/-- The narrow result's entry. -/
def val8 (x : Vec Ideal S32768x1024 .f32) (g : Vec Ideal S1024 .f32) (w : Vec Ideal S1024x3592 .f32) (R e : ℕ) : EReal :=
  O8 (hG x g R) (wab w e) (fun d => wab w e d - wab w e d)
/-- The packed result. -/
def arr7 (x : Vec Ideal S32768x1024 .f32) (g : Vec Ideal S1024 .f32) (w : Vec Ideal S1024x3592 .f32) (cq : Vec Ideal S4x1536 .f32) (cs : Vec Ideal S3x512 .f32) : Vec Ideal S32768x2560 .bf16 :=
  fun y => val7 x g w cq cs (y 0).val (y 1).val
/-- The narrow result. -/
def arr8 (x : Vec Ideal S32768x1024 .f32) (g : Vec Ideal S1024 .f32) (w : Vec Ideal S1024x3592 .f32) : Vec Ideal S32768x128 .f32 :=
  fun y => val8 x g w (y 0).val (y 1).val

/-- The packed entry reads four rows only. -/
theorem O7_congr (h : Fin 1024 → EReal) (w : Fin 1024 → ℕ → EReal) (u v : ℕ → ℕ → EReal) (cq cs : ℕ → ℕ → EReal) (e : ℕ) (huv : ∀ b, b ≤ 3 → ∀ c, u b c = v b c) :
    O7 h w u cq cs e = O7 h w v cq cs e := by
  unfold O7 cvK
  simp only [huv 0 (by omega), huv 1 (by omega), huv 2 (by omega), huv 3 (by omega)]

/-! ## The host's arrays and the blocks -/

variable (m : (ℓ : Loc nD τ sig) → Buf (Elt Ideal) ℓ) (ρ : Dev nD → PrngReg)

/-- The gain as the region finds it. -/
theorem V_g (c : Dev nD) (d : Fin 1024) : (V m c main_v12 : Vec Ideal S1x1024 .f32) (ix2 (0 : Fin 1) d) = (m ((c.tc : Thread nD τ).loc main_arg1) : Vec Ideal S1024 .f32) (ix1 d) := by
  unfold V
  after_reads_at
/-- The wide weights as the region finds them. -/
theorem V_w (c : Dev nD) (d : Fin 1024) (j : Fin 3584) : (V m c main_v3 : Vec Ideal S1024x3584 .bf16) (ix2 d j) = wG (m ((c.tc : Thread nD τ).loc main_arg2)) d j.val := by
  have hj' := j.isLt
  unfold wG colN V
  after_reads_at
  by_cases hj : j.val < 2048
  · rw [dif_pos hj, if_pos hj, dif_pos (by omega)]
    after_reads_at
  · rw [dif_neg hj, if_neg hj, dif_pos (by omega)]
    after_reads_at
    exact congrArg (fun l : Fin 3592 => (m ((c.tc : Thread nD τ).loc main_arg2) : Vec Ideal S1024x3592 .f32) (ix2 d l)) (Fin.ext (by show 2056 + (j.val - 2048) = j.val + 8; omega))
/-- The word zero as a number. -/
theorem word_zero : (FloatOps.sitofp (F := Ideal) .f32 (0#32) : EReal) = 0 := by
  show (((0#32 : BitVec 32).toInt : ℝ) : EReal) = 0
  simp
/-- The narrow columns with what fills them up. -/
theorem narrow (w : Vec Ideal S1024x3592 .f32) (d : Fin 1024) (j : Fin 128) :
    Host.scatter scatter_S1024x128_S1_S1024x8_01_n_1_0 (fun _ b => b) (broadcastInDim S1024x128 ![] bcast_S_S1024x128 (constant (F := Ideal) S_ .f32 0#32) : Vec Ideal S1024x128 .f32)
      (broadcastInDim S1 ![] bcast_S_S1 (constantI S_ 32 0#32)) (extractStridedSlice S1024x8 ![0, 2048] w slices_S1024x3592_S1024x8_0_2048) (ix2 d j) = wab w j.val d := by
  rw [put_at _ _ _ (by show (0#32 : BitVec 32).toInt = 0; decide)]
  unfold wab colN
  by_cases hj : j.val < 8
  · rw [dif_pos hj, if_pos hj, dif_pos (by omega)]
    pointwise
  · rw [dif_neg hj, if_neg hj]
    exact Ideal.ofBits_zero_f32
/-- The narrow weights' first part as the region finds it. -/
theorem V_hi (c : Dev nD) (d : Fin 1024) (j : Fin 128) : (V m c main_v8 : Vec Ideal S1024x128 .bf16) (ix2 d j) = wab (m ((c.tc : Thread nD τ).loc main_arg2)) j.val d := by
  unfold V
  after_reads_at
  exact narrow _ d j
/-- The narrow weights' second part as the region finds it. -/
theorem V_lo (c : Dev nD) (d : Fin 1024) (j : Fin 128) : (V m c main_v11 : Vec Ideal S1024x128 .bf16) (ix2 d j)
    = (wab (m ((c.tc : Thread nD τ).loc main_arg2)) j.val d - wab (m ((c.tc : Thread nD τ).loc main_arg2)) j.val d : EReal) := by
  unfold V
  after_reads_at
  exact congrArg₂ (fun a b : EReal => a - b) (narrow _ d j) (narrow _ d j)

/-- A step's coordinate is its number. -/
theorem crd (t : Fin grid0.N) : (grid0.coords t 0).val = t.val :=
  (by decide +kernel : ∀ t : Fin grid0.N, (grid0.coords t 0).val = t.val) t
/-- Where the rows' block lies. -/
theorem idx0 (t : Fin grid0.N) : win0_0.index t = ![t.val, 0] := (by decide +kernel : ∀ t : Fin grid0.N, win0_0.index t = ![t.val, 0]) t
/-- Where the gain's block lies. -/
theorem idx1 (t : Fin grid0.N) : win0_1.index t = ![0, 0] := (by decide +kernel : ∀ t : Fin grid0.N, win0_1.index t = ![0, 0]) t
/-- Where the wide weights' block lies. -/
theorem idx2 (t : Fin grid0.N) : win0_2.index t = ![0, 0] := (by decide +kernel : ∀ t : Fin grid0.N, win0_2.index t = ![0, 0]) t
/-- Where the narrow weights' first block lies. -/
theorem idx3 (t : Fin grid0.N) : win0_3.index t = ![0, 0] := (by decide +kernel : ∀ t : Fin grid0.N, win0_3.index t = ![0, 0]) t
/-- Where the narrow weights' second block lies. -/
theorem idx4 (t : Fin grid0.N) : win0_4.index t = ![0, 0] := (by decide +kernel : ∀ t : Fin grid0.N, win0_4.index t = ![0, 0]) t
/-- Where the first convolutions' weights lie. -/
theorem idx5 (t : Fin grid0.N) : win0_5.index t = ![0, 0] := (by decide +kernel : ∀ t : Fin grid0.N, win0_5.index t = ![0, 0]) t
/-- Where the last convolution's weights lie. -/
theorem idx6 (t : Fin grid0.N) : win0_6.index t = ![0, 0] := (by decide +kernel : ∀ t : Fin grid0.N, win0_6.index t = ![0, 0]) t
/-- Where the packed result's block lies. -/
theorem idx7 (t : Fin grid0.N) : win0_7.index t = ![t.val, 0] := (by decide +kernel : ∀ t : Fin grid0.N, win0_7.index t = ![t.val, 0]) t
/-- Where the narrow result's block lies. -/
theorem idx8 (t : Fin grid0.N) : win0_8.index t = ![t.val, 0] := (by decide +kernel : ∀ t : Fin grid0.N, win0_8.index t = ![t.val, 0]) t

/-- The grid has 64 steps. -/
theorem t_lt (t : Fin grid0.N) : t.val < 64 := N_0 ▸ t.isLt

/-- A tile's block of rows. -/
theorem blk0 (c : Dev nD) (t : Fin grid0.N) (p : Fin 512) (l : Fin 1024) :
    (iblk m c 0 t : Vec Ideal S512x1024 .f32) (ix2 p l)
      = (V m c main_arg0 : Vec Ideal S32768x1024 .f32) (ix2 (⟨512 * t.val + p.val, by have := t_lt t; omega⟩ : Fin 32768) l) := by
  have h0 := idx0 t
  blk_ext [iblk, h0]
/-- The gain, whole. -/
theorem blk1 (c : Dev nD) (t : Fin grid0.N) (d : Fin 1024) :
    (iblk m c 1 t : Vec Ideal S1x1024 .f32) (ix2 (0 : Fin 1) d) = (V m c main_v12 : Vec Ideal S1x1024 .f32) (ix2 (0 : Fin 1) d) := by
  have h0 := idx1 t
  blk_ext [iblk, h0]
/-- The wide weights, whole. -/
theorem blk2 (c : Dev nD) (t : Fin grid0.N) (d : Fin 1024) (j : Fin 3584) :
    (iblk m c 2 t : Vec Ideal S1024x3584 .bf16) (ix2 d j) = (V m c main_v3 : Vec Ideal S1024x3584 .bf16) (ix2 d j) := by
  have h0 := idx2 t
  blk_ext [iblk, h0]
/-- The narrow weights' first part, whole. -/
theorem blk3 (c : Dev nD) (t : Fin grid0.N) (d : Fin 1024) (j : Fin 128) :
    (iblk m c 3 t : Vec Ideal S1024x128 .bf16) (ix2 d j) = (V m c main_v8 : Vec Ideal S1024x128 .bf16) (ix2 d j) := by
  have h0 := idx3 t
  blk_ext [iblk, h0]
/-- The narrow weights' second part, whole. -/
theorem blk4 (c : Dev nD) (t : Fin grid0.N) (d : Fin 1024) (j : Fin 128) :
    (iblk m c 4 t : Vec Ideal S1024x128 .bf16) (ix2 d j) = (V m c main_v11 : Vec Ideal S1024x128 .bf16) (ix2 d j) := by
  have h0 := idx4 t
  blk_ext [iblk, h0]
/-- The first convolutions' weights, whole. -/
theorem blk5 (c : Dev nD) (t : Fin grid0.N) (d : Fin 4) (j : Fin 1536) :
    (iblk m c 5 t : Vec Ideal S4x1536 .f32) (ix2 d j) = (V m c main_arg3 : Vec Ideal S4x1536 .f32) (ix2 d j) := by
  have h0 := idx5 t
  blk_ext [iblk, h0]
/-- The last convolution's weights, whole. -/
theorem blk6 (c : Dev nD) (t : Fin grid0.N) (d : Fin 3) (j : Fin 512) :
    (iblk m c 6 t : Vec Ideal S3x512 .f32) (ix2 d j) = (V m c main_arg4 : Vec Ideal S3x512 .f32) (ix2 d j) := by
  have h0 := idx6 t
  blk_ext [iblk, h0]

/-- A tile's row of the input. -/
theorem xr_eq (c : Dev nD) (t : Fin grid0.N) (p : ℕ) (hp : p < 512) :
    xr (iblk m c 0 t) p = rowN (m ((c.tc : Thread nD τ).loc main_arg0)) (512 * t.val + p) := by
  funext e
  have ht := t_lt t
  unfold xr rowN
  rw [dif_pos hp, dif_pos (by omega : 512 * t.val + p < 32768)]
  refine (blk0 m c t ⟨p, hp⟩ e).trans ?_
  rw [V_main_arg0]
/-- The gain a step finds. -/
theorem gr_eq (c : Dev nD) (t : Fin grid0.N) : gr (iblk m c 1 t) = fun e => (m ((c.tc : Thread nD τ).loc main_arg1) : Vec Ideal S1024 .f32) (ix1 e) :=
  funext fun e => (blk1 m c t e).trans (V_g m c e)
/-- The wide weights a step finds. -/
theorem wN_eq (c : Dev nD) (t : Fin grid0.N) : wN (iblk m c 2 t) = wG (m ((c.tc : Thread nD τ).loc main_arg2)) := by
  funext d j
  unfold wN
  by_cases hj : j < 3584
  · rw [dif_pos hj]; exact (blk2 m c t d ⟨j, hj⟩).trans (V_w m c d ⟨j, hj⟩)
  · rw [dif_neg hj]; unfold wG colN
    rw [if_neg (by omega), dif_neg (by omega)]
/-- The first convolutions' weights a step finds. -/
theorem cqN_eq (c : Dev nD) (t : Fin grid0.N) : cqN (iblk m c 5 t) = cqN (m ((c.tc : Thread nD τ).loc main_arg3)) := by
  refine congrArg cqN (funext fun y => ?_)
  obtain ⟨p, l, rfl⟩ : ∃ (p : Fin 4) (l : Fin 1536), y = ix2 p l := ⟨y 0, y 1, eq_ix2 y⟩
  refine (blk5 m c t p l).trans ?_
  rw [V_main_arg3]
/-- The last convolution's weights a step finds. -/
theorem csN_eq (c : Dev nD) (t : Fin grid0.N) : csN (iblk m c 6 t) = csN (m ((c.tc : Thread nD τ).loc main_arg4)) := by
  refine congrArg csN (funext fun y => ?_)
  obtain ⟨p, l, rfl⟩ : ∃ (p : Fin 3) (l : Fin 512), y = ix2 p l := ⟨y 0, y 1, eq_ix2 y⟩
  refine (blk6 m c t p l).trans ?_
  rw [V_main_arg4]
/-- A tile's normalized row. -/
theorem h_eq (c : Dev nD) (t : Fin grid0.N) (p : ℕ) (hp : p < 512) :
    hK (xr (iblk m c 0 t) p) (gr (iblk m c 1 t)) = hG (m ((c.tc : Thread nD τ).loc main_arg0)) (m ((c.tc : Thread nD τ).loc main_arg1)) (512 * t.val + p) := by
  rw [xr_eq m c t p hp, gr_eq]; rfl
/-- A tile's row of what the convolutions read. -/
theorem Pr_eq (c : Dev nD) (t : Fin grid0.N) (p e : ℕ) (hp : p < 512) :
    Pr (iblk m c 0 t) (iblk m c 1 t) (iblk m c 2 t) p e
      = PK (hG (m ((c.tc : Thread nD τ).loc main_arg0)) (m ((c.tc : Thread nD τ).loc main_arg1)) (512 * t.val + p)) (wG (m ((c.tc : Thread nD τ).loc main_arg2))) e := by
  unfold Pr
  rw [h_eq m c t p hp, wN_eq]

/-! ## The rows before a tile -/

/-- A sequence's first tile starts from zeros, another from the rows before it. -/
theorem pay6_at (t : Fin grid0.N) (v : Vec Ideal S8x2048 .f32) (s : Fin 8) (e : Fin 2048) :
    k0_pay6 (F := Ideal) (grid0.coords t) v (ix2 s e) = if 0 < t.val % 8 then v (ix2 s e) else 0 := by
  have key : ∀ t : Fin grid0.N, (Scalar.cmpi .sgt (Scalar.select (Scalar.andi (Scalar.xori (Scalar.cmpi .slt (Scalar.remsi (BitVec.ofNat 32 (grid0.coords t 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (grid0.coords t 0).val) (Scalar.select (Scalar.cmpi .eq 8#32 0#32) 1#32 8#32)) 0#32)) (Scalar.addi (Scalar.remsi (BitVec.ofNat 32 (grid0.coords t 0).val) (Scalar.select (Scalar.cmpi .eq 8#32 0#32) 1#32 8#32)) (Scalar.select (Scalar.cmpi .eq 8#32 0#32) 1#32 8#32)) (Scalar.remsi (BitVec.ofNat 32 (grid0.coords t 0).val) (Scalar.select (Scalar.cmpi .eq 8#32 0#32) 1#32 8#32))) 0#32 : BitVec 1) = if 0 < t.val % 8 then 1#1 else 0#1 := by
    decide +kernel
  unfold k0_pay6
  dsimp only
  rw [key t]
  by_cases h : 0 < t.val % 8
  · rw [if_pos h, if_pos h]
    pointwise
  · rw [if_neg h, if_neg h]
    pointwise

/-- What stands before a tile's rows. -/
def HG (x : Vec Ideal S32768x1024 .f32) (g : Vec Ideal S1024 .f32) (w : Vec Ideal S1024x3592 .f32) (t s e : ℕ) : EReal :=
  if 0 < t % 8 then PK (hG x g (512 * t + s - 8)) (wG w) e else 0

/-- Numbers for an array's entries. -/
theorem ex_H (v : Vec Ideal S8x2048 .f32) : ∃ H : ℕ → ℕ → EReal, ∀ (s : Fin 8) (e : Fin 2048), v (ix2 s e) = H s.val e.val :=
  ⟨fun s e => if h : s < 8 ∧ e < 2048 then v (ix2 (⟨s, h.1⟩ : Fin 8) (⟨e, h.2⟩ : Fin 2048)) else 0, fun s e => by
    show _ = dite (s.val < 8 ∧ e.val < 2048) _ _
    rw [dif_pos (⟨s.isLt, e.isLt⟩ : s.val < 8 ∧ e.val < 2048)]⟩

/-- What a step leaves in the carried array past its first eight rows. -/
theorem carried (c : Dev nD) (t : Fin grid0.N) (s : Fin 520) (hs : 8 ≤ s.val) (e : Fin 2048) :
    (outsAt0 m c t.val t.isLt).2.2 (ix2 s e)
      = PK (hG (m ((c.tc : Thread nD τ).loc main_arg0)) (m ((c.tc : Thread nD τ).loc main_arg1)) (512 * t.val + (s.val - 8))) (wG (m ((c.tc : Thread nD τ).loc main_arg2))) e.val := by
  have hs' := s.isLt
  by_cases h0 : t.val % 64 = 0
  · rw [outsAt0_A m c t h0]
    obtain ⟨H, hH⟩ := ex_H (k0_pay6 (F := Ideal) (grid0.coords t) (kernelRun0_A.sl.v30 (F := Ideal) c scM0_0))
    dsimp only
    rw [sout_A (hH := hH)]
    unfold SK
    rw [if_neg (by omega)]
    exact Pr_eq m c t _ _ (by omega)
  · rw [outsAt0_B m c t h0]
    obtain ⟨H, hH⟩ := ex_H (k0_pay6 (F := Ideal) (grid0.coords t) (scM0_0.view.readAt (Elt Ideal) (Rect.unit (s := S520x2048) ![512, 0] S8x2048.size inb_S520x2048_S8x2048_512_0).toLoadRect ((Memref.isWhole_whole _).unread (outsAt0 m c (t.val - 1) (Nat.lt_of_le_of_lt (Nat.sub_le _ _) t.isLt)).2.2)))
    dsimp only
    rw [sout_B (hH := hH)]
    unfold SK
    rw [if_neg (by omega)]
    exact Pr_eq m c t _ _ (by omega)

/-- Before the first tile stand zeros. -/
theorem before_A (c : Dev nD) (t : Fin grid0.N) (h0 : t.val % 64 = 0) (v : Vec Ideal S8x2048 .f32) (s : Fin 8) (e : Fin 2048) :
    k0_pay6 (F := Ideal) (grid0.coords t) v (ix2 s e)
      = HG (m ((c.tc : Thread nD τ).loc main_arg0)) (m ((c.tc : Thread nD τ).loc main_arg1)) (m ((c.tc : Thread nD τ).loc main_arg2)) t.val s.val e.val := by
  rw [pay6_at]
  unfold HG
  rw [if_neg (by omega), if_neg (by omega)]
/-- Before another tile stand zeros or the rows before it. -/
theorem before_B (c : Dev nD) (t : Fin grid0.N) (h0 : ¬t.val % 64 = 0) (s : Fin 8) (e : Fin 2048) :
    k0_pay6 (F := Ideal) (grid0.coords t) (scM0_0.view.readAt (Elt Ideal) (Rect.unit (s := S520x2048) ![512, 0] S8x2048.size inb_S520x2048_S8x2048_512_0).toLoadRect ((Memref.isWhole_whole _).unread (outsAt0 m c (t.val - 1) (Nat.lt_of_le_of_lt (Nat.sub_le _ _) t.isLt)).2.2)) (ix2 s e)
      = HG (m ((c.tc : Thread nD τ).loc main_arg0)) (m ((c.tc : Thread nD τ).loc main_arg1)) (m ((c.tc : Thread nD τ).loc main_arg2)) t.val s.val e.val := by
  rw [pay6_at]
  unfold HG
  by_cases h : 0 < t.val % 8
  · rw [if_pos h, if_pos h, View.readAt_eq_ld, Memref.IsWhole.read_unread]
    refine Eq.trans (congrArg (outsAt0 m c (t.val - 1) (Nat.lt_of_le_of_lt (Nat.sub_le _ _) t.isLt)).2.2 (funext fun a => Fin.ext ?_) : _ = (outsAt0 m c (t.val - 1) (Nat.lt_of_le_of_lt (Nat.sub_le _ _) t.isLt)).2.2 (ix2 (⟨512 + s.val, by omega⟩ : Fin 520) e)) ?_
    · match a with
      | ⟨0, _⟩ => show 512 + 1 * s.val = 512 + s.val; omega
      | ⟨1, _⟩ => show 0 + 1 * e.val = e.val; omega
    refine (carried m c ⟨t.val - 1, Nat.lt_of_le_of_lt (Nat.sub_le _ _) t.isLt⟩ _ (by show 8 ≤ 512 + s.val; omega) e).trans ?_
    rw [show 512 * (t.val - 1) + (512 + s.val - 8) = 512 * t.val + s.val - 8 by omega]
  · rw [if_neg h, if_neg h]

/-- The rows a tile's convolutions read are the sequence's. -/
theorem bk_eq (c : Dev nD) (t : Fin grid0.N) (p b e : ℕ) (hp : p < 512) (hb : b ≤ 3) :
    bk (HG (m ((c.tc : Thread nD τ).loc main_arg0)) (m ((c.tc : Thread nD τ).loc main_arg1)) (m ((c.tc : Thread nD τ).loc main_arg2)) t.val)
        (Pr (iblk m c 0 t) (iblk m c 1 t) (iblk m c 2 t)) p b e
      = uG (m ((c.tc : Thread nD τ).loc main_arg0)) (m ((c.tc : Thread nD τ).loc main_arg1)) (m ((c.tc : Thread nD τ).loc main_arg2)) (512 * t.val + p) b e := by
  unfold bk SK uG
  by_cases h : 8 + p - b < 8
  · rw [if_pos h]
    unfold HG
    by_cases h8 : 0 < t.val % 8
    · rw [if_pos h8, if_pos (by omega), show 512 * t.val + (8 + p - b) - 8 = 512 * t.val + p - b by omega]
    · rw [if_neg h8, if_neg (by omega)]
  · rw [if_neg h, if_pos (by omega), Pr_eq m c t _ _ (by omega), show 512 * t.val + (8 + p - b - 8) = 512 * t.val + p - b by omega]

/-! ## The result arrays -/

/-- What a step leaves at an entry of the packed result's block. -/
theorem out7 (c : Dev nD) (t : Fin grid0.N) (p : Fin 512) (e : Fin 2560) :
    (outsAt0 m c t.val t.isLt).1 (ix2 p e)
      = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (512 * t.val + p.val) e.val := by
  unfold val7
  rw [← O7_congr _ _ _ _ _ _ _ (fun b hb j => bk_eq m c t p.val b j p.isLt hb), ← h_eq m c t p.val p.isLt, ← wN_eq m c t, ← cqN_eq m c t, ← csN_eq m c t]
  by_cases h0 : t.val % 64 = 0
  · rw [outsAt0_A m c t h0]
    dsimp only
    rw [out7_A (hH := before_A m c t h0 _)]
  · rw [outsAt0_B m c t h0]
    dsimp only
    rw [out7_B (hH := before_B m c t h0)]
/-- What a step leaves at an entry of the narrow result's block. -/
theorem out8 (c : Dev nD) (t : Fin grid0.N) (p : Fin 512) (e : Fin 128) :
    (outsAt0 m c t.val t.isLt).2.1 (ix2 p e)
      = val8 (m ((c.tc : Thread nD τ).loc main_arg0)) (m ((c.tc : Thread nD τ).loc main_arg1)) (m ((c.tc : Thread nD τ).loc main_arg2)) (512 * t.val + p.val) e.val := by
  have key : O8 (hK (xr (iblk m c 0 t) p.val) (gr (iblk m c 1 t))) (fun d => (iblk m c 3 t : Vec Ideal S1024x128 .bf16) (ix2 d e)) (fun d => (iblk m c 4 t : Vec Ideal S1024x128 .bf16) (ix2 d e))
      = val8 (m ((c.tc : Thread nD τ).loc main_arg0)) (m ((c.tc : Thread nD τ).loc main_arg1)) (m ((c.tc : Thread nD τ).loc main_arg2)) (512 * t.val + p.val) e.val := by
    unfold val8
    rw [h_eq m c t p.val p.isLt]
    exact congrArg₂ (O8 _) (funext fun d => (blk3 m c t d e).trans (V_hi m c d e)) (funext fun d => (blk4 m c t d e).trans (V_lo m c d e))
  by_cases h0 : t.val % 64 = 0
  · rw [outsAt0_A m c t h0]
    dsimp only
    rw [out8_A]
    exact key
  · rw [outsAt0_B m c t h0]
    dsimp only
    rw [out8_B]
    exact key

/-- Where the packed result's block puts its entries. -/
theorem emb7 (t : Fin grid0.N) (p : Fin 512) (l : Fin 2560) :
    ((cfg0.win 7).blk t).view.emb (ix2 p l : S512x2560.Idx) = (ix2 (⟨512 * t.val + p.val, by have := t_lt t; omega⟩ : Fin 32768) l : S32768x2560.Idx) := by
  have h0 := congrFun (idx7 t) 0
  have h1 := congrFun (idx7 t) 1
  blk_ext
  · show win0_7.index t 0 * 512 + p.val = _
    rw [h0]; show t.val * 512 + p.val = _; omega
  · show win0_7.index t 1 * 2560 + l.val = _
    rw [h1]; show 0 * 2560 + l.val = _; omega
/-- Where the narrow result's block puts its entries. -/
theorem emb8 (t : Fin grid0.N) (p : Fin 512) (l : Fin 128) :
    ((cfg0.win 8).blk t).view.emb (ix2 p l : S512x128.Idx) = (ix2 (⟨512 * t.val + p.val, by have := t_lt t; omega⟩ : Fin 32768) l : S32768x128.Idx) := by
  have h0 := congrFun (idx8 t) 0
  have h1 := congrFun (idx8 t) 1
  blk_ext
  · show win0_8.index t 0 * 512 + p.val = _
    rw [h0]; show t.val * 512 + p.val = _; omega
  · show win0_8.index t 1 * 128 + l.val = _
    rw [h1]; show 0 * 128 + l.val = _; omega

/-- The packed result after the run. -/
theorem final7 (c : Dev nD) : (dats m 0 c).arrAt 7 cfg0.N
    = arr7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_cover 7 _ (fun t hf => ?_) (fun i => (Value.covered_iff7 i).2 (by
    have h0 : (i 0).val < 32768 := (i 0).isLt; have h1 : (i 1).val < 2560 := (i 1).isLt; omega))
  show (cfg0.win 7).cut (grid0.coords t) ((dats m 0 c).after 7 t) = _
  rw [after0_7]
  funext y
  obtain ⟨p, l, rfl⟩ : ∃ (p : Fin 512) (l : Fin 2560), y = (ix2 p l : S512x2560.Idx) := ⟨y 0, y 1, eq_ix2 y⟩
  refine (out7 m c t p l).trans ?_
  show _ = arr7 _ _ _ _ _ (((cfg0.win 7).blk t).view.emb (ix2 p l : S512x2560.Idx))
  rw [emb7]; rfl
/-- The narrow result after the run. -/
theorem final8 (c : Dev nD) : (dats m 0 c).arrAt 8 cfg0.N
    = arr8 (m ((c.tc : Thread nD τ).loc main_arg0)) (m ((c.tc : Thread nD τ).loc main_arg1)) (m ((c.tc : Thread nD τ).loc main_arg2)) := by
  refine (dats m 0 c).arrAt_eq_of_cover 8 _ (fun t hf => ?_) (fun i => (Value.covered_iff8 i).2 (by
    have h0 : (i 0).val < 32768 := (i 0).isLt; have h1 : (i 1).val < 128 := (i 1).isLt; omega))
  show (cfg0.win 8).cut (grid0.coords t) ((dats m 0 c).after 8 t) = _
  rw [after0_8]
  funext y
  obtain ⟨p, l, rfl⟩ : ∃ (p : Fin 512) (l : Fin 128), y = (ix2 p l : S512x128.Idx) := ⟨y 0, y 1, eq_ix2 y⟩
  refine (out8 m c t p l).trans ?_
  show _ = arr8 _ _ _ (((cfg0.win 8).blk t).view.emb (ix2 p l : S512x128.Idx))
  rw [emb8]; rfl

/-- The run: the two results over the arguments, the arguments unchanged. -/
theorem run_final :
    θ_run defs (onTc (τ := τ) (main (F := Ideal))) ⟨m, fun _ => 0, ρ⟩ (fun r => ∀ c : Dev nD,
      r.2.mem ((c.tc : Thread nD τ).loc main_v13_0) = arr7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v13_1) = arr8 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final7 m c), (h c).2.1.trans (final8 m c), (h c).2.2⟩) (Value.run_blocks m ρ)

end Cert.Kernel4Ideal.Inp

end
end
-- ==== Proof.InpRef.lean ====
module

public import proofs.«01_k».proof.Proof.Gen.Reference4Ideal.Run
public import proofs.«01_k».proof.Proof.InpVal

/-! The input projection's reference entry by entry, at the exact numbers. -/

@[expose] public section
set_option maxRecDepth 16384
noncomputable section
namespace Cert.Reference4Ideal.Inp
open Cert.Reference4Ideal Cert.Reference4Ideal.Gen
open Idealize.ShloMosaic Idealize.ShloMosaic.TcCoe Idealize.SL.Sem

/-- Each row's sum of squares. -/
def rsq (x : Vec Ideal S32768x1024 .f32) : Vec Ideal S32768 .f32 :=
  Host.reduceAdd (F := Ideal) (φ := .f32) (mulf (F := Ideal) (φ := .f32) x x) (constant (F := Ideal) S_ .f32 0x00000000#32) reducesTo_S32768x1024_S32768_d1 h_S_
/-- Each row's `rsqrt` of its mean square. -/
def rrs (s : Vec Ideal S32768 .f32) : Vec Ideal S32768x1 .f32 :=
  Host.rsqrt (F := Ideal) (φ := .f32) (addf (F := Ideal) (φ := .f32) (Host.divf (F := Ideal) (φ := .f32) (broadcastInDim S32768x1 ![0] bcast_S32768_S32768x1_0 s) (broadcastInDim S32768x1 ![] bcast_S_S32768x1 (constant (F := Ideal) S_ .f32 0x44800000#32))) (broadcastInDim S32768x1 ![] bcast_S_S32768x1 (constant (F := Ideal) S_ .f32 0x358637BD#32)))
/-- The normalized rows. -/
def rh (x : Vec Ideal S32768x1024 .f32) (g : Vec Ideal S1024 .f32) : Vec Ideal S32768x1024 .f32 :=
  mulf (F := Ideal) (φ := .f32) (mulf (F := Ideal) (φ := .f32) x (broadcastInDim S32768x1024 ![0, 1] bcast_S32768x1_S32768x1024_0_1 (rrs (rsq x)))) (broadcastInDim S32768x1024 ![0, 1] bcast_S1x1024_S32768x1024_0_1 (broadcastInDim S1x1024 ![1] bcast_S1024_S1x1024_1 g))

/-- The rows through all the weights, by sequence. -/
def rpj (H : Vec Ideal S32768x1024 .f32) (w : Vec Ideal S1024x3592 .f32) : Vec Ideal S8x4096x3592 .f32 :=
  shapeCast _ (Host.dotGeneral (F := Ideal) (φ₁ := .f32) (φ₂ := .f32) dot_S32768x1024_S1024x3592_S32768x3592_1_0_0_1_n_n none H w) shapeCasts_S32768x3592_S8x4096x3592
/-- The columns of queries, keys and values. -/
def cutQ (P : Vec Ideal S8x4096x3592 .f32) : Vec Ideal S8x4096x1536 .f32 := extractStridedSlice S8x4096x1536 ![0, 0, 0] P slices_S8x4096x3592_S8x4096x1536_0_0_0
/-- The gate's columns. -/
def cutZ (P : Vec Ideal S8x4096x3592 .f32) : Vec Ideal S8x4096x512 .f32 := extractStridedSlice S8x4096x512 ![0, 0, 1536] P slices_S8x4096x3592_S8x4096x512_0_0_1536
/-- The last convolution's outer gate. -/
def cutB (P : Vec Ideal S8x4096x3592 .f32) : Vec Ideal S8x4096x512 .f32 := extractStridedSlice S8x4096x512 ![0, 0, 2056] P slices_S8x4096x3592_S8x4096x512_0_0_2056
/-- The last convolution's inner gate. -/
def cutC (P : Vec Ideal S8x4096x3592 .f32) : Vec Ideal S8x4096x512 .f32 := extractStridedSlice S8x4096x512 ![0, 0, 2568] P slices_S8x4096x3592_S8x4096x512_0_0_2568
/-- The last convolution's input. -/
def cutX (P : Vec Ideal S8x4096x3592 .f32) : Vec Ideal S8x4096x512 .f32 := extractStridedSlice S8x4096x512 ![0, 0, 3080] P slices_S8x4096x3592_S8x4096x512_0_0_3080
/-- The eight narrow columns. -/
def cutN (P : Vec Ideal S8x4096x3592 .f32) : Vec Ideal S8x4096x8 .f32 := extractStridedSlice S8x4096x8 ![0, 0, 2048] P slices_S8x4096x3592_S8x4096x8_0_0_2048
/-- Three rows of zeros before each sequence. -/
def pad4 (A : Vec Ideal S8x4096x1536 .f32) : Vec Ideal S8x4099x1536 .f32 := pad S8x4099x1536 ![0, 3, 0] ![0, 0, 0] ![0, 0, 0] A (sitofp (F := Ideal) .f32 (constantI S_ 32 0#32)) pads_S8x4096x1536_S8x4099x1536_000_300_000 h_S_
/-- Two rows of zeros before each sequence. -/
def pad3 (A : Vec Ideal S8x4096x512 .f32) : Vec Ideal S8x4098x512 .f32 := pad S8x4098x512 ![0, 2, 0] ![0, 0, 0] ![0, 0, 0] A (sitofp (F := Ideal) .f32 (constantI S_ 32 0#32)) pads_S8x4096x512_S8x4098x512_000_200_000 h_S_
/-- A convolution of width four. -/
def conv4 (k : Vec Ideal S4x1536 .f32) (A : Vec Ideal S8x4099x1536 .f32) : Vec Ideal S8x4096x1536 .f32 :=
  addf (F := Ideal) (φ := .f32) (addf (F := Ideal) (φ := .f32) (addf (F := Ideal) (φ := .f32) (mulf (F := Ideal) (φ := .f32) (broadcastInDim S8x4096x1536 ![0, 1, 2] bcast_S1x1x1536_S8x4096x1536_0_1_2 (broadcastInDim S1x1x1536 ![2] bcast_S1536_S1x1x1536_2 (shapeCast _ (extractStridedSlice S1x1536 ![0, 0] k slices_S4x1536_S1x1536_0_0) shapeCasts_S1x1536_S1536))) (extractStridedSlice S8x4096x1536 ![0, 0, 0] A slices_S8x4099x1536_S8x4096x1536_0_0_0)) (mulf (F := Ideal) (φ := .f32) (broadcastInDim S8x4096x1536 ![0, 1, 2] bcast_S1x1x1536_S8x4096x1536_0_1_2 (broadcastInDim S1x1x1536 ![2] bcast_S1536_S1x1x1536_2 (shapeCast _ (extractStridedSlice S1x1536 ![1, 0] k slices_S4x1536_S1x1536_1_0) shapeCasts_S1x1536_S1536))) (extractStridedSlice S8x4096x1536 ![0, 1, 0] A slices_S8x4099x1536_S8x4096x1536_0_1_0))) (mulf (F := Ideal) (φ := .f32) (broadcastInDim S8x4096x1536 ![0, 1, 2] bcast_S1x1x1536_S8x4096x1536_0_1_2 (broadcastInDim S1x1x1536 ![2] bcast_S1536_S1x1x1536_2 (shapeCast _ (extractStridedSlice S1x1536 ![2, 0] k slices_S4x1536_S1x1536_2_0) shapeCasts_S1x1536_S1536))) (extractStridedSlice S8x4096x1536 ![0, 2, 0] A slices_S8x4099x1536_S8x4096x1536_0_2_0))) (mulf (F := Ideal) (φ := .f32) (broadcastInDim S8x4096x1536 ![0, 1, 2] bcast_S1x1x1536_S8x4096x1536_0_1_2 (broadcastInDim S1x1x1536 ![2] bcast_S1536_S1x1x1536_2 (shapeCast _ (extractStridedSlice S1x1536 ![3, 0] k slices_S4x1536_S1x1536_3_0) shapeCasts_S1x1536_S1536))) (extractStridedSlice S8x4096x1536 ![0, 3, 0] A slices_S8x4099x1536_S8x4096x1536_0_3_0))
/-- A convolution of width three. -/
def conv3 (k : Vec Ideal S3x512 .f32) (A : Vec Ideal S8x4098x512 .f32) : Vec Ideal S8x4096x512 .f32 :=
  addf (F := Ideal) (φ := .f32) (addf (F := Ideal) (φ := .f32) (mulf (F := Ideal) (φ := .f32) (broadcastInDim S8x4096x512 ![0, 1, 2] bcast_S1x1x512_S8x4096x512_0_1_2 (broadcastInDim S1x1x512 ![2] bcast_S512_S1x1x512_2 (shapeCast _ (extractStridedSlice S1x512 ![0, 0] k slices_S3x512_S1x512_0_0) shapeCasts_S1x512_S512))) (extractStridedSlice S8x4096x512 ![0, 0, 0] A slices_S8x4098x512_S8x4096x512_0_0_0)) (mulf (F := Ideal) (φ := .f32) (broadcastInDim S8x4096x512 ![0, 1, 2] bcast_S1x1x512_S8x4096x512_0_1_2 (broadcastInDim S1x1x512 ![2] bcast_S512_S1x1x512_2 (shapeCast _ (extractStridedSlice S1x512 ![1, 0] k slices_S3x512_S1x512_1_0) shapeCasts_S1x512_S512))) (extractStridedSlice S8x4096x512 ![0, 1, 0] A slices_S8x4098x512_S8x4096x512_0_1_0))) (mulf (F := Ideal) (φ := .f32) (broadcastInDim S8x4096x512 ![0, 1, 2] bcast_S1x1x512_S8x4096x512_0_1_2 (broadcastInDim S1x1x512 ![2] bcast_S512_S1x1x512_2 (shapeCast _ (extractStridedSlice S1x512 ![2, 0] k slices_S3x512_S1x512_2_0) shapeCasts_S1x512_S512))) (extractStridedSlice S8x4096x512 ![0, 2, 0] A slices_S8x4098x512_S8x4096x512_0_2_0))
/-- The smooth gate of an array. -/
def siluW (A : Vec Ideal S8x4096x1536 .f32) : Vec Ideal S8x4096x1536 .f32 := mulf (F := Ideal) (φ := .f32) A (Host.divf (F := Ideal) (φ := .f32) (broadcastInDim S8x4096x1536 ![] bcast_S_S8x4096x1536 (constant (F := Ideal) S_ .f32 0x3F800000#32)) (addf (F := Ideal) (φ := .f32) (broadcastInDim S8x4096x1536 ![] bcast_S_S8x4096x1536 (constant (F := Ideal) S_ .f32 0x3F800000#32)) (Host.exp (F := Ideal) (φ := .f32) (Host.negf (F := Ideal) (φ := .f32) A))))
/-- The smooth gate of an array. -/
def siluN (A : Vec Ideal S8x4096x512 .f32) : Vec Ideal S8x4096x512 .f32 := mulf (F := Ideal) (φ := .f32) A (Host.divf (F := Ideal) (φ := .f32) (broadcastInDim S8x4096x512 ![] bcast_S_S8x4096x512 (constant (F := Ideal) S_ .f32 0x3F800000#32)) (addf (F := Ideal) (φ := .f32) (broadcastInDim S8x4096x512 ![] bcast_S_S8x4096x512 (constant (F := Ideal) S_ .f32 0x3F800000#32)) (Host.exp (F := Ideal) (φ := .f32) (Host.negf (F := Ideal) (φ := .f32) A))))
/-- The queries by head. -/
def hdQ (A : Vec Ideal S8x4096x1536 .f32) : Vec Ideal S8x4096x4x128 .f32 := shapeCast _ (extractStridedSlice S8x4096x512 ![0, 0, 0] A slices_S8x4096x1536_S8x4096x512_0_0_0) shapeCasts_S8x4096x512_S8x4096x4x128
/-- The keys by head. -/
def hdK (A : Vec Ideal S8x4096x1536 .f32) : Vec Ideal S8x4096x4x128 .f32 := shapeCast _ (extractStridedSlice S8x4096x512 ![0, 0, 512] A slices_S8x4096x1536_S8x4096x512_0_0_512) shapeCasts_S8x4096x512_S8x4096x4x128
/-- The values. -/
def cutV (A : Vec Ideal S8x4096x1536 .f32) : Vec Ideal S8x4096x512 .f32 := extractStridedSlice S8x4096x512 ![0, 0, 1024] A slices_S8x4096x1536_S8x4096x512_0_0_1024
/-- Each head's sum of squares. -/
def ssq (A : Vec Ideal S8x4096x4x128 .f32) : Vec Ideal S8x4096x4 .f32 := Host.reduceAdd (F := Ideal) (φ := .f32) (mulf (F := Ideal) (φ := .f32) A A) (constant (F := Ideal) S_ .f32 0x00000000#32) reducesTo_S8x4096x4x128_S8x4096x4_d3 h_S_
/-- Each head's `rsqrt` of its sum of squares. -/
def rsn (s : Vec Ideal S8x4096x4 .f32) : Vec Ideal S8x4096x4x1 .f32 := Host.rsqrt (F := Ideal) (φ := .f32) (addf (F := Ideal) (φ := .f32) (broadcastInDim S8x4096x4x1 ![0, 1, 2] bcast_S8x4096x4_S8x4096x4x1_0_1_2 s) (broadcastInDim S8x4096x4x1 ![] bcast_S_S8x4096x4x1 (constant (F := Ideal) S_ .f32 0x358637BD#32)))
/-- The normalized keys. -/
def nrK (A : Vec Ideal S8x4096x4x128 .f32) (s : Vec Ideal S8x4096x4x1 .f32) : Vec Ideal S8x4096x4x128 .f32 := mulf (F := Ideal) (φ := .f32) A (broadcastInDim S8x4096x4x128 ![0, 1, 2, 3] bcast_S8x4096x4x1_S8x4096x4x128_0_1_2_3 s)
/-- The normalized queries. -/
def nrQ (A : Vec Ideal S8x4096x4x128 .f32) (s : Vec Ideal S8x4096x4x1 .f32) : Vec Ideal S8x4096x4x128 .f32 := mulf (F := Ideal) (φ := .f32) (nrK A s) (broadcastInDim S8x4096x4x128 ![] bcast_S_S8x4096x4x128 (constant (F := Ideal) S_ .f32 0x3DB504F3#32))
/-- Heads side by side. -/
def flat (A : Vec Ideal S8x4096x4x128 .f32) : Vec Ideal S8x4096x512 .f32 := shapeCast _ A shapeCasts_S8x4096x4x128_S8x4096x512
/-- A product of two arrays. -/
def prod (A B : Vec Ideal S8x4096x512 .f32) : Vec Ideal S8x4096x512 .f32 := mulf (F := Ideal) (φ := .f32) A B
/-- Five arrays packed. -/
def pack (a b c d e : Vec Ideal S8x4096x512 .f32) : Vec Ideal S32768x2560 .bf16 :=
  truncf (F := Ideal) (φ := .f32) .bf16 (shapeCast _ ((concatenate S8x4096x2560 2 [⟨S8x4096x512, a⟩, ⟨S8x4096x512, b⟩, ⟨S8x4096x512, c⟩, ⟨S8x4096x512, d⟩, ⟨S8x4096x512, e⟩] concatenates_S8x4096x512_S8x4096x512_S8x4096x512_S8x4096x512_S8x4096x512_S8x4096x2560_d2 : Vec Ideal S8x4096x2560 .f32)) shapeCasts_S8x4096x2560_S32768x2560) bitsLt_bf16_f32
/-- The narrow columns filled up with zeros. -/
def fill (A : Vec Ideal S8x4096x8 .f32) : Vec Ideal S32768x128 .f32 := shapeCast _ (pad S8x4096x128 ![0, 0, 0] ![0, 0, 120] ![0, 0, 0] A (sitofp (F := Ideal) .f32 (constantI S_ 32 0#32)) pads_S8x4096x8_S8x4096x128_000_000_01200 h_S_) shapeCasts_S8x4096x128_S32768x128
/-- The gated convolution of queries, keys and values. -/
def qkv (P : Vec Ideal S8x4096x3592 .f32) (k : Vec Ideal S4x1536 .f32) : Vec Ideal S8x4096x1536 .f32 := siluW (conv4 k (pad4 (cutQ P)))
/-- The gated short convolution. -/
def shortc (P : Vec Ideal S8x4096x3592 .f32) (k : Vec Ideal S3x512 .f32) : Vec Ideal S8x4096x512 .f32 := prod (cutB P) (conv3 k (pad3 (prod (cutC P) (cutX P))))
/-- The packed result from the projections. -/
def rout7 (P : Vec Ideal S8x4096x3592 .f32) (cq : Vec Ideal S4x1536 .f32) (cs : Vec Ideal S3x512 .f32) : Vec Ideal S32768x2560 .bf16 :=
  pack (flat (nrQ (hdQ (qkv P cq)) (rsn (ssq (hdQ (qkv P cq)))))) (flat (nrK (hdK (qkv P cq)) (rsn (ssq (hdK (qkv P cq)))))) (cutV (qkv P cq)) (siluN (cutZ P)) (shortc P cs)
/-- The narrow result from the projections. -/
def rout8 (P : Vec Ideal S8x4096x3592 .f32) : Vec Ideal S32768x128 .f32 := fill (cutN P)

/-- The program's run ends with these compositions, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = rout7 (rpj (rh (m ((c.tc : Thread nD τ).loc main_arg0)) (m ((c.tc : Thread nD τ).loc main_arg1))) (m ((c.tc : Thread nD τ).loc main_arg2))) (m ((c.tc : Thread nD τ).loc main_arg3)) (m ((c.tc : Thread nD τ).loc main_arg4))
      ∧ r.2.mem ((c.tc : Thread nD τ).loc main_v103) = rout8 (rpj (rh (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    unfold Value.res_main_v102 rout7 pack flat nrQ nrK rsn ssq hdQ hdK cutV siluN shortc prod conv3 pad3 qkv siluW conv4 pad4 cutQ cutZ cutB cutC cutX rpj rh rrs rsq
    rfl), (h c).2.1.trans (by
    unfold rout8 fill cutN rpj rh rrs rsq
    rfl), (h c).2.2⟩) (Value.run (F := Ideal) m ρ)

section
variable (x : Vec Ideal S32768x1024 .f32) (g : Vec Ideal S1024 .f32)

/-- The entries of a row. -/
theorem row_iff (R : Fin 32768) (i : S32768x1024.Idx) :
    reducesTo_S32768x1024_S32768_d1.drop i = ix1 R ↔ ∃ c : Fin 1024, ix2 R c = i := by
  constructor
  · intro e
    refine ⟨i 1, ?_⟩
    funext a; apply Fin.ext
    match a with
    | ⟨0, _⟩ => exact (congrArg Fin.val (congrFun e ⟨0, by decide⟩)).symm
    | ⟨1, _⟩ => rfl
  · rintro ⟨c, rfl⟩
    funext a
    apply Fin.ext
    match a with
    | ⟨0, _⟩ => rfl

/-- The sum of squares at a row. -/
theorem rsq_at (R : Fin 32768) : rsq x (ix1 R) = ∑ d : Fin 1024, (x (ix2 R d) * x (ix2 R d) : EReal) := by
  unfold rsq
  have e := Finset.sum_filter_eq_sum_of_fiber _ (fun c : Fin 1024 => ix2 R c) (fun _ _ e => congrFun e 1) (row_iff R) (mulf (F := Ideal) (φ := .f32) x x)
  refine Eq.trans (b := Ideal.ofBits .f32 0#32 + ∑ i ∈ Finset.univ.filter (fun i => reducesTo_S32768x1024_S32768_d1.drop i = ix1 R), mulf (F := Ideal) (φ := .f32) x x i) rfl ?_
  rw [e, Ideal.ofBits_zero_f32, zero_add]
  rfl

/-- The `rsqrt` at a row. -/
theorem rrs_at (s : Vec Ideal S32768 .f32) (R : Fin 32768) :
    rrs s (ix2 R (0 : Fin 1)) = Ideal.rsqrt (Ideal.div (s (ix1 R)) (Ideal.ofBits .f32 0x44800000#32) + Ideal.ofBits .f32 0x358637BD#32) := by
  pointwise [rrs]

/-- The normalized rows at an entry. -/
theorem rh_at (R : Fin 32768) (d : Fin 1024) :
    rh x g (ix2 R d) = x (ix2 R d) * rrs (rsq x) (ix2 R (0 : Fin 1)) * g (ix1 d) := by
  pointwise [rh]

/-- The rows through the weights at an entry. -/
theorem rpj_at (H : Vec Ideal S32768x1024 .f32) (w : Vec Ideal S1024x3592 .f32) (b : Fin 8) (s : Fin 4096) (c : Fin 3592) :
    rpj H w (ix3 b s c) = (∑ d : Fin 1024, H (ix2 (⟨b.val * 4096 + s.val, by omega⟩ : Fin 32768) d) * w (ix2 d c) : EReal) := by
  pointwise [rpj]

/-- The columns of queries, keys and values, at an entry. -/
theorem cutQ_at (P : Vec Ideal S8x4096x3592 .f32) (b : Fin 8) (s : Fin 4096) (c : Fin 1536) : cutQ P (ix3 b s c) = P (ix3 b s (⟨0 + c.val, by omega⟩ : Fin 3592)) := by
  pointwise [cutQ]
/-- The gate's columns, at an entry. -/
theorem cutZ_at (P : Vec Ideal S8x4096x3592 .f32) (b : Fin 8) (s : Fin 4096) (c : Fin 512) : cutZ P (ix3 b s c) = P (ix3 b s (⟨1536 + c.val, by omega⟩ : Fin 3592)) := by
  pointwise [cutZ]
/-- The last convolution's outer gate, at an entry. -/
theorem cutB_at (P : Vec Ideal S8x4096x3592 .f32) (b : Fin 8) (s : Fin 4096) (c : Fin 512) : cutB P (ix3 b s c) = P (ix3 b s (⟨2056 + c.val, by omega⟩ : Fin 3592)) := by
  pointwise [cutB]
/-- The last convolution's inner gate, at an entry. -/
theorem cutC_at (P : Vec Ideal S8x4096x3592 .f32) (b : Fin 8) (s : Fin 4096) (c : Fin 512) : cutC P (ix3 b s c) = P (ix3 b s (⟨2568 + c.val, by omega⟩ : Fin 3592)) := by
  pointwise [cutC]
/-- The last convolution's input, at an entry. -/
theorem cutX_at (P : Vec Ideal S8x4096x3592 .f32) (b : Fin 8) (s : Fin 4096) (c : Fin 512) : cutX P (ix3 b s c) = P (ix3 b s (⟨3080 + c.val, by omega⟩ : Fin 3592)) := by
  pointwise [cutX]
/-- The eight narrow columns, at an entry. -/
theorem cutN_at (P : Vec Ideal S8x4096x3592 .f32) (b : Fin 8) (s : Fin 4096) (c : Fin 8) : cutN P (ix3 b s c) = P (ix3 b s (⟨2048 + c.val, by omega⟩ : Fin 3592)) := by
  pointwise [cutN]
/-- The filled-up rows at an entry. -/
theorem pad4_at (A : Vec Ideal S8x4096x1536 .f32) (b : Fin 8) (s : Fin 4099) (c : Fin 1536) :
    pad4 A (ix3 b s c) = if h : 3 ≤ s.val then A (ix3 b (⟨s.val - 3, by omega⟩ : Fin 4096) c) else (0 : EReal) := by
  rw [← Cert.Kernel4Ideal.Inp.word_zero]
  pointwise [pad4]
  have hs := s.isLt
  by_cases h : 3 ≤ s.val
  · rw [dif_pos ⟨h, by omega⟩, dif_pos h]
  · rw [dif_neg (by omega), dif_neg h]
/-- The filled-up rows at an entry. -/
theorem pad3_at (A : Vec Ideal S8x4096x512 .f32) (b : Fin 8) (s : Fin 4098) (c : Fin 512) :
    pad3 A (ix3 b s c) = if h : 2 ≤ s.val then A (ix3 b (⟨s.val - 2, by omega⟩ : Fin 4096) c) else (0 : EReal) := by
  rw [← Cert.Kernel4Ideal.Inp.word_zero]
  pointwise [pad3]
  have hs := s.isLt
  by_cases h : 2 ≤ s.val
  · rw [dif_pos ⟨h, by omega⟩, dif_pos h]
  · rw [dif_neg (by omega), dif_neg h]
/-- The convolution of width four at an entry. -/
theorem conv4_at (k : Vec Ideal S4x1536 .f32) (A : Vec Ideal S8x4099x1536 .f32) (b : Fin 8) (s : Fin 4096) (c : Fin 1536) :
    conv4 k A (ix3 b s c) = (k (ix2 (0 : Fin 4) c) * A (ix3 b (⟨s.val, by omega⟩ : Fin 4099) c) + k (ix2 (1 : Fin 4) c) * A (ix3 b (⟨1 + s.val, by omega⟩ : Fin 4099) c)
      + k (ix2 (2 : Fin 4) c) * A (ix3 b (⟨2 + s.val, by omega⟩ : Fin 4099) c) + k (ix2 (3 : Fin 4) c) * A (ix3 b (⟨3 + s.val, by omega⟩ : Fin 4099) c) : EReal) := by
  pointwise [conv4]
/-- The convolution of width three at an entry. -/
theorem conv3_at (k : Vec Ideal S3x512 .f32) (A : Vec Ideal S8x4098x512 .f32) (b : Fin 8) (s : Fin 4096) (c : Fin 512) :
    conv3 k A (ix3 b s c) = (k (ix2 (0 : Fin 3) c) * A (ix3 b (⟨s.val, by omega⟩ : Fin 4098) c) + k (ix2 (1 : Fin 3) c) * A (ix3 b (⟨1 + s.val, by omega⟩ : Fin 4098) c)
      + k (ix2 (2 : Fin 3) c) * A (ix3 b (⟨2 + s.val, by omega⟩ : Fin 4098) c) : EReal) := by
  pointwise [conv3]
/-- The smooth gate with its argument's sign turned. -/
theorem gate_at (u : EReal) : u * Ideal.div (Ideal.ofBits .f32 0x3F800000#32) (Ideal.ofBits .f32 0x3F800000#32 + Ideal.exp (-u)) = Cert.Kernel4Ideal.Inp.siluK u := by
  unfold Cert.Kernel4Ideal.Inp.siluK
  rw [Ideal.ofBits_zero_f32, zero_sub]
/-- The smooth gate at an entry. -/
theorem siluW_at (A : Vec Ideal S8x4096x1536 .f32) (b : Fin 8) (s : Fin 4096) (c : Fin 1536) : siluW A (ix3 b s c) = Cert.Kernel4Ideal.Inp.siluK (A (ix3 b s c)) := by
  rw [← gate_at]
  unfold siluW
  pointwise
/-- The smooth gate at an entry. -/
theorem siluN_at (A : Vec Ideal S8x4096x512 .f32) (b : Fin 8) (s : Fin 4096) (c : Fin 512) : siluN A (ix3 b s c) = Cert.Kernel4Ideal.Inp.siluK (A (ix3 b s c)) := by
  rw [← gate_at]
  unfold siluN
  pointwise
/-- The queries by head at an entry. -/
theorem hdQ_at (A : Vec Ideal S8x4096x1536 .f32) (b : Fin 8) (s : Fin 4096) (h : Fin 4) (l : Fin 128) :
    hdQ A (ix4 b s h l) = A (ix3 b s (⟨h.val * 128 + l.val, by omega⟩ : Fin 1536)) := by
  pointwise [hdQ]
/-- The keys by head at an entry. -/
theorem hdK_at (A : Vec Ideal S8x4096x1536 .f32) (b : Fin 8) (s : Fin 4096) (h : Fin 4) (l : Fin 128) :
    hdK A (ix4 b s h l) = A (ix3 b s (⟨512 + (h.val * 128 + l.val), by omega⟩ : Fin 1536)) := by
  pointwise [hdK]
/-- The values at an entry. -/
theorem cutV_at (A : Vec Ideal S8x4096x1536 .f32) (b : Fin 8) (s : Fin 4096) (c : Fin 512) : cutV A (ix3 b s c) = A (ix3 b s (⟨1024 + c.val, by omega⟩ : Fin 1536)) := by
  pointwise [cutV]
/-- The entries of a head. -/
theorem head_iff (b : Fin 8) (s : Fin 4096) (h : Fin 4) (i : S8x4096x4x128.Idx) :
    reducesTo_S8x4096x4x128_S8x4096x4_d3.drop i = ix3 b s h ↔ ∃ l : Fin 128, ix4 b s h l = i := by
  constructor
  · intro e
    refine ⟨i 3, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => rfl
  · rintro ⟨l, rfl⟩
    funext a
    apply Fin.ext
    match a with
    | ⟨0, _⟩ => rfl
    | ⟨1, _⟩ => rfl
    | ⟨2, _⟩ => rfl
/-- A head's sum of squares. -/
theorem ssq_at (A : Vec Ideal S8x4096x4x128 .f32) (b : Fin 8) (s : Fin 4096) (h : Fin 4) : ssq A (ix3 b s h) = ∑ l : Fin 128, (A (ix4 b s h l) * A (ix4 b s h l) : EReal) := by
  unfold ssq
  have e := Finset.sum_filter_eq_sum_of_fiber _ (fun l : Fin 128 => ix4 b s h l) (fun _ _ e => congrFun e 3) (head_iff b s h) (mulf (F := Ideal) (φ := .f32) A A)
  refine Eq.trans (b := Ideal.ofBits .f32 0#32 + ∑ i ∈ Finset.univ.filter (fun i => reducesTo_S8x4096x4x128_S8x4096x4_d3.drop i = ix3 b s h), mulf (F := Ideal) (φ := .f32) A A i) rfl ?_
  rw [e, Ideal.ofBits_zero_f32, zero_add]
  rfl
/-- A head's `rsqrt`. -/
theorem rsn_at (z : Vec Ideal S8x4096x4 .f32) (b : Fin 8) (s : Fin 4096) (h : Fin 4) : rsn z (ix4 b s h (0 : Fin 1)) = Ideal.rsqrt (z (ix3 b s h) + Ideal.ofBits .f32 0x358637BD#32) := by
  pointwise [rsn]
/-- The normalized keys at an entry. -/
theorem nrK_at (A : Vec Ideal S8x4096x4x128 .f32) (z : Vec Ideal S8x4096x4x1 .f32) (b : Fin 8) (s : Fin 4096) (h : Fin 4) (l : Fin 128) : nrK A z (ix4 b s h l) = (A (ix4 b s h l) * z (ix4 b s h (0 : Fin 1)) : EReal) := by
  pointwise [nrK]
/-- The normalized queries at an entry. -/
theorem nrQ_at (A : Vec Ideal S8x4096x4x128 .f32) (z : Vec Ideal S8x4096x4x1 .f32) (b : Fin 8) (s : Fin 4096) (h : Fin 4) (l : Fin 128) : nrQ A z (ix4 b s h l) = (A (ix4 b s h l) * z (ix4 b s h (0 : Fin 1)) * Ideal.ofBits .f32 0x3DB504F3#32 : EReal) := by
  pointwise [nrQ, nrK]
/-- Heads side by side at an entry. -/
theorem flat_at (A : Vec Ideal S8x4096x4x128 .f32) (b : Fin 8) (s : Fin 4096) (c : Fin 512) :
    flat A (ix3 b s c) = A (ix4 b s (⟨c.val / 128, by omega⟩ : Fin 4) (⟨c.val % 128, by omega⟩ : Fin 128)) := by
  pointwise [flat]
/-- Five arrays packed, at an entry. -/
theorem pack_at (a b c d e : Vec Ideal S8x4096x512 .f32) (i : Fin 8) (s : Fin 4096) (l : Fin 2560) (R : Fin 32768) (hR : R.val = i.val * 4096 + s.val) :
    pack a b c d e (ix2 R l) = if h : l.val < 512 then a (ix3 i s (⟨l.val, h⟩ : Fin 512)) else if h : l.val < 1024 then b (ix3 i s (⟨l.val - 512, by omega⟩ : Fin 512))
      else if h : l.val < 1536 then c (ix3 i s (⟨l.val - 1024, by omega⟩ : Fin 512)) else if h : l.val < 2048 then d (ix3 i s (⟨l.val - 1536, by omega⟩ : Fin 512)) else e (ix3 i s (⟨l.val - 2048, by omega⟩ : Fin 512)) := by
  have hi := i.isLt
  have hs := s.isLt
  have e1 : R.val / 4096 = i.val := by omega
  have e2 : R.val % 4096 = s.val := by omega
  pointwise [pack]
  simp only [e1, e2]
  by_cases h1 : l.val < 512
  · rw [dif_pos h1, dif_pos h1]
  · rw [dif_neg h1, dif_neg h1]
    by_cases h2 : l.val < 1024
    · rw [dif_pos (by omega), dif_pos h2]
    · rw [dif_neg (by omega), dif_neg h2]
      by_cases h3 : l.val < 1536
      · rw [dif_pos (by omega), dif_pos h3]
        exact congrArg (fun y : Fin 512 => c (ix3 i s y)) (Fin.ext (by show l.val - 512 - 512 = l.val - 1024; omega))
      · rw [dif_neg (by omega), dif_neg h3]
        by_cases h4 : l.val < 2048
        · rw [dif_pos (by omega), dif_pos h4]
          exact congrArg (fun y : Fin 512 => d (ix3 i s y)) (Fin.ext (by show l.val - 512 - 512 - 512 = l.val - 1536; omega))
        · rw [dif_neg (by omega), dif_neg h4]
          exact congrArg (fun y : Fin 512 => e (ix3 i s y)) (Fin.ext (by show l.val - 512 - 512 - 512 - 512 = l.val - 2048; omega))
/-- The narrow columns filled up, at an entry. -/
theorem fill_at (A : Vec Ideal S8x4096x8 .f32) (i : Fin 8) (s : Fin 4096) (l : Fin 128) (R : Fin 32768) (hR : R.val = i.val * 4096 + s.val) :
    fill A (ix2 R l) = if h : l.val < 8 then A (ix3 i s (⟨l.val, h⟩ : Fin 8)) else (0 : EReal) := by
  rw [← Cert.Kernel4Ideal.Inp.word_zero]
  have hi := i.isLt
  have hs := s.isLt
  have e1 : R.val / 4096 = i.val := by omega
  have e2 : R.val % 4096 = s.val := by omega
  pointwise [fill]
  simp only [e1, e2]
  by_cases h : l.val < 8
  · rw [dif_pos ⟨hi, hs, h⟩, dif_pos h]
  · rw [dif_neg (by omega), dif_neg h]
end
end Cert.Reference4Ideal.Inp
end
end
-- ==== Proof.InpEq.lean ====
module

public import proofs.«01_k».proof.Proof.InpRef
public import proofs.«01_k».proof.Proof.Equation

/-! The input projection's reference equals the kernel's results. -/

@[expose] public section
set_option maxRecDepth 16384
noncomputable section
namespace Cert.Reference4Ideal.Inp
open Cert.Reference4Ideal Cert.Reference4Ideal.Gen
open Idealize.ShloMosaic Idealize.ShloMosaic.TcCoe Idealize.SL.Sem
open Cert.Kernel4Ideal.Inp (rowN colN hG wG wab uG val7 val8 arr7 arr8 O7 O8 PK prK cvK c4K cqN csN hK siluK l2q l2k)
open Cert.ReferenceIdeal.Swa (Real')

section
variable (x : Vec Ideal S32768x1024 .f32) (g : Vec Ideal S1024 .f32) (w : Vec Ideal S1024x3592 .f32) (cq : Vec Ideal S4x1536 .f32) (cs : Vec Ideal S3x512 .f32)

/-- A normalized row, by number. -/
theorem rh_hG (R : Fin 32768) (d : Fin 1024) : rh x g (ix2 R d) = hG x g R.val d := by
  rw [rh_at, rrs_at, rsq_at]
  unfold hG hK
  have e : ∀ y : Fin 1024, rowN x R.val y = x (ix2 R y) := fun y => by
    unfold rowN
    rw [dif_pos R.isLt]
  simp only [e]

/-- A projection, by number. -/
theorem rpj_pr (b : Fin 8) (s : Fin 4096) (c : Fin 3592) : rpj (rh x g) w (ix3 b s c) = prK (hG x g (b.val * 4096 + s.val)) (colN w) c.val := by
  rw [rpj_at]
  unfold prK
  refine Finset.sum_congr rfl fun d _ => ?_
  rw [rh_hG]
  unfold colN
  rw [dif_pos c.isLt]

/-- A projection onto a column before the narrow ones. -/
theorem pr_low (h : Fin 1024 → EReal) (c : ℕ) (hc : c < 2048) : prK h (wG w) c = prK h (colN w) c := by
  unfold prK wG
  simp only [if_pos hc]
/-- A projection onto a column after the narrow ones. -/
theorem pr_high (h : Fin 1024 → EReal) (c : ℕ) (hc : ¬ c < 2048) : prK h (wG w) c = prK h (colN w) (c + 8) := by
  unfold prK wG
  simp only [if_neg hc]

/-- The filled-up projections some rows back. -/
theorem pad4_u (b : Fin 8) (s : Fin 4096) (j k : ℕ) (hjk : j + k = 3) (hr : j + s.val < 4099) (c : Fin 1536) :
    pad4 (cutQ (rpj (rh x g) w)) (ix3 b (⟨j + s.val, hr⟩ : Fin 4099) c) = uG x g w (b.val * 4096 + s.val) k c.val := by
  have hb := b.isLt
  have hs := s.isLt
  have hc := c.isLt
  have e2 : (b.val * 4096 + s.val) % 4096 = s.val := by omega
  rw [pad4_at]
  unfold uG
  rw [e2]
  by_cases h : k ≤ s.val
  · rw [if_pos h, dif_pos (by show 3 ≤ j + s.val; omega), cutQ_at, rpj_pr]
    unfold PK
    rw [if_pos hc, pr_low _ _ _ (by omega)]
    have e3 : b.val * 4096 + (j + s.val - 3) = b.val * 4096 + s.val - k := by omega
    have e4 : 0 + c.val = c.val := Nat.zero_add _
    show prK (hG x g (b.val * 4096 + (j + s.val - 3))) (colN w) (0 + c.val) = _
    rw [e3, e4]
  · rw [if_neg h, dif_neg (by show ¬ 3 ≤ j + s.val; omega)]

/-- The filled-up products some rows back. -/
theorem pad3_u (b : Fin 8) (s : Fin 4096) (j k : ℕ) (hjk : j + k = 2) (hr : j + s.val < 4098) (c : Fin 512) :
    pad3 (prod (cutC (rpj (rh x g) w)) (cutX (rpj (rh x g) w))) (ix3 b (⟨j + s.val, hr⟩ : Fin 4098) c) = uG x g w (b.val * 4096 + s.val) k (1536 + c.val) := by
  have hb := b.isLt
  have hs := s.isLt
  have hc := c.isLt
  have e2 : (b.val * 4096 + s.val) % 4096 = s.val := by omega
  rw [pad3_at]
  unfold uG
  rw [e2]
  by_cases h : k ≤ s.val
  · rw [if_pos h, dif_pos (by show 2 ≤ j + s.val; omega)]
    show (cutC (rpj (rh x g) w) (ix3 b _ c) * cutX (rpj (rh x g) w) (ix3 b _ c) : EReal) = _
    rw [cutC_at, cutX_at, rpj_pr, rpj_pr]
    unfold PK
    rw [if_neg (by omega), pr_high _ _ _ (by omega), pr_high _ _ _ (by omega)]
    have e3 : b.val * 4096 + (j + s.val - 2) = b.val * 4096 + s.val - k := by omega
    have e4 : 2568 + c.val = 1536 + c.val + 1024 + 8 := by omega
    have e5 : 3080 + c.val = 1536 + c.val + 1536 + 8 := by omega
    show prK (hG x g (b.val * 4096 + (j + s.val - 2))) (colN w) (2568 + c.val) * prK (hG x g (b.val * 4096 + (j + s.val - 2))) (colN w) (3080 + c.val) = _
    rw [e3, e4, e5]
  · rw [if_neg h, dif_neg (by show ¬ 2 ≤ j + s.val; omega)]

/-- A convolution weight, by number. -/
theorem cqN_at (j : Fin 4) (c : Fin 1536) : cqN cq j.val c.val = cq (ix2 j c) := by
  unfold cqN
  rw [dif_pos ⟨j.isLt, c.isLt⟩]
/-- A short convolution's weight, by number. -/
theorem csN_at (j : Fin 3) (c : Fin 512) : csN cs j.val c.val = cs (ix2 j c) := by
  unfold csN
  rw [dif_pos ⟨j.isLt, c.isLt⟩]

/-- The gated convolution, by number. -/
theorem qkv_cv (b : Fin 8) (s : Fin 4096) (c : Fin 1536) : qkv (rpj (rh x g) w) cq (ix3 b s c) = cvK (uG x g w (b.val * 4096 + s.val)) (cqN cq) c.val := by
  have hs := s.isLt
  unfold qkv
  rw [siluW_at, conv4_at]
  unfold cvK c4K
  have a0 := pad4_u x g w b s 0 3 rfl (by omega) c
  have a1 := pad4_u x g w b s 1 2 rfl (by omega) c
  have a2 := pad4_u x g w b s 2 1 rfl (by omega) c
  have a3 := pad4_u x g w b s 3 0 rfl (by omega) c
  simp only [Nat.zero_add] at a0
  rw [a0, a1, a2, a3, ← cqN_at cq 0 c, ← cqN_at cq 1 c, ← cqN_at cq 2 c, ← cqN_at cq 3 c, mul_comm _ (uG x g w _ 3 _), mul_comm _ (uG x g w _ 2 _), mul_comm _ (uG x g w _ 1 _), mul_comm _ (uG x g w _ 0 _)]
  rfl

/-- The gated convolution at a column's number. -/
theorem qkv_cv' (b : Fin 8) (s : Fin 4096) (c : Fin 1536) (k : ℕ) (hk : c.val = k) : qkv (rpj (rh x g) w) cq (ix3 b s c) = cvK (uG x g w (b.val * 4096 + s.val)) (cqN cq) k := by
  rw [qkv_cv, hk]

/-- A query, by number. -/
theorem q_at (b : Fin 8) (s : Fin 4096) (e : Fin 512) :
    flat (nrQ (hdQ (qkv (rpj (rh x g) w) cq)) (rsn (ssq (hdQ (qkv (rpj (rh x g) w) cq))))) (ix3 b s e)
      = l2q (fun y => cvK (uG x g w (b.val * 4096 + s.val)) (cqN cq) (128 * (e.val / 128) + y.val)) (⟨e.val % 128, Nat.mod_lt _ (by decide)⟩ : Fin 128) := by
  have he := e.isLt
  have key : ∀ y : Fin 128, hdQ (qkv (rpj (rh x g) w) cq) (ix4 b s (⟨e.val / 128, by omega⟩ : Fin 4) y) = cvK (uG x g w (b.val * 4096 + s.val)) (cqN cq) (128 * (e.val / 128) + y.val) := fun y => by
    rw [hdQ_at]
    exact qkv_cv' x g w cq b s _ _ (by show e.val / 128 * 128 + y.val = _; omega)
  rw [flat_at, nrQ_at, rsn_at, ssq_at]
  simp only [key]
  unfold l2q
  exact mul_assoc _ _ _

/-- A key, by number. -/
theorem k_at (b : Fin 8) (s : Fin 4096) (e : Fin 512) (c : ℕ) (hc : c = 512 + e.val) :
    flat (nrK (hdK (qkv (rpj (rh x g) w) cq)) (rsn (ssq (hdK (qkv (rpj (rh x g) w) cq))))) (ix3 b s e)
      = l2k (fun y => cvK (uG x g w (b.val * 4096 + s.val)) (cqN cq) (128 * (c / 128) + y.val)) (⟨c % 128, Nat.mod_lt _ (by decide)⟩ : Fin 128) := by
  have he := e.isLt
  have key : ∀ y : Fin 128, hdK (qkv (rpj (rh x g) w) cq) (ix4 b s (⟨e.val / 128, by omega⟩ : Fin 4) y) = cvK (uG x g w (b.val * 4096 + s.val)) (cqN cq) (128 * (c / 128) + y.val) := fun y => by
    rw [hdK_at]
    exact qkv_cv' x g w cq b s _ _ (by show 512 + (e.val / 128 * 128 + y.val) = _; omega)
  have e1 : e.val % 128 = c % 128 := by omega
  rw [flat_at, nrK_at, rsn_at, ssq_at]
  simp only [key]
  rw [e1]
  rfl

/-- The short convolution, by number. -/
theorem s_at (b : Fin 8) (s : Fin 4096) (e : Fin 512) (c : ℕ) (hc : c = 2048 + e.val) :
    shortc (rpj (rh x g) w) cs (ix3 b s e)
      = (prK (hG x g (b.val * 4096 + s.val)) (wG w) c * (uG x g w (b.val * 4096 + s.val) 2 (c - 512) * csN cs 0 (c - 2048) + uG x g w (b.val * 4096 + s.val) 1 (c - 512) * csN cs 1 (c - 2048) + uG x g w (b.val * 4096 + s.val) 0 (c - 512) * csN cs 2 (c - 2048)) : EReal) := by
  have hs := s.isLt
  have a0 := pad3_u x g w b s 0 2 rfl (by omega) e
  have a1 := pad3_u x g w b s 1 1 rfl (by omega) e
  have a2 := pad3_u x g w b s 2 0 rfl (by omega) e
  simp only [Nat.zero_add] at a0
  have e1 : c - 512 = 1536 + e.val := by omega
  have e2 : c - 2048 = e.val := by omega
  have e3 : 2056 + e.val = c + 8 := by omega
  show (cutB (rpj (rh x g) w) (ix3 b s e) * conv3 cs (pad3 (prod (cutC (rpj (rh x g) w)) (cutX (rpj (rh x g) w)))) (ix3 b s e) : EReal) = _
  rw [cutB_at, rpj_pr, conv3_at, a0, a1, a2, pr_high _ _ _ (by omega), e1, e2, ← csN_at cs 0 e, ← csN_at cs 1 e, ← csN_at cs 2 e, mul_comm _ (uG x g w _ 2 _), mul_comm _ (uG x g w _ 1 _), mul_comm _ (uG x g w _ 0 _)]
  show prK _ _ (2056 + e.val) * _ = _
  rw [e3]
  rfl

/-- The packed result is the kernel's. -/
theorem out7_eq : rout7 (rpj (rh x g) w) cq cs = arr7 x g w cq cs := by
  funext y
  obtain ⟨R, e, rfl⟩ : ∃ (R : Fin 32768) (e : Fin 2560), ix2 R e = y := ⟨y 0, y 1, by
    funext a
    match a with
    | ⟨0, _⟩ => rfl
    | ⟨1, _⟩ => rfl⟩
  have hR := R.isLt
  have he := e.isLt
  have hRb : R.val = (⟨R.val / 4096, by omega⟩ : Fin 8).val * 4096 + (⟨R.val % 4096, by omega⟩ : Fin 4096).val := by show R.val = R.val / 4096 * 4096 + R.val % 4096; omega
  show _ = val7 x g w cq cs R.val e.val
  unfold rout7 val7 O7
  rw [pack_at _ _ _ _ _ _ _ e R hRb]
  generalize (⟨R.val / 4096, by omega⟩ : Fin 8) = b at hRb
  generalize (⟨R.val % 4096, by omega⟩ : Fin 4096) = s at hRb
  rw [hRb]
  by_cases h1 : e.val < 512
  · rw [dif_pos h1, if_pos h1]
    exact q_at x g w cq b s _
  rw [dif_neg h1, if_neg h1]
  by_cases h2 : e.val < 1024
  · rw [dif_pos h2, if_pos h2]
    exact k_at x g w cq b s _ _ (by show e.val = 512 + (e.val - 512); omega)
  rw [dif_neg h2, if_neg h2]
  by_cases h3 : e.val < 1536
  · rw [dif_pos h3, if_pos h3, cutV_at]
    exact qkv_cv' x g w cq b s _ _ (by show 1024 + (e.val - 1024) = e.val; omega)
  rw [dif_neg h3, if_neg h3]
  by_cases h4 : e.val < 2048
  · rw [dif_pos h4, if_pos h4, siluN_at, cutZ_at, rpj_pr, pr_low _ _ _ h4]
    have e1 : 1536 + (e.val - 1536) = e.val := by omega
    show siluK (prK _ _ (1536 + (e.val - 1536))) = _
    rw [e1]
  rw [dif_neg h4, if_neg h4]
  exact s_at x g w cs b s _ _ (by show e.val = 2048 + (e.val - 2048); omega)

/-- The width of a row. -/
theorem width_eq : Ideal.ofBits .f32 0x44800000#32 = ((1024 : ℝ) : EReal) := by
  simp [Ideal.ofBits, Ideal.ieee]
  rw [← EReal.coe_mul]
  norm_num

/-- The square of a row's length over its width is a real number, not negative. -/
theorem mean_real (u : Fin 1024 → EReal) (hu : ∀ e, Real' (u e)) : ∃ a : ℝ, 0 ≤ a ∧ Ideal.div (∑ y : Fin 1024, u y * u y) (Ideal.ofBits .f32 0x44800000#32) = (a : EReal) := by
  choose v hv using hu
  have h0 : ∀ t : Finset (Fin 1024), ∃ a : ℝ, 0 ≤ a ∧ ∑ y ∈ t, u y * u y = (a : EReal) := fun t =>
    Finset.sum_induction (fun y => u y * u y) (fun z : EReal => ∃ a : ℝ, 0 ≤ a ∧ z = (a : EReal))
      (by rintro _ _ ⟨a, ha, rfl⟩ ⟨b, hb, rfl⟩; exact ⟨a + b, add_nonneg ha hb, (EReal.coe_add a b).symm⟩)
      ⟨0, le_refl _, EReal.coe_zero.symm⟩
      (fun y _ => ⟨v y * v y, mul_self_nonneg _, by rw [hv y, EReal.coe_mul]⟩)
  obtain ⟨a, ha, h⟩ := h0 Finset.univ
  refine ⟨a * (1024 : ℝ)⁻¹, mul_nonneg ha (by norm_num), ?_⟩
  rw [h, width_eq]
  unfold Ideal.div
  rw [if_neg (by exact_mod_cast (by norm_num : (1024 : ℝ) ≠ 0)), ← EReal.coe_inv, ← EReal.coe_mul]

/-- The small number the lengths are kept off zero with. -/
theorem eps_pos : ∃ a : ℝ, 0 < a ∧ Ideal.ofBits .f32 0x358637BD#32 = (a : EReal) := by
  simp [Ideal.ofBits, Ideal.ieee]
  exact ⟨_, by positivity, (EReal.coe_mul _ _).symm⟩

/-- A square is not negative. -/
theorem sq_nonneg (z : EReal) : 0 ≤ z * z := by
  induction z using EReal.rec with
  | bot => rw [EReal.bot_mul_bot]; exact le_top
  | coe r => rw [← EReal.coe_mul]; exact EReal.coe_nonneg.mpr (mul_self_nonneg r)
  | top => rw [EReal.top_mul_top]; exact le_top

/-- A row with an infinity in it has an infinite mean, off which it is divided to zero. -/
theorem mean_inf (u : Fin 1024 → EReal) (e : Fin 1024) (he : ¬ Real' (u e)) :
    Ideal.rsqrt (Ideal.div (∑ y : Fin 1024, u y * u y) (Ideal.ofBits .f32 0x44800000#32) + Ideal.ofBits .f32 0x358637BD#32) = 0 := by
  have h1 : u e * u e = ⊤ := by
    by_cases hb : u e = ⊥
    · rw [hb, EReal.bot_mul_bot]
    · by_cases ht : u e = ⊤
      · rw [ht, EReal.top_mul_top]
      · exact absurd (Real'.of hb ht) he
  have h2 : (∑ y : Fin 1024, u y * u y) = ⊤ := by
    refine top_le_iff.mp ?_
    rw [← h1]
    exact Finset.single_le_sum (f := fun y => u y * u y) (fun y _ => sq_nonneg _) (Finset.mem_univ e)
  obtain ⟨p, hp, ep⟩ := eps_pos
  rw [h2, width_eq, ep]
  unfold Ideal.div
  rw [if_neg (by exact_mod_cast (by norm_num : (1024 : ℝ) ≠ 0)), ← EReal.coe_inv, EReal.top_mul_coe_of_pos (by norm_num), EReal.top_add_coe, Ideal.rsqrt_top]

/-- A normalized row is real where the gain is. -/
theorem hG_real (hg : ∀ i, Real' (g i)) (R : ℕ) (d : Fin 1024) : Real' (hG x g R d) := by
  unfold hG hK
  by_cases hrow : ∀ e, Real' (rowN x R e)
  · obtain ⟨a, ha, ea⟩ := mean_real (rowN x R) hrow
    obtain ⟨p, hp, ep⟩ := eps_pos
    refine ((hrow d).mul ?_).mul (hg _)
    rw [ea, ep, ← EReal.coe_add, Ideal.rsqrt_coe, if_neg (by linarith), if_neg (by linarith)]
    exact ⟨_, rfl⟩
  · obtain ⟨e, he⟩ := not_forall.mp hrow
    rw [mean_inf _ e he, mul_zero, zero_mul]
    exact Real'.zero

/-- A real number less itself is zero. -/
theorem sub_self' {u : EReal} (h : Real' u) : u - u = 0 := by
  obtain ⟨a, rfl⟩ := h
  rw [← EReal.coe_sub, _root_.sub_self, EReal.coe_zero]

/-- The narrow result is the kernel's, where the gain and the narrow columns are real. -/
theorem out8_eq (hg : ∀ i, Real' (g i)) (hw : ∀ (d : Fin 1024) (j : Fin 8), Real' (w (ix2 d (⟨2048 + j.val, by omega⟩ : Fin 3592)))) : rout8 (rpj (rh x g) w) = arr8 x g w := by
  funext y
  obtain ⟨R, e, rfl⟩ : ∃ (R : Fin 32768) (e : Fin 128), ix2 R e = y := ⟨y 0, y 1, by
    funext a
    match a with
    | ⟨0, _⟩ => rfl
    | ⟨1, _⟩ => rfl⟩
  have hR := R.isLt
  have he := e.isLt
  have hRb : R.val = (⟨R.val / 4096, by omega⟩ : Fin 8).val * 4096 + (⟨R.val % 4096, by omega⟩ : Fin 4096).val := by show R.val = R.val / 4096 * 4096 + R.val % 4096; omega
  have hwab : ∀ d, Real' (wab w e.val d) := fun d => by
    unfold wab colN
    by_cases h8 : e.val < 8
    · rw [if_pos h8, dif_pos (by omega)]
      exact hw d ⟨e.val, h8⟩
    · rw [if_neg h8]
      exact Real'.zero
  show _ = val8 x g w R.val e.val
  unfold rout8 val8 O8
  have h2 : (∑ d : Fin 1024, (hG x g R.val d - hG x g R.val d) * wab w e.val d : EReal) = 0 := Finset.sum_eq_zero fun d _ => by rw [sub_self' (hG_real x g hg _ _), zero_mul]
  have h3 : (∑ d : Fin 1024, hG x g R.val d * (wab w e.val d - wab w e.val d) : EReal) = 0 := Finset.sum_eq_zero fun d _ => by rw [sub_self' (hwab d), mul_zero]
  rw [h2, h3, add_zero, add_zero, fill_at _ _ _ e R hRb]
  by_cases h : e.val < 8
  · rw [dif_pos h, cutN_at, rpj_pr, ← hRb]
    unfold wab
    simp only [if_pos h]
    rfl
  · rw [dif_neg h]
    unfold wab
    simp only [if_neg h, mul_zero, Finset.sum_const_zero]

end
end Cert.Reference4Ideal.Inp
end
end
-- ==== Proof.Narrow.lean ====
module

public import proofs.«01_k».proof.Defs
public import proofs.«01_k».proof.Proof.Finite
public import Idealize.ShloMosaic.Lib.Pointwise

/-! What the input projection's precondition says of the arrays. -/

@[expose] public section
set_option maxRecDepth 16384
noncomputable section
namespace Cert.Proof
open Idealize.ShloMosaic Idealize.ShloMosaic.TcCoe Idealize.SL.Sem
open Cert.ReferenceIdeal.Swa (Real')

/-- The shape facts of the precondition. -/
theorem pre4_facts : Cert.Pre_narrow_real.Facts :=
  ⟨by decide, by decide, by decide⟩

attribute [local instance] pre4_facts

open Cert.Pre_narrow_real

/-- The narrow columns cut out, at an entry. -/
theorem narrow_at (w : FVec Ideal S1024x3592 .f32) (d : Fin 1024) (j : Fin 8) :
    extractStridedSlice S1024x8 ![0, 2048] w Facts.slices_S1024x3592_S1024x8_0_2048 (ix2 d j) = w (ix2 d (⟨2048 + j.val, by omega⟩ : Fin 3592)) := by
  pointwise

/-- Under the precondition the gain and the narrow columns are real. -/
theorem narrow_real (x : FVec Ideal S32768x1024 .f32) (g : FVec Ideal S1024 .f32) (w : FVec Ideal S1024x3592 .f32) (cq : FVec Ideal S4x1536 .f32) (cs : FVec Ideal S3x512 .f32)
    (h : (fn x g w cq cs).1 = (fun _ => 1#1) ∧ (fn x g w cq cs).2 = (fun _ => 1#1)) :
    (∀ i, Real' (g i)) ∧ (∀ (d : Fin 1024) (j : Fin 8), Real' (w (ix2 d (⟨2048 + j.val, by omega⟩ : Fin 3592)))) :=
  ⟨fun i => real_of_bits _ (congrFun h.1 i), fun d j => by
    rw [← narrow_at w d j]
    exact real_of_bits _ (congrFun h.2 (ix2 d j))⟩

end Cert.Proof
end
end
-- ==== Proof.Texts5.lean ====
module

public import proofs.«01_k».proof.Defs
public import proofs.«01_k».proof.Proof.Gen.Kernel5
public import proofs.«01_k».proof.Proof.Gen.Kernel5Ideal

/-! The two texts of the odd layer's input-projection kernel are one: the body table over machine floats is the ideal
    program's text over machine floats. -/

@[expose] public section
set_option maxRecDepth 16384
noncomputable section
namespace Cert.Proof
open Idealize.ShloMosaic Idealize.ShloMosaic.TcCoe Idealize.SL.Sem

/-- One body, the same text. -/
theorem body5_eq : @Cert.Kernel5.cc0_inproj_odd Bits _ Cert.Kernel5.Gen.facts = @Cert.Kernel5Ideal.cc0_inproj_odd Bits _ Cert.Kernel5Ideal.Gen.facts := rfl

/-- The tables of bodies agree, label by label. -/
theorem defs5₀_eq : Cert.Kernel5.defs₀ (F := Bits) = Cert.Kernel5Ideal.defs₀ (F := Bits) := by
  unfold Cert.Kernel5.defs₀ Cert.Kernel5Ideal.defs₀
  rw [body5_eq]
  refine congrArg Defs.onTc (funext fun l => funext fun a => ?_)
  match l, a with
  | 0, (t, s) => rfl
  | ⟨n + 1, h⟩, _ => exact absurd h (Nat.not_lt.2 (Nat.le_add_left _ _))

/-- The tables with the pipelines agree. -/
theorem defs5_eq : Cert.Kernel5.defs (F := Bits) = Cert.Kernel5Ideal.defs (F := Bits) :=
  congrArg (Pipeline.defs (Cert.Kernel5.pcfgs (F := Bits))) defs5₀_eq

/-- One main program, the same text. -/
theorem main5_eq : Cert.Kernel5.main (F := Bits) = Cert.Kernel5Ideal.main (F := Bits) := by
  unfold Cert.Kernel5.main Cert.Kernel5Ideal.main
  rfl
end Cert.Proof
end
end
-- ==== Proof.OddRef.lean ====
module

public import proofs.«01_k».proof.Proof.Gen.Reference5Ideal.Run
public import Idealize.ShloMosaic.Lib.Pointwise

/-! The odd layer's input projection's reference entry by entry, at the exact numbers. -/

@[expose] public section
set_option maxRecDepth 16384
noncomputable section
namespace Cert.Reference5Ideal.Odd
open Cert.Reference5Ideal Cert.Reference5Ideal.Gen
open Idealize.ShloMosaic Idealize.ShloMosaic.TcCoe Idealize.SL.Sem

/-- Each row's sum of squares. -/
def rsq (x : Vec Ideal S32768x1024 .f32) : Vec Ideal S32768 .f32 :=
  Host.reduceAdd (F := Ideal) (φ := .f32) (mulf (F := Ideal) (φ := .f32) x x) (constant (F := Ideal) S_ .f32 0x00000000#32) reducesTo_S32768x1024_S32768_d1 h_S_
/-- Each row's `rsqrt` of its mean square. -/
def rrs (s : Vec Ideal S32768 .f32) : Vec Ideal S32768x1 .f32 :=
  Host.rsqrt (F := Ideal) (φ := .f32) (addf (F := Ideal) (φ := .f32) (Host.divf (F := Ideal) (φ := .f32) (broadcastInDim S32768x1 ![0] bcast_S32768_S32768x1_0 s) (broadcastInDim S32768x1 ![] bcast_S_S32768x1 (constant (F := Ideal) S_ .f32 0x44800000#32))) (broadcastInDim S32768x1 ![] bcast_S_S32768x1 (constant (F := Ideal) S_ .f32 0x358637BD#32)))
/-- The normalized rows. -/
def rh (x : Vec Ideal S32768x1024 .f32) (g : Vec Ideal S1024 .f32) : Vec Ideal S32768x1024 .f32 :=
  mulf (F := Ideal) (φ := .f32) (mulf (F := Ideal) (φ := .f32) x (broadcastInDim S32768x1024 ![0, 1] bcast_S32768x1_S32768x1024_0_1 (rrs (rsq x)))) (broadcastInDim S32768x1024 ![0, 1] bcast_S1x1024_S32768x1024_0_1 (broadcastInDim S1x1024 ![1] bcast_S1024_S1x1024_1 g))

/-- The rows through all the weights. -/
def pj (H : Vec Ideal S32768x1024 .f32) (w : Vec Ideal S1024x1280 .f32) : Vec Ideal S32768x1280 .f32 :=
  Host.dotGeneral (F := Ideal) (φ₁ := .f32) (φ₂ := .f32) dot_S32768x1024_S1024x1280_S32768x1280_1_0_0_1_n_n none H w
/-- The queries by head. -/
def hdQ (P : Vec Ideal S32768x1280 .f32) : Vec Ideal S32768x16x64 .f32 := shapeCast _ (extractStridedSlice S32768x1024 ![0, 0] P slices_S32768x1280_S32768x1024_0_0) shapeCasts_S32768x1024_S32768x16x64
/-- Each head's sum of squares. -/
def ssQ (A : Vec Ideal S32768x16x64 .f32) : Vec Ideal S32768x16 .f32 := Host.reduceAdd (F := Ideal) (φ := .f32) (mulf (F := Ideal) (φ := .f32) A A) (constant (F := Ideal) S_ .f32 0x00000000#32) reducesTo_S32768x16x64_S32768x16_d2 h_S_
/-- Each head's `rsqrt` of its mean square. -/
def rsQ (s : Vec Ideal S32768x16 .f32) : Vec Ideal S32768x16x1 .f32 := Host.rsqrt (F := Ideal) (φ := .f32) (addf (F := Ideal) (φ := .f32) (Host.divf (F := Ideal) (φ := .f32) (broadcastInDim S32768x16x1 ![0, 1] bcast_S32768x16_S32768x16x1_0_1 s) (broadcastInDim S32768x16x1 ![] bcast_S_S32768x16x1 (constant (F := Ideal) S_ .f32 0x42800000#32))) (broadcastInDim S32768x16x1 ![] bcast_S_S32768x16x1 (constant (F := Ideal) S_ .f32 0x358637BD#32)))
/-- Each head over its length, with its weights. -/
def nrQ (A : Vec Ideal S32768x16x64 .f32) (z : Vec Ideal S32768x16x1 .f32) (q : Vec Ideal S64 .f32) : Vec Ideal S32768x16x64 .f32 := mulf (F := Ideal) (φ := .f32) (mulf (F := Ideal) (φ := .f32) A (broadcastInDim S32768x16x64 ![0, 1, 2] bcast_S32768x16x1_S32768x16x64_0_1_2 z)) (broadcastInDim S32768x16x64 ![0, 1, 2] bcast_S1x1x64_S32768x16x64_0_1_2 (broadcastInDim S1x1x64 ![2] bcast_S64_S1x1x64_2 q))
/-- Heads side by side. -/
def flQ (A : Vec Ideal S32768x16x64 .f32) : Vec Ideal S32768x1024 .f32 := shapeCast _ A shapeCasts_S32768x16x64_S32768x1024
/-- The keys by head. -/
def hdK (P : Vec Ideal S32768x1280 .f32) : Vec Ideal S32768x2x64 .f32 := shapeCast _ (extractStridedSlice S32768x128 ![0, 1024] P slices_S32768x1280_S32768x128_0_1024) shapeCasts_S32768x128_S32768x2x64
/-- Each head's sum of squares. -/
def ssK (A : Vec Ideal S32768x2x64 .f32) : Vec Ideal S32768x2 .f32 := Host.reduceAdd (F := Ideal) (φ := .f32) (mulf (F := Ideal) (φ := .f32) A A) (constant (F := Ideal) S_ .f32 0x00000000#32) reducesTo_S32768x2x64_S32768x2_d2 h_S_
/-- Each head's `rsqrt` of its mean square. -/
def rsK (s : Vec Ideal S32768x2 .f32) : Vec Ideal S32768x2x1 .f32 := Host.rsqrt (F := Ideal) (φ := .f32) (addf (F := Ideal) (φ := .f32) (Host.divf (F := Ideal) (φ := .f32) (broadcastInDim S32768x2x1 ![0, 1] bcast_S32768x2_S32768x2x1_0_1 s) (broadcastInDim S32768x2x1 ![] bcast_S_S32768x2x1 (constant (F := Ideal) S_ .f32 0x42800000#32))) (broadcastInDim S32768x2x1 ![] bcast_S_S32768x2x1 (constant (F := Ideal) S_ .f32 0x358637BD#32)))
/-- Each head over its length, with its weights. -/
def nrK (A : Vec Ideal S32768x2x64 .f32) (z : Vec Ideal S32768x2x1 .f32) (q : Vec Ideal S64 .f32) : Vec Ideal S32768x2x64 .f32 := mulf (F := Ideal) (φ := .f32) (mulf (F := Ideal) (φ := .f32) A (broadcastInDim S32768x2x64 ![0, 1, 2] bcast_S32768x2x1_S32768x2x64_0_1_2 z)) (broadcastInDim S32768x2x64 ![0, 1, 2] bcast_S1x1x64_S32768x2x64_0_1_2 (broadcastInDim S1x1x64 ![2] bcast_S64_S1x1x64_2 q))
/-- Heads side by side. -/
def flK (A : Vec Ideal S32768x2x64 .f32) : Vec Ideal S32768x128 .f32 := shapeCast _ A shapeCasts_S32768x2x64_S32768x128
/-- The queries scaled. -/
def sc (A : Vec Ideal S32768x16x64 .f32) : Vec Ideal S32768x16x64 .f32 := mulf (F := Ideal) (φ := .f32) A (broadcastInDim S32768x16x64 ![] bcast_S_S32768x16x64 (constant (F := Ideal) S_ .f32 0x3E000000#32))
/-- The values. -/
def cV (P : Vec Ideal S32768x1280 .f32) : Vec Ideal S32768x128 .f32 := extractStridedSlice S32768x128 ![0, 1152] P slices_S32768x1280_S32768x128_0_1152
/-- Queries, keys and values side by side. -/
def pack (a : Vec Ideal S32768x1024 .f32) (b c : Vec Ideal S32768x128 .f32) : Vec Ideal S32768x1280 .bf16 :=
  truncf (F := Ideal) (s := S32768x1280) (φ := .f32) .bf16 (concatenate S32768x1280 1 [⟨S32768x1024, a⟩, ⟨S32768x128, b⟩, ⟨S32768x128, c⟩] concatenates_S32768x1024_S32768x128_S32768x128_S32768x1280_d1) bitsLt_bf16_f32
/-- The result from the projections. -/
def rout (P : Vec Ideal S32768x1280 .f32) (q k : Vec Ideal S64 .f32) : Vec Ideal S32768x1280 .bf16 :=
  pack (flQ (sc (nrQ (hdQ P) (rsQ (ssQ (hdQ P))) q))) (flK (nrK (hdK P) (rsK (ssK (hdK P))) k)) (cV P)

/-- The program's run ends with this composition, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = rout (pj (rh (m ((c.tc : Thread nD τ).loc main_arg0)) (m ((c.tc : Thread nD τ).loc main_arg1))) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    unfold Value.res_main_v50 rout pack flQ flK sc nrQ nrK rsQ rsK ssQ ssK hdQ hdK cV pj rh rrs rsq
    rfl), (h c).2⟩) (Value.run (F := Ideal) m ρ)

section
variable (x : Vec Ideal S32768x1024 .f32) (g : Vec Ideal S1024 .f32)

/-- The entries of a row. -/
theorem row_iff (R : Fin 32768) (i : S32768x1024.Idx) :
    reducesTo_S32768x1024_S32768_d1.drop i = ix1 R ↔ ∃ c : Fin 1024, ix2 R c = i := by
  constructor
  · intro e
    refine ⟨i 1, ?_⟩
    funext a; apply Fin.ext
    match a with
    | ⟨0, _⟩ => exact (congrArg Fin.val (congrFun e ⟨0, by decide⟩)).symm
    | ⟨1, _⟩ => rfl
  · rintro ⟨c, rfl⟩
    funext a
    apply Fin.ext
    match a with
    | ⟨0, _⟩ => rfl

/-- The sum of squares at a row. -/
theorem rsq_at (R : Fin 32768) : rsq x (ix1 R) = ∑ d : Fin 1024, (x (ix2 R d) * x (ix2 R d) : EReal) := by
  unfold rsq
  have e := Finset.sum_filter_eq_sum_of_fiber _ (fun c : Fin 1024 => ix2 R c) (fun _ _ e => congrFun e 1) (row_iff R) (mulf (F := Ideal) (φ := .f32) x x)
  refine Eq.trans (b := Ideal.ofBits .f32 0#32 + ∑ i ∈ Finset.univ.filter (fun i => reducesTo_S32768x1024_S32768_d1.drop i = ix1 R), mulf (F := Ideal) (φ := .f32) x x i) rfl ?_
  rw [e, Ideal.ofBits_zero_f32, zero_add]
  rfl

/-- The `rsqrt` at a row. -/
theorem rrs_at (s : Vec Ideal S32768 .f32) (R : Fin 32768) :
    rrs s (ix2 R (0 : Fin 1)) = Ideal.rsqrt (Ideal.div (s (ix1 R)) (Ideal.ofBits .f32 0x44800000#32) + Ideal.ofBits .f32 0x358637BD#32) := by
  pointwise [rrs]

/-- The normalized rows at an entry. -/
theorem rh_at (R : Fin 32768) (d : Fin 1024) :
    rh x g (ix2 R d) = x (ix2 R d) * rrs (rsq x) (ix2 R (0 : Fin 1)) * g (ix1 d) := by
  pointwise [rh]
/-- The rows through the weights at an entry. -/
theorem pj_at (H : Vec Ideal S32768x1024 .f32) (w : Vec Ideal S1024x1280 .f32) (R : Fin 32768) (c : Fin 1280) :
    pj H w (ix2 R c) = (∑ d : Fin 1024, H (ix2 R d) * w (ix2 d c) : EReal) := by
  pointwise [pj]
/-- The queries by head, at an entry. -/
theorem hdQ_at (P : Vec Ideal S32768x1280 .f32) (R : Fin 32768) (h : Fin 16) (l : Fin 64) : hdQ P (ix3 R h l) = P (ix2 R (⟨h.val * 64 + l.val, by omega⟩ : Fin 1280)) := by
  pointwise [hdQ]
/-- A head's entries. -/
theorem headQ_iff (R : Fin 32768) (h : Fin 16) (i : S32768x16x64.Idx) :
    reducesTo_S32768x16x64_S32768x16_d2.drop i = ix2 R h ↔ ∃ l : Fin 64, ix3 R h l = i := by
  constructor
  · intro e
    refine ⟨i 2, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => rfl
  · rintro ⟨l, rfl⟩
    funext a
    apply Fin.ext
    match a with
    | ⟨0, _⟩ => rfl
    | ⟨1, _⟩ => rfl
/-- A head's sum of squares. -/
theorem ssQ_at (A : Vec Ideal S32768x16x64 .f32) (R : Fin 32768) (h : Fin 16) : ssQ A (ix2 R h) = ∑ l : Fin 64, (A (ix3 R h l) * A (ix3 R h l) : EReal) := by
  unfold ssQ
  have e := Finset.sum_filter_eq_sum_of_fiber _ (fun l : Fin 64 => ix3 R h l) (fun _ _ e => congrFun e 2) (headQ_iff R h) (mulf (F := Ideal) (φ := .f32) A A)
  refine Eq.trans (b := Ideal.ofBits .f32 0#32 + ∑ i ∈ Finset.univ.filter (fun i => reducesTo_S32768x16x64_S32768x16_d2.drop i = ix2 R h), mulf (F := Ideal) (φ := .f32) A A i) rfl ?_
  rw [e, Ideal.ofBits_zero_f32, zero_add]
  rfl
/-- A head's `rsqrt`. -/
theorem rsQ_at (z : Vec Ideal S32768x16 .f32) (R : Fin 32768) (h : Fin 16) : rsQ z (ix3 R h (0 : Fin 1)) = Ideal.rsqrt (Ideal.div (z (ix2 R h)) (Ideal.ofBits .f32 0x42800000#32) + Ideal.ofBits .f32 0x358637BD#32) := by
  pointwise [rsQ]
/-- A head over its length, at an entry. -/
theorem nrQ_at (A : Vec Ideal S32768x16x64 .f32) (z : Vec Ideal S32768x16x1 .f32) (q : Vec Ideal S64 .f32) (R : Fin 32768) (h : Fin 16) (l : Fin 64) : nrQ A z q (ix3 R h l) = (A (ix3 R h l) * z (ix3 R h (0 : Fin 1)) * q (ix1 l) : EReal) := by
  pointwise [nrQ]
/-- Heads side by side, at an entry. -/
theorem flQ_at (A : Vec Ideal S32768x16x64 .f32) (R : Fin 32768) (c : Fin 1024) : flQ A (ix2 R c) = A (ix3 R (⟨c.val / 64, by omega⟩ : Fin 16) (⟨c.val % 64, by omega⟩ : Fin 64)) := by
  pointwise [flQ]
/-- The keys by head, at an entry. -/
theorem hdK_at (P : Vec Ideal S32768x1280 .f32) (R : Fin 32768) (h : Fin 2) (l : Fin 64) : hdK P (ix3 R h l) = P (ix2 R (⟨1024 + (h.val * 64 + l.val), by omega⟩ : Fin 1280)) := by
  pointwise [hdK]
/-- A head's entries. -/
theorem headK_iff (R : Fin 32768) (h : Fin 2) (i : S32768x2x64.Idx) :
    reducesTo_S32768x2x64_S32768x2_d2.drop i = ix2 R h ↔ ∃ l : Fin 64, ix3 R h l = i := by
  constructor
  · intro e
    refine ⟨i 2, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => rfl
  · rintro ⟨l, rfl⟩
    funext a
    apply Fin.ext
    match a with
    | ⟨0, _⟩ => rfl
    | ⟨1, _⟩ => rfl
/-- A head's sum of squares. -/
theorem ssK_at (A : Vec Ideal S32768x2x64 .f32) (R : Fin 32768) (h : Fin 2) : ssK A (ix2 R h) = ∑ l : Fin 64, (A (ix3 R h l) * A (ix3 R h l) : EReal) := by
  unfold ssK
  have e := Finset.sum_filter_eq_sum_of_fiber _ (fun l : Fin 64 => ix3 R h l) (fun _ _ e => congrFun e 2) (headK_iff R h) (mulf (F := Ideal) (φ := .f32) A A)
  refine Eq.trans (b := Ideal.ofBits .f32 0#32 + ∑ i ∈ Finset.univ.filter (fun i => reducesTo_S32768x2x64_S32768x2_d2.drop i = ix2 R h), mulf (F := Ideal) (φ := .f32) A A i) rfl ?_
  rw [e, Ideal.ofBits_zero_f32, zero_add]
  rfl
/-- A head's `rsqrt`. -/
theorem rsK_at (z : Vec Ideal S32768x2 .f32) (R : Fin 32768) (h : Fin 2) : rsK z (ix3 R h (0 : Fin 1)) = Ideal.rsqrt (Ideal.div (z (ix2 R h)) (Ideal.ofBits .f32 0x42800000#32) + Ideal.ofBits .f32 0x358637BD#32) := by
  pointwise [rsK]
/-- A head over its length, at an entry. -/
theorem nrK_at (A : Vec Ideal S32768x2x64 .f32) (z : Vec Ideal S32768x2x1 .f32) (q : Vec Ideal S64 .f32) (R : Fin 32768) (h : Fin 2) (l : Fin 64) : nrK A z q (ix3 R h l) = (A (ix3 R h l) * z (ix3 R h (0 : Fin 1)) * q (ix1 l) : EReal) := by
  pointwise [nrK]
/-- Heads side by side, at an entry. -/
theorem flK_at (A : Vec Ideal S32768x2x64 .f32) (R : Fin 32768) (c : Fin 128) : flK A (ix2 R c) = A (ix3 R (⟨c.val / 64, by omega⟩ : Fin 2) (⟨c.val % 64, by omega⟩ : Fin 64)) := by
  pointwise [flK]
/-- The queries scaled, at an entry. -/
theorem sc_at (A : Vec Ideal S32768x16x64 .f32) (R : Fin 32768) (h : Fin 16) (l : Fin 64) : sc A (ix3 R h l) = (A (ix3 R h l) * Ideal.ofBits .f32 0x3E000000#32 : EReal) := by
  pointwise [sc]
/-- The values at an entry. -/
theorem cV_at (P : Vec Ideal S32768x1280 .f32) (R : Fin 32768) (c : Fin 128) : cV P (ix2 R c) = P (ix2 R (⟨1152 + c.val, by omega⟩ : Fin 1280)) := by
  pointwise [cV]
/-- Queries, keys and values side by side, at an entry. -/
theorem pack_at (a : Vec Ideal S32768x1024 .f32) (b c : Vec Ideal S32768x128 .f32) (R : Fin 32768) (l : Fin 1280) :
    pack a b c (ix2 R l) = if h : l.val < 1024 then a (ix2 R (⟨l.val, h⟩ : Fin 1024)) else if h : l.val < 1152 then b (ix2 R (⟨l.val - 1024, by omega⟩ : Fin 128)) else c (ix2 R (⟨l.val - 1152, by omega⟩ : Fin 128)) := by
  pointwise [pack]
  by_cases h1 : l.val < 1024
  · rw [dif_pos h1, dif_pos h1]
  · rw [dif_neg h1, dif_neg h1]
    by_cases h2 : l.val < 1152
    · rw [dif_pos (by omega), dif_pos h2]
    · rw [dif_neg (by omega), dif_neg h2]
      exact congrArg (fun y : Fin 128 => c (ix2 R y)) (Fin.ext (by show l.val - 1024 - 128 = l.val - 1152; omega))
end
end Cert.Reference5Ideal.Odd
end
end
-- ==== Proof.OddPure.lean ====
module

public import proofs.«01_k».proof.Proof.InpPieces
public import proofs.«01_k».proof.Proof.Gen.Kernel5Ideal.Frame
public import Idealize.ShloMosaic.Lib.Pointwise
public import Idealize.ShloMosaic.Lib.Pipeline.ValueKit
public import Idealize.ShloMosaic.Lib.Pipeline.ReadBack
public import Idealize.ShloMosaic.Lib.Pipeline.Value

/-! The odd layer's input-projection body entry by entry, at the exact numbers. -/

@[expose] public section
set_option maxRecDepth 16384
noncomputable section
namespace Cert.Kernel5Ideal.Odd
open Cert.Kernel5Ideal Cert.Kernel5Ideal.Gen
open Idealize.ShloMosaic Idealize.ShloMosaic.TcCoe Idealize.SL.Sem
open Cert.Kernel4Ideal.Inp (hK hit miss)

/-- A projection of a row. -/
def yK (h : Fin 1024 → EReal) (w : Fin 1024 → EReal) : EReal := ∑ d : Fin 1024, h d * w d
/-- A sum of squares weighted by a column of a table, in its two parts. -/
def msK (u : Fin 128 → EReal) (b : Fin 128 → EReal) : EReal := (∑ l : Fin 128, u l * u l * b l) + (∑ l : Fin 128, (u l * u l - u l * u l) * b l)
/-- A key over its length, with its weight. -/
def nK (y ms w : EReal) : EReal := y * Ideal.rsqrt (ms * Ideal.ofBits .f32 0x3C800000#32 + Ideal.ofBits .f32 0x358637BD#32) * w
/-- A query over its length, with its weight, scaled. -/
def nQ (y ms w : EReal) : EReal := nK y ms w * Ideal.ofBits .f32 0x3E000000#32

/-- The normalized rows. -/
theorem pay3_at (x : Vec Ideal S512x1024 .f32) (g : Vec Ideal S1x1024 .f32) (p : Fin 512) (d : Fin 1024) :
    k0_pay3 (F := Ideal) x g (ix2 p d) = hK (fun e => x (ix2 p e)) (fun e => g (ix2 (0 : Fin 1) e)) d := by
  unfold hK
  pointwise [k0_pay3]
/-- The table as it is. -/
theorem pay4_at (b : Vec Ideal S128x128 .bf16) (i j : Fin 128) : k0_pay4 (F := Ideal) b (ix2 i j) = b (ix2 i j) := by
  pointwise [k0_pay4]
/-- A block of columns of the projections. -/
theorem y0_at (x : Vec Ideal S512x1024 .f32) (g : Vec Ideal S1x1024 .f32) (w : Vec Ideal S1024x128 .bf16) (p : Fin 512) (j : Fin 128) :
    k0_pay5 (F := Ideal) x g w (ix2 p j) = yK (fun d => k0_pay3 (F := Ideal) x g (ix2 p d)) (fun d => w (ix2 d j)) := by
  unfold yK
  unfold k0_pay5
  generalize k0_pay3 (F := Ideal) x g = H
  pointwise
/-- A block of columns of the projections. -/
theorem y1_at (x : Vec Ideal S512x1024 .f32) (g : Vec Ideal S1x1024 .f32) (w : Vec Ideal S1024x128 .bf16) (p : Fin 512) (j : Fin 128) :
    k0_pay6 (F := Ideal) x g w (ix2 p j) = yK (fun d => k0_pay3 (F := Ideal) x g (ix2 p d)) (fun d => w (ix2 d j)) := by
  unfold yK
  unfold k0_pay6
  generalize k0_pay3 (F := Ideal) x g = H
  pointwise
/-- A block of columns of the projections. -/
theorem y2_at (x : Vec Ideal S512x1024 .f32) (g : Vec Ideal S1x1024 .f32) (w : Vec Ideal S1024x128 .bf16) (p : Fin 512) (j : Fin 128) :
    k0_pay8 (F := Ideal) (k0_pay7 x g w) (ix2 p j) = yK (fun d => k0_pay3 (F := Ideal) x g (ix2 p d)) (fun d => w (ix2 d j)) := by
  unfold yK
  unfold k0_pay8 k0_pay7
  generalize k0_pay3 (F := Ideal) x g = H
  pointwise
/-- A block of columns of the projections. -/
theorem y3_at (h : Vec Ideal S512x1024 .bf16) (w : Vec Ideal S1024x128 .bf16) (p : Fin 512) (j : Fin 128) :
    k0_pay9 (F := Ideal) h w (ix2 p j) = yK (fun d => h (ix2 p d)) (fun d => w (ix2 d j)) := by
  unfold yK
  pointwise [k0_pay9]
/-- A block of columns of the projections. -/
theorem y4_at (h : Vec Ideal S512x1024 .bf16) (w : Vec Ideal S1024x128 .bf16) (p : Fin 512) (j : Fin 128) :
    k0_pay10 (F := Ideal) h w (ix2 p j) = yK (fun d => h (ix2 p d)) (fun d => w (ix2 d j)) := by
  unfold yK
  pointwise [k0_pay10]
/-- A block of columns of the projections. -/
theorem y5_at (h : Vec Ideal S512x1024 .bf16) (w : Vec Ideal S1024x128 .bf16) (p : Fin 512) (j : Fin 128) :
    k0_pay11 (F := Ideal) h w (ix2 p j) = yK (fun d => h (ix2 p d)) (fun d => w (ix2 d j)) := by
  unfold yK
  pointwise [k0_pay11]
/-- A block of columns of the projections. -/
theorem y6_at (h : Vec Ideal S512x1024 .bf16) (w : Vec Ideal S1024x128 .bf16) (p : Fin 512) (j : Fin 128) :
    k0_pay12 (F := Ideal) h w (ix2 p j) = yK (fun d => h (ix2 p d)) (fun d => w (ix2 d j)) := by
  unfold yK
  pointwise [k0_pay12]
/-- A block of columns of the projections. -/
theorem y7_at (h : Vec Ideal S512x1024 .bf16) (w : Vec Ideal S1024x128 .bf16) (p : Fin 512) (j : Fin 128) :
    k0_pay14 (F := Ideal) (k0_pay13 h w) (ix2 p j) = yK (fun d => h (ix2 p d)) (fun d => w (ix2 d j)) := by
  unfold yK
  pointwise [k0_pay14, k0_pay13]
/-- A block of columns of the projections. -/
theorem y8_at (h : Vec Ideal S512x1024 .bf16) (w : Vec Ideal S1024x128 .bf16) (p : Fin 512) (j : Fin 128) :
    k0_pay15 (F := Ideal) h w (ix2 p j) = yK (fun d => h (ix2 p d)) (fun d => w (ix2 d j)) := by
  unfold yK
  pointwise [k0_pay15]
/-- A block of columns of the projections. -/
theorem y9_at (h : Vec Ideal S512x1024 .bf16) (w : Vec Ideal S1024x128 .bf16) (p : Fin 512) (j : Fin 128) :
    k0_pay16 (F := Ideal) h w (ix2 p j) = yK (fun d => h (ix2 p d)) (fun d => w (ix2 d j)) := by
  unfold yK
  pointwise [k0_pay16]
/-- A block of columns of the sums of squares. -/
theorem m0_at (b : Vec Ideal S128x128 .bf16) (y : Vec Ideal S512x128 .f32) (p : Fin 512) (j : Fin 128) :
    k0_pay17 (F := Ideal) b y (ix2 p j) = msK (fun l => y (ix2 p l)) (fun l => b (ix2 l j)) := by
  unfold msK
  pointwise [k0_pay17]
/-- A block of columns of the sums of squares. -/
theorem m1_at (b : Vec Ideal S128x128 .bf16) (y : Vec Ideal S512x128 .f32) (p : Fin 512) (j : Fin 128) :
    k0_pay19 (F := Ideal) (k0_pay18 b y) (ix2 p j) = msK (fun l => y (ix2 p l)) (fun l => b (ix2 l j)) := by
  unfold msK
  pointwise [k0_pay19, k0_pay18]
/-- A block of columns of the sums of squares. -/
theorem m2_at (b : Vec Ideal S128x128 .bf16) (y : Vec Ideal S512x128 .f32) (p : Fin 512) (j : Fin 128) :
    k0_pay20 (F := Ideal) b y (ix2 p j) = msK (fun l => y (ix2 p l)) (fun l => b (ix2 l j)) := by
  unfold msK
  pointwise [k0_pay20]
/-- A block of columns of the sums of squares. -/
theorem m3_at (b : Vec Ideal S128x128 .bf16) (y : Vec Ideal S512x128 .f32) (p : Fin 512) (j : Fin 128) :
    k0_pay21 (F := Ideal) b y (ix2 p j) = msK (fun l => y (ix2 p l)) (fun l => b (ix2 l j)) := by
  unfold msK
  pointwise [k0_pay21]
/-- A block of columns of the sums of squares. -/
theorem m4_at (b : Vec Ideal S128x128 .bf16) (y : Vec Ideal S512x128 .f32) (p : Fin 512) (j : Fin 128) :
    k0_pay23 (F := Ideal) (k0_pay22 b y) (ix2 p j) = msK (fun l => y (ix2 p l)) (fun l => b (ix2 l j)) := by
  unfold msK
  pointwise [k0_pay23, k0_pay22]
/-- A block of columns of the sums of squares. -/
theorem m5_at (b : Vec Ideal S128x128 .bf16) (y : Vec Ideal S512x128 .f32) (p : Fin 512) (j : Fin 128) :
    k0_pay24 (F := Ideal) b y (ix2 p j) = msK (fun l => y (ix2 p l)) (fun l => b (ix2 l j)) := by
  unfold msK
  pointwise [k0_pay24]
/-- A block of columns of the sums of squares. -/
theorem m6_at (b : Vec Ideal S128x128 .bf16) (y : Vec Ideal S512x128 .f32) (p : Fin 512) (j : Fin 128) :
    k0_pay25 (F := Ideal) b y (ix2 p j) = msK (fun l => y (ix2 p l)) (fun l => b (ix2 l j)) := by
  unfold msK
  pointwise [k0_pay25]
/-- A block of columns of the sums of squares. -/
theorem m7_at (b : Vec Ideal S128x128 .bf16) (y : Vec Ideal S512x128 .f32) (p : Fin 512) (j : Fin 128) :
    k0_pay26 (F := Ideal) b y (ix2 p j) = msK (fun l => y (ix2 p l)) (fun l => b (ix2 l j)) := by
  unfold msK
  pointwise [k0_pay26]
/-- A block of columns of the sums of squares. -/
theorem m8_at (b : Vec Ideal S128x128 .bf16) (y : Vec Ideal S512x128 .f32) (p : Fin 512) (j : Fin 128) :
    k0_pay27 (F := Ideal) b y (ix2 p j) = msK (fun l => y (ix2 p l)) (fun l => b (ix2 l j)) := by
  unfold msK
  pointwise [k0_pay27]
/-- A block of columns of the result. -/
theorem o0_at (s y : Vec Ideal S512x128 .f32) (w : Vec Ideal S1x128 .f32) (p : Fin 512) (j : Fin 128) :
    k0_pay28 (F := Ideal) s y w (ix2 p j) = nQ (y (ix2 p j)) (s (ix2 p j)) (w (ix2 (0 : Fin 1) j)) := by
  unfold nQ nK
  pointwise [k0_pay28]
/-- A block of columns of the result. -/
theorem o1_at (s y : Vec Ideal S512x128 .f32) (w : Vec Ideal S1x128 .f32) (p : Fin 512) (j : Fin 128) :
    k0_pay30 (F := Ideal) (k0_pay29 s) y w (ix2 p j) = nQ (y (ix2 p j)) (s (ix2 p j)) (w (ix2 (0 : Fin 1) j)) := by
  unfold nQ nK
  pointwise [k0_pay30, k0_pay29]
/-- A block of columns of the result. -/
theorem o2_at (s y : Vec Ideal S512x128 .f32) (w : Vec Ideal S1x128 .f32) (p : Fin 512) (j : Fin 128) :
    k0_pay31 (F := Ideal) s y w (ix2 p j) = nQ (y (ix2 p j)) (s (ix2 p j)) (w (ix2 (0 : Fin 1) j)) := by
  unfold nQ nK
  pointwise [k0_pay31]
/-- A block of columns of the result. -/
theorem o3_at (s y : Vec Ideal S512x128 .f32) (w : Vec Ideal S1x128 .f32) (p : Fin 512) (j : Fin 128) :
    k0_pay33 (F := Ideal) (k0_pay32 s y) w (ix2 p j) = nQ (y (ix2 p j)) (s (ix2 p j)) (w (ix2 (0 : Fin 1) j)) := by
  unfold nQ nK
  pointwise [k0_pay33, k0_pay32]
/-- A block of columns of the result. -/
theorem o4_at (s y : Vec Ideal S512x128 .f32) (w : Vec Ideal S1x128 .f32) (p : Fin 512) (j : Fin 128) :
    k0_pay34 (F := Ideal) s y w (ix2 p j) = nQ (y (ix2 p j)) (s (ix2 p j)) (w (ix2 (0 : Fin 1) j)) := by
  unfold nQ nK
  pointwise [k0_pay34]
/-- A block of columns of the result. -/
theorem o5_at (s y : Vec Ideal S512x128 .f32) (w : Vec Ideal S1x128 .f32) (p : Fin 512) (j : Fin 128) :
    k0_pay36 (F := Ideal) (k0_pay35 s y w) (Scalar.ofBits .f32 0x3E000000#32) (ix2 p j) = nQ (y (ix2 p j)) (s (ix2 p j)) (w (ix2 (0 : Fin 1) j)) := by
  unfold nQ nK
  pointwise [k0_pay36, k0_pay35]
/-- A block of columns of the result. -/
theorem o6_at (s y : Vec Ideal S512x128 .f32) (w : Vec Ideal S1x128 .f32) (p : Fin 512) (j : Fin 128) :
    k0_pay37 (F := Ideal) s y w (ix2 p j) = nQ (y (ix2 p j)) (s (ix2 p j)) (w (ix2 (0 : Fin 1) j)) := by
  unfold nQ nK
  pointwise [k0_pay37]
/-- A block of columns of the result. -/
theorem o7_at (s y : Vec Ideal S512x128 .f32) (w : Vec Ideal S1x128 .f32) (p : Fin 512) (j : Fin 128) :
    k0_pay38 (F := Ideal) s y w (ix2 p j) = nQ (y (ix2 p j)) (s (ix2 p j)) (w (ix2 (0 : Fin 1) j)) := by
  unfold nQ nK
  pointwise [k0_pay38]
/-- A block of columns of the result. -/
theorem o8_at (s y : Vec Ideal S512x128 .f32) (w : Vec Ideal S1x128 .f32) (p : Fin 512) (j : Fin 128) :
    k0_pay1 (F := Ideal) s y w (ix2 p j) = nK (y (ix2 p j)) (s (ix2 p j)) (w (ix2 (0 : Fin 1) j)) := by
  unfold nK
  pointwise [k0_pay1]
/-- The last block of columns, copied. -/
theorem o9_at (y : Vec Ideal S512x128 .f32) (p : Fin 512) (j : Fin 128) : k0_pay2 (F := Ideal) y (ix2 p j) = y (ix2 p j) := by
  pointwise [k0_pay2]

end Cert.Kernel5Ideal.Odd

end
end
-- ==== Proof.OddOut.lean ====
module

public import proofs.«01_k».proof.Proof.OddPure
public import Idealize.ShloMosaic.Lib.Pipeline.FrameBody
public import Idealize.ShloMosaic.Lib.VecWindow

/-! What the odd layer's input-projection step leaves in its block of the result. -/

@[expose] public section
set_option maxRecDepth 16384
noncomputable section
namespace Cert.Kernel5Ideal.Odd
open Cert.Kernel5Ideal Cert.Kernel5Ideal.Gen
open Idealize.ShloMosaic Idealize.ShloMosaic.TcCoe Idealize.SL.Sem
open Cert.Kernel4Ideal.Inp (hK hit miss)

/-- An entry under a store of a block of columns, or under an earlier one. -/
theorem keyY (O : ℕ → ℕ → EReal) (p : Fin 512) (c : Fin 1280) (o : ℕ) (w : Vec Ideal S512x128 .f32) (inb : ∀ a, (![0, o] : Fin 2 → ℕ) a + S512x128.size a ≤ S512x1280.size a) (L : List (View.Piece (Elt Ideal) S512x1280 .f32))
    (hw : ∀ (q : Fin 512) (j : Fin 128), w (ix2 q j) = O q.val (o + j.val)) (hL : ¬ (o ≤ c.val ∧ c.val < o + 128) → View.canon L (ix2 p c) = O p.val c.val) :
    View.canon ((⟨Rect.unit ![0, o] S512x128.size inb, w⟩ : View.Piece (Elt Ideal) S512x1280 .f32) :: L) (ix2 p c) = O p.val c.val := by
  by_cases h : o ≤ c.val ∧ c.val < o + 128
  · rw [hit _ _ _ _ (ix2 p (⟨c.val - o, by omega⟩ : Fin 128)) (Fin.forall_fin_two.mpr ⟨(Nat.zero_add _).symm, show c.val = o + (c.val - o) by omega⟩)]
    refine (hw _ _).trans ?_
    rw [show o + (c.val - o) = c.val by omega]
  · rw [miss _ _ _ _ (1 : Fin 2) (show c.val < o ∨ o + 128 ≤ c.val by omega)]
    exact hL h

/-- An entry under a store of a block of columns, or under an earlier one. -/
theorem keyM (O : ℕ → ℕ → EReal) (p : Fin 512) (c : Fin 1152) (o : ℕ) (w : Vec Ideal S512x128 .f32) (inb : ∀ a, (![0, o] : Fin 2 → ℕ) a + S512x128.size a ≤ S512x1152.size a) (L : List (View.Piece (Elt Ideal) S512x1152 .f32))
    (hw : ∀ (q : Fin 512) (j : Fin 128), w (ix2 q j) = O q.val (o + j.val)) (hL : ¬ (o ≤ c.val ∧ c.val < o + 128) → View.canon L (ix2 p c) = O p.val c.val) :
    View.canon ((⟨Rect.unit ![0, o] S512x128.size inb, w⟩ : View.Piece (Elt Ideal) S512x1152 .f32) :: L) (ix2 p c) = O p.val c.val := by
  by_cases h : o ≤ c.val ∧ c.val < o + 128
  · rw [hit _ _ _ _ (ix2 p (⟨c.val - o, by omega⟩ : Fin 128)) (Fin.forall_fin_two.mpr ⟨(Nat.zero_add _).symm, show c.val = o + (c.val - o) by omega⟩)]
    refine (hw _ _).trans ?_
    rw [show o + (c.val - o) = c.val by omega]
  · rw [miss _ _ _ _ (1 : Fin 2) (show c.val < o ∨ o + 128 ≤ c.val by omega)]
    exact hL h

/-- An entry under a store of a block of columns, or under an earlier one. -/
theorem keyO (O : ℕ → ℕ → EReal) (p : Fin 512) (c : Fin 1280) (o : ℕ) (w : Vec Ideal S512x128 .bf16) (inb : ∀ a, (![0, o] : Fin 2 → ℕ) a + S512x128.size a ≤ S512x1280.size a) (L : List (View.Piece (Elt Ideal) S512x1280 .bf16))
    (hw : ∀ (q : Fin 512) (j : Fin 128), w (ix2 q j) = O q.val (o + j.val)) (hL : ¬ (o ≤ c.val ∧ c.val < o + 128) → View.canon L (ix2 p c) = O p.val c.val) :
    View.canon ((⟨Rect.unit ![0, o] S512x128.size inb, w⟩ : View.Piece (Elt Ideal) S512x1280 .bf16) :: L) (ix2 p c) = O p.val c.val := by
  by_cases h : o ≤ c.val ∧ c.val < o + 128
  · rw [hit _ _ _ _ (ix2 p (⟨c.val - o, by omega⟩ : Fin 128)) (Fin.forall_fin_two.mpr ⟨(Nat.zero_add _).symm, show c.val = o + (c.val - o) by omega⟩)]
    refine (hw _ _).trans ?_
    rw [show o + (c.val - o) = c.val by omega]
  · rw [miss _ _ _ _ (1 : Fin 2) (show c.val < o ∨ o + 128 ≤ c.val by omega)]
    exact hL h

/-- A load of a block of columns after the stores. -/
theorem ldY (O : ℕ → ℕ → EReal) (m : Memref sig .tc .vmem S512x1280 .f32) (L : List (View.Piece (Elt Ideal) S512x1280 .f32)) (hL : ∀ (p : Fin 512) (e : Fin 1280), View.canon L (ix2 p e) = O p.val e.val)
    (o : ℕ) (ho : o + 128 ≤ 1280) (inb : ∀ a, (![0, o] : Fin 2 → ℕ) a + S512x128.size a ≤ S512x1280.size a) (p : Fin 512) (j : Fin 128) :
    m.view.readCov L (Rect.unit (s := S512x1280) ![0, o] S512x128.size inb).toLoadRect (ix2 p j) = O p.val (o + j.val) := by
  rw [View.readCov_eq_canon']
  have e : (Rect.unit (s := S512x1280) ![0, o] S512x128.size inb).toLoadRect.idx (ix2 p j) = ix2 p (⟨o + j.val, by omega⟩ : Fin 1280) := by
    funext a
    refine Fin.ext ?_
    match a with
    | ⟨0, _⟩ => show 0 + 1 * p.val = p.val; omega
    | ⟨1, _⟩ => show o + 1 * j.val = o + j.val; omega
  exact (congrArg (View.canon _) e).trans (hL _ _)

/-- A load of a block of columns after the stores. -/
theorem ldM (O : ℕ → ℕ → EReal) (m : Memref sig .tc .vmem S512x1152 .f32) (L : List (View.Piece (Elt Ideal) S512x1152 .f32)) (hL : ∀ (p : Fin 512) (e : Fin 1152), View.canon L (ix2 p e) = O p.val e.val)
    (o : ℕ) (ho : o + 128 ≤ 1152) (inb : ∀ a, (![0, o] : Fin 2 → ℕ) a + S512x128.size a ≤ S512x1152.size a) (p : Fin 512) (j : Fin 128) :
    m.view.readCov L (Rect.unit (s := S512x1152) ![0, o] S512x128.size inb).toLoadRect (ix2 p j) = O p.val (o + j.val) := by
  rw [View.readCov_eq_canon']
  have e : (Rect.unit (s := S512x1152) ![0, o] S512x128.size inb).toLoadRect.idx (ix2 p j) = ix2 p (⟨o + j.val, by omega⟩ : Fin 1152) := by
    funext a
    refine Fin.ext ?_
    match a with
    | ⟨0, _⟩ => show 0 + 1 * p.val = p.val; omega
    | ⟨1, _⟩ => show o + 1 * j.val = o + j.val; omega
  exact (congrArg (View.canon _) e).trans (hL _ _)

/-- A load of a whole array. -/
theorem x_at (m : Memref sig .tc .vmem S512x1024 .f32) (h : m.IsWhole) (x : Vec Ideal S512x1024 .f32) (inb : ∀ a, (![0, 0] : Fin 2 → ℕ) a + S512x1024.size a ≤ S512x1024.size a) :
    m.view.readAt (Elt Ideal) (Rect.unit (s := S512x1024) ![0, 0] S512x1024.size inb).toLoadRect (h.unread x) = x := by
  rw [View.readAt_full, h.read_unread]

/-- A load of a whole array. -/
theorem g_at (m : Memref sig .tc .vmem S1x1024 .f32) (h : m.IsWhole) (x : Vec Ideal S1x1024 .f32) (inb : ∀ a, (![0, 0] : Fin 2 → ℕ) a + S1x1024.size a ≤ S1x1024.size a) :
    m.view.readAt (Elt Ideal) (Rect.unit (s := S1x1024) ![0, 0] S1x1024.size inb).toLoadRect (h.unread x) = x := by
  rw [View.readAt_full, h.read_unread]

/-- A load of a whole array. -/
theorem q_at (m : Memref sig .tc .vmem S1x128 .f32) (h : m.IsWhole) (x : Vec Ideal S1x128 .f32) (inb : ∀ a, (![0, 0] : Fin 2 → ℕ) a + S1x128.size a ≤ S1x128.size a) :
    m.view.readAt (Elt Ideal) (Rect.unit (s := S1x128) ![0, 0] S1x128.size inb).toLoadRect (h.unread x) = x := by
  rw [View.readAt_full, h.read_unread]

/-- A load of a whole array. -/
theorem b_at (m : Memref sig .tc .vmem S128x128 .bf16) (h : m.IsWhole) (x : Vec Ideal S128x128 .bf16) (inb : ∀ a, (![0, 0] : Fin 2 → ℕ) a + S128x128.size a ≤ S128x128.size a) :
    m.view.readAt (Elt Ideal) (Rect.unit (s := S128x128) ![0, 0] S128x128.size inb).toLoadRect (h.unread x) = x := by
  rw [View.readAt_full, h.read_unread]

/-- The weights by number. -/
def wN (w : Vec Ideal S1024x1280 .bf16) (d : Fin 1024) (c : ℕ) : EReal := if h : c < 1280 then w (ix2 d (⟨c, h⟩ : Fin 1280)) else 0
/-- A load of a block of weight columns at an entry. -/
theorem w_at (m : Memref sig .tc .vmem S1024x1280 .bf16) (h : m.IsWhole) (x : Vec Ideal S1024x1280 .bf16) (o : ℕ) (inb : ∀ a, (![0, o] : Fin 2 → ℕ) a + S1024x128.size a ≤ S1024x1280.size a)
    (ho : o + 128 ≤ 1280) (d : Fin 1024) (j : Fin 128) :
    m.view.readAt (Elt Ideal) (Rect.unit (s := S1024x1280) ![0, o] S1024x128.size inb).toLoadRect (h.unread x) (ix2 d j) = wN x d (o + j.val) := by
  rw [View.readAt_eq_ld, h.read_unread]
  unfold wN
  have hj : o + j.val < 1280 := by omega
  rw [dif_pos hj]
  refine congrArg x (funext fun a => Fin.ext ?_)
  match a with
  | ⟨0, _⟩ => show 0 + 1 * d.val = d.val; omega
  | ⟨1, _⟩ => show o + 1 * j.val = o + j.val; omega

/-- A block's rows by number. -/
def xr (x : Vec Ideal S512x1024 .f32) (p : ℕ) : Fin 1024 → EReal := fun e => if h : p < 512 then x (ix2 (⟨p, h⟩ : Fin 512) e) else 0
/-- The gain by number. -/
def gr (x : Vec Ideal S1x1024 .f32) : Fin 1024 → EReal := fun e => x (ix2 (0 : Fin 1) e)
/-- The projections by number. -/
def Y (h : Fin 1024 → EReal) (w : Fin 1024 → ℕ → EReal) (c : ℕ) : EReal := yK h fun d => w d c
/-- The sums of squares by number. -/
def MS (y : ℕ → EReal) (b : Fin 128 → ℕ → EReal) (c : ℕ) : EReal := msK (fun l => y (128 * (c / 128) + l.val)) fun l => b l (c % 128)
/-- The result by number. -/
def OK (h : Fin 1024 → EReal) (w : Fin 1024 → ℕ → EReal) (q k : ℕ → EReal) (b : Fin 128 → ℕ → EReal) (c : ℕ) : EReal :=
  if c < 1024 then nQ (Y h w c) (MS (Y h w) b c) (q (c % 128)) else if c < 1152 then nK (Y h w c) (MS (Y h w) b c) (k (c % 128)) else Y h w c
/-- The table by number. -/
def bN (b : Vec Ideal S128x128 .bf16) (l : Fin 128) (c : ℕ) : EReal := if h : c < 128 then b (ix2 l (⟨c, h⟩ : Fin 128)) else 0
/-- A norm's weights by number. -/
def qN (q : Vec Ideal S1x128 .f32) (c : ℕ) : EReal := if h : c < 128 then q (ix2 (0 : Fin 1) (⟨c, h⟩ : Fin 128)) else 0

/-- A row's normalized entries by number. -/
theorem h_at (x0 : Vec Ideal S512x1024 .f32) (x1 : Vec Ideal S1x1024 .f32) (p : Fin 512) : (fun d => k0_pay3 (F := Ideal) x0 x1 (ix2 p d)) = hK (xr x0 p.val) (gr x1) := by
  funext d
  rw [pay3_at]
  congr 1
  funext e
  unfold xr
  rw [dif_pos p.isLt]
/-- A block of sums of squares by number. -/
theorem ms_at (b : Vec Ideal S128x128 .bf16) (y : Vec Ideal S512x128 .f32) (O : ℕ → ℕ → EReal) (k : ℕ) (hy : ∀ (p : Fin 512) (j : Fin 128), y (ix2 p j) = O p.val (128 * k + j.val)) (p : Fin 512) (j : Fin 128) :
    msK (fun l => y (ix2 p l)) (fun l => k0_pay4 (F := Ideal) b (ix2 l j)) = MS (O p.val) (bN b) (128 * k + j.val) := by
  have hj := j.isLt
  have e1 : (128 * k + j.val) / 128 = k := by omega
  have e2 : (128 * k + j.val) % 128 = j.val := by omega
  unfold MS bN
  rw [e1, e2]
  simp only [dif_pos hj, hy, pay4_at]

section Steps
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1280 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S512x1280 .bf16) (harg7 : arg7.IsWhole) (arg8 : Memref sig .tc .vmem S512x1280 .f32) (harg8 : arg8.IsWhole) (arg9 : Memref sig .tc .vmem S512x1152 .f32) (harg9 : arg9.IsWhole)
    (x0 : Vec Ideal S512x1024 .f32) (x1 : Vec Ideal S1x1024 .f32) (x2 : Vec Ideal S1024x1280 .bf16) (x3 : Vec Ideal S1x128 .f32) (x4 : Vec Ideal S1x128 .f32) (x5 : Vec Ideal S128x128 .bf16)

/-- The normalized rows of a step. -/
theorem r_eq : kernelRun0_A.sl.r (F := Ideal) c arg1 harg1 arg2 harg2 x0 x1 = k0_pay3 x0 x1 := by
  unfold kernelRun0_A.sl.r
  rw [x_at, g_at]
/-- The table of a step. -/
theorem r1_eq : kernelRun0_A.sl.r_1 (F := Ideal) c arg6 harg6 x5 = k0_pay4 x5 := by
  unfold kernelRun0_A.sl.r_1
  rw [b_at]
/-- A block of the projections by number. -/
theorem yk_at (w : Vec Ideal S1024x128 .bf16) (o : ℕ) (hw : ∀ (d : Fin 1024) (j : Fin 128), w (ix2 d j) = wN x2 d (o + j.val)) (p : Fin 512) (j : Fin 128) :
    yK (fun d => k0_pay3 (F := Ideal) x0 x1 (ix2 p d)) (fun d => w (ix2 d j)) = Y (hK (xr x0 p.val) (gr x1)) (wN x2) (o + j.val) := by
  rw [h_at]
  unfold Y
  congr 1
  funext d
  exact hw d j
/-- The projections after their stores. -/
theorem HS0_at (p : Fin 512) (e : Fin 1280) : View.canon (kernelRun0_A.sl.HS0_10 (F := Ideal) c arg1 harg1 arg2 harg2 arg3 harg3 x0 x1 x2) (ix2 p e) = Y (hK (xr x0 p.val) (gr x1)) (wN x2) e.val := by
  have he := e.isLt
  unfold kernelRun0_A.sl.HS0_10 kernelRun0_A.sl.r_2 kernelRun0_A.sl.r_3
  rw [r_eq, x_at, g_at]
  refine keyY (fun q e => Y (hK (xr x0 q) (gr x1)) (wN x2) e) p e 1152 _ _ _ (fun q j => (y9_at _ _ q j).trans (yk_at x0 x1 x2 _ 1152 (fun d j => w_at arg3 harg3 x2 1152 _ (by omega) d j) q j)) fun n9 => ?_
  refine keyY (fun q e => Y (hK (xr x0 q) (gr x1)) (wN x2) e) p e 1024 _ _ _ (fun q j => (y8_at _ _ q j).trans (yk_at x0 x1 x2 _ 1024 (fun d j => w_at arg3 harg3 x2 1024 _ (by omega) d j) q j)) fun n8 => ?_
  refine keyY (fun q e => Y (hK (xr x0 q) (gr x1)) (wN x2) e) p e 896 _ _ _ (fun q j => (y7_at _ _ q j).trans (yk_at x0 x1 x2 _ 896 (fun d j => w_at arg3 harg3 x2 896 _ (by omega) d j) q j)) fun n7 => ?_
  refine keyY (fun q e => Y (hK (xr x0 q) (gr x1)) (wN x2) e) p e 768 _ _ _ (fun q j => (y6_at _ _ q j).trans (yk_at x0 x1 x2 _ 768 (fun d j => w_at arg3 harg3 x2 768 _ (by omega) d j) q j)) fun n6 => ?_
  refine keyY (fun q e => Y (hK (xr x0 q) (gr x1)) (wN x2) e) p e 640 _ _ _ (fun q j => (y5_at _ _ q j).trans (yk_at x0 x1 x2 _ 640 (fun d j => w_at arg3 harg3 x2 640 _ (by omega) d j) q j)) fun n5 => ?_
  refine keyY (fun q e => Y (hK (xr x0 q) (gr x1)) (wN x2) e) p e 512 _ _ _ (fun q j => (y4_at _ _ q j).trans (yk_at x0 x1 x2 _ 512 (fun d j => w_at arg3 harg3 x2 512 _ (by omega) d j) q j)) fun n4 => ?_
  refine keyY (fun q e => Y (hK (xr x0 q) (gr x1)) (wN x2) e) p e 384 _ _ _ (fun q j => (y3_at _ _ q j).trans (yk_at x0 x1 x2 _ 384 (fun d j => w_at arg3 harg3 x2 384 _ (by omega) d j) q j)) fun n3 => ?_
  refine keyY (fun q e => Y (hK (xr x0 q) (gr x1)) (wN x2) e) p e 256 _ _ _ (fun q j => (y2_at _ _ _ q j).trans (yk_at x0 x1 x2 _ 256 (fun d j => w_at arg3 harg3 x2 256 _ (by omega) d j) q j)) fun n2 => ?_
  refine keyY (fun q e => Y (hK (xr x0 q) (gr x1)) (wN x2) e) p e 128 _ _ _ (fun q j => (y1_at _ _ _ q j).trans (yk_at x0 x1 x2 _ 128 (fun d j => w_at arg3 harg3 x2 128 _ (by omega) d j) q j)) fun n1 => ?_
  refine keyY (fun q e => Y (hK (xr x0 q) (gr x1)) (wN x2) e) p e 0 _ _ _ (fun q j => (y0_at _ _ _ q j).trans (yk_at x0 x1 x2 _ 0 (fun d j => w_at arg3 harg3 x2 0 _ (by omega) d j) q j)) fun n0 => ?_
  omega
/-- A load of the projections' columns from 0. -/
theorem v78_at (p : Fin 512) (j : Fin 128) : kernelRun0_A.sl.v78 (F := Ideal) c arg1 harg1 arg2 harg2 arg3 harg3 arg8 x0 x1 x2 (ix2 p j) = Y (hK (xr x0 p.val) (gr x1)) (wN x2) (0 + j.val) := by
  unfold kernelRun0_A.sl.v78
  exact ldY (fun q e => Y (hK (xr x0 q) (gr x1)) (wN x2) e) arg8 _ (HS0_at c arg1 harg1 arg2 harg2 arg3 harg3 x0 x1 x2) 0 (by omega) _ p j
/-- A load of the projections' columns from 128. -/
theorem v90_at (p : Fin 512) (j : Fin 128) : kernelRun0_A.sl.v90 (F := Ideal) c arg1 harg1 arg2 harg2 arg3 harg3 arg8 x0 x1 x2 (ix2 p j) = Y (hK (xr x0 p.val) (gr x1)) (wN x2) (128 + j.val) := by
  unfold kernelRun0_A.sl.v90
  exact ldY (fun q e => Y (hK (xr x0 q) (gr x1)) (wN x2) e) arg8 _ (HS0_at c arg1 harg1 arg2 harg2 arg3 harg3 x0 x1 x2) 128 (by omega) _ p j
/-- A load of the projections' columns from 256. -/
theorem v102_at (p : Fin 512) (j : Fin 128) : kernelRun0_A.sl.v102 (F := Ideal) c arg1 harg1 arg2 harg2 arg3 harg3 arg8 x0 x1 x2 (ix2 p j) = Y (hK (xr x0 p.val) (gr x1)) (wN x2) (256 + j.val) := by
  unfold kernelRun0_A.sl.v102
  exact ldY (fun q e => Y (hK (xr x0 q) (gr x1)) (wN x2) e) arg8 _ (HS0_at c arg1 harg1 arg2 harg2 arg3 harg3 x0 x1 x2) 256 (by omega) _ p j
/-- A load of the projections' columns from 384. -/
theorem v114_at (p : Fin 512) (j : Fin 128) : kernelRun0_A.sl.v114 (F := Ideal) c arg1 harg1 arg2 harg2 arg3 harg3 arg8 x0 x1 x2 (ix2 p j) = Y (hK (xr x0 p.val) (gr x1)) (wN x2) (384 + j.val) := by
  unfold kernelRun0_A.sl.v114
  exact ldY (fun q e => Y (hK (xr x0 q) (gr x1)) (wN x2) e) arg8 _ (HS0_at c arg1 harg1 arg2 harg2 arg3 harg3 x0 x1 x2) 384 (by omega) _ p j
/-- A load of the projections' columns from 512. -/
theorem v126_at (p : Fin 512) (j : Fin 128) : kernelRun0_A.sl.v126 (F := Ideal) c arg1 harg1 arg2 harg2 arg3 harg3 arg8 x0 x1 x2 (ix2 p j) = Y (hK (xr x0 p.val) (gr x1)) (wN x2) (512 + j.val) := by
  unfold kernelRun0_A.sl.v126
  exact ldY (fun q e => Y (hK (xr x0 q) (gr x1)) (wN x2) e) arg8 _ (HS0_at c arg1 harg1 arg2 harg2 arg3 harg3 x0 x1 x2) 512 (by omega) _ p j
/-- A load of the projections' columns from 640. -/
theorem v138_at (p : Fin 512) (j : Fin 128) : kernelRun0_A.sl.v138 (F := Ideal) c arg1 harg1 arg2 harg2 arg3 harg3 arg8 x0 x1 x2 (ix2 p j) = Y (hK (xr x0 p.val) (gr x1)) (wN x2) (640 + j.val) := by
  unfold kernelRun0_A.sl.v138
  exact ldY (fun q e => Y (hK (xr x0 q) (gr x1)) (wN x2) e) arg8 _ (HS0_at c arg1 harg1 arg2 harg2 arg3 harg3 x0 x1 x2) 640 (by omega) _ p j
/-- A load of the projections' columns from 768. -/
theorem v150_at (p : Fin 512) (j : Fin 128) : kernelRun0_A.sl.v150 (F := Ideal) c arg1 harg1 arg2 harg2 arg3 harg3 arg8 x0 x1 x2 (ix2 p j) = Y (hK (xr x0 p.val) (gr x1)) (wN x2) (768 + j.val) := by
  unfold kernelRun0_A.sl.v150
  exact ldY (fun q e => Y (hK (xr x0 q) (gr x1)) (wN x2) e) arg8 _ (HS0_at c arg1 harg1 arg2 harg2 arg3 harg3 x0 x1 x2) 768 (by omega) _ p j
/-- A load of the projections' columns from 896. -/
theorem v162_at (p : Fin 512) (j : Fin 128) : kernelRun0_A.sl.v162 (F := Ideal) c arg1 harg1 arg2 harg2 arg3 harg3 arg8 x0 x1 x2 (ix2 p j) = Y (hK (xr x0 p.val) (gr x1)) (wN x2) (896 + j.val) := by
  unfold kernelRun0_A.sl.v162
  exact ldY (fun q e => Y (hK (xr x0 q) (gr x1)) (wN x2) e) arg8 _ (HS0_at c arg1 harg1 arg2 harg2 arg3 harg3 x0 x1 x2) 896 (by omega) _ p j
/-- A load of the projections' columns from 1024. -/
theorem v174_at (p : Fin 512) (j : Fin 128) : kernelRun0_A.sl.v174 (F := Ideal) c arg1 harg1 arg2 harg2 arg3 harg3 arg8 x0 x1 x2 (ix2 p j) = Y (hK (xr x0 p.val) (gr x1)) (wN x2) (1024 + j.val) := by
  unfold kernelRun0_A.sl.v174
  exact ldY (fun q e => Y (hK (xr x0 q) (gr x1)) (wN x2) e) arg8 _ (HS0_at c arg1 harg1 arg2 harg2 arg3 harg3 x0 x1 x2) 1024 (by omega) _ p j
/-- A load of the projections' columns from 1024. -/
theorem v320_at (p : Fin 512) (j : Fin 128) : kernelRun0_A.sl.v320 (F := Ideal) c arg1 harg1 arg2 harg2 arg3 harg3 arg8 x0 x1 x2 (ix2 p j) = Y (hK (xr x0 p.val) (gr x1)) (wN x2) (1024 + j.val) := by
  unfold kernelRun0_A.sl.v320
  exact ldY (fun q e => Y (hK (xr x0 q) (gr x1)) (wN x2) e) arg8 _ (HS0_at c arg1 harg1 arg2 harg2 arg3 harg3 x0 x1 x2) 1024 (by omega) _ p j
/-- A load of the projections' columns from 1152. -/
theorem v328_at (p : Fin 512) (j : Fin 128) : kernelRun0_A.sl.v328 (F := Ideal) c arg1 harg1 arg2 harg2 arg3 harg3 arg8 x0 x1 x2 (ix2 p j) = Y (hK (xr x0 p.val) (gr x1)) (wN x2) (1152 + j.val) := by
  unfold kernelRun0_A.sl.v328
  exact ldY (fun q e => Y (hK (xr x0 q) (gr x1)) (wN x2) e) arg8 _ (HS0_at c arg1 harg1 arg2 harg2 arg3 harg3 x0 x1 x2) 1152 (by omega) _ p j
/-- The sums of squares after their stores. -/
theorem HS1_at (p : Fin 512) (e : Fin 1152) : View.canon (kernelRun0_A.sl.HS1_9 (F := Ideal) c arg1 harg1 arg2 harg2 arg3 harg3 arg6 harg6 arg8 x0 x1 x2 x5) (ix2 p e) = MS (Y (hK (xr x0 p.val) (gr x1)) (wN x2)) (bN x5) e.val := by
  have he := e.isLt
  unfold kernelRun0_A.sl.HS1_9 kernelRun0_A.sl.r_4 kernelRun0_A.sl.r_5
  rw [r1_eq]
  refine keyM (fun q e => MS (Y (hK (xr x0 q) (gr x1)) (wN x2)) (bN x5) e) p e 1024 _ _ _ (fun q j => (m8_at _ _ q j).trans (ms_at x5 _ (fun q e => Y (hK (xr x0 q) (gr x1)) (wN x2) e) 8 (fun p j => v174_at c arg1 harg1 arg2 harg2 arg3 harg3 arg8 x0 x1 x2 p j) q j)) fun n8 => ?_
  refine keyM (fun q e => MS (Y (hK (xr x0 q) (gr x1)) (wN x2)) (bN x5) e) p e 896 _ _ _ (fun q j => (m7_at _ _ q j).trans (ms_at x5 _ (fun q e => Y (hK (xr x0 q) (gr x1)) (wN x2) e) 7 (fun p j => v162_at c arg1 harg1 arg2 harg2 arg3 harg3 arg8 x0 x1 x2 p j) q j)) fun n7 => ?_
  refine keyM (fun q e => MS (Y (hK (xr x0 q) (gr x1)) (wN x2)) (bN x5) e) p e 768 _ _ _ (fun q j => (m6_at _ _ q j).trans (ms_at x5 _ (fun q e => Y (hK (xr x0 q) (gr x1)) (wN x2) e) 6 (fun p j => v150_at c arg1 harg1 arg2 harg2 arg3 harg3 arg8 x0 x1 x2 p j) q j)) fun n6 => ?_
  refine keyM (fun q e => MS (Y (hK (xr x0 q) (gr x1)) (wN x2)) (bN x5) e) p e 640 _ _ _ (fun q j => (m5_at _ _ q j).trans (ms_at x5 _ (fun q e => Y (hK (xr x0 q) (gr x1)) (wN x2) e) 5 (fun p j => v138_at c arg1 harg1 arg2 harg2 arg3 harg3 arg8 x0 x1 x2 p j) q j)) fun n5 => ?_
  refine keyM (fun q e => MS (Y (hK (xr x0 q) (gr x1)) (wN x2)) (bN x5) e) p e 512 _ _ _ (fun q j => (m4_at _ _ q j).trans (ms_at x5 _ (fun q e => Y (hK (xr x0 q) (gr x1)) (wN x2) e) 4 (fun p j => v126_at c arg1 harg1 arg2 harg2 arg3 harg3 arg8 x0 x1 x2 p j) q j)) fun n4 => ?_
  refine keyM (fun q e => MS (Y (hK (xr x0 q) (gr x1)) (wN x2)) (bN x5) e) p e 384 _ _ _ (fun q j => (m3_at _ _ q j).trans (ms_at x5 _ (fun q e => Y (hK (xr x0 q) (gr x1)) (wN x2) e) 3 (fun p j => v114_at c arg1 harg1 arg2 harg2 arg3 harg3 arg8 x0 x1 x2 p j) q j)) fun n3 => ?_
  refine keyM (fun q e => MS (Y (hK (xr x0 q) (gr x1)) (wN x2)) (bN x5) e) p e 256 _ _ _ (fun q j => (m2_at _ _ q j).trans (ms_at x5 _ (fun q e => Y (hK (xr x0 q) (gr x1)) (wN x2) e) 2 (fun p j => v102_at c arg1 harg1 arg2 harg2 arg3 harg3 arg8 x0 x1 x2 p j) q j)) fun n2 => ?_
  refine keyM (fun q e => MS (Y (hK (xr x0 q) (gr x1)) (wN x2)) (bN x5) e) p e 128 _ _ _ (fun q j => (m1_at _ _ q j).trans (ms_at x5 _ (fun q e => Y (hK (xr x0 q) (gr x1)) (wN x2) e) 1 (fun p j => v90_at c arg1 harg1 arg2 harg2 arg3 harg3 arg8 x0 x1 x2 p j) q j)) fun n1 => ?_
  refine keyM (fun q e => MS (Y (hK (xr x0 q) (gr x1)) (wN x2)) (bN x5) e) p e 0 _ _ _ (fun q j => (m0_at _ _ q j).trans (ms_at x5 _ (fun q e => Y (hK (xr x0 q) (gr x1)) (wN x2) e) 0 (fun p j => v78_at c arg1 harg1 arg2 harg2 arg3 harg3 arg8 x0 x1 x2 p j) q j)) fun n0 => ?_
  omega
/-- A load of the sums' columns from 0. -/
theorem v186_at (p : Fin 512) (j : Fin 128) : kernelRun0_A.sl.v186 (F := Ideal) c arg1 harg1 arg2 harg2 arg3 harg3 arg6 harg6 arg8 arg9 x0 x1 x2 x5 (ix2 p j) = MS (Y (hK (xr x0 p.val) (gr x1)) (wN x2)) (bN x5) (0 + j.val) := by
  unfold kernelRun0_A.sl.v186
  exact ldM (fun q e => MS (Y (hK (xr x0 q) (gr x1)) (wN x2)) (bN x5) e) arg9 _ (HS1_at c arg1 harg1 arg2 harg2 arg3 harg3 arg6 harg6 arg8 x0 x1 x2 x5) 0 (by omega) _ p j
/-- A load of the sums' columns from 128. -/
theorem v202_at (p : Fin 512) (j : Fin 128) : kernelRun0_A.sl.v202 (F := Ideal) c arg1 harg1 arg2 harg2 arg3 harg3 arg6 harg6 arg8 arg9 x0 x1 x2 x5 (ix2 p j) = MS (Y (hK (xr x0 p.val) (gr x1)) (wN x2)) (bN x5) (128 + j.val) := by
  unfold kernelRun0_A.sl.v202
  exact ldM (fun q e => MS (Y (hK (xr x0 q) (gr x1)) (wN x2)) (bN x5) e) arg9 _ (HS1_at c arg1 harg1 arg2 harg2 arg3 harg3 arg6 harg6 arg8 x0 x1 x2 x5) 128 (by omega) _ p j
/-- A load of the sums' columns from 256. -/
theorem v218_at (p : Fin 512) (j : Fin 128) : kernelRun0_A.sl.v218 (F := Ideal) c arg1 harg1 arg2 harg2 arg3 harg3 arg6 harg6 arg8 arg9 x0 x1 x2 x5 (ix2 p j) = MS (Y (hK (xr x0 p.val) (gr x1)) (wN x2)) (bN x5) (256 + j.val) := by
  unfold kernelRun0_A.sl.v218
  exact ldM (fun q e => MS (Y (hK (xr x0 q) (gr x1)) (wN x2)) (bN x5) e) arg9 _ (HS1_at c arg1 harg1 arg2 harg2 arg3 harg3 arg6 harg6 arg8 x0 x1 x2 x5) 256 (by omega) _ p j
/-- A load of the sums' columns from 384. -/
theorem v234_at (p : Fin 512) (j : Fin 128) : kernelRun0_A.sl.v234 (F := Ideal) c arg1 harg1 arg2 harg2 arg3 harg3 arg6 harg6 arg8 arg9 x0 x1 x2 x5 (ix2 p j) = MS (Y (hK (xr x0 p.val) (gr x1)) (wN x2)) (bN x5) (384 + j.val) := by
  unfold kernelRun0_A.sl.v234
  exact ldM (fun q e => MS (Y (hK (xr x0 q) (gr x1)) (wN x2)) (bN x5) e) arg9 _ (HS1_at c arg1 harg1 arg2 harg2 arg3 harg3 arg6 harg6 arg8 x0 x1 x2 x5) 384 (by omega) _ p j
/-- A load of the sums' columns from 512. -/
theorem v250_at (p : Fin 512) (j : Fin 128) : kernelRun0_A.sl.v250 (F := Ideal) c arg1 harg1 arg2 harg2 arg3 harg3 arg6 harg6 arg8 arg9 x0 x1 x2 x5 (ix2 p j) = MS (Y (hK (xr x0 p.val) (gr x1)) (wN x2)) (bN x5) (512 + j.val) := by
  unfold kernelRun0_A.sl.v250
  exact ldM (fun q e => MS (Y (hK (xr x0 q) (gr x1)) (wN x2)) (bN x5) e) arg9 _ (HS1_at c arg1 harg1 arg2 harg2 arg3 harg3 arg6 harg6 arg8 x0 x1 x2 x5) 512 (by omega) _ p j
/-- A load of the sums' columns from 640. -/
theorem v266_at (p : Fin 512) (j : Fin 128) : kernelRun0_A.sl.v266 (F := Ideal) c arg1 harg1 arg2 harg2 arg3 harg3 arg6 harg6 arg8 arg9 x0 x1 x2 x5 (ix2 p j) = MS (Y (hK (xr x0 p.val) (gr x1)) (wN x2)) (bN x5) (640 + j.val) := by
  unfold kernelRun0_A.sl.v266
  exact ldM (fun q e => MS (Y (hK (xr x0 q) (gr x1)) (wN x2)) (bN x5) e) arg9 _ (HS1_at c arg1 harg1 arg2 harg2 arg3 harg3 arg6 harg6 arg8 x0 x1 x2 x5) 640 (by omega) _ p j
/-- A load of the sums' columns from 768. -/
theorem v282_at (p : Fin 512) (j : Fin 128) : kernelRun0_A.sl.v282 (F := Ideal) c arg1 harg1 arg2 harg2 arg3 harg3 arg6 harg6 arg8 arg9 x0 x1 x2 x5 (ix2 p j) = MS (Y (hK (xr x0 p.val) (gr x1)) (wN x2)) (bN x5) (768 + j.val) := by
  unfold kernelRun0_A.sl.v282
  exact ldM (fun q e => MS (Y (hK (xr x0 q) (gr x1)) (wN x2)) (bN x5) e) arg9 _ (HS1_at c arg1 harg1 arg2 harg2 arg3 harg3 arg6 harg6 arg8 x0 x1 x2 x5) 768 (by omega) _ p j
/-- A load of the sums' columns from 896. -/
theorem v298_at (p : Fin 512) (j : Fin 128) : kernelRun0_A.sl.v298 (F := Ideal) c arg1 harg1 arg2 harg2 arg3 harg3 arg6 harg6 arg8 arg9 x0 x1 x2 x5 (ix2 p j) = MS (Y (hK (xr x0 p.val) (gr x1)) (wN x2)) (bN x5) (896 + j.val) := by
  unfold kernelRun0_A.sl.v298
  exact ldM (fun q e => MS (Y (hK (xr x0 q) (gr x1)) (wN x2)) (bN x5) e) arg9 _ (HS1_at c arg1 harg1 arg2 harg2 arg3 harg3 arg6 harg6 arg8 x0 x1 x2 x5) 896 (by omega) _ p j
/-- A load of the sums' columns from 1024. -/
theorem v314_at (p : Fin 512) (j : Fin 128) : kernelRun0_A.sl.v314 (F := Ideal) c arg1 harg1 arg2 harg2 arg3 harg3 arg6 harg6 arg8 arg9 x0 x1 x2 x5 (ix2 p j) = MS (Y (hK (xr x0 p.val) (gr x1)) (wN x2)) (bN x5) (1024 + j.val) := by
  unfold kernelRun0_A.sl.v314
  exact ldM (fun q e => MS (Y (hK (xr x0 q) (gr x1)) (wN x2)) (bN x5) e) arg9 _ (HS1_at c arg1 harg1 arg2 harg2 arg3 harg3 arg6 harg6 arg8 x0 x1 x2 x5) 1024 (by omega) _ p j
/-- A block of the queries by number. -/
theorem oq (h : Fin 1024 → EReal) (w : Fin 1024 → ℕ → EReal) (q k : Vec Ideal S1x128 .f32) (b : Fin 128 → ℕ → EReal) (n : ℕ) (hn : n < 8) (j : Fin 128) (y s z : EReal)
    (hy : y = Y h w (128 * n + j.val)) (hs : s = MS (Y h w) b (128 * n + j.val)) (hz : z = q (ix2 (0 : Fin 1) j)) : nQ y s z = OK h w (qN q) (qN k) b (128 * n + j.val) := by
  have hj := j.isLt
  have e2 : (128 * n + j.val) % 128 = j.val := by omega
  unfold OK qN
  rw [if_pos (by omega), e2, dif_pos hj, hy, hs, hz]
/-- A block of the keys by number. -/
theorem ok (h : Fin 1024 → EReal) (w : Fin 1024 → ℕ → EReal) (q k : Vec Ideal S1x128 .f32) (b : Fin 128 → ℕ → EReal) (j : Fin 128) (y s z : EReal)
    (hy : y = Y h w (1024 + j.val)) (hs : s = MS (Y h w) b (1024 + j.val)) (hz : z = k (ix2 (0 : Fin 1) j)) : nK y s z = OK h w (qN q) (qN k) b (1024 + j.val) := by
  have hj := j.isLt
  have e2 : (1024 + j.val) % 128 = j.val := by omega
  unfold OK qN
  rw [if_neg (by omega), if_pos (by omega), e2, dif_pos hj, hy, hs, hz]
/-- The step's block of the result. -/
theorem out_A (p : Fin 512) (e : Fin 1280) :
    out0_A_6 (F := Ideal) c i arg1 harg1 arg2 harg2 arg3 harg3 arg4 harg4 arg5 harg5 arg6 harg6 arg7 harg7 arg8 harg8 arg9 harg9 x0 x1 x2 x3 x4 x5 (ix2 p e) = OK (hK (xr x0 p.val) (gr x1)) (wN x2) (qN x3) (qN x4) (bN x5) e.val := by
  have he := e.isLt
  unfold out0_A_6
  rw [View.read_writes_junk_eq_canon]
  unfold kernelRun0_A
  dsimp only
  unfold kernelRun0_A.sl.r_10 kernelRun0_A.sl.r_9 kernelRun0_A.sl.r_8 kernelRun0_A.sl.r_7 kernelRun0_A.sl.r_6 kernelRun0_A.sl.cst_165
  refine keyO (fun q e => OK (hK (xr x0 q) (gr x1)) (wN x2) (qN x3) (qN x4) (bN x5) e) p e 1152 _ _ _ (fun q j => (o9_at _ q j).trans ((v328_at c arg1 harg1 arg2 harg2 arg3 harg3 arg8 x0 x1 x2 q j).trans ?_)) fun n9 => ?_
  · show _ = OK _ _ _ _ _ _
    unfold OK
    rw [if_neg (by omega), if_neg (by omega)]
  refine keyO (fun q e => OK (hK (xr x0 q) (gr x1)) (wN x2) (qN x3) (qN x4) (bN x5) e) p e 1024 _ _ _ (fun q j => (o8_at _ _ _ q j).trans (ok _ _ x3 x4 _ j _ _ _ (v320_at c arg1 harg1 arg2 harg2 arg3 harg3 arg8 x0 x1 x2 q j) (v314_at c arg1 harg1 arg2 harg2 arg3 harg3 arg6 harg6 arg8 arg9 x0 x1 x2 x5 q j) (congrFun (q_at arg5 harg5 x4 _) _))) fun n8 => ?_
  refine keyO (fun q e => OK (hK (xr x0 q) (gr x1)) (wN x2) (qN x3) (qN x4) (bN x5) e) p e 896 _ _ _ (fun q j => (o7_at _ _ _ q j).trans (oq _ _ x3 x4 _ 7 (by omega) j _ _ _ (v162_at c arg1 harg1 arg2 harg2 arg3 harg3 arg8 x0 x1 x2 q j) (v298_at c arg1 harg1 arg2 harg2 arg3 harg3 arg6 harg6 arg8 arg9 x0 x1 x2 x5 q j) (congrFun (q_at arg4 harg4 x3 _) _))) fun n7 => ?_
  refine keyO (fun q e => OK (hK (xr x0 q) (gr x1)) (wN x2) (qN x3) (qN x4) (bN x5) e) p e 768 _ _ _ (fun q j => (o6_at _ _ _ q j).trans (oq _ _ x3 x4 _ 6 (by omega) j _ _ _ (v150_at c arg1 harg1 arg2 harg2 arg3 harg3 arg8 x0 x1 x2 q j) (v282_at c arg1 harg1 arg2 harg2 arg3 harg3 arg6 harg6 arg8 arg9 x0 x1 x2 x5 q j) (congrFun (q_at arg4 harg4 x3 _) _))) fun n6 => ?_
  refine keyO (fun q e => OK (hK (xr x0 q) (gr x1)) (wN x2) (qN x3) (qN x4) (bN x5) e) p e 640 _ _ _ (fun q j => (o5_at _ _ _ q j).trans (oq _ _ x3 x4 _ 5 (by omega) j _ _ _ (v138_at c arg1 harg1 arg2 harg2 arg3 harg3 arg8 x0 x1 x2 q j) (v266_at c arg1 harg1 arg2 harg2 arg3 harg3 arg6 harg6 arg8 arg9 x0 x1 x2 x5 q j) (congrFun (q_at arg4 harg4 x3 _) _))) fun n5 => ?_
  refine keyO (fun q e => OK (hK (xr x0 q) (gr x1)) (wN x2) (qN x3) (qN x4) (bN x5) e) p e 512 _ _ _ (fun q j => (o4_at _ _ _ q j).trans (oq _ _ x3 x4 _ 4 (by omega) j _ _ _ (v126_at c arg1 harg1 arg2 harg2 arg3 harg3 arg8 x0 x1 x2 q j) (v250_at c arg1 harg1 arg2 harg2 arg3 harg3 arg6 harg6 arg8 arg9 x0 x1 x2 x5 q j) (congrFun (q_at arg4 harg4 x3 _) _))) fun n4 => ?_
  refine keyO (fun q e => OK (hK (xr x0 q) (gr x1)) (wN x2) (qN x3) (qN x4) (bN x5) e) p e 384 _ _ _ (fun q j => (o3_at _ _ _ q j).trans (oq _ _ x3 x4 _ 3 (by omega) j _ _ _ (v114_at c arg1 harg1 arg2 harg2 arg3 harg3 arg8 x0 x1 x2 q j) (v234_at c arg1 harg1 arg2 harg2 arg3 harg3 arg6 harg6 arg8 arg9 x0 x1 x2 x5 q j) (congrFun (q_at arg4 harg4 x3 _) _))) fun n3 => ?_
  refine keyO (fun q e => OK (hK (xr x0 q) (gr x1)) (wN x2) (qN x3) (qN x4) (bN x5) e) p e 256 _ _ _ (fun q j => (o2_at _ _ _ q j).trans (oq _ _ x3 x4 _ 2 (by omega) j _ _ _ (v102_at c arg1 harg1 arg2 harg2 arg3 harg3 arg8 x0 x1 x2 q j) (v218_at c arg1 harg1 arg2 harg2 arg3 harg3 arg6 harg6 arg8 arg9 x0 x1 x2 x5 q j) (congrFun (q_at arg4 harg4 x3 _) _))) fun n2 => ?_
  refine keyO (fun q e => OK (hK (xr x0 q) (gr x1)) (wN x2) (qN x3) (qN x4) (bN x5) e) p e 128 _ _ _ (fun q j => (o1_at _ _ _ q j).trans (oq _ _ x3 x4 _ 1 (by omega) j _ _ _ (v90_at c arg1 harg1 arg2 harg2 arg3 harg3 arg8 x0 x1 x2 q j) (v202_at c arg1 harg1 arg2 harg2 arg3 harg3 arg6 harg6 arg8 arg9 x0 x1 x2 x5 q j) (congrFun (q_at arg4 harg4 x3 _) _))) fun n1 => ?_
  refine keyO (fun q e => OK (hK (xr x0 q) (gr x1)) (wN x2) (qN x3) (qN x4) (bN x5) e) p e 0 _ _ _ (fun q j => (o0_at _ _ _ q j).trans (oq _ _ x3 x4 _ 0 (by omega) j _ _ _ (v78_at c arg1 harg1 arg2 harg2 arg3 harg3 arg8 x0 x1 x2 q j) (v186_at c arg1 harg1 arg2 harg2 arg3 harg3 arg6 harg6 arg8 arg9 x0 x1 x2 x5 q j) (congrFun (q_at arg4 harg4 x3 _) _))) fun n0 => ?_
  omega
end Steps

end Cert.Kernel5Ideal.Odd

end
end
-- ==== Proof.OddVal.lean ====
module

public import proofs.«01_k».proof.Proof.OddOut
public import proofs.«01_k».proof.Proof.Gen.Kernel5Ideal.Value
public import Idealize.ShloMosaic.Lib.Pipeline.Value
public import Idealize.ShloMosaic.Lib.StableHlo.ReadAt

/-! The odd layer's input projection's result array after the run, as a function of the arguments. -/

@[expose] public section
set_option maxRecDepth 16384
noncomputable section
namespace Cert.Kernel5Ideal.Odd
open Cert.Kernel5Ideal Cert.Kernel5Ideal.Gen
open Idealize.ShloMosaic Idealize.ShloMosaic.TcCoe Idealize.SL.Sem
open Idealize.ShloMosaic.Pipeline (Dat)
open Cert.Kernel4Ideal.Inp (hK)

/-- A row of the input, by number. -/
def rowN (x : Vec Ideal S32768x1024 .f32) (R : ℕ) : Fin 1024 → EReal := fun e => if h : R < 32768 then x (ix2 (⟨R, h⟩ : Fin 32768) e) else 0
/-- A column of the weights, by number. -/
def colN (w : Vec Ideal S1024x1280 .f32) (d : Fin 1024) (c : ℕ) : EReal := if h : c < 1280 then w (ix2 d (⟨c, h⟩ : Fin 1280)) else 0
/-- A normalized row of the input. -/
def hG (x : Vec Ideal S32768x1024 .f32) (g : Vec Ideal S1024 .f32) (R : ℕ) : Fin 1024 → EReal := hK (rowN x R) (fun e => g (ix1 e))
/-- A norm's weights, one head after the other. -/
def tN (q : Vec Ideal S64 .f32) (c : ℕ) : EReal := if c < 128 then q (ix1 (⟨c % 64, Nat.mod_lt _ (by decide)⟩ : Fin 64)) else 0
/-- One where two lanes are of one head. -/
def hN (l : Fin 128) (c : ℕ) : EReal := if c < 128 then (if l.val / 64 = c / 64 then 1 else 0) else 0
/-- The result's entry. -/
def val (x : Vec Ideal S32768x1024 .f32) (g : Vec Ideal S1024 .f32) (w : Vec Ideal S1024x1280 .f32) (q k : Vec Ideal S64 .f32) (R e : ℕ) : EReal :=
  OK (hG x g R) (colN w) (tN q) (tN k) hN e
/-- The result. -/
def arr (x : Vec Ideal S32768x1024 .f32) (g : Vec Ideal S1024 .f32) (w : Vec Ideal S1024x1280 .f32) (q k : Vec Ideal S64 .f32) : Vec Ideal S32768x1280 .bf16 :=
  fun y => val x g w q k (y 0).val (y 1).val

variable (m : (ℓ : Loc nD τ sig) → Buf (Elt Ideal) ℓ) (ρ : Dev nD → PrngReg)

/-- The gain as the region finds it. -/
theorem V_g (c : Dev nD) (d : Fin 1024) : (V m c main_v9 : Vec Ideal S1x1024 .f32) (ix2 (0 : Fin 1) d) = (m ((c.tc : Thread nD τ).loc main_arg1) : Vec Ideal S1024 .f32) (ix1 d) := by
  unfold V
  after_reads_at
/-- The weights as the region finds them. -/
theorem V_w (c : Dev nD) (d : Fin 1024) (j : Fin 1280) : (V m c main_v0 : Vec Ideal S1024x1280 .bf16) (ix2 d j) = (m ((c.tc : Thread nD τ).loc main_arg2) : Vec Ideal S1024x1280 .f32) (ix2 d j) := by
  unfold V
  after_reads_at
/-- The queries' weights as the region finds them. -/
theorem V_q (c : Dev nD) (j : Fin 128) : (V m c main_v13 : Vec Ideal S1x128 .f32) (ix2 (0 : Fin 1) j) = tN (m ((c.tc : Thread nD τ).loc main_arg3)) j.val := by
  unfold V tN
  rw [if_pos j.isLt]
  after_reads_at
/-- The keys' weights as the region finds them. -/
theorem V_k (c : Dev nD) (j : Fin 128) : (V m c main_v17 : Vec Ideal S1x128 .f32) (ix2 (0 : Fin 1) j) = tN (m ((c.tc : Thread nD τ).loc main_arg4)) j.val := by
  unfold V tN
  rw [if_pos j.isLt]
  after_reads_at
/-- A lane's head, as the host counts it. -/
theorem lane_head (n : Fin 128) :
    (Scalar.select
          (IntOp.andi
            (IntOp.cmpi CmpIPredicate.ne
              (if BitVec.ofNat 32 n.val = 0 then 0 else if (BitVec.ofNat 32 n.val).msb = true then -1 else 1 : BitVec 32)
              (if (64#32 : BitVec 32) = 0 then 0 else if BitVec.msb (64#32) = true then -1 else 1 : BitVec 32))
            (IntOp.cmpi CmpIPredicate.ne (IntOp.remsi ArithUnit.host (BitVec.ofNat 32 n.val) (64#32)) 0#32))
          (IntOp.subi (IntOp.divsi ArithUnit.host (BitVec.ofNat 32 n.val) (64#32)) 1#32)
          (IntOp.divsi ArithUnit.host (BitVec.ofNat 32 n.val) (64#32)) : BitVec 32) = BitVec.ofNat 32 (n.val / 64) :=
  (by decide +kernel : ∀ n : Fin 128, (Scalar.select
          (IntOp.andi
            (IntOp.cmpi CmpIPredicate.ne
              (if BitVec.ofNat 32 n.val = 0 then 0 else if (BitVec.ofNat 32 n.val).msb = true then -1 else 1 : BitVec 32)
              (if (64#32 : BitVec 32) = 0 then 0 else if BitVec.msb (64#32) = true then -1 else 1 : BitVec 32))
            (IntOp.cmpi CmpIPredicate.ne (IntOp.remsi ArithUnit.host (BitVec.ofNat 32 n.val) (64#32)) 0#32))
          (IntOp.subi (IntOp.divsi ArithUnit.host (BitVec.ofNat 32 n.val) (64#32)) 1#32)
          (IntOp.divsi ArithUnit.host (BitVec.ofNat 32 n.val) (64#32)) : BitVec 32) = BitVec.ofNat 32 (n.val / 64)) n
/-- Two heads compared. -/
theorem same_head (l j : Fin 128) : IntOp.cmpi CmpIPredicate.eq (BitVec.ofNat 32 (l.val / 64)) (BitVec.ofNat 32 (j.val / 64)) = if l.val / 64 = j.val / 64 then 1#1 else 0#1 :=
  (by decide +kernel : ∀ a b : Fin 2, IntOp.cmpi CmpIPredicate.eq (BitVec.ofNat 32 a.val) (BitVec.ofNat 32 b.val) = if a.val = b.val then 1#1 else 0#1) ⟨l.val / 64, by omega⟩ ⟨j.val / 64, by omega⟩
/-- The table as the region finds it. -/
theorem V_b (c : Dev nD) (l j : Fin 128) : (V m c main_v8 : Vec Ideal S128x128 .bf16) (ix2 l j) = hN l j.val := by
  unfold V hN
  rw [if_pos j.isLt]
  after_reads_at
  refine (congrArg (FloatOps.uitofp (F := Ideal) FTy.bf16) (congrArg₂ (IntOp.cmpi CmpIPredicate.eq) (lane_head l) (lane_head j))).trans ?_
  rw [same_head]
  by_cases h : l.val / 64 = j.val / 64
  · rw [if_pos h, if_pos h]
    show (((1#1 : BitVec 1).toNat : ℝ) : EReal) = 1
    simp
  · rw [if_neg h, if_neg h]
    show (((0#1 : BitVec 1).toNat : ℝ) : EReal) = 0
    simp
/-- Where a window's block lies. -/
theorem idx0 (t : Fin grid0.N) : win0_0.index t = ![t.val, 0] := (by decide +kernel : ∀ t : Fin grid0.N, win0_0.index t = ![t.val, 0]) t
/-- Where a window's block lies. -/
theorem idx1 (t : Fin grid0.N) : win0_1.index t = ![0, 0] := (by decide +kernel : ∀ t : Fin grid0.N, win0_1.index t = ![0, 0]) t
/-- Where a window's block lies. -/
theorem idx2 (t : Fin grid0.N) : win0_2.index t = ![0, 0] := (by decide +kernel : ∀ t : Fin grid0.N, win0_2.index t = ![0, 0]) t
/-- Where a window's block lies. -/
theorem idx3 (t : Fin grid0.N) : win0_3.index t = ![0, 0] := (by decide +kernel : ∀ t : Fin grid0.N, win0_3.index t = ![0, 0]) t
/-- Where a window's block lies. -/
theorem idx4 (t : Fin grid0.N) : win0_4.index t = ![0, 0] := (by decide +kernel : ∀ t : Fin grid0.N, win0_4.index t = ![0, 0]) t
/-- Where a window's block lies. -/
theorem idx5 (t : Fin grid0.N) : win0_5.index t = ![0, 0] := (by decide +kernel : ∀ t : Fin grid0.N, win0_5.index t = ![0, 0]) t
/-- Where a window's block lies. -/
theorem idx6 (t : Fin grid0.N) : win0_6.index t = ![t.val, 0] := (by decide +kernel : ∀ t : Fin grid0.N, win0_6.index t = ![t.val, 0]) t

/-- The grid has 64 steps. -/
theorem t_lt (t : Fin grid0.N) : t.val < 64 := N_0 ▸ t.isLt

/-- A tile's block of rows. -/
theorem blk0 (c : Dev nD) (t : Fin grid0.N) (p : Fin 512) (l : Fin 1024) :
    (iblk m c 0 t : Vec Ideal S512x1024 .f32) (ix2 p l)
      = (V m c main_arg0 : Vec Ideal S32768x1024 .f32) (ix2 (⟨512 * t.val + p.val, by have := t_lt t; omega⟩ : Fin 32768) l) := by
  have h0 := idx0 t
  blk_ext [iblk, h0]
/-- An input, whole. -/
theorem blk1 (c : Dev nD) (t : Fin grid0.N) (d : Fin 1) (j : Fin 1024) :
    (iblk m c 1 t : Vec Ideal S1x1024 .f32) (ix2 d j) = (V m c main_v9 : Vec Ideal S1x1024 .f32) (ix2 d j) := by
  have h0 := idx1 t
  blk_ext [iblk, h0]
/-- An input, whole. -/
theorem blk2 (c : Dev nD) (t : Fin grid0.N) (d : Fin 1024) (j : Fin 1280) :
    (iblk m c 2 t : Vec Ideal S1024x1280 .bf16) (ix2 d j) = (V m c main_v0 : Vec Ideal S1024x1280 .bf16) (ix2 d j) := by
  have h0 := idx2 t
  blk_ext [iblk, h0]
/-- An input, whole. -/
theorem blk3 (c : Dev nD) (t : Fin grid0.N) (d : Fin 1) (j : Fin 128) :
    (iblk m c 3 t : Vec Ideal S1x128 .f32) (ix2 d j) = (V m c main_v13 : Vec Ideal S1x128 .f32) (ix2 d j) := by
  have h0 := idx3 t
  blk_ext [iblk, h0]
/-- An input, whole. -/
theorem blk4 (c : Dev nD) (t : Fin grid0.N) (d : Fin 1) (j : Fin 128) :
    (iblk m c 4 t : Vec Ideal S1x128 .f32) (ix2 d j) = (V m c main_v17 : Vec Ideal S1x128 .f32) (ix2 d j) := by
  have h0 := idx4 t
  blk_ext [iblk, h0]
/-- An input, whole. -/
theorem blk5 (c : Dev nD) (t : Fin grid0.N) (d : Fin 128) (j : Fin 128) :
    (iblk m c 5 t : Vec Ideal S128x128 .bf16) (ix2 d j) = (V m c main_v8 : Vec Ideal S128x128 .bf16) (ix2 d j) := by
  have h0 := idx5 t
  blk_ext [iblk, h0]

/-- A tile's normalized row. -/
theorem h_eq (c : Dev nD) (t : Fin grid0.N) (p : ℕ) (hp : p < 512) :
    hK (xr (iblk m c 0 t) p) (gr (iblk m c 1 t)) = hG (m ((c.tc : Thread nD τ).loc main_arg0)) (m ((c.tc : Thread nD τ).loc main_arg1)) (512 * t.val + p) := by
  have ht := t_lt t
  unfold hG
  refine congrArg₂ hK (funext fun e => ?_) (funext fun e => (blk1 m c t (0 : Fin 1) e).trans (V_g m c e))
  unfold xr rowN
  rw [dif_pos hp, dif_pos (by omega : 512 * t.val + p < 32768)]
  refine (blk0 m c t ⟨p, hp⟩ e).trans ?_
  rw [V_main_arg0]
/-- The weights a step finds. -/
theorem wN_eq (c : Dev nD) (t : Fin grid0.N) : wN (iblk m c 2 t) = colN (m ((c.tc : Thread nD τ).loc main_arg2)) := by
  funext d j
  unfold wN colN
  by_cases hj : j < 1280
  · rw [dif_pos hj, dif_pos hj]; exact (blk2 m c t d ⟨j, hj⟩).trans (V_w m c d ⟨j, hj⟩)
  · rw [dif_neg hj, dif_neg hj]
/-- The queries' weights a step finds. -/
theorem qN_eq (c : Dev nD) (t : Fin grid0.N) : qN (iblk m c 3 t) = tN (m ((c.tc : Thread nD τ).loc main_arg3)) := by
  funext j
  unfold qN
  by_cases hj : j < 128
  · rw [dif_pos hj]; exact (blk3 m c t (0 : Fin 1) ⟨j, hj⟩).trans (V_q m c ⟨j, hj⟩)
  · rw [dif_neg hj]; unfold tN; rw [if_neg hj]
/-- The keys' weights a step finds. -/
theorem kN_eq (c : Dev nD) (t : Fin grid0.N) : qN (iblk m c 4 t) = tN (m ((c.tc : Thread nD τ).loc main_arg4)) := by
  funext j
  unfold qN
  by_cases hj : j < 128
  · rw [dif_pos hj]; exact (blk4 m c t (0 : Fin 1) ⟨j, hj⟩).trans (V_k m c ⟨j, hj⟩)
  · rw [dif_neg hj]; unfold tN; rw [if_neg hj]
/-- The table a step finds. -/
theorem bN_eq (c : Dev nD) (t : Fin grid0.N) : bN (iblk m c 5 t) = hN := by
  funext l j
  unfold bN
  by_cases hj : j < 128
  · rw [dif_pos hj]; exact (blk5 m c t l ⟨j, hj⟩).trans (V_b m c l ⟨j, hj⟩)
  · rw [dif_neg hj]; unfold hN; rw [if_neg hj]

/-- What a step leaves at an entry of the result's block. -/
theorem out (c : Dev nD) (t : Fin cfg0.N) (p : Fin 512) (e : Fin 1280) :
    (outsAt0 m c t) (ix2 p e)
      = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (512 * t.val + p.val) e.val := by
  unfold val outsAt0
  rw [out_A, h_eq m c t p.val p.isLt, wN_eq, qN_eq, kN_eq, bN_eq]
/-- Where the result's block puts its entries. -/
theorem emb6 (t : Fin grid0.N) (p : Fin 512) (l : Fin 1280) :
    ((cfg0.win 6).blk t).view.emb (ix2 p l : S512x1280.Idx) = (ix2 (⟨512 * t.val + p.val, by have := t_lt t; omega⟩ : Fin 32768) l : S32768x1280.Idx) := by
  have h0 := congrFun (idx6 t) 0
  have h1 := congrFun (idx6 t) 1
  blk_ext
  · show win0_6.index t 0 * 512 + p.val = _
    rw [h0]; show t.val * 512 + p.val = _; omega
  · show win0_6.index t 1 * 1280 + l.val = _
    rw [h1]; show 0 * 1280 + l.val = _; omega
/-- Every entry of the result lies in a step's block. -/
theorem cover6 (i : S32768x1280.Idx) : ∃ t : Fin cfg0.N, (cfg0.win 6).flush t = true ∧ i ∈ ((cfg0.win 6).blk t).view.set := by
  have h0 : (i 0).val < 32768 := (i 0).isLt
  have ht : (i 0).val / 512 < grid0.N := by rw [N_0]; omega
  refine ⟨⟨(i 0).val / 512, ht⟩, flush0_6 _, ?_⟩
  have e : ((cfg0.win 6).blk ⟨(i 0).val / 512, ht⟩).view.emb (ix2 (⟨(i 0).val % 512, Nat.mod_lt _ (by decide)⟩ : Fin 512) (i 1) : S512x1280.Idx) = i := by
    refine (emb6 ⟨(i 0).val / 512, ht⟩ _ (i 1)).trans ?_
    funext a
    refine Fin.ext ?_
    match a with
    | ⟨0, _⟩ => show 512 * ((i 0).val / 512) + (i 0).val % 512 = (i 0).val; omega
    | ⟨1, _⟩ => rfl
  exact Finset.mem_map.mpr ⟨_, Finset.mem_univ _, e⟩
/-- The result after the run. -/
theorem final6 (c : Dev nD) : (dats m 0 c).arrAt 6 cfg0.N
    = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_cover 6 _ (fun t hf => ?_) cover6
  show (cfg0.win 6).cut (grid0.coords t) ((dats m 0 c).after 6 t) = _
  rw [after0_6]
  funext y
  obtain ⟨p, l, rfl⟩ : ∃ (p : Fin 512) (l : Fin 1280), y = (ix2 p l : S512x1280.Idx) := ⟨y 0, y 1, eq_ix2 y⟩
  refine (out m c t p l).trans ?_
  show _ = arr _ _ _ _ _ (((cfg0.win 6).blk t).view.emb (ix2 p l : S512x1280.Idx))
  rw [emb6]; rfl

/-- The run: the result over the arguments, the arguments unchanged. -/
theorem run_final :
    θ_run defs (onTc (τ := τ) (main (F := Ideal))) ⟨m, fun _ => 0, ρ⟩ (fun r => ∀ c : Dev nD,
      r.2.mem ((c.tc : Thread nD τ).loc main_v18) = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final6 m c), (h c).2⟩) (Value.run_blocks m ρ)

end Cert.Kernel5Ideal.Odd

end
end
-- ==== Proof.OddEq.lean ====
module

public import proofs.«01_k».proof.Proof.OddRef
public import proofs.«01_k».proof.Proof.OddVal
public import proofs.«01_k».proof.Proof.InpEq

/-! The odd layer's input projection's reference equals the kernel's result. -/

@[expose] public section
set_option maxRecDepth 16384
noncomputable section
namespace Cert.Reference5Ideal.Odd
open Cert.Reference5Ideal Cert.Reference5Ideal.Gen
open Idealize.ShloMosaic Idealize.ShloMosaic.TcCoe Idealize.SL.Sem
open Cert.Kernel5Ideal.Odd (rowN colN hG tN hN val arr OK Y MS yK msK nK nQ)
open Cert.Kernel4Ideal.Inp (hK)
open Cert.ReferenceIdeal.Swa (Real')
open Cert.Reference4Ideal.Inp (sub_self')

/-- A head's width's word. -/
theorem head_eq : Ideal.ofBits .f32 0x42800000#32 = ((64 : ℝ) : EReal) := by
  simp [Ideal.ofBits, Ideal.ieee]
  rw [← EReal.coe_mul]
  norm_num

/-- The word of one over a head's width. -/
theorem inv_eq : Ideal.ofBits .f32 0x3C800000#32 = (((64 : ℝ)⁻¹ : ℝ) : EReal) := by
  simp [Ideal.ofBits, Ideal.ieee]
  rw [← EReal.coe_mul]
  norm_num

/-- The mean of squares, by product or by quotient. -/
theorem mean_eq (s : EReal) : s * Ideal.ofBits .f32 0x3C800000#32 = Ideal.div s (Ideal.ofBits .f32 0x42800000#32) := by
  rw [head_eq, inv_eq]
  unfold Ideal.div
  rw [if_neg (by exact_mod_cast (by norm_num : (64 : ℝ) ≠ 0)), EReal.coe_inv]

/-- The lanes of one head. -/
theorem lanes (f : Fin 128 → EReal) (k : ℕ) (hk : k < 2) :
    ∑ l : Fin 128, (if l.val / 64 = k then f l else 0) = ∑ i : Fin 64, f (⟨64 * k + i.val, by omega⟩ : Fin 128) := by
  rw [← Finset.sum_filter]
  refine Finset.sum_filter_eq_sum_of_fiber (fun l : Fin 128 => l.val / 64 = k) (fun i : Fin 64 => (⟨64 * k + i.val, by omega⟩ : Fin 128)) (fun a b e => ?_) (fun l => ?_) f
  · have h : 64 * k + a.val = 64 * k + b.val := congrArg Fin.val e
    exact Fin.ext (by omega)
  · constructor
    · intro h
      refine ⟨⟨l.val % 64, by omega⟩, Fin.ext ?_⟩
      show 64 * k + l.val % 64 = l.val
      omega
    · rintro ⟨i, rfl⟩
      show (64 * k + i.val) / 64 = k
      omega

/-- The weighted sum of squares is the head's, where the projections are real. -/
theorem MS_eq (y : ℕ → EReal) (hy : ∀ c, c < 1152 → Real' (y c)) (c : ℕ) (hc : c < 1152) :
    MS y hN c = ∑ i : Fin 64, y (64 * (c / 64) + i.val) * y (64 * (c / 64) + i.val) := by
  unfold MS msK
  have h0 : (∑ l : Fin 128, (y (128 * (c / 128) + l.val) * y (128 * (c / 128) + l.val) - y (128 * (c / 128) + l.val) * y (128 * (c / 128) + l.val)) * hN l (c % 128) : EReal) = 0 :=
    Finset.sum_eq_zero fun l _ => by
      have hr := hy (128 * (c / 128) + l.val) (by omega)
      rw [sub_self' (hr.mul hr), zero_mul]
  rw [h0, add_zero]
  refine Eq.trans ?_ ((lanes (fun l => y (128 * (c / 128) + l.val) * y (128 * (c / 128) + l.val)) (c % 128 / 64) (by omega)).trans ?_)
  · refine Finset.sum_congr rfl fun l _ => ?_
    unfold hN
    dsimp only
    rw [if_pos (by omega : c % 128 < 128), mul_ite, mul_one, mul_zero]
  · refine Finset.sum_congr rfl fun i _ => ?_
    have e : 128 * (c / 128) + (64 * (c % 128 / 64) + i.val) = 64 * (c / 64) + i.val := by omega
    show y (128 * (c / 128) + (64 * (c % 128 / 64) + i.val)) * y (128 * (c / 128) + (64 * (c % 128 / 64) + i.val)) = _
    rw [e]

/-- A norm's weight at a lane. -/
theorem tN_at (q : Vec Ideal S64 .f32) (c : ℕ) (i : Fin 64) (h : i.val = c % 64) : tN q (c % 128) = q (ix1 i) := by
  unfold tN
  rw [if_pos (by omega)]
  exact congrArg (fun j : Fin 64 => q (ix1 j)) (Fin.ext (by show c % 128 % 64 = i.val; omega))

section
variable (x : Vec Ideal S32768x1024 .f32) (g : Vec Ideal S1024 .f32) (w : Vec Ideal S1024x1280 .f32) (q k : Vec Ideal S64 .f32)

/-- A normalized row, by number. -/
theorem rh_hG (R : Fin 32768) (d : Fin 1024) : rh x g (ix2 R d) = hG x g R.val d := by
  rw [rh_at, rrs_at, rsq_at]
  unfold hG hK
  have e : ∀ y : Fin 1024, rowN x R.val y = x (ix2 R y) := fun y => by
    unfold rowN
    rw [dif_pos R.isLt]
  simp only [e]

/-- A projection, by number. -/
theorem pj_Y (R : Fin 32768) (c : Fin 1280) : pj (rh x g) w (ix2 R c) = Y (hG x g R.val) (colN w) c.val := by
  rw [pj_at]
  unfold Y yK
  refine Finset.sum_congr rfl fun d _ => ?_
  rw [rh_hG]
  unfold colN
  dsimp only
  rw [dif_pos c.isLt]

/-- The projections onto queries and keys are real. -/
theorem Y_real (hg : ∀ i, Real' (g i)) (hw : ∀ (d : Fin 1024) (j : Fin 1152), Real' (w (ix2 d (⟨j.val, by omega⟩ : Fin 1280)))) (R c : ℕ) (hc : c < 1152) :
    Real' (Y (hG x g R) (colN w) c) := by
  unfold Y yK
  refine Real'.sum _ _ fun d => ?_
  have h : Real' (hG x g R d) := Cert.Reference4Ideal.Inp.hG_real x g hg R d
  refine h.mul ?_
  unfold colN
  dsimp only
  rw [dif_pos (by omega : c < 1280)]
  exact hw d ⟨c, hc⟩

/-- A query. -/
theorem q_at (hg : ∀ i, Real' (g i)) (hw : ∀ (d : Fin 1024) (j : Fin 1152), Real' (w (ix2 d (⟨j.val, by omega⟩ : Fin 1280)))) (R : Fin 32768) (e : Fin 1024) :
    flQ (sc (nrQ (hdQ (pj (rh x g) w)) (rsQ (ssQ (hdQ (pj (rh x g) w)))) q)) (ix2 R e)
      = nQ (Y (hG x g R.val) (colN w) e.val) (MS (Y (hG x g R.val) (colN w)) hN e.val) (tN q (e.val % 128)) := by
  have he := e.isLt
  rw [MS_eq _ (Y_real x g w hg hw R.val) e.val (by omega), tN_at q e.val ⟨e.val % 64, by omega⟩ rfl]
  unfold nQ nK
  rw [mean_eq, flQ_at, sc_at, nrQ_at, rsQ_at, ssQ_at]
  simp only [hdQ_at, pj_Y]
  have e1 : e.val / 64 * 64 + e.val % 64 = e.val := by omega
  have e2 : ∀ l : Fin 64, e.val / 64 * 64 + l.val = 64 * (e.val / 64) + l.val := fun l => by omega
  simp only [e1, e2]

/-- A key. -/
theorem k_at (hg : ∀ i, Real' (g i)) (hw : ∀ (d : Fin 1024) (j : Fin 1152), Real' (w (ix2 d (⟨j.val, by omega⟩ : Fin 1280)))) (R : Fin 32768) (e : Fin 128) (c : ℕ) (hc : c = 1024 + e.val) :
    flK (nrK (hdK (pj (rh x g) w)) (rsK (ssK (hdK (pj (rh x g) w)))) k) (ix2 R e)
      = nK (Y (hG x g R.val) (colN w) c) (MS (Y (hG x g R.val) (colN w)) hN c) (tN k (c % 128)) := by
  have he := e.isLt
  rw [MS_eq _ (Y_real x g w hg hw R.val) c (by omega), tN_at k c ⟨e.val % 64, by omega⟩ (by show e.val % 64 = c % 64; omega)]
  unfold nK
  rw [mean_eq, flK_at, nrK_at, rsK_at, ssK_at]
  simp only [hdK_at, pj_Y]
  have e1 : 1024 + (e.val / 64 * 64 + e.val % 64) = c := by omega
  have e2 : ∀ l : Fin 64, 1024 + (e.val / 64 * 64 + l.val) = 64 * (c / 64) + l.val := fun l => by omega
  simp only [e1, e2]

/-- The result is the kernel's, where the gain and the weights of queries and keys are real. -/
theorem out_eq (hg : ∀ i, Real' (g i)) (hw : ∀ (d : Fin 1024) (j : Fin 1152), Real' (w (ix2 d (⟨j.val, by omega⟩ : Fin 1280)))) :
    rout (pj (rh x g) w) q k = arr x g w q k := by
  funext y
  obtain ⟨R, e, rfl⟩ : ∃ (R : Fin 32768) (e : Fin 1280), ix2 R e = y := ⟨y 0, y 1, by
    funext a
    match a with
    | ⟨0, _⟩ => rfl
    | ⟨1, _⟩ => rfl⟩
  have he := e.isLt
  show _ = val x g w q k R.val e.val
  unfold rout val OK
  rw [pack_at]
  by_cases h1 : e.val < 1024
  · rw [dif_pos h1, if_pos h1]
    exact q_at x g w q hg hw R _
  rw [dif_neg h1, if_neg h1]
  by_cases h2 : e.val < 1152
  · rw [dif_pos h2, if_pos h2]
    exact k_at x g w k hg hw R _ _ (by show e.val = 1024 + (e.val - 1024); omega)
  rw [dif_neg h2, if_neg h2, cV_at, pj_Y]
  have e1 : 1152 + (e.val - 1152) = e.val := by omega
  show Y _ _ (1152 + (e.val - 1152)) = _
  rw [e1]
end
end Cert.Reference5Ideal.Odd
end
end
-- ==== Proof.Heads.lean ====
module

public import proofs.«01_k».proof.Defs
public import proofs.«01_k».proof.Proof.Finite
public import Idealize.ShloMosaic.Lib.Pointwise

/-! What the odd layer's input projection's precondition says of the arrays. -/

@[expose] public section
set_option maxRecDepth 16384
noncomputable section
namespace Cert.Proof
open Idealize.ShloMosaic Idealize.ShloMosaic.TcCoe Idealize.SL.Sem
open Cert.ReferenceIdeal.Swa (Real')

/-- The shape facts of the precondition. -/
theorem pre5_facts : Cert.Pre_heads_real.Facts :=
  ⟨by decide, by decide, by decide⟩

attribute [local instance] pre5_facts

open Cert.Pre_heads_real

/-- The columns of queries and keys cut out, at an entry. -/
theorem heads_at (w : FVec Ideal S1024x1280 .f32) (d : Fin 1024) (j : Fin 1152) :
    extractStridedSlice S1024x1152 ![0, 0] w Facts.slices_S1024x1280_S1024x1152_0_0 (ix2 d j) = w (ix2 d (⟨j.val, by omega⟩ : Fin 1280)) := by
  pointwise

/-- Under the precondition the gain and the weights of queries and keys are real. -/
theorem heads_real (x : FVec Ideal S32768x1024 .f32) (g : FVec Ideal S1024 .f32) (w : FVec Ideal S1024x1280 .f32) (q k : FVec Ideal S64 .f32)
    (h : (fn x g w q k).1 = (fun _ => 1#1) ∧ (fn x g w q k).2 = (fun _ => 1#1)) :
    (∀ i, Real' (g i)) ∧ (∀ (d : Fin 1024) (j : Fin 1152), Real' (w (ix2 d (⟨j.val, by omega⟩ : Fin 1280)))) :=
  ⟨fun i => real_of_bits _ (congrFun h.1 i), fun d j => by
    rw [← heads_at w d j]
    exact real_of_bits _ (congrFun h.2 (ix2 d j))⟩

end Cert.Proof
end
end
-- ==== Proof.lean ====
/- The certificate's claim, assembled from the modules under proof/Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Texts
public import proofs.«01_k».proof.Proof.Finite
public import proofs.«01_k».proof.Proof.Texts2
public import proofs.«01_k».proof.Proof.Experts
public import proofs.«01_k».proof.Proof.Texts3
public import proofs.«01_k».proof.Proof.DenseRef
public import proofs.«01_k».proof.Proof.Texts4
public import proofs.«01_k».proof.Proof.InpEq
public import proofs.«01_k».proof.Proof.Narrow
public import proofs.«01_k».proof.Proof.Texts5
public import proofs.«01_k».proof.Proof.OddEq
public import proofs.«01_k».proof.Proof.Heads
public import Idealize.ShloMosaic.Adequacy
public import Idealize.ShloMosaic.Init

@[expose] public section

set_option maxRecDepth 16384

noncomputable section

namespace Cert.Proof

open Idealize.ShloMosaic Idealize.ShloMosaic.TcCoe Idealize.SL.Sem

attribute [local instance] pre_facts pre2_facts pre4_facts pre5_facts

/-- The kernel's frame over machine floats. -/
theorem frame_kernel : Cert.quiescent_Kernel := fun m ρ _ => by
  rw [defs_eq]
  exact Cert.KernelIdeal.Swa.frame (F := Bits) m ρ

/-- The kernel's frame over the exact numbers. -/
theorem frame_ideal : Cert.quiescent_KernelIdeal := fun m ρ _ => Cert.KernelIdeal.Swa.frame (F := Ideal) m ρ

/-- The same under the precondition. -/
theorem frame_ideal_pre : Cert.quiescent_KernelIdeal_pre_scores_below_infinity := fun m ρ _ => Cert.KernelIdeal.Swa.frame (F := Ideal) m ρ

/-- The reference's frame: its run reads it, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same under the precondition. -/
theorem frame_reference_pre : Cert.quiescent_ReferenceIdeal_pre_scores_below_infinity := fun m ρ _ => frame_reference m ρ trivial

/-- The kernel and the reference end with equal results. -/
theorem value : Cert.algebraic_KernelIdeal_ReferenceIdeal_pre_scores_below_infinity := by
  intro m ρ m' ρ' hpre hag
  refine ⟨fun c => Cert.KernelIdeal.Swa.karr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Swa.run_final m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5⟩ := hag c
  obtain ⟨f1, f2, f3⟩ := finite _ _ _ _ _ _ (hpre c)
  rw [Cert.ReferenceIdeal.Swa.result_eq, h0, h1, h2, h3, h4, h5]
  exact Cert.ReferenceIdeal.Swa.out_eq _ _ _ _ _ _ f1 f2 f3

/-- The experts' kernel's frame over machine floats. -/
theorem frame_kernel2 : Cert.quiescent_Kernel2 := fun m ρ hpre => by
  rw [defs2_eq]
  exact Cert.Kernel2Ideal.Ffn.frame (F := Bits) m ρ (experts _ _ _ _ _ _ _ (hpre 0))

/-- The experts' kernel's frame over the exact numbers. -/
theorem frame_ideal2 : Cert.quiescent_Kernel2Ideal := fun m ρ hpre => Cert.Kernel2Ideal.Ffn.frame (F := Ideal) m ρ (experts _ _ _ _ _ _ _ (hpre 0))

/-- The experts' reference's frame. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Ffn.run m ρ)

/-- The same under the precondition. -/
theorem frame_reference2_pre : Cert.quiescent_Reference2Ideal_pre_experts_in_range := fun m ρ _ => frame_reference2 m ρ trivial

/-- The experts' kernel and the reference end with equal results. -/
theorem value2 : Cert.algebraic_Kernel2Ideal_Reference2Ideal := by
  intro m ρ m' ρ' hpre hag
  have hE : ∀ x, ((Cert.Kernel2Ideal.Ffn.tab m 0 : Vec Ideal Cert.Kernel2Ideal.S72 .i32) x).toNat < 8 := experts _ _ _ _ _ _ _ (hpre 0)
  refine ⟨fun c => Cert.Kernel2Ideal.Ffn.karr (Cert.Kernel2Ideal.Ffn.nU (Cert.Kernel2Ideal.Ffn.tab m)) (Cert.Kernel2Ideal.Ffn.eOf m hE) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)), Cert.Kernel2Ideal.Ffn.run_final m ρ hE, ?_⟩
  refine (θ_run Cert.Reference2Ideal.defs _ _).mono (fun r h c => ⟨(h c).1.trans ?_, (h c).2⟩) (Cert.Reference2Ideal.Ffn.run m' ρ')
  obtain ⟨h0, h1, h2, h3, h4, h5, h6⟩ := hag c
  rw [h0, h1, h2, h3, h4, h5, h6]
  have hc : c = 0 := Subsingleton.elim _ _
  subst hc
  have hn : Cert.Kernel2Ideal.Ffn.nU (Cert.Kernel2Ideal.Ffn.tab m) = (m (((0 : Dev Cert.Kernel2Ideal.nD).tc : Thread Cert.Kernel2Ideal.nD Cert.Kernel2Ideal.τ).loc Cert.Kernel2Ideal.main_arg1) : IVec Cert.Kernel2Ideal.S1 32) (ix1 (0 : Fin 1)) :=
    (Cert.Kernel2Ideal.Ffn.nU_all (Cert.Kernel2Ideal.Ffn.tab m) (ix1 (0 : Fin 1))).symm
  rw [hn]
  exact Cert.Reference2Ideal.Ffn.out_eq _ _ _ _ _ _ _ (Cert.Kernel2Ideal.Ffn.eOf m hE) (fun i => rfl)

/-- The dense kernel's frame over machine floats. -/
theorem frame_kernel3 : Cert.quiescent_Kernel3 := fun m ρ _ => by
  rw [defs3_eq, main3_eq]
  exact Cert.Kernel3Ideal.Dense.frame (F := Bits) m ρ

/-- The dense kernel's frame over the exact numbers. -/
theorem frame_ideal3 : Cert.quiescent_Kernel3Ideal := fun m ρ _ => Cert.Kernel3Ideal.Dense.frame (F := Ideal) m ρ

/-- The dense reference's frame. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Dense.run m ρ)

/-- The dense kernel and the reference end with equal results. -/
theorem value3 : Cert.algebraic_Kernel3Ideal_Reference3Ideal := by
  intro m ρ m' ρ' _ hag
  refine ⟨fun c => Cert.Kernel3Ideal.Dense.karr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), Cert.Kernel3Ideal.Dense.run_final m ρ, ?_⟩
  refine (θ_run Cert.Reference3Ideal.defs _ _).mono (fun r h c => ⟨(h c).1.trans ?_, (h c).2⟩) (Cert.Reference3Ideal.Dense.run m' ρ')
  obtain ⟨h0, h1, h2, h3, h4⟩ := hag c
  rw [h0, h1, h2, h3, h4]
  exact Cert.Reference3Ideal.Dense.out_eq _ _ _ _ _

/-- The input projection's frame over machine floats. -/
theorem frame_kernel4 : Cert.quiescent_Kernel4 := fun m ρ _ => by
  rw [defs4_eq, main4_eq]
  exact Cert.Kernel4Ideal.Gen.frame (F := Bits) m ρ

/-- The input projection's frame over the exact numbers. -/
theorem frame_ideal4 : Cert.quiescent_Kernel4Ideal := fun m ρ _ => Cert.Kernel4Ideal.Gen.frame (F := Ideal) m ρ

/-- The same under the precondition. -/
theorem frame_ideal4_pre : Cert.quiescent_Kernel4Ideal_pre_narrow_real := fun m ρ _ => Cert.Kernel4Ideal.Gen.frame (F := Ideal) m ρ

/-- The input projection's reference's frame. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Inp.run m ρ)

/-- The same under the precondition. -/
theorem frame_reference4_pre : Cert.quiescent_Reference4Ideal_pre_narrow_real := fun m ρ _ => frame_reference4 m ρ trivial

/-- The input projection and its reference end with equal results. -/
theorem value4 : Cert.algebraic_Kernel4Ideal_Reference4Ideal_pre_narrow_real := by
  intro m ρ m' ρ' hpre hag
  refine ⟨fun c => Cert.Kernel4Ideal.Inp.arr7 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), fun c => Cert.Kernel4Ideal.Inp.arr8 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), Cert.Kernel4Ideal.Inp.run_final m ρ, ?_⟩
  refine (θ_run Cert.Reference4Ideal.defs _ _).mono (fun r h c => ⟨(h c).1.trans ?_, (h c).2.1.trans ?_, (h c).2.2⟩) (Cert.Reference4Ideal.Inp.run m' ρ')
  · obtain ⟨h0, h1, h2, h3, h4⟩ := hag c
    rw [h0, h1, h2, h3, h4]
    exact Cert.Reference4Ideal.Inp.out7_eq _ _ _ _ _
  · obtain ⟨h0, h1, h2, h3, h4⟩ := hag c
    obtain ⟨f1, f2⟩ := narrow_real _ _ _ _ _ (hpre c)
    rw [h0, h1, h2]
    exact Cert.Reference4Ideal.Inp.out8_eq _ _ _ f1 f2

/-- The odd layer's input projection's frame over machine floats. -/
theorem frame_kernel5 : Cert.quiescent_Kernel5 := fun m ρ _ => by
  rw [defs5_eq, main5_eq]
  exact Cert.Kernel5Ideal.Gen.frame (F := Bits) m ρ

/-- Its frame over the exact numbers. -/
theorem frame_ideal5 : Cert.quiescent_Kernel5Ideal := fun m ρ _ => Cert.Kernel5Ideal.Gen.frame (F := Ideal) m ρ

/-- The same under the precondition. -/
theorem frame_ideal5_pre : Cert.quiescent_Kernel5Ideal_pre_heads_real := fun m ρ _ => Cert.Kernel5Ideal.Gen.frame (F := Ideal) m ρ

/-- The odd layer's input projection's reference's frame. -/
theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Odd.run m ρ)

/-- The same under the precondition. -/
theorem frame_reference5_pre : Cert.quiescent_Reference5Ideal_pre_heads_real := fun m ρ _ => frame_reference5 m ρ trivial

/-- The odd layer's input projection and its reference end with equal results. -/
theorem value5 : Cert.algebraic_Kernel5Ideal_Reference5Ideal_pre_heads_real := by
  intro m ρ m' ρ' hpre hag
  refine ⟨fun c => Cert.Kernel5Ideal.Odd.arr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), Cert.Kernel5Ideal.Odd.run_final m ρ, ?_⟩
  refine (θ_run Cert.Reference5Ideal.defs _ _).mono (fun r h c => ⟨(h c).1.trans ?_, (h c).2⟩) (Cert.Reference5Ideal.Odd.run m' ρ')
  obtain ⟨h0, h1, h2, h3, h4⟩ := hag c
  obtain ⟨f1, f2⟩ := heads_real _ _ _ _ _ (hpre c)
  rw [h0, h1, h2, h3, h4]
  exact Cert.Reference5Ideal.Odd.out_eq _ _ _ _ _ f1 f2

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts, pre2_facts, pre4_facts, pre5_facts,
  frame_kernel, frame_ideal, frame_ideal_pre, frame_reference, frame_reference_pre, frame_kernel2, frame_ideal2, frame_reference2, frame_reference2_pre,
  frame_kernel3, frame_ideal3, frame_reference3, frame_kernel4, frame_ideal4, frame_ideal4_pre, frame_reference4, frame_reference4_pre,
  frame_kernel5, frame_ideal5, frame_ideal5_pre, frame_reference5, frame_reference5_pre,
  trivial, value, trivial, value2, trivial, value3, trivial, value4, trivial, value5⟩

end Cert.Proof

end
